-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v35) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v17_0)) (v1 : (c : Dev Cert.Kernel5Ideal.nD) → Buf (Elt Ideal) ((c.tc : Thread Cert.Kernel5Ideal.nD Cert.Kernel5Ideal.τ).loc Cert.Kernel5Ideal.main_v17_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17_0) = v0 c
          ∧ r.2.mem ((c.tc : Thread Cert.Kernel5Ideal.nD Cert.Kernel5Ideal.τ).loc Cert.Kernel5Ideal.main_v17_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v35) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S2x16384x2048 : Shape := ⟨3, ![2, 16384, 2048]⟩
abbrev S2x16384x4096 : Shape := ⟨3, ![2, 16384, 4096]⟩
abbrev S4x128 : Shape := ⟨2, ![4, 128]⟩
abbrev S2048 : Shape := ⟨1, ![2048]⟩
abbrev S_ : Shape := ⟨0, ![]⟩

class Facts : Prop where
  bcast_S_S2x16384x2048 : S_.BroadcastsInDim S2x16384x2048 (![] : Fin 0 → Fin S2x16384x2048.rank)
  reducesTo_S2x16384x2048_S_d0_1_2 : S2x16384x2048.ReducesTo [0, 1, 2] S_
  h_S_ : 0 < S_.numel
  slices_S2x16384x4096_S2x16384x2048_0_0_0 : S2x16384x4096.Slices ![0, 0, 0] S2x16384x2048

variable [Facts]

def fn {F : FTy → Type} [FloatOps F] (main_arg0 : FVec F S2x16384x2048 .f32) (main_arg1 : FVec F S2x16384x4096 .f32) (main_arg2 : FVec F S4x128 .f32) (main_arg3 : FVec F S2048 .f32) : IVec S_ 1 :=
  let main_v0 : FVec F S2x16384x2048 .f32 := Host.absf main_arg0
  let main_cst : FVec F S_ .f32 := constant S_ .f32 0x7F800000#32
  let main_v1 : FVec F S2x16384x2048 .f32 := broadcastInDim S2x16384x2048 ![] bcast_S_S2x16384x2048 main_cst
  let main_v2 : IVec S2x16384x2048 1 := cmpf .olt main_v0 main_v1
  let main_c : IVec S_ 1 := constantI S_ 1 1#1
  let main_v3 : IVec S_ 1 := (fun x v => Host.reduce IntOp.andi x v reducesTo_S2x16384x2048_S_d0_1_2 h_S_) main_v2 main_c
  let main_v4 : FVec F S2x16384x2048 .f32 := (extractStridedSlice S2x16384x2048 ![0, 0, 0] · slices_S2x16384x4096_S2x16384x2048_0_0_0) main_arg1
  let main_v5 : FVec F S2x16384x2048 .f32 := Host.absf main_v4
  let main_cst_0 : FVec F S_ .f32 := constant S_ .f32 0x7F800000#32
  let main_v6 : FVec F S2x16384x2048 .f32 := broadcastInDim S2x16384x2048 ![] bcast_S_S2x16384x2048 main_cst_0
  let main_v7 : IVec S2x16384x2048 1 := cmpf .olt main_v5 main_v6
  let main_c_1 : IVec S_ 1 := constantI S_ 1 1#1
  let main_v8 : IVec S_ 1 := (fun x v => Host.reduce IntOp.andi x v reducesTo_S2x16384x2048_S_d0_1_2 h_S_) main_v7 main_c_1
  let main_v9 : IVec S_ 1 := andi main_v3 main_v8
  main_v9
-- ==== Kernel.lean ====
abbrev S2x16384x2048 : Shape := ⟨3, ![2, 16384, 2048]⟩
abbrev S2x16384x4096 : Shape := ⟨3, ![2, 16384, 4096]⟩
abbrev S4x128 : Shape := ⟨2, ![4, 128]⟩
abbrev S2048 : Shape := ⟨1, ![2048]⟩
abbrev S8 : Shape := ⟨1, ![8]⟩
abbrev S_ : Shape := ⟨0, ![]⟩
abbrev S32768x4096 : Shape := ⟨2, ![32768, 4096]⟩
abbrev S2x2048x16384 : Shape := ⟨3, ![2, 2048, 16384]⟩
abbrev S1x2048 : Shape := ⟨2, ![1, 2048]⟩
abbrev S8x1x1 : Shape := ⟨3, ![8, 1, 1]⟩
abbrev S8x1x128 : Shape := ⟨3, ![8, 1, 128]⟩
abbrev S32768x2048 : Shape := ⟨2, ![32768, 2048]⟩
abbrev S512x256 : Shape := ⟨2, ![512, 256]⟩
abbrev S16384x256 : Shape := ⟨2, ![16384, 256]⟩
abbrev S1x256x16384 : Shape := ⟨3, ![1, 256, 16384]⟩
abbrev S1x1x128 : Shape := ⟨3, ![1, 1, 128]⟩
abbrev S1x256 : Shape := ⟨2, ![1, 256]⟩
abbrev S2x512x256 : Shape := ⟨3, ![2, 512, 256]⟩
abbrev S512x128 : Shape := ⟨2, ![512, 128]⟩
abbrev S2x2x512x512 : Shape := ⟨4, ![2, 2, 512, 512]⟩
abbrev S2x2x1x512 : Shape := ⟨4, ![2, 2, 1, 512]⟩
abbrev S2x1x512 : Shape := ⟨3, ![2, 1, 512]⟩
abbrev S2x272x512 : Shape := ⟨3, ![2, 272, 512]⟩
abbrev S1x1x1 : Shape := ⟨3, ![1, 1, 1]⟩
abbrev S1x1 : Shape := ⟨2, ![1, 1]⟩
abbrev S1x512x128 : Shape := ⟨3, ![1, 512, 128]⟩
abbrev S1x512x256 : Shape := ⟨3, ![1, 512, 256]⟩
abbrev S512x512 : Shape := ⟨2, ![512, 512]⟩
abbrev S1x1x512x512 : Shape := ⟨4, ![1, 1, 512, 512]⟩
abbrev S512 : Shape := ⟨1, ![512]⟩
abbrev S1x512 : Shape := ⟨2, ![1, 512]⟩
abbrev S1x1x1x512 : Shape := ⟨4, ![1, 1, 1, 512]⟩
abbrev S1x256x512 : Shape := ⟨3, ![1, 256, 512]⟩
abbrev S256x512 : Shape := ⟨2, ![256, 512]⟩
abbrev S16x512 : Shape := ⟨2, ![16, 512]⟩
abbrev S272x512 : Shape := ⟨2, ![272, 512]⟩
abbrev S1x1x512 : Shape := ⟨3, ![1, 1, 512]⟩
abbrev S1x272x512 : Shape := ⟨3, ![1, 272, 512]⟩
abbrev S1x128 : Shape := ⟨2, ![1, 128]⟩
abbrev S1 : Shape := ⟨1, ![1]⟩

abbrev nBuf : Space → Nat
  | .hbm => 25
  | .vmem => 19
  | .smem => 0
  | _ => 0

abbrev bufTy : (tb : Table) → Fin (tcTables nBuf tb) → BufTy
  | .hbm, ⟨0, _⟩ => ⟨S2x16384x2048, .f32⟩
  | .hbm, ⟨1, _⟩ => ⟨S2x16384x4096, .f32⟩
  | .hbm, ⟨2, _⟩ => ⟨S4x128, .f32⟩
  | .hbm, ⟨3, _⟩ => ⟨S2048, .f32⟩
  | .hbm, ⟨4, _⟩ => ⟨S8, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x16384x2048, .f32⟩
  | .hbm, ⟨13, _⟩ => ⟨S2x16384x2048, .f32⟩
  | .hbm, ⟨14, _⟩ => ⟨S2x16384x2048, .f32⟩
  | .hbm, ⟨15, _⟩ => ⟨S2x16384x4096, .f32⟩
  | .hbm, ⟨16, _⟩ => ⟨S2x16384x4096, .bf16⟩
  | .hbm, ⟨17, _⟩ => ⟨S32768x4096, .bf16⟩
  | .hbm, ⟨18, _⟩ => ⟨S2x16384x2048, .f32⟩
  | .hbm, ⟨19, _⟩ => ⟨S2x2048x16384, .f32⟩
  | .hbm, ⟨20, _⟩ => ⟨S2x2048x16384, .bf16⟩
  | .hbm, ⟨21, _⟩ => ⟨S1x2048, .f32⟩
  | .hbm, ⟨22, _⟩ => ⟨S8x1x1, .f32⟩
  | .hbm, ⟨23, _⟩ => ⟨S8x1x128, .f32⟩
  | .hbm, ⟨24, _⟩ => ⟨S32768x2048, .bf16⟩
  | .local _ .vmem, ⟨0, _⟩ => ⟨S512x256, .bf16⟩
  | .local _ .vmem, ⟨1, _⟩ => ⟨S512x256, .bf16⟩
  | .local _ .vmem, ⟨2, _⟩ => ⟨S16384x256, .bf16⟩
  | .local _ .vmem, ⟨3, _⟩ => ⟨S16384x256, .bf16⟩
  | .local _ .vmem, ⟨4, _⟩ => ⟨S1x256x16384, .bf16⟩
  | .local _ .vmem, ⟨5, _⟩ => ⟨S1x256x16384, .bf16⟩
  | .local _ .vmem, ⟨6, _⟩ => ⟨S1x1x128, .f32⟩
  | .local _ .vmem, ⟨7, _⟩ => ⟨S1x1x128, .f32⟩
  | .local _ .vmem, ⟨8, _⟩ => ⟨S4x128, .f32⟩
  | .local _ .vmem, ⟨9, _⟩ => ⟨S1x256, .f32⟩
  | .local _ .vmem, ⟨10, _⟩ => ⟨S1x256, .f32⟩
  | .local _ .vmem, ⟨11, _⟩ => ⟨S512x256, .bf16⟩
  | .local _ .vmem, ⟨12, _⟩ => ⟨S512x256, .bf16⟩
  | .local _ .vmem, ⟨13, _⟩ => ⟨S2x512x256, .bf16⟩
  | .local _ .vmem, ⟨14, _⟩ => ⟨S512x128, .bf16⟩
  | .local _ .vmem, ⟨15, _⟩ => ⟨S2x2x512x512, .f32⟩
  | .local _ .vmem, ⟨16, _⟩ => ⟨S2x2x1x512, .f32⟩
  | .local _ .vmem, ⟨17, _⟩ => ⟨S2x1x512, .f32⟩
  | .local _ .vmem, ⟨18, _⟩ => ⟨S2x272x512, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![2, 8, 32], ![false, false, false]⟩

def k0_mult1 (i : grid0.Coords) : BitVec 32 :=
  let arg2 : BitVec 32 := BitVec.ofNat 32 (i 2).val
  let c512_i32 : BitVec 32 := 512#32
  let v25 : BitVec 32 := Scalar.muli arg2 c512_i32
  v25
def k0_off1 (i : grid0.Coords) : Fin 2 → Nat :=
  let arg2 : BitVec 32 := BitVec.ofNat 32 (i 2).val
  let c512_i32 : BitVec 32 := 512#32
  let v25 : BitVec 32 := Scalar.muli arg2 c512_i32
  let v26 : BitVec 32 := v25
  let v27 : Index := Scalar.indexCast v26
  let c0_19 : Index := 0#32
  ![v27.toNat, 0]
def k0_off2 (i : grid0.Coords) : Fin 2 → Nat :=
  let arg2 : BitVec 32 := BitVec.ofNat 32 (i 2).val
  let c512_i32 : BitVec 32 := 512#32
  let v25 : BitVec 32 := Scalar.muli arg2 c512_i32
  let v26 : BitVec 32 := v25
  let v48 : Index := Scalar.indexCast v26
  let c128_36 : Index := 128#32
  ![v48.toNat, 128]
@[reducible] def k0_t1_loop (i : grid0.Coords) : Scf.Loop 32 :=
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_56 : BitVec 32 := 1#32
  ⟨c0_i32_54, v75, c1_i32_56⟩
def k0_mult2 (i : grid0.Coords) (k0_t1 : Fin (k0_t1_loop i).trips) : BitVec 32 :=
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let c0_i32_69 : BitVec 32 := 0#32
  let v93 : BitVec 32 := Scalar.addi v92 c0_i32_69
  let v94 : BitVec 32 := Scalar.muli c2_i32_70 v93
  let c512_i32_71 : BitVec 32 := 512#32
  let v95 : BitVec 32 := Scalar.muli v94 c512_i32_71
  v95
def k0_off3 (i : grid0.Coords) (k0_t1 : Fin (k0_t1_loop i).trips) (c0_i32_69 : BitVec 32) : Fin 2 → Nat :=
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let v93 : BitVec 32 := Scalar.addi v92 c0_i32_69
  let v94 : BitVec 32 := Scalar.muli c2_i32_70 v93
  let c512_i32_71 : BitVec 32 := 512#32
  let v95 : BitVec 32 := Scalar.muli v94 c512_i32_71
  let v96 : BitVec 32 := v95
  let v97 : Index := Scalar.indexCast v96
  let c0_72 : Index := 0#32
  ![v97.toNat, 0]
def k0_off4 (i : grid0.Coords) (k0_t1 : Fin (k0_t1_loop i).trips) (c0_i32_69 : BitVec 32) : Fin 2 → Nat :=
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let v93 : BitVec 32 := Scalar.addi v92 c0_i32_69
  let v94 : BitVec 32 := Scalar.muli c2_i32_70 v93
  let c512_i32_71 : BitVec 32 := 512#32
  let v95 : BitVec 32 := Scalar.muli v94 c512_i32_71
  let v96 : BitVec 32 := v95
  let v113 : Index := Scalar.indexCast v96
  let c128_88 : Index := 128#32
  ![v113.toNat, 128]
def k0_mult3 (i : grid0.Coords) (k0_t1 : Fin (k0_t1_loop i).trips) : BitVec 32 :=
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let c0_i32_69 : BitVec 32 := 0#32
  let v93 : BitVec 32 := Scalar.addi v92 c0_i32_69
  let v94 : BitVec 32 := Scalar.muli c2_i32_70 v93
  let c0_i32_104 : BitVec 32 := 0#32
  let v129 : BitVec 1 := Scalar.cmpi .eq v94 c0_i32_104
  let arg2 : BitVec 32 := BitVec.ofNat 32 (i 2).val
  let c1_i32_105 : BitVec 32 := 1#32
  let v130 : BitVec 32 := Scalar.subi v94 c1_i32_105
  let v131 : BitVec 32 := Scalar.select v129 arg2 v130
  let c512_i32_106 : BitVec 32 := 512#32
  let v132 : BitVec 32 := Scalar.muli v131 c512_i32_106
  v132
def k0_off5 (i : grid0.Coords) (k0_t1 : Fin (k0_t1_loop i).trips) (c0_i32_69 : BitVec 32) : Fin 3 → Nat :=
  let c0_107 : Index := 0#32
  let c0_108 : Index := 0#32
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let v93 : BitVec 32 := Scalar.addi v92 c0_i32_69
  let v94 : BitVec 32 := Scalar.muli c2_i32_70 v93
  let c0_i32_104 : BitVec 32 := 0#32
  let v129 : BitVec 1 := Scalar.cmpi .eq v94 c0_i32_104
  let arg2 : BitVec 32 := BitVec.ofNat 32 (i 2).val
  let c1_i32_105 : BitVec 32 := 1#32
  let v130 : BitVec 32 := Scalar.subi v94 c1_i32_105
  let v131 : BitVec 32 := Scalar.select v129 arg2 v130
  let c512_i32_106 : BitVec 32 := 512#32
  let v132 : BitVec 32 := Scalar.muli v131 c512_i32_106
  let v133 : BitVec 32 := v132
  let v134 : Index := Scalar.indexCast v133
  ![0, 0, v134.toNat]
def k0_mult4 (i : grid0.Coords) (k0_t1 : Fin (k0_t1_loop i).trips) : BitVec 32 :=
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let c0_i32_69 : BitVec 32 := 0#32
  let v93 : BitVec 32 := Scalar.addi v92 c0_i32_69
  let v94 : BitVec 32 := Scalar.muli c2_i32_70 v93
  let c1_i32_153 : BitVec 32 := 1#32
  let v202 : BitVec 32 := Scalar.addi v94 c1_i32_153
  let c512_i32_154 : BitVec 32 := 512#32
  let v203 : BitVec 32 := Scalar.muli v202 c512_i32_154
  v203
def k0_off6 (i : grid0.Coords) (k0_t1 : Fin (k0_t1_loop i).trips) (c0_i32_69 : BitVec 32) : Fin 2 → Nat :=
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let v93 : BitVec 32 := Scalar.addi v92 c0_i32_69
  let v94 : BitVec 32 := Scalar.muli c2_i32_70 v93
  let c1_i32_153 : BitVec 32 := 1#32
  let v202 : BitVec 32 := Scalar.addi v94 c1_i32_153
  let c512_i32_154 : BitVec 32 := 512#32
  let v203 : BitVec 32 := Scalar.muli v202 c512_i32_154
  let v204 : BitVec 32 := v203
  let v205 : Index := Scalar.indexCast v204
  let c0_155 : Index := 0#32
  ![v205.toNat, 0]
def k0_off7 (i : grid0.Coords) (k0_t1 : Fin (k0_t1_loop i).trips) (c0_i32_69 : BitVec 32) : Fin 2 → Nat :=
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let v93 : BitVec 32 := Scalar.addi v92 c0_i32_69
  let v94 : BitVec 32 := Scalar.muli c2_i32_70 v93
  let c1_i32_153 : BitVec 32 := 1#32
  let v202 : BitVec 32 := Scalar.addi v94 c1_i32_153
  let c512_i32_154 : BitVec 32 := 512#32
  let v203 : BitVec 32 := Scalar.muli v202 c512_i32_154
  let v204 : BitVec 32 := v203
  let v221 : Index := Scalar.indexCast v204
  let c128_171 : Index := 128#32
  ![v221.toNat, 128]
def k0_mult5 (i : grid0.Coords) (k0_t1 : Fin (k0_t1_loop i).trips) : BitVec 32 :=
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let c0_i32_69 : BitVec 32 := 0#32
  let v93 : BitVec 32 := Scalar.addi v92 c0_i32_69
  let v94 : BitVec 32 := Scalar.muli c2_i32_70 v93
  let c512_i32_187 : BitVec 32 := 512#32
  let v237 : BitVec 32 := Scalar.muli v94 c512_i32_187
  v237
def k0_off8 (i : grid0.Coords) (k0_t1 : Fin (k0_t1_loop i).trips) (c0_i32_69 : BitVec 32) : Fin 3 → Nat :=
  let c0_188 : Index := 0#32
  let c0_189 : Index := 0#32
  let c2_i32_70 : BitVec 32 := 2#32
  let c4_i32 : BitVec 32 := 4#32
  let c0_i32_54 : BitVec 32 := 0#32
  let c1_i32_56 : BitVec 32 := 1#32
  let arg16 : BitVec 32 := Scf.iv c0_i32_54 c1_i32_56 k0_t1
  let v92 : BitVec 32 := Scalar.muli c4_i32 arg16
  let v93 : BitVec 32 := Scalar.addi v92 c0_i32_69
  let v94 : BitVec 32 := Scalar.muli c2_i32_70 v93
  let c512_i32_187 : BitVec 32 := 512#32
  let v237 : BitVec 32 := Scalar.muli v94 c512_i32_187
  let v238 : BitVec 32 := v237
  let v239 : Index := Scalar.indexCast v238
  ![0, 0, v239.toNat]
def k0_mult6 (i : grid0.Coords) (k0_t1 : Fin (k0_t1_loop i).trips) : BitVec 32 :=
  let c2_i32_236 : BitVec 32 := 2#32
  let c4_i32_234 : BitVec 32 := 4#32
  let c0_i32_54 : BitVec 32 := 0#32
  let c1_i32_56 : BitVec 32 := 1#32
  let arg16 : BitVec 32 := Scf.iv c0_i32_54 c1_i32_56 k0_t1
  let v307 : BitVec 32 := Scalar.muli c4_i32_234 arg16
  let c1_i32_235 : BitVec 32 := 1#32
  let v308 : BitVec 32 := Scalar.addi v307 c1_i32_235
  let v309 : BitVec 32 := Scalar.muli c2_i32_236 v308
  let c512_i32_237 : BitVec 32 := 512#32
  let v310 : BitVec 32 := Scalar.muli v309 c512_i32_237
  v310
def k0_mult7 (i : grid0.Coords) (k0_t1 : Fin (k0_t1_loop i).trips) : BitVec 32 :=
  let c2_i32_236 : BitVec 32 := 2#32
  let c4_i32_234 : BitVec 32 := 4#32
  let c0_i32_54 : BitVec 32 := 0#32
  let c1_i32_56 : BitVec 32 := 1#32
  let arg16 : BitVec 32 := Scf.iv c0_i32_54 c1_i32_56 k0_t1
  let v307 : BitVec 32 := Scalar.muli c4_i32_234 arg16
  let c1_i32_235 : BitVec 32 := 1#32
  let v308 : BitVec 32 := Scalar.addi v307 c1_i32_235
  let v309 : BitVec 32 := Scalar.muli c2_i32_236 v308
  let c0_i32_270 : BitVec 32 := 0#32
  let v344 : BitVec 1 := Scalar.cmpi .eq v309 c0_i32_270
  let arg2 : BitVec 32 := BitVec.ofNat 32 (i 2).val
  let c1_i32_271 : BitVec 32 := 1#32
  let v345 : BitVec 32 := Scalar.subi v309 c1_i32_271
  let v346 : BitVec 32 := Scalar.select v344 arg2 v345
  let c512_i32_272 : BitVec 32 := 512#32
  let v347 : BitVec 32 := Scalar.muli v346 c512_i32_272
  v347
def k0_mult8 (i : grid0.Coords) (k0_t1 : Fin (k0_t1_loop i).trips) : BitVec 32 :=
  let c2_i32_236 : BitVec 32 := 2#32
  let c4_i32_234 : BitVec 32 := 4#32
  let c0_i32_54 : BitVec 32 := 0#32
  let c1_i32_56 : BitVec 32 := 1#32
  let arg16 : BitVec 32 := Scf.iv c0_i32_54 c1_i32_56 k0_t1
  let v307 : BitVec 32 := Scalar.muli c4_i32_234 arg16
  let c1_i32_235 : BitVec 32 := 1#32
  let v308 : BitVec 32 := Scalar.addi v307 c1_i32_235
  let v309 : BitVec 32 := Scalar.muli c2_i32_236 v308
  let c1_i32_319 : BitVec 32 := 1#32
  let v417 : BitVec 32 := Scalar.addi v309 c1_i32_319
  let c512_i32_320 : BitVec 32 := 512#32
  let v418 : BitVec 32 := Scalar.muli v417 c512_i32_320
  v418
def k0_mult9 (i : grid0.Coords) (k0_t1 : Fin (k0_t1_loop i).trips) : BitVec 32 :=
  let c2_i32_236 : BitVec 32 := 2#32
  let c4_i32_234 : BitVec 32 := 4#32
  let c0_i32_54 : BitVec 32 := 0#32
  let c1_i32_56 : BitVec 32 := 1#32
  let arg16 : BitVec 32 := Scf.iv c0_i32_54 c1_i32_56 k0_t1
  let v307 : BitVec 32 := Scalar.muli c4_i32_234 arg16
  let c1_i32_235 : BitVec 32 := 1#32
  let v308 : BitVec 32 := Scalar.addi v307 c1_i32_235
  let v309 : BitVec 32 := Scalar.muli c2_i32_236 v308
  let c512_i32_353 : BitVec 32 := 512#32
  let v452 : BitVec 32 := Scalar.muli v309 c512_i32_353
  v452
def k0_mult10 (i : grid0.Coords) (k0_t1 : Fin (k0_t1_loop i).trips) : BitVec 32 :=
  let c2_i32_402 : BitVec 32 := 2#32
  let c4_i32_400 : BitVec 32 := 4#32
  let c0_i32_54 : BitVec 32 := 0#32
  let c1_i32_56 : BitVec 32 := 1#32
  let arg16 : BitVec 32 := Scf.iv c0_i32_54 c1_i32_56 k0_t1
  let v522 : BitVec 32 := Scalar.muli c4_i32_400 arg16
  let c2_i32_401 : BitVec 32 := 2#32
  let v523 : BitVec 32 := Scalar.addi v522 c2_i32_401
  let v524 : BitVec 32 := Scalar.muli c2_i32_402 v523
  let c512_i32_403 : BitVec 32 := 512#32
  let v525 : BitVec 32 := Scalar.muli v524 c512_i32_403
  v525
def k0_mult11 (i : grid0.Coords) (k0_t1 : Fin (k0_t1_loop i).trips) : BitVec 32 :=
  let c2_i32_402 : BitVec 32 := 2#32
  let c4_i32_400 : BitVec 32 := 4#32
  let c0_i32_54 : BitVec 32 := 0#32
  let c1_i32_56 : BitVec 32 := 1#32
  let arg16 : BitVec 32 := Scf.iv c0_i32_54 c1_i32_56 k0_t1
  let v522 : BitVec 32 := Scalar.muli c4_i32_400 arg16
  let c2_i32_401 : BitVec 32 := 2#32
  let v523 : BitVec 32 := Scalar.addi v522 c2_i32_401
  let v524 : BitVec 32 := Scalar.muli c2_i32_402 v523
  let c0_i32_436 : BitVec 32 := 0#32
  let v559 : BitVec 1 := Scalar.cmpi .eq v524 c0_i32_436
  let arg2 : BitVec 32 := BitVec.ofNat 32 (i 2).val
  let c1_i32_437 : BitVec 32 := 1#32
  let v560 : BitVec 32 := Scalar.subi v524 c1_i32_437
  let v561 : BitVec 32 := Scalar.select v559 arg2 v560
  let c512_i32_438 : BitVec 32 := 512#32
  let v562 : BitVec 32 := Scalar.muli v561 c512_i32_438
  v562
def k0_mult12 (i : grid0.Coords) (k0_t1 : Fin (k0_t1_loop i).trips) : BitVec 32 :=
  let c2_i32_402 : BitVec 32 := 2#32
  let c4_i32_400 : BitVec 32 := 4#32
  let c0_i32_54 : BitVec 32 := 0#32
  let c1_i32_56 : BitVec 32 := 1#32
  let arg16 : BitVec 32 := Scf.iv c0_i32_54 c1_i32_56 k0_t1
  let v522 : BitVec 32 := Scalar.muli c4_i32_400 arg16
  let c2_i32_401 : BitVec 32 := 2#32
  let v523 : BitVec 32 := Scalar.addi v522 c2_i32_401
  let v524 : BitVec 32 := Scalar.muli c2_i32_402 v523
  let c1_i32_485 : BitVec 32 := 1#32
  let v632 : BitVec 32 := Scalar.addi v524 c1_i32_485
  let c512_i32_486 : BitVec 32 := 512#32
  let v633 : BitVec 32 := Scalar.muli v632 c512_i32_486
  v633
def k0_mult13 (i : grid0.Coords) (k0_t1 : Fin (k0_t1_loop i).trips) : BitVec 32 :=
  let c2_i32_402 : BitVec 32 := 2#32
  let c4_i32_400 : BitVec 32 := 4#32
  let c0_i32_54 : BitVec 32 := 0#32
  let c1_i32_56 : BitVec 32 := 1#32
  let arg16 : BitVec 32 := Scf.iv c0_i32_54 c1_i32_56 k0_t1
  let v522 : BitVec 32 := Scalar.muli c4_i32_400 arg16
  let c2_i32_401 : BitVec 32 := 2#32
  let v523 : BitVec 32 := Scalar.addi v522 c2_i32_401
  let v524 : BitVec 32 := Scalar.muli c2_i32_402 v523
  let c512_i32_519 : BitVec 32 := 512#32
  let v667 : BitVec 32 := Scalar.muli v524 c512_i32_519
  v667
def k0_mult14 (i : grid0.Coords) (k0_t1 : Fin (k0_t1_loop i).trips) : BitVec 32 :=
  let c2_i32_567 : BitVec 32 := 2#32
  let c4_i32_566 : BitVec 32 := 4#32
  let c0_i32_54 : BitVec 32 := 0#32
  let c1_i32_56 : BitVec 32 := 1#32
  let arg16 : BitVec 32 := Scf.iv c0_i32_54 c1_i32_56 k0_t1
  let v737 : BitVec 32 := Scalar.muli c4_i32_566 arg16
  let c3_i32 : BitVec 32 := 3#32
  let v738 : BitVec 32 := Scalar.addi v737 c3_i32
  let v739 : BitVec 32 := Scalar.muli c2_i32_567 v738
  let c512_i32_568 : BitVec 32 := 512#32
  let v740 : BitVec 32 := Scalar.muli v739 c512_i32_568
  v740
def k0_mult15 (i : grid0.Coords) (k0_t1 : Fin (k0_t1_loop i).trips) : BitVec 32 :=
  let c2_i32_567 : BitVec 32 := 2#32
  let c4_i32_566 : BitVec 32 := 4#32
  let c0_i32_54 : BitVec 32 := 0#32
  let c1_i32_56 : BitVec 32 := 1#32
  let arg16 : BitVec 32 := Scf.iv c0_i32_54 c1_i32_56 k0_t1
  let v737 : BitVec 32 := Scalar.muli c4_i32_566 arg16
  let c3_i32 : BitVec 32 := 3#32
  let v738 : BitVec 32 := Scalar.addi v737 c3_i32
  let v739 : BitVec 32 := Scalar.muli c2_i32_567 v738
  let c0_i32_601 : BitVec 32 := 0#32
  let v774 : BitVec 1 := Scalar.cmpi .eq v739 c0_i32_601
  let arg2 : BitVec 32 := BitVec.ofNat 32 (i 2).val
  let c1_i32_602 : BitVec 32 := 1#32
  let v775 : BitVec 32 := Scalar.subi v739 c1_i32_602
  let v776 : BitVec 32 := Scalar.select v774 arg2 v775
  let c512_i32_603 : BitVec 32 := 512#32
  let v777 : BitVec 32 := Scalar.muli v776 c512_i32_603
  v777
def k0_mult16 (i : grid0.Coords) (k0_t1 : Fin (k0_t1_loop i).trips) : BitVec 32 :=
  let c2_i32_567 : BitVec 32 := 2#32
  let c4_i32_566 : BitVec 32 := 4#32
  let c0_i32_54 : BitVec 32 := 0#32
  let c1_i32_56 : BitVec 32 := 1#32
  let arg16 : BitVec 32 := Scf.iv c0_i32_54 c1_i32_56 k0_t1
  let v737 : BitVec 32 := Scalar.muli c4_i32_566 arg16
  let c3_i32 : BitVec 32 := 3#32
  let v738 : BitVec 32 := Scalar.addi v737 c3_i32
  let v739 : BitVec 32 := Scalar.muli c2_i32_567 v738
  let c1_i32_650 : BitVec 32 := 1#32
  let v847 : BitVec 32 := Scalar.addi v739 c1_i32_650
  let c512_i32_651 : BitVec 32 := 512#32
  let v848 : BitVec 32 := Scalar.muli v847 c512_i32_651
  v848
def k0_mult17 (i : grid0.Coords) (k0_t1 : Fin (k0_t1_loop i).trips) : BitVec 32 :=
  let c2_i32_567 : BitVec 32 := 2#32
  let c4_i32_566 : BitVec 32 := 4#32
  let c0_i32_54 : BitVec 32 := 0#32
  let c1_i32_56 : BitVec 32 := 1#32
  let arg16 : BitVec 32 := Scf.iv c0_i32_54 c1_i32_56 k0_t1
  let v737 : BitVec 32 := Scalar.muli c4_i32_566 arg16
  let c3_i32 : BitVec 32 := 3#32
  let v738 : BitVec 32 := Scalar.addi v737 c3_i32
  let v739 : BitVec 32 := Scalar.muli c2_i32_567 v738
  let c512_i32_684 : BitVec 32 := 512#32
  let v882 : BitVec 32 := Scalar.muli v739 c512_i32_684
  v882
@[reducible] def k0_t2_loop (i : grid0.Coords) : Scf.Loop 32 :=
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let v72 : BitVec 32 := Scalar.addi c0_i32_54 v71
  let c1_i32_57 : BitVec 32 := 1#32
  ⟨v75, v72, c1_i32_57⟩
def k0_mult18 (i : grid0.Coords) (k0_t2 : Fin (k0_t2_loop i).trips) : BitVec 32 :=
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let c0_i32_69 : BitVec 32 := 0#32
  let v93 : BitVec 32 := Scalar.addi v92 c0_i32_69
  let v94 : BitVec 32 := Scalar.muli c2_i32_70 v93
  let c512_i32_71 : BitVec 32 := 512#32
  let v95 : BitVec 32 := Scalar.muli v94 c512_i32_71
  v95
def k0_off9 (i : grid0.Coords) (k0_t2 : Fin (k0_t2_loop i).trips) (c0_i32_69 : BitVec 32) : Fin 2 → Nat :=
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let v93 : BitVec 32 := Scalar.addi v92 c0_i32_69
  let v94 : BitVec 32 := Scalar.muli c2_i32_70 v93
  let c512_i32_71 : BitVec 32 := 512#32
  let v95 : BitVec 32 := Scalar.muli v94 c512_i32_71
  let v96 : BitVec 32 := v95
  let v97 : Index := Scalar.indexCast v96
  let c0_72 : Index := 0#32
  ![v97.toNat, 0]
def k0_off10 (i : grid0.Coords) (k0_t2 : Fin (k0_t2_loop i).trips) (c0_i32_69 : BitVec 32) : Fin 2 → Nat :=
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let v93 : BitVec 32 := Scalar.addi v92 c0_i32_69
  let v94 : BitVec 32 := Scalar.muli c2_i32_70 v93
  let c512_i32_71 : BitVec 32 := 512#32
  let v95 : BitVec 32 := Scalar.muli v94 c512_i32_71
  let v96 : BitVec 32 := v95
  let v113 : Index := Scalar.indexCast v96
  let c128_88 : Index := 128#32
  ![v113.toNat, 128]
def k0_mult19 (i : grid0.Coords) (k0_t2 : Fin (k0_t2_loop i).trips) : BitVec 32 :=
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let c0_i32_69 : BitVec 32 := 0#32
  let v93 : BitVec 32 := Scalar.addi v92 c0_i32_69
  let v94 : BitVec 32 := Scalar.muli c2_i32_70 v93
  let c0_i32_104 : BitVec 32 := 0#32
  let v129 : BitVec 1 := Scalar.cmpi .eq v94 c0_i32_104
  let c1_i32_105 : BitVec 32 := 1#32
  let v130 : BitVec 32 := Scalar.subi v94 c1_i32_105
  let v131 : BitVec 32 := Scalar.select v129 arg2 v130
  let c512_i32_106 : BitVec 32 := 512#32
  let v132 : BitVec 32 := Scalar.muli v131 c512_i32_106
  v132
def k0_off11 (i : grid0.Coords) (k0_t2 : Fin (k0_t2_loop i).trips) (c0_i32_69 : BitVec 32) : Fin 3 → Nat :=
  let c0_107 : Index := 0#32
  let c0_108 : Index := 0#32
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let v93 : BitVec 32 := Scalar.addi v92 c0_i32_69
  let v94 : BitVec 32 := Scalar.muli c2_i32_70 v93
  let c0_i32_104 : BitVec 32 := 0#32
  let v129 : BitVec 1 := Scalar.cmpi .eq v94 c0_i32_104
  let c1_i32_105 : BitVec 32 := 1#32
  let v130 : BitVec 32 := Scalar.subi v94 c1_i32_105
  let v131 : BitVec 32 := Scalar.select v129 arg2 v130
  let c512_i32_106 : BitVec 32 := 512#32
  let v132 : BitVec 32 := Scalar.muli v131 c512_i32_106
  let v133 : BitVec 32 := v132
  let v134 : Index := Scalar.indexCast v133
  ![0, 0, v134.toNat]
def k0_mult20 (i : grid0.Coords) (k0_t2 : Fin (k0_t2_loop i).trips) : BitVec 32 :=
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let c0_i32_69 : BitVec 32 := 0#32
  let v93 : BitVec 32 := Scalar.addi v92 c0_i32_69
  let v94 : BitVec 32 := Scalar.muli c2_i32_70 v93
  let c1_i32_153 : BitVec 32 := 1#32
  let v202 : BitVec 32 := Scalar.addi v94 c1_i32_153
  let c512_i32_154 : BitVec 32 := 512#32
  let v203 : BitVec 32 := Scalar.muli v202 c512_i32_154
  v203
def k0_off12 (i : grid0.Coords) (k0_t2 : Fin (k0_t2_loop i).trips) (c0_i32_69 : BitVec 32) : Fin 2 → Nat :=
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let v93 : BitVec 32 := Scalar.addi v92 c0_i32_69
  let v94 : BitVec 32 := Scalar.muli c2_i32_70 v93
  let c1_i32_153 : BitVec 32 := 1#32
  let v202 : BitVec 32 := Scalar.addi v94 c1_i32_153
  let c512_i32_154 : BitVec 32 := 512#32
  let v203 : BitVec 32 := Scalar.muli v202 c512_i32_154
  let v204 : BitVec 32 := v203
  let v205 : Index := Scalar.indexCast v204
  let c0_155 : Index := 0#32
  ![v205.toNat, 0]
def k0_off13 (i : grid0.Coords) (k0_t2 : Fin (k0_t2_loop i).trips) (c0_i32_69 : BitVec 32) : Fin 2 → Nat :=
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let v93 : BitVec 32 := Scalar.addi v92 c0_i32_69
  let v94 : BitVec 32 := Scalar.muli c2_i32_70 v93
  let c1_i32_153 : BitVec 32 := 1#32
  let v202 : BitVec 32 := Scalar.addi v94 c1_i32_153
  let c512_i32_154 : BitVec 32 := 512#32
  let v203 : BitVec 32 := Scalar.muli v202 c512_i32_154
  let v204 : BitVec 32 := v203
  let v221 : Index := Scalar.indexCast v204
  let c128_171 : Index := 128#32
  ![v221.toNat, 128]
def k0_mult21 (i : grid0.Coords) (k0_t2 : Fin (k0_t2_loop i).trips) : BitVec 32 :=
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let c0_i32_69 : BitVec 32 := 0#32
  let v93 : BitVec 32 := Scalar.addi v92 c0_i32_69
  let v94 : BitVec 32 := Scalar.muli c2_i32_70 v93
  let c512_i32_187 : BitVec 32 := 512#32
  let v237 : BitVec 32 := Scalar.muli v94 c512_i32_187
  v237
def k0_off14 (i : grid0.Coords) (k0_t2 : Fin (k0_t2_loop i).trips) (c0_i32_69 : BitVec 32) : Fin 3 → Nat :=
  let c0_188 : Index := 0#32
  let c0_189 : Index := 0#32
  let c2_i32_70 : BitVec 32 := 2#32
  let c4_i32 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v92 : BitVec 32 := Scalar.muli c4_i32 arg16
  let v93 : BitVec 32 := Scalar.addi v92 c0_i32_69
  let v94 : BitVec 32 := Scalar.muli c2_i32_70 v93
  let c512_i32_187 : BitVec 32 := 512#32
  let v237 : BitVec 32 := Scalar.muli v94 c512_i32_187
  let v238 : BitVec 32 := v237
  let v239 : Index := Scalar.indexCast v238
  ![0, 0, v239.toNat]
def k0_mult22 (i : grid0.Coords) (k0_t2 : Fin (k0_t2_loop i).trips) : BitVec 32 :=
  let c2_i32_236 : BitVec 32 := 2#32
  let c4_i32_234 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v307 : BitVec 32 := Scalar.muli c4_i32_234 arg16
  let c1_i32_235 : BitVec 32 := 1#32
  let v308 : BitVec 32 := Scalar.addi v307 c1_i32_235
  let v309 : BitVec 32 := Scalar.muli c2_i32_236 v308
  let c512_i32_237 : BitVec 32 := 512#32
  let v310 : BitVec 32 := Scalar.muli v309 c512_i32_237
  v310
def k0_mult23 (i : grid0.Coords) (k0_t2 : Fin (k0_t2_loop i).trips) : BitVec 32 :=
  let c2_i32_236 : BitVec 32 := 2#32
  let c4_i32_234 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v307 : BitVec 32 := Scalar.muli c4_i32_234 arg16
  let c1_i32_235 : BitVec 32 := 1#32
  let v308 : BitVec 32 := Scalar.addi v307 c1_i32_235
  let v309 : BitVec 32 := Scalar.muli c2_i32_236 v308
  let c0_i32_270 : BitVec 32 := 0#32
  let v344 : BitVec 1 := Scalar.cmpi .eq v309 c0_i32_270
  let c1_i32_271 : BitVec 32 := 1#32
  let v345 : BitVec 32 := Scalar.subi v309 c1_i32_271
  let v346 : BitVec 32 := Scalar.select v344 arg2 v345
  let c512_i32_272 : BitVec 32 := 512#32
  let v347 : BitVec 32 := Scalar.muli v346 c512_i32_272
  v347
def k0_mult24 (i : grid0.Coords) (k0_t2 : Fin (k0_t2_loop i).trips) : BitVec 32 :=
  let c2_i32_236 : BitVec 32 := 2#32
  let c4_i32_234 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v307 : BitVec 32 := Scalar.muli c4_i32_234 arg16
  let c1_i32_235 : BitVec 32 := 1#32
  let v308 : BitVec 32 := Scalar.addi v307 c1_i32_235
  let v309 : BitVec 32 := Scalar.muli c2_i32_236 v308
  let c1_i32_319 : BitVec 32 := 1#32
  let v417 : BitVec 32 := Scalar.addi v309 c1_i32_319
  let c512_i32_320 : BitVec 32 := 512#32
  let v418 : BitVec 32 := Scalar.muli v417 c512_i32_320
  v418
def k0_mult25 (i : grid0.Coords) (k0_t2 : Fin (k0_t2_loop i).trips) : BitVec 32 :=
  let c2_i32_236 : BitVec 32 := 2#32
  let c4_i32_234 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v307 : BitVec 32 := Scalar.muli c4_i32_234 arg16
  let c1_i32_235 : BitVec 32 := 1#32
  let v308 : BitVec 32 := Scalar.addi v307 c1_i32_235
  let v309 : BitVec 32 := Scalar.muli c2_i32_236 v308
  let c512_i32_353 : BitVec 32 := 512#32
  let v452 : BitVec 32 := Scalar.muli v309 c512_i32_353
  v452
def k0_mult26 (i : grid0.Coords) (k0_t2 : Fin (k0_t2_loop i).trips) : BitVec 32 :=
  let c2_i32_402 : BitVec 32 := 2#32
  let c4_i32_400 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v522 : BitVec 32 := Scalar.muli c4_i32_400 arg16
  let c2_i32_401 : BitVec 32 := 2#32
  let v523 : BitVec 32 := Scalar.addi v522 c2_i32_401
  let v524 : BitVec 32 := Scalar.muli c2_i32_402 v523
  let c512_i32_403 : BitVec 32 := 512#32
  let v525 : BitVec 32 := Scalar.muli v524 c512_i32_403
  v525
def k0_mult27 (i : grid0.Coords) (k0_t2 : Fin (k0_t2_loop i).trips) : BitVec 32 :=
  let c2_i32_402 : BitVec 32 := 2#32
  let c4_i32_400 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v522 : BitVec 32 := Scalar.muli c4_i32_400 arg16
  let c2_i32_401 : BitVec 32 := 2#32
  let v523 : BitVec 32 := Scalar.addi v522 c2_i32_401
  let v524 : BitVec 32 := Scalar.muli c2_i32_402 v523
  let c0_i32_436 : BitVec 32 := 0#32
  let v559 : BitVec 1 := Scalar.cmpi .eq v524 c0_i32_436
  let c1_i32_437 : BitVec 32 := 1#32
  let v560 : BitVec 32 := Scalar.subi v524 c1_i32_437
  let v561 : BitVec 32 := Scalar.select v559 arg2 v560
  let c512_i32_438 : BitVec 32 := 512#32
  let v562 : BitVec 32 := Scalar.muli v561 c512_i32_438
  v562
def k0_mult28 (i : grid0.Coords) (k0_t2 : Fin (k0_t2_loop i).trips) : BitVec 32 :=
  let c2_i32_402 : BitVec 32 := 2#32
  let c4_i32_400 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v522 : BitVec 32 := Scalar.muli c4_i32_400 arg16
  let c2_i32_401 : BitVec 32 := 2#32
  let v523 : BitVec 32 := Scalar.addi v522 c2_i32_401
  let v524 : BitVec 32 := Scalar.muli c2_i32_402 v523
  let c1_i32_485 : BitVec 32 := 1#32
  let v632 : BitVec 32 := Scalar.addi v524 c1_i32_485
  let c512_i32_486 : BitVec 32 := 512#32
  let v633 : BitVec 32 := Scalar.muli v632 c512_i32_486
  v633
def k0_mult29 (i : grid0.Coords) (k0_t2 : Fin (k0_t2_loop i).trips) : BitVec 32 :=
  let c2_i32_402 : BitVec 32 := 2#32
  let c4_i32_400 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v522 : BitVec 32 := Scalar.muli c4_i32_400 arg16
  let c2_i32_401 : BitVec 32 := 2#32
  let v523 : BitVec 32 := Scalar.addi v522 c2_i32_401
  let v524 : BitVec 32 := Scalar.muli c2_i32_402 v523
  let c512_i32_519 : BitVec 32 := 512#32
  let v667 : BitVec 32 := Scalar.muli v524 c512_i32_519
  v667
def k0_mult30 (i : grid0.Coords) (k0_t2 : Fin (k0_t2_loop i).trips) : BitVec 32 :=
  let c2_i32_567 : BitVec 32 := 2#32
  let c4_i32_566 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v737 : BitVec 32 := Scalar.muli c4_i32_566 arg16
  let c3_i32 : BitVec 32 := 3#32
  let v738 : BitVec 32 := Scalar.addi v737 c3_i32
  let v739 : BitVec 32 := Scalar.muli c2_i32_567 v738
  let c512_i32_568 : BitVec 32 := 512#32
  let v740 : BitVec 32 := Scalar.muli v739 c512_i32_568
  v740
def k0_mult31 (i : grid0.Coords) (k0_t2 : Fin (k0_t2_loop i).trips) : BitVec 32 :=
  let c2_i32_567 : BitVec 32 := 2#32
  let c4_i32_566 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v737 : BitVec 32 := Scalar.muli c4_i32_566 arg16
  let c3_i32 : BitVec 32 := 3#32
  let v738 : BitVec 32 := Scalar.addi v737 c3_i32
  let v739 : BitVec 32 := Scalar.muli c2_i32_567 v738
  let c0_i32_601 : BitVec 32 := 0#32
  let v774 : BitVec 1 := Scalar.cmpi .eq v739 c0_i32_601
  let c1_i32_602 : BitVec 32 := 1#32
  let v775 : BitVec 32 := Scalar.subi v739 c1_i32_602
  let v776 : BitVec 32 := Scalar.select v774 arg2 v775
  let c512_i32_603 : BitVec 32 := 512#32
  let v777 : BitVec 32 := Scalar.muli v776 c512_i32_603
  v777
def k0_mult32 (i : grid0.Coords) (k0_t2 : Fin (k0_t2_loop i).trips) : BitVec 32 :=
  let c2_i32_567 : BitVec 32 := 2#32
  let c4_i32_566 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v737 : BitVec 32 := Scalar.muli c4_i32_566 arg16
  let c3_i32 : BitVec 32 := 3#32
  let v738 : BitVec 32 := Scalar.addi v737 c3_i32
  let v739 : BitVec 32 := Scalar.muli c2_i32_567 v738
  let c1_i32_650 : BitVec 32 := 1#32
  let v847 : BitVec 32 := Scalar.addi v739 c1_i32_650
  let c512_i32_651 : BitVec 32 := 512#32
  let v848 : BitVec 32 := Scalar.muli v847 c512_i32_651
  v848
def k0_mult33 (i : grid0.Coords) (k0_t2 : Fin (k0_t2_loop i).trips) : BitVec 32 :=
  let c2_i32_567 : BitVec 32 := 2#32
  let c4_i32_566 : BitVec 32 := 4#32
  let c0_i32_54 : BitVec 32 := 0#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v71 : BitVec 32 := Scalar.subi v70 c0_i32_54
  let c1_i32_55 : BitVec 32 := 1#32
  let v73 : BitVec 32 := Scalar.divsi v71 c1_i32_55
  let v74 : BitVec 32 := Scalar.muli v73 c1_i32_55
  let v75 : BitVec 32 := Scalar.addi c0_i32_54 v74
  let c1_i32_57 : BitVec 32 := 1#32
  let arg16 : BitVec 32 := Scf.iv v75 c1_i32_57 k0_t2
  let v737 : BitVec 32 := Scalar.muli c4_i32_566 arg16
  let c3_i32 : BitVec 32 := 3#32
  let v738 : BitVec 32 := Scalar.addi v737 c3_i32
  let v739 : BitVec 32 := Scalar.muli c2_i32_567 v738
  let c512_i32_684 : BitVec 32 := 512#32
  let v882 : BitVec 32 := Scalar.muli v739 c512_i32_684
  v882
def k0_cond2 (i : grid0.Coords) : BitVec 1 :=
  let arg2 : BitVec 32 := BitVec.ofNat 32 (i 2).val
  let c1_i32 : BitVec 32 := 1#32
  let v69 : BitVec 32 := Scalar.shrui arg2 c1_i32
  let c2_i32_58 : BitVec 32 := 2#32
  let v76 : BitVec 32 := Scalar.andi v69 c2_i32_58
  let c2_i32_59 : BitVec 32 := 2#32
  let v77 : BitVec 1 := Scalar.cmpi .eq v76 c2_i32_59
  let v78 : BitVec 32 := Scalar.extui v77
  let c0_i32_60 : BitVec 32 := 0#32
  let v79 : BitVec 1 := Scalar.cmpi .ne v78 c0_i32_60
  v79

def k0_mult34 (i : grid0.Coords) : BitVec 32 :=
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c512_i32_70 : BitVec 32 := 512#32
  let v94 : BitVec 32 := Scalar.muli v93 c512_i32_70
  v94
def k0_off15 (i : grid0.Coords) : Fin 2 → Nat :=
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c512_i32_70 : BitVec 32 := 512#32
  let v94 : BitVec 32 := Scalar.muli v93 c512_i32_70
  let v95 : BitVec 32 := v94
  let v96 : Index := Scalar.indexCast v95
  let c0_71 : Index := 0#32
  ![v96.toNat, 0]
def k0_off16 (i : grid0.Coords) : Fin 2 → Nat :=
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c512_i32_70 : BitVec 32 := 512#32
  let v94 : BitVec 32 := Scalar.muli v93 c512_i32_70
  let v95 : BitVec 32 := v94
  let v112 : Index := Scalar.indexCast v95
  let c128_87 : Index := 128#32
  ![v112.toNat, 128]
def k0_mult35 (i : grid0.Coords) : BitVec 32 :=
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c0_i32_103 : BitVec 32 := 0#32
  let v128 : BitVec 1 := Scalar.cmpi .eq v93 c0_i32_103
  let c1_i32_104 : BitVec 32 := 1#32
  let v129 : BitVec 32 := Scalar.subi v93 c1_i32_104
  let v130 : BitVec 32 := Scalar.select v128 arg2 v129
  let c512_i32_105 : BitVec 32 := 512#32
  let v131 : BitVec 32 := Scalar.muli v130 c512_i32_105
  v131
def k0_off17 (i : grid0.Coords) : Fin 3 → Nat :=
  let c0_106 : Index := 0#32
  let c0_107 : Index := 0#32
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c0_i32_103 : BitVec 32 := 0#32
  let v128 : BitVec 1 := Scalar.cmpi .eq v93 c0_i32_103
  let c1_i32_104 : BitVec 32 := 1#32
  let v129 : BitVec 32 := Scalar.subi v93 c1_i32_104
  let v130 : BitVec 32 := Scalar.select v128 arg2 v129
  let c512_i32_105 : BitVec 32 := 512#32
  let v131 : BitVec 32 := Scalar.muli v130 c512_i32_105
  let v132 : BitVec 32 := v131
  let v133 : Index := Scalar.indexCast v132
  ![0, 0, v133.toNat]
def k0_mult36 (i : grid0.Coords) : BitVec 32 :=
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c1_i32_152 : BitVec 32 := 1#32
  let v201 : BitVec 32 := Scalar.addi v93 c1_i32_152
  let c512_i32_153 : BitVec 32 := 512#32
  let v202 : BitVec 32 := Scalar.muli v201 c512_i32_153
  v202
def k0_off18 (i : grid0.Coords) : Fin 2 → Nat :=
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c1_i32_152 : BitVec 32 := 1#32
  let v201 : BitVec 32 := Scalar.addi v93 c1_i32_152
  let c512_i32_153 : BitVec 32 := 512#32
  let v202 : BitVec 32 := Scalar.muli v201 c512_i32_153
  let v203 : BitVec 32 := v202
  let v204 : Index := Scalar.indexCast v203
  let c0_154 : Index := 0#32
  ![v204.toNat, 0]
def k0_off19 (i : grid0.Coords) : Fin 2 → Nat :=
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c1_i32_152 : BitVec 32 := 1#32
  let v201 : BitVec 32 := Scalar.addi v93 c1_i32_152
  let c512_i32_153 : BitVec 32 := 512#32
  let v202 : BitVec 32 := Scalar.muli v201 c512_i32_153
  let v203 : BitVec 32 := v202
  let v220 : Index := Scalar.indexCast v203
  let c128_170 : Index := 128#32
  ![v220.toNat, 128]
def k0_mult37 (i : grid0.Coords) : BitVec 32 :=
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c512_i32_186 : BitVec 32 := 512#32
  let v236 : BitVec 32 := Scalar.muli v93 c512_i32_186
  v236
def k0_off20 (i : grid0.Coords) : Fin 3 → Nat :=
  let c0_187 : Index := 0#32
  let c0_188 : Index := 0#32
  let c2_i32_69 : BitVec 32 := 2#32
  let c4_i32 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v92 : BitVec 32 := Scalar.muli c4_i32 v70
  let v93 : BitVec 32 := Scalar.muli c2_i32_69 v92
  let c512_i32_186 : BitVec 32 := 512#32
  let v236 : BitVec 32 := Scalar.muli v93 c512_i32_186
  let v237 : BitVec 32 := v236
  let v238 : Index := Scalar.indexCast v237
  ![0, 0, v238.toNat]
def k0_mult38 (i : grid0.Coords) : BitVec 32 :=
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c512_i32_236 : BitVec 32 := 512#32
  let v309 : BitVec 32 := Scalar.muli v308 c512_i32_236
  v309
def k0_off21 (i : grid0.Coords) : Fin 2 → Nat :=
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c512_i32_236 : BitVec 32 := 512#32
  let v309 : BitVec 32 := Scalar.muli v308 c512_i32_236
  let v310 : BitVec 32 := v309
  let v311 : Index := Scalar.indexCast v310
  let c0_237 : Index := 0#32
  ![v311.toNat, 0]
def k0_off22 (i : grid0.Coords) : Fin 2 → Nat :=
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c512_i32_236 : BitVec 32 := 512#32
  let v309 : BitVec 32 := Scalar.muli v308 c512_i32_236
  let v310 : BitVec 32 := v309
  let v327 : Index := Scalar.indexCast v310
  let c128_253 : Index := 128#32
  ![v327.toNat, 128]
def k0_mult39 (i : grid0.Coords) : BitVec 32 :=
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c0_i32_269 : BitVec 32 := 0#32
  let v343 : BitVec 1 := Scalar.cmpi .eq v308 c0_i32_269
  let c1_i32_270 : BitVec 32 := 1#32
  let v344 : BitVec 32 := Scalar.subi v308 c1_i32_270
  let v345 : BitVec 32 := Scalar.select v343 arg2 v344
  let c512_i32_271 : BitVec 32 := 512#32
  let v346 : BitVec 32 := Scalar.muli v345 c512_i32_271
  v346
def k0_off23 (i : grid0.Coords) : Fin 3 → Nat :=
  let c0_272 : Index := 0#32
  let c0_273 : Index := 0#32
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c0_i32_269 : BitVec 32 := 0#32
  let v343 : BitVec 1 := Scalar.cmpi .eq v308 c0_i32_269
  let c1_i32_270 : BitVec 32 := 1#32
  let v344 : BitVec 32 := Scalar.subi v308 c1_i32_270
  let v345 : BitVec 32 := Scalar.select v343 arg2 v344
  let c512_i32_271 : BitVec 32 := 512#32
  let v346 : BitVec 32 := Scalar.muli v345 c512_i32_271
  let v347 : BitVec 32 := v346
  let v348 : Index := Scalar.indexCast v347
  ![0, 0, v348.toNat]
def k0_mult40 (i : grid0.Coords) : BitVec 32 :=
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c1_i32_318 : BitVec 32 := 1#32
  let v416 : BitVec 32 := Scalar.addi v308 c1_i32_318
  let c512_i32_319 : BitVec 32 := 512#32
  let v417 : BitVec 32 := Scalar.muli v416 c512_i32_319
  v417
def k0_off24 (i : grid0.Coords) : Fin 2 → Nat :=
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c1_i32_318 : BitVec 32 := 1#32
  let v416 : BitVec 32 := Scalar.addi v308 c1_i32_318
  let c512_i32_319 : BitVec 32 := 512#32
  let v417 : BitVec 32 := Scalar.muli v416 c512_i32_319
  let v418 : BitVec 32 := v417
  let v419 : Index := Scalar.indexCast v418
  let c0_320 : Index := 0#32
  ![v419.toNat, 0]
def k0_off25 (i : grid0.Coords) : Fin 2 → Nat :=
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c1_i32_318 : BitVec 32 := 1#32
  let v416 : BitVec 32 := Scalar.addi v308 c1_i32_318
  let c512_i32_319 : BitVec 32 := 512#32
  let v417 : BitVec 32 := Scalar.muli v416 c512_i32_319
  let v418 : BitVec 32 := v417
  let v435 : Index := Scalar.indexCast v418
  let c128_336 : Index := 128#32
  ![v435.toNat, 128]
def k0_mult41 (i : grid0.Coords) : BitVec 32 :=
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c512_i32_352 : BitVec 32 := 512#32
  let v451 : BitVec 32 := Scalar.muli v308 c512_i32_352
  v451
def k0_off26 (i : grid0.Coords) : Fin 3 → Nat :=
  let c0_353 : Index := 0#32
  let c0_354 : Index := 0#32
  let c2_i32_235 : BitVec 32 := 2#32
  let c4_i32_233 : BitVec 32 := 4#32
  let arg2 : BitVec 32 := BitVec.ofNat 32 (i 2).val
  let c1_i32 : BitVec 32 := 1#32
  let v69 : BitVec 32 := Scalar.shrui arg2 c1_i32
  let c2_i32 : BitVec 32 := 2#32
  let v70 : BitVec 32 := Scalar.shrui v69 c2_i32
  let v306 : BitVec 32 := Scalar.muli c4_i32_233 v70
  let c1_i32_234 : BitVec 32 := 1#32
  let v307 : BitVec 32 := Scalar.addi v306 c1_i32_234
  let v308 : BitVec 32 := Scalar.muli c2_i32_235 v307
  let c512_i32_352 : BitVec 32 := 512#32
  let v451 : BitVec 32 := Scalar.muli v308 c512_i32_352
  let v452 : BitVec 32 := v451
  let v453 : Index := Scalar.indexCast v452
  ![0, 0, v453.toNat]
def k0_cond3 (i : grid0.Coords) : BitVec 1 :=
  let arg2 : BitVec 32 := BitVec.ofNat 32 (i 2).val
  let c1_i32 : BitVec 32 := 1#32
  let v69 : BitVec 32 := Scalar.shrui arg2 c1_i32
  let c1_i32_61 : BitVec 32 := 1#32
  let v80 : BitVec 32 := Scalar.andi v69 c1_i32_61
  let c1_i32_62 : BitVec 32 := 1#32
  let v81 : BitVec 1 := Scalar.cmpi .eq v80 c1_i32_62
  let v82 : BitVec 32 := Scalar.extui v81
  let c0_i32_63 : BitVec 32 := 0#32
  let v83 : BitVec 1 := Scalar.cmpi .ne v82 c0_i32_63
  v83

def k0_mult42 (i : grid0.Coords) : BitVec 32 :=
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c512_i32_71 : BitVec 32 := 512#32
  let v94 : BitVec 32 := Scalar.muli v93 c512_i32_71
  v94
def k0_off27 (i : grid0.Coords) : Fin 2 → Nat :=
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c512_i32_71 : BitVec 32 := 512#32
  let v94 : BitVec 32 := Scalar.muli v93 c512_i32_71
  let v95 : BitVec 32 := v94
  let v96 : Index := Scalar.indexCast v95
  let c0_72 : Index := 0#32
  ![v96.toNat, 0]
def k0_off28 (i : grid0.Coords) : Fin 2 → Nat :=
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c512_i32_71 : BitVec 32 := 512#32
  let v94 : BitVec 32 := Scalar.muli v93 c512_i32_71
  let v95 : BitVec 32 := v94
  let v112 : Index := Scalar.indexCast v95
  let c128_88 : Index := 128#32
  ![v112.toNat, 128]
def k0_mult43 (i : grid0.Coords) : BitVec 32 :=
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c0_i32_104 : BitVec 32 := 0#32
  let v128 : BitVec 1 := Scalar.cmpi .eq v93 c0_i32_104
  let c1_i32_105 : BitVec 32 := 1#32
  let v129 : BitVec 32 := Scalar.subi v93 c1_i32_105
  let v130 : BitVec 32 := Scalar.select v128 arg2 v129
  let c512_i32_106 : BitVec 32 := 512#32
  let v131 : BitVec 32 := Scalar.muli v130 c512_i32_106
  v131
def k0_off29 (i : grid0.Coords) : Fin 3 → Nat :=
  let c0_107 : Index := 0#32
  let c0_108 : Index := 0#32
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c0_i32_104 : BitVec 32 := 0#32
  let v128 : BitVec 1 := Scalar.cmpi .eq v93 c0_i32_104
  let c1_i32_105 : BitVec 32 := 1#32
  let v129 : BitVec 32 := Scalar.subi v93 c1_i32_105
  let v130 : BitVec 32 := Scalar.select v128 arg2 v129
  let c512_i32_106 : BitVec 32 := 512#32
  let v131 : BitVec 32 := Scalar.muli v130 c512_i32_106
  let v132 : BitVec 32 := v131
  let v133 : Index := Scalar.indexCast v132
  ![0, 0, v133.toNat]
def k0_mult44 (i : grid0.Coords) : BitVec 32 :=
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c1_i32_153 : BitVec 32 := 1#32
  let v201 : BitVec 32 := Scalar.addi v93 c1_i32_153
  let c512_i32_154 : BitVec 32 := 512#32
  let v202 : BitVec 32 := Scalar.muli v201 c512_i32_154
  v202
def k0_off30 (i : grid0.Coords) : Fin 2 → Nat :=
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c1_i32_153 : BitVec 32 := 1#32
  let v201 : BitVec 32 := Scalar.addi v93 c1_i32_153
  let c512_i32_154 : BitVec 32 := 512#32
  let v202 : BitVec 32 := Scalar.muli v201 c512_i32_154
  let v203 : BitVec 32 := v202
  let v204 : Index := Scalar.indexCast v203
  let c0_155 : Index := 0#32
  ![v204.toNat, 0]
def k0_off31 (i : grid0.Coords) : Fin 2 → Nat :=
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c1_i32_153 : BitVec 32 := 1#32
  let v201 : BitVec 32 := Scalar.addi v93 c1_i32_153
  let c512_i32_154 : BitVec 32 := 512#32
  let v202 : BitVec 32 := Scalar.muli v201 c512_i32_154
  let v203 : BitVec 32 := v202
  let v220 : Index := Scalar.indexCast v203
  let c128_171 : Index := 128#32
  ![v220.toNat, 128]
def k0_mult45 (i : grid0.Coords) : BitVec 32 :=
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c512_i32_187 : BitVec 32 := 512#32
  let v236 : BitVec 32 := Scalar.muli v93 c512_i32_187
  v236
def k0_off32 (i : grid0.Coords) : Fin 3 → Nat :=
  let c0_188 : Index := 0#32
  let c0_189 : Index := 0#32
  let c2_i32_70 : BitVec 32 := 2#32
  let arg2 : BitVec 32 := BitVec.ofNat 32 (i 2).val
  let c1_i32 : BitVec 32 := 1#32
  let v69 : BitVec 32 := Scalar.shrui arg2 c1_i32
  let c1_i32_69 : BitVec 32 := 1#32
  let v92 : BitVec 32 := Scalar.subi v69 c1_i32_69
  let v93 : BitVec 32 := Scalar.muli c2_i32_70 v92
  let c512_i32_187 : BitVec 32 := 512#32
  let v236 : BitVec 32 := Scalar.muli v93 c512_i32_187
  let v237 : BitVec 32 := v236
  let v238 : Index := Scalar.indexCast v237
  ![0, 0, v238.toNat]
def k0_cond4 (i : grid0.Coords) : BitVec 1 :=
  let arg2 : BitVec 32 := BitVec.ofNat 32 (i 2).val
  let c1_i32_65 : BitVec 32 := 1#32
  let v85 : BitVec 32 := Scalar.andi arg2 c1_i32_65
  let c1_i32_66 : BitVec 32 := 1#32
  let v86 : BitVec 1 := Scalar.cmpi .eq v85 c1_i32_66
  let v87 : BitVec 32 := Scalar.extui v86
  let c0_i32_67 : BitVec 32 := 0#32
  let v88 : BitVec 1 := Scalar.cmpi .ne v87 c0_i32_67
  v88

def k0_mult46 (i : grid0.Coords) : BitVec 32 :=
  let c2_i32_64 : BitVec 32 := 2#32
  let arg2 : BitVec 32 := BitVec.ofNat 32 (i 2).val
  let c1_i32 : BitVec 32 := 1#32
  let v69 : BitVec 32 := Scalar.shrui arg2 c1_i32
  let v84 : BitVec 32 := Scalar.muli c2_i32_64 v69
  let c512_i32_69 : BitVec 32 := 512#32
  let v92 : BitVec 32 := Scalar.muli v84 c512_i32_69
  v92
def k0_off33 (i : grid0.Coords) : Fin 2 → Nat :=
  let c2_i32_64 : BitVec 32 := 2#32
  let arg2 : BitVec 32 := BitVec.ofNat 32 (i 2).val
  let c1_i32 : BitVec 32 := 1#32
  let v69 : BitVec 32 := Scalar.shrui arg2 c1_i32
  let v84 : BitVec 32 := Scalar.muli c2_i32_64 v69
  let c512_i32_69 : BitVec 32 := 512#32
  let v92 : BitVec 32 := Scalar.muli v84 c512_i32_69
  let v93 : BitVec 32 := v92
  let v94 : Index := Scalar.indexCast v93
  let c0_70 : Index := 0#32
  ![v94.toNat, 0]
def k0_off34 (i : grid0.Coords) : Fin 2 → Nat :=
  let c2_i32_64 : BitVec 32 := 2#32
  let arg2 : BitVec 32 := BitVec.ofNat 32 (i 2).val
  let c1_i32 : BitVec 32 := 1#32
  let v69 : BitVec 32 := Scalar.shrui arg2 c1_i32
  let v84 : BitVec 32 := Scalar.muli c2_i32_64 v69
  let c512_i32_69 : BitVec 32 := 512#32
  let v92 : BitVec 32 := Scalar.muli v84 c512_i32_69
  let v93 : BitVec 32 := v92
  let v110 : Index := Scalar.indexCast v93
  let c128_86 : Index := 128#32
  ![v110.toNat, 128]
def k0_mult47 (i : grid0.Coords) : BitVec 32 :=
  let c2_i32_64 : BitVec 32 := 2#32
  let arg2 : BitVec 32 := BitVec.ofNat 32 (i 2).val
  let c1_i32 : BitVec 32 := 1#32
  let v69 : BitVec 32 := Scalar.shrui arg2 c1_i32
  let v84 : BitVec 32 := Scalar.muli c2_i32_64 v69
  let c0_i32_102 : BitVec 32 := 0#32
  let v126 : BitVec 1 := Scalar.cmpi .eq v84 c0_i32_102
  let c1_i32_103 : BitVec 32 := 1#32
  let v127 : BitVec 32 := Scalar.subi v84 c1_i32_103
  let v128 : BitVec 32 := Scalar.select v126 arg2 v127
  let c512_i32_104 : BitVec 32 := 512#32
  let v129 : BitVec 32 := Scalar.muli v128 c512_i32_104
  v129
def k0_off35 (i : grid0.Coords) : Fin 3 → Nat :=
  let c0_105 : Index := 0#32
  let c0_106 : Index := 0#32
  let c2_i32_64 : BitVec 32 := 2#32
  let arg2 : BitVec 32 := BitVec.ofNat 32 (i 2).val
  let c1_i32 : BitVec 32 := 1#32
  let v69 : BitVec 32 := Scalar.shrui arg2 c1_i32
  let v84 : BitVec 32 := Scalar.muli c2_i32_64 v69
  let c0_i32_102 : BitVec 32 := 0#32
  let v126 : BitVec 1 := Scalar.cmpi .eq v84 c0_i32_102
  let c1_i32_103 : BitVec 32 := 1#32
  let v127 : BitVec 32 := Scalar.subi v84 c1_i32_103
  let v128 : BitVec 32 := Scalar.select v126 arg2 v127
  let c512_i32_104 : BitVec 32 := 512#32
  let v129 : BitVec 32 := Scalar.muli v128 c512_i32_104
  let v130 : BitVec 32 := v129
  let v131 : Index := Scalar.indexCast v130
  ![0, 0, v131.toNat]
def k0_mult48 (i : grid0.Coords) : BitVec 32 :=
  let c2_i32_64 : BitVec 32 := 2#32
  let arg2 : BitVec 32 := BitVec.ofNat 32 (i 2).val
  let c1_i32 : BitVec 32 := 1#32
  let v69 : BitVec 32 := Scalar.shrui arg2 c1_i32
  let v84 : BitVec 32 := Scalar.muli c2_i32_64 v69
  let c512_i32_151 : BitVec 32 := 512#32
  let v199 : BitVec 32 := Scalar.muli v84 c512_i32_151
  v199
def k0_off36 (i : grid0.Coords) : Fin 3 → Nat :=
  let c0_152 : Index := 0#32
  let c0_153 : Index := 0#32
  let c2_i32_64 : BitVec 32 := 2#32
  let arg2 : BitVec 32 := BitVec.ofNat 32 (i 2).val
  let c1_i32 : BitVec 32 := 1#32
  let v69 : BitVec 32 := Scalar.shrui arg2 c1_i32
  let v84 : BitVec 32 := Scalar.muli c2_i32_64 v69
  let c512_i32_151 : BitVec 32 := 512#32
  let v199 : BitVec 32 := Scalar.muli v84 c512_i32_151
  let v200 : BitVec 32 := v199
  let v201 : Index := Scalar.indexCast v200
  ![0, 0, v201.toNat]
def k0_cond5 (i : grid0.Coords) : BitVec 1 :=
  let arg2 : BitVec 32 := BitVec.ofNat 32 (i 2).val
  let c1_i32_65 : BitVec 32 := 1#32
  let v85 : BitVec 32 := Scalar.andi arg2 c1_i32_65
  let c1_i32_66 : BitVec 32 := 1#32
  let v86 : BitVec 1 := Scalar.cmpi .eq v85 c1_i32_66
  let v_true : BitVec 1 := 1#1
  let v89 : BitVec 1 := Scalar.xori v86 v_true
  let v90 : BitVec 32 := Scalar.extui v89
  let c0_i32_68 : BitVec 32 := 0#32
  let v91 : BitVec 1 := Scalar.cmpi .ne v90 c0_i32_68
  v91

def k0_mult49 (i : grid0.Coords) : BitVec 32 :=
  let c2_i32_64 : BitVec 32 := 2#32
  let arg2 : BitVec 32 := BitVec.ofNat 32 (i 2).val
  let c1_i32 : BitVec 32 := 1#32
  let v69 : BitVec 32 := Scalar.shrui arg2 c1_i32
  let v84 : BitVec 32 := Scalar.muli c2_i32_64 v69
  let c0_i32_69 : BitVec 32 := 0#32
  let v92 : BitVec 1 := Scalar.cmpi .eq v84 c0_i32_69
  let c1_i32_70 : BitVec 32 := 1#32
  let v93 : BitVec 32 := Scalar.subi v84 c1_i32_70
  let v94 : BitVec 32 := Scalar.select v92 arg2 v93
  let c512_i32_71 : BitVec 32 := 512#32
  let v95 : BitVec 32 := Scalar.muli v94 c512_i32_71
  v95
def k0_off37 (i : grid0.Coords) : Fin 3 → Nat :=
  let c0_72 : Index := 0#32
  let c0_73 : Index := 0#32
  let c2_i32_64 : BitVec 32 := 2#32
  let arg2 : BitVec 32 := BitVec.ofNat 32 (i 2).val
  let c1_i32 : BitVec 32 := 1#32
  let v69 : BitVec 32 := Scalar.shrui arg2 c1_i32
  let v84 : BitVec 32 := Scalar.muli c2_i32_64 v69
  let c0_i32_69 : BitVec 32 := 0#32
  let v92 : BitVec 1 := Scalar.cmpi .eq v84 c0_i32_69
  let c1_i32_70 : BitVec 32 := 1#32
  let v93 : BitVec 32 := Scalar.subi v84 c1_i32_70
  let v94 : BitVec 32 := Scalar.select v92 arg2 v93
  let c512_i32_71 : BitVec 32 := 512#32
  let v95 : BitVec 32 := Scalar.muli v94 c512_i32_71
  let v96 : BitVec 32 := v95
  let v97 : Index := Scalar.indexCast v96
  ![0, 0, v97.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x16384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S2x16384x2048 : Shape := ⟨3, ![2, 16384, 2048]⟩
abbrev S2x16384x4096 : Shape := ⟨3, ![2, 16384, 4096]⟩
abbrev S4x128 : Shape := ⟨2, ![4, 128]⟩
abbrev S2048 : Shape := ⟨1, ![2048]⟩
abbrev S8 : Shape := ⟨1, ![8]⟩
abbrev S2x16384x8x2x128 : Shape := ⟨5, ![2, 16384, 8, 2, 128]⟩
abbrev S2x8x2x16384x128 : Shape := ⟨5, ![2, 8, 2, 16384, 128]⟩
abbrev S_ : Shape := ⟨0, ![]⟩
abbrev S2x16384x8x256 : Shape := ⟨4, ![2, 16384, 8, 256]⟩
abbrev S2x8x16384x256 : Shape := ⟨4, ![2, 8, 16384, 256]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S2x8x2x16384x16384 : Shape := ⟨5, ![2, 8, 2, 16384, 16384]⟩
abbrev S8x1x1x1 : Shape := ⟨4, ![8, 1, 1, 1]⟩
abbrev S1x1x16384x16384 : Shape := ⟨4, ![1, 1, 16384, 16384]⟩
abbrev S8x1x16384x16384 : Shape := ⟨4, ![8, 1, 16384, 16384]⟩
abbrev S1x8x1x16384x16384 : Shape := ⟨5, ![1, 8, 1, 16384, 16384]⟩
abbrev S2x8x2x16384 : Shape := ⟨4, ![2, 8, 2, 16384]⟩
abbrev S2x8x2x16384x1 : Shape := ⟨5, ![2, 8, 2, 16384, 1]⟩
abbrev S2x8x2x16384x256 : Shape := ⟨5, ![2, 8, 2, 16384, 256]⟩
abbrev S1x128 : Shape := ⟨2, ![1, 128]⟩
abbrev S128 : Shape := ⟨1, ![128]⟩
abbrev S2x8x1x16384x256 : Shape := ⟨5, ![2, 8, 1, 16384, 256]⟩
abbrev S2x8x16384 : Shape := ⟨3, ![2, 8, 16384]⟩
abbrev S2x8x16384x1 : Shape := ⟨4, ![2, 8, 16384, 1]⟩
abbrev S8x1x256 : Shape := ⟨3, ![8, 1, 256]⟩
abbrev S1x8x1x256 : Shape := ⟨4, ![1, 8, 1, 256]⟩
abbrev S32768x2048 : Shape := ⟨2, ![32768, 2048]⟩

abbrev nBuf : Space → Nat
  | .hbm => 102
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x16384x4096, .f32⟩
  | .hbm, ⟨2, _⟩ => ⟨S4x128, .f32⟩
  | .hbm, ⟨3, _⟩ => ⟨S2048, .f32⟩
  | .hbm, ⟨4, _⟩ => ⟨S8, .f32⟩
  | .hbm, ⟨5, _⟩ => ⟨S2x16384x8x2x128, .f32⟩
  | .hbm, ⟨6, _⟩ => ⟨S2x8x2x16384x128, .f32⟩
  | .hbm, ⟨7, _⟩ => ⟨S_, .f32⟩
  | .hbm, ⟨8, _⟩ => ⟨S_, .f32⟩
  | .hbm, ⟨9, _⟩ => ⟨S2x8x2x16384x128, .f32⟩
  | .hbm, ⟨10, _⟩ => ⟨S2x8x2x16384x128, .f32⟩
  | .hbm, ⟨11, _⟩ => ⟨S2x16384x2048, .f32⟩
  | .hbm, ⟨12, _⟩ => ⟨S2x16384x8x2x128, .f32⟩
  | .hbm, ⟨13, _⟩ => ⟨S2x8x2x16384x128, .f32⟩
  | .hbm, ⟨14, _⟩ => ⟨S2x16384x2048, .f32⟩
  | .hbm, ⟨15, _⟩ => ⟨S2x16384x8x256, .f32⟩
  | .hbm, ⟨16, _⟩ => ⟨S2x8x16384x256, .f32⟩
  | .hbm, ⟨17, _⟩ => ⟨S16384, .i32⟩
  | .hbm, ⟨18, _⟩ => ⟨S16384x1, .i32⟩
  | .hbm, ⟨19, _⟩ => ⟨S1x16384, .i32⟩
  | .hbm, ⟨20, _⟩ => ⟨S16384x16384, .i32⟩
  | .hbm, ⟨21, _⟩ => ⟨S16384x16384, .i32⟩
  | .hbm, ⟨22, _⟩ => ⟨S16384x16384, .i32⟩
  | .hbm, ⟨23, _⟩ => ⟨S16384x16384, .f32⟩
  | .hbm, ⟨24, _⟩ => ⟨S2x8x2x16384x16384, .f32⟩
  | .hbm, ⟨25, _⟩ => ⟨S8x1x1x1, .f32⟩
  | .hbm, ⟨26, _⟩ => ⟨S1x1x16384x16384, .f32⟩
  | .hbm, ⟨27, _⟩ => ⟨S8x1x16384x16384, .f32⟩
  | .hbm, ⟨28, _⟩ => ⟨S8x1x16384x16384, .f32⟩
  | .hbm, ⟨29, _⟩ => ⟨S8x1x16384x16384, .f32⟩
  | .hbm, ⟨30, _⟩ => ⟨S1x8x1x16384x16384, .f32⟩
  | .hbm, ⟨31, _⟩ => ⟨S2x8x2x16384x16384, .f32⟩
  | .hbm, ⟨32, _⟩ => ⟨S2x8x2x16384x16384, .f32⟩
  | .hbm, ⟨33, _⟩ => ⟨S_, .f32⟩
  | .hbm, ⟨34, _⟩ => ⟨S16384x16384, .f32⟩
  | .hbm, ⟨35, _⟩ => ⟨S16384x16384, .i1⟩
  | .hbm, ⟨36, _⟩ => ⟨S_, .f32⟩
  | .hbm, ⟨37, _⟩ => ⟨S_, .f32⟩
  | .hbm, ⟨38, _⟩ => ⟨S2x8x2x16384x16384, .i1⟩
  | .hbm, ⟨39, _⟩ => ⟨S2x8x2x16384x16384, .f32⟩
  | .hbm, ⟨40, _⟩ => ⟨S2x8x2x16384x16384, .f32⟩
  | .hbm, ⟨41, _⟩ => ⟨S_, .f32⟩
  | .hbm, ⟨42, _⟩ => ⟨S2x8x2x16384, .f32⟩
  | .hbm, ⟨43, _⟩ => ⟨S2x8x2x16384x1, .f32⟩
  | .hbm, ⟨44, _⟩ => ⟨S2x8x2x16384x16384, .f32⟩
  | .hbm, ⟨45, _⟩ => ⟨S2x8x2x16384x16384, .f32⟩
  | .hbm, ⟨46, _⟩ => ⟨S2x8x2x16384x16384, .f32⟩
  | .hbm, ⟨47, _⟩ => ⟨S2x8x2x16384x256, .f32⟩
  | .hbm, ⟨48, _⟩ => ⟨S_, .f32⟩
  | .hbm, ⟨49, _⟩ => ⟨S2x8x2x16384, .f32⟩
  | .hbm, ⟨50, _⟩ => ⟨S2x8x2x16384x1, .f32⟩
  | .hbm, ⟨51, _⟩ => ⟨S2x8x2x16384x256, .f32⟩
  | .hbm, ⟨52, _⟩ => ⟨S2x8x2x16384x256, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S128, .f32⟩
  | .hbm, ⟨57, _⟩ => ⟨S128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S2x8x1x16384x256, .f32⟩
  | .hbm, ⟨73, _⟩ => ⟨S2x8x16384x256, .f32⟩
  | .hbm, ⟨74, _⟩ => ⟨S2x8x1x16384x256, .f32⟩
  | .hbm, ⟨75, _⟩ => ⟨S2x8x16384x256, .f32⟩
  | .hbm, ⟨76, _⟩ => ⟨S2x8x16384x256, .f32⟩
  | .hbm, ⟨77, _⟩ => ⟨S2x8x16384x256, .f32⟩
  | .hbm, ⟨78, _⟩ => ⟨S2x8x16384x256, .f32⟩
  | .hbm, ⟨79, _⟩ => ⟨S2x8x16384x256, .f32⟩
  | .hbm, ⟨80, _⟩ => ⟨S_, .f32⟩
  | .hbm, ⟨81, _⟩ => ⟨S2x8x16384, .f32⟩
  | .hbm, ⟨82, _⟩ => ⟨S2x8x16384x1, .f32⟩
  | .hbm, ⟨83, _⟩ => ⟨S_, .f32⟩
  | .hbm, ⟨84, _⟩ => ⟨S2x8x16384x1, .f32⟩
  | .hbm, ⟨85, _⟩ => ⟨S2x8x16384x1, .f32⟩
  | .hbm, ⟨86, _⟩ => ⟨S_, .f32⟩
  | .hbm, ⟨87, _⟩ => ⟨S2x8x16384x1, .f32⟩
  | .hbm, ⟨88, _⟩ => ⟨S2x8x16384x1, .f32⟩
  | .hbm, ⟨89, _⟩ => ⟨S2x8x16384x1, .f32⟩
  | .hbm, ⟨90, _⟩ => ⟨S2x8x16384x256, .f32⟩
  | .hbm, ⟨91, _⟩ => ⟨S2x8x16384x256, .f32⟩
  | .hbm, ⟨92, _⟩ => ⟨S8x1x256, .f32⟩
  | .hbm, ⟨93, _⟩ => ⟨S1x8x1x256, .f32⟩
  | .hbm, ⟨94, _⟩ => ⟨S2x8x16384x256, .f32⟩
  | .hbm, ⟨95, _⟩ => ⟨S2x8x16384x256, .f32⟩
  | .hbm, ⟨96, _⟩ => ⟨S_, .f32⟩
  | .hbm, ⟨97, _⟩ => ⟨S2x8x16384x256, .f32⟩
  | .hbm, ⟨98, _⟩ => ⟨S2x8x16384x256, .f32⟩
  | .hbm, ⟨99, _⟩ => ⟨S2x16384x8x256, .f32⟩
  | .hbm, ⟨100, _⟩ => ⟨S32768x2048, .f32⟩
  | .hbm, ⟨101, _⟩ => ⟨S32768x2048, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_7 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_8 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_cst_10 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_11 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== Kernel2.lean ====
abbrev S2x16384x2048 : Shape := ⟨3, ![2, 16384, 2048]⟩
abbrev S2x2x2048 : Shape := ⟨3, ![2, 2, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S32768x2048 : Shape := ⟨2, ![32768, 2048]⟩
abbrev S1x1x2048 : Shape := ⟨3, ![1, 1, 2048]⟩
abbrev S1x2048 : Shape := ⟨2, ![1, 2048]⟩
abbrev S2x1x2048 : Shape := ⟨3, ![2, 1, 2048]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S16x2048 : Shape := ⟨2, ![16, 2048]⟩
abbrev S16 : Shape := ⟨1, ![16]⟩
abbrev S16x1 : Shape := ⟨2, ![16, 1]⟩
abbrev S2048x1024 : Shape := ⟨2, ![2048, 1024]⟩
abbrev S1024x1024 : Shape := ⟨2, ![1024, 1024]⟩

abbrev nBuf : Space → Nat
  | .hbm => 19
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2x2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048x8192, .f32⟩
  | .hbm, ⟨6, _⟩ => ⟨S2x8192x2048, .f32⟩
  | .hbm, ⟨7, _⟩ => ⟨S2048, .f32⟩
  | .hbm, ⟨8, _⟩ => ⟨S32768x2048, .f32⟩
  | .hbm, ⟨9, _⟩ => ⟨S1x1x2048, .f32⟩
  | .hbm, ⟨10, _⟩ => ⟨S2048, .f32⟩
  | .hbm, ⟨11, _⟩ => ⟨S1x2048, .f32⟩
  | .hbm, ⟨12, _⟩ => ⟨S2x1x2048, .f32⟩
  | .hbm, ⟨13, _⟩ => ⟨S2x1x2048, .f32⟩
  | .hbm, ⟨14, _⟩ => ⟨S2x1x2048, .f32⟩
  | .hbm, ⟨15, _⟩ => ⟨S2x2048x8192, .bf16⟩
  | .hbm, ⟨16, _⟩ => ⟨S2x8192x2048, .bf16⟩
  | .hbm, ⟨17, _⟩ => ⟨S1x2048, .f32⟩
  | .hbm, ⟨18, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x1024, .bf16⟩
  | .local _ .vmem, ⟨10, _⟩ => ⟨S1x2048x1024, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_24 : BitVec 32 := 0#32
  let c16_i32 : BitVec 32 := 16#32
  let v30 : BitVec 32 := Scalar.muli c0_i32_24 c16_i32
  v30
def k0_off1 (c0_i32_24 : BitVec 32) : Fin 2 → Nat :=
  let c16_i32 : BitVec 32 := 16#32
  let v30 : BitVec 32 := Scalar.muli c0_i32_24 c16_i32
  let v31 : BitVec 32 := v30
  let v32 : Index := Scalar.indexCast v31
  let c0_25 : Index := 0#32
  ![v32.toNat, 0]
def k0_mult2 : BitVec 32 :=
  let c1_i32 : BitVec 32 := 1#32
  let c16_i32_30 : BitVec 32 := 16#32
  let v54 : BitVec 32 := Scalar.muli c1_i32 c16_i32_30
  v54
def k0_mult3 : BitVec 32 :=
  let c2_i32 : BitVec 32 := 2#32
  let c16_i32_36 : BitVec 32 := 16#32
  let v78 : BitVec 32 := Scalar.muli c2_i32 c16_i32_36
  v78
def k0_mult4 : BitVec 32 :=
  let c3_i32 : BitVec 32 := 3#32
  let c16_i32_42 : BitVec 32 := 16#32
  let v102 : BitVec 32 := Scalar.muli c3_i32 c16_i32_42
  v102
def k0_mult5 : BitVec 32 :=
  let c4_i32 : BitVec 32 := 4#32
  let c16_i32_48 : BitVec 32 := 16#32
  let v126 : BitVec 32 := Scalar.muli c4_i32 c16_i32_48
  v126
def k0_mult6 : BitVec 32 :=
  let c5_i32 : BitVec 32 := 5#32
  let c16_i32_54 : BitVec 32 := 16#32
  let v150 : BitVec 32 := Scalar.muli c5_i32 c16_i32_54
  v150
def k0_mult7 : BitVec 32 :=
  let c6_i32 : BitVec 32 := 6#32
  let c16_i32_60 : BitVec 32 := 16#32
  let v174 : BitVec 32 := Scalar.muli c6_i32 c16_i32_60
  v174
def k0_mult8 : BitVec 32 :=
  let c7_i32_66 : BitVec 32 := 7#32
  let c16_i32_67 : BitVec 32 := 16#32
  let v198 : BitVec 32 := Scalar.muli c7_i32_66 c16_i32_67
  v198
def k0_mult9 : BitVec 32 :=
  let c8_i32 : BitVec 32 := 8#32
  let c16_i32_73 : BitVec 32 := 16#32
  let v222 : BitVec 32 := Scalar.muli c8_i32 c16_i32_73
  v222
def k0_mult10 : BitVec 32 :=
  let c9_i32 : BitVec 32 := 9#32
  let c16_i32_79 : BitVec 32 := 16#32
  let v246 : BitVec 32 := Scalar.muli c9_i32 c16_i32_79
  v246
def k0_mult11 : BitVec 32 :=
  let c10_i32 : BitVec 32 := 10#32
  let c16_i32_85 : BitVec 32 := 16#32
  let v270 : BitVec 32 := Scalar.muli c10_i32 c16_i32_85
  v270
def k0_mult12 : BitVec 32 :=
  let c11_i32 : BitVec 32 := 11#32
  let c16_i32_91 : BitVec 32 := 16#32
  let v294 : BitVec 32 := Scalar.muli c11_i32 c16_i32_91
  v294
def k0_mult13 : BitVec 32 :=
  let c12_i32 : BitVec 32 := 12#32
  let c16_i32_97 : BitVec 32 := 16#32
  let v318 : BitVec 32 := Scalar.muli c12_i32 c16_i32_97
  v318
def k0_mult14 : BitVec 32 :=
  let c13_i32 : BitVec 32 := 13#32
  let c16_i32_103 : BitVec 32 := 16#32
  let v342 : BitVec 32 := Scalar.muli c13_i32 c16_i32_103
  v342
def k0_mult15 : BitVec 32 :=
  let c14_i32 : BitVec 32 := 14#32
  let c16_i32_109 : BitVec 32 := 16#32
  let v366 : BitVec 32 := Scalar.muli c14_i32 c16_i32_109
  v366
def k0_mult16 : BitVec 32 :=
  let c15_i32 : BitVec 32 := 15#32
  let c16_i32_115 : BitVec 32 := 16#32
  let v390 : BitVec 32 := Scalar.muli c15_i32 c16_i32_115
  v390
def k0_mult17 : BitVec 32 :=
  let c16_i32_121 : BitVec 32 := 16#32
  let c16_i32_122 : BitVec 32 := 16#32
  let v414 : BitVec 32 := Scalar.muli c16_i32_121 c16_i32_122
  v414
def k0_mult18 : BitVec 32 :=
  let c17_i32 : BitVec 32 := 17#32
  let c16_i32_128 : BitVec 32 := 16#32
  let v438 : BitVec 32 := Scalar.muli c17_i32 c16_i32_128
  v438
def k0_mult19 : BitVec 32 :=
  let c18_i32 : BitVec 32 := 18#32
  let c16_i32_134 : BitVec 32 := 16#32
  let v462 : BitVec 32 := Scalar.muli c18_i32 c16_i32_134
  v462
def k0_mult20 : BitVec 32 :=
  let c19_i32 : BitVec 32 := 19#32
  let c16_i32_140 : BitVec 32 := 16#32
  let v486 : BitVec 32 := Scalar.muli c19_i32 c16_i32_140
  v486
def k0_mult21 : BitVec 32 :=
  let c20_i32 : BitVec 32 := 20#32
  let c16_i32_146 : BitVec 32 := 16#32
  let v510 : BitVec 32 := Scalar.muli c20_i32 c16_i32_146
  v510
def k0_mult22 : BitVec 32 :=
  let c21_i32 : BitVec 32 := 21#32
  let c16_i32_152 : BitVec 32 := 16#32
  let v534 : BitVec 32 := Scalar.muli c21_i32 c16_i32_152
  v534
def k0_mult23 : BitVec 32 :=
  let c22_i32 : BitVec 32 := 22#32
  let c16_i32_158 : BitVec 32 := 16#32
  let v558 : BitVec 32 := Scalar.muli c22_i32 c16_i32_158
  v558
def k0_mult24 : BitVec 32 :=
  let c23_i32 : BitVec 32 := 23#32
  let c16_i32_164 : BitVec 32 := 16#32
  let v582 : BitVec 32 := Scalar.muli c23_i32 c16_i32_164
  v582
def k0_mult25 : BitVec 32 :=
  let c24_i32 : BitVec 32 := 24#32
  let c16_i32_170 : BitVec 32 := 16#32
  let v606 : BitVec 32 := Scalar.muli c24_i32 c16_i32_170
  v606
def k0_mult26 : BitVec 32 :=
  let c25_i32 : BitVec 32 := 25#32
  let c16_i32_176 : BitVec 32 := 16#32
  let v630 : BitVec 32 := Scalar.muli c25_i32 c16_i32_176
  v630
def k0_mult27 : BitVec 32 :=
  let c26_i32 : BitVec 32 := 26#32
  let c16_i32_182 : BitVec 32 := 16#32
  let v654 : BitVec 32 := Scalar.muli c26_i32 c16_i32_182
  v654
def k0_mult28 : BitVec 32 :=
  let c27_i32 : BitVec 32 := 27#32
  let c16_i32_188 : BitVec 32 := 16#32
  let v678 : BitVec 32 := Scalar.muli c27_i32 c16_i32_188
  v678
def k0_mult29 : BitVec 32 :=
  let c28_i32 : BitVec 32 := 28#32
  let c16_i32_194 : BitVec 32 := 16#32
  let v702 : BitVec 32 := Scalar.muli c28_i32 c16_i32_194
  v702
def k0_mult30 : BitVec 32 :=
  let c29_i32 : BitVec 32 := 29#32
  let c16_i32_200 : BitVec 32 := 16#32
  let v726 : BitVec 32 := Scalar.muli c29_i32 c16_i32_200
  v726
def k0_mult31 : BitVec 32 :=
  let c30_i32 : BitVec 32 := 30#32
  let c16_i32_206 : BitVec 32 := 16#32
  let v750 : BitVec 32 := Scalar.muli c30_i32 c16_i32_206
  v750
def k0_mult32 : BitVec 32 :=
  let c31_i32 : BitVec 32 := 31#32
  let c16_i32_212 : BitVec 32 := 16#32
  let v774 : BitVec 32 := Scalar.muli c31_i32 c16_i32_212
  v774
def k0_mult33 : BitVec 32 :=
  let c32_i32 : BitVec 32 := 32#32
  let c16_i32_218 : BitVec 32 := 16#32
  let v798 : BitVec 32 := Scalar.muli c32_i32 c16_i32_218
  v798
def k0_mult34 : BitVec 32 :=
  let c33_i32 : BitVec 32 := 33#32
  let c16_i32_224 : BitVec 32 := 16#32
  let v822 : BitVec 32 := Scalar.muli c33_i32 c16_i32_224
  v822
def k0_mult35 : BitVec 32 :=
  let c34_i32 : BitVec 32 := 34#32
  let c16_i32_230 : BitVec 32 := 16#32
  let v846 : BitVec 32 := Scalar.muli c34_i32 c16_i32_230
  v846
def k0_mult36 : BitVec 32 :=
  let c35_i32 : BitVec 32 := 35#32
  let c16_i32_236 : BitVec 32 := 16#32
  let v870 : BitVec 32 := Scalar.muli c35_i32 c16_i32_236
  v870
def k0_mult37 : BitVec 32 :=
  let c36_i32 : BitVec 32 := 36#32
  let c16_i32_242 : BitVec 32 := 16#32
  let v894 : BitVec 32 := Scalar.muli c36_i32 c16_i32_242
  v894
def k0_mult38 : BitVec 32 :=
  let c37_i32 : BitVec 32 := 37#32
  let c16_i32_248 : BitVec 32 := 16#32
  let v918 : BitVec 32 := Scalar.muli c37_i32 c16_i32_248
  v918
def k0_mult39 : BitVec 32 :=
  let c38_i32 : BitVec 32 := 38#32
  let c16_i32_254 : BitVec 32 := 16#32
  let v942 : BitVec 32 := Scalar.muli c38_i32 c16_i32_254
  v942
def k0_mult40 : BitVec 32 :=
  let c39_i32 : BitVec 32 := 39#32
  let c16_i32_260 : BitVec 32 := 16#32
  let v966 : BitVec 32 := Scalar.muli c39_i32 c16_i32_260
  v966
def k0_mult41 : BitVec 32 :=
  let c40_i32 : BitVec 32 := 40#32
  let c16_i32_266 : BitVec 32 := 16#32
  let v990 : BitVec 32 := Scalar.muli c40_i32 c16_i32_266
  v990
def k0_mult42 : BitVec 32 :=
  let c41_i32 : BitVec 32 := 41#32
  let c16_i32_272 : BitVec 32 := 16#32
  let v1014 : BitVec 32 := Scalar.muli c41_i32 c16_i32_272
  v1014
def k0_mult43 : BitVec 32 :=
  let c42_i32 : BitVec 32 := 42#32
  let c16_i32_278 : BitVec 32 := 16#32
  let v1038 : BitVec 32 := Scalar.muli c42_i32 c16_i32_278
  v1038
def k0_mult44 : BitVec 32 :=
  let c43_i32 : BitVec 32 := 43#32
  let c16_i32_284 : BitVec 32 := 16#32
  let v1062 : BitVec 32 := Scalar.muli c43_i32 c16_i32_284
  v1062
def k0_mult45 : BitVec 32 :=
  let c44_i32 : BitVec 32 := 44#32
  let c16_i32_290 : BitVec 32 := 16#32
  let v1086 : BitVec 32 := Scalar.muli c44_i32 c16_i32_290
  v1086
def k0_mult46 : BitVec 32 :=
  let c45_i32 : BitVec 32 := 45#32
  let c16_i32_296 : BitVec 32 := 16#32
  let v1110 : BitVec 32 := Scalar.muli c45_i32 c16_i32_296
  v1110
def k0_mult47 : BitVec 32 :=
  let c46_i32 : BitVec 32 := 46#32
  let c16_i32_302 : BitVec 32 := 16#32
  let v1134 : BitVec 32 := Scalar.muli c46_i32 c16_i32_302
  v1134
def k0_mult48 : BitVec 32 :=
  let c47_i32 : BitVec 32 := 47#32
  let c16_i32_308 : BitVec 32 := 16#32
  let v1158 : BitVec 32 := Scalar.muli c47_i32 c16_i32_308
  v1158
def k0_mult49 : BitVec 32 :=
  let c48_i32 : BitVec 32 := 48#32
  let c16_i32_314 : BitVec 32 := 16#32
  let v1182 : BitVec 32 := Scalar.muli c48_i32 c16_i32_314
  v1182
def k0_mult50 : BitVec 32 :=
  let c49_i32 : BitVec 32 := 49#32
  let c16_i32_320 : BitVec 32 := 16#32
  let v1206 : BitVec 32 := Scalar.muli c49_i32 c16_i32_320
  v1206
def k0_mult51 : BitVec 32 :=
  let c50_i32 : BitVec 32 := 50#32
  let c16_i32_326 : BitVec 32 := 16#32
  let v1230 : BitVec 32 := Scalar.muli c50_i32 c16_i32_326
  v1230
def k0_mult52 : BitVec 32 :=
  let c51_i32 : BitVec 32 := 51#32
  let c16_i32_332 : BitVec 32 := 16#32
  let v1254 : BitVec 32 := Scalar.muli c51_i32 c16_i32_332
  v1254
def k0_mult53 : BitVec 32 :=
  let c52_i32 : BitVec 32 := 52#32
  let c16_i32_338 : BitVec 32 := 16#32
  let v1278 : BitVec 32 := Scalar.muli c52_i32 c16_i32_338
  v1278
def k0_mult54 : BitVec 32 :=
  let c53_i32 : BitVec 32 := 53#32
  let c16_i32_344 : BitVec 32 := 16#32
  let v1302 : BitVec 32 := Scalar.muli c53_i32 c16_i32_344
  v1302
def k0_mult55 : BitVec 32 :=
  let c54_i32 : BitVec 32 := 54#32
  let c16_i32_350 : BitVec 32 := 16#32
  let v1326 : BitVec 32 := Scalar.muli c54_i32 c16_i32_350
  v1326
def k0_mult56 : BitVec 32 :=
  let c55_i32 : BitVec 32 := 55#32
  let c16_i32_356 : BitVec 32 := 16#32
  let v1350 : BitVec 32 := Scalar.muli c55_i32 c16_i32_356
  v1350
def k0_mult57 : BitVec 32 :=
  let c56_i32 : BitVec 32 := 56#32
  let c16_i32_362 : BitVec 32 := 16#32
  let v1374 : BitVec 32 := Scalar.muli c56_i32 c16_i32_362
  v1374
def k0_mult58 : BitVec 32 :=
  let c57_i32 : BitVec 32 := 57#32
  let c16_i32_368 : BitVec 32 := 16#32
  let v1398 : BitVec 32 := Scalar.muli c57_i32 c16_i32_368
  v1398
def k0_mult59 : BitVec 32 :=
  let c58_i32 : BitVec 32 := 58#32
  let c16_i32_374 : BitVec 32 := 16#32
  let v1422 : BitVec 32 := Scalar.muli c58_i32 c16_i32_374
  v1422
def k0_mult60 : BitVec 32 :=
  let c59_i32 : BitVec 32 := 59#32
  let c16_i32_380 : BitVec 32 := 16#32
  let v1446 : BitVec 32 := Scalar.muli c59_i32 c16_i32_380
  v1446
def k0_mult61 : BitVec 32 :=
  let c60_i32 : BitVec 32 := 60#32
  let c16_i32_386 : BitVec 32 := 16#32
  let v1470 : BitVec 32 := Scalar.muli c60_i32 c16_i32_386
  v1470
def k0_mult62 : BitVec 32 :=
  let c61_i32 : BitVec 32 := 61#32
  let c16_i32_392 : BitVec 32 := 16#32
  let v1494 : BitVec 32 := Scalar.muli c61_i32 c16_i32_392
  v1494
def k0_mult63 : BitVec 32 :=
  let c62_i32 : BitVec 32 := 62#32
  let c16_i32_398 : BitVec 32 := 16#32
  let v1518 : BitVec 32 := Scalar.muli c62_i32 c16_i32_398
  v1518
def k0_mult64 : BitVec 32 :=
  let c63_i32 : BitVec 32 := 63#32
  let c16_i32_404 : BitVec 32 := 16#32
  let v1542 : BitVec 32 := Scalar.muli c63_i32 c16_i32_404
  v1542
def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_14 : BitVec 32 := 0#32
  let v20 : BitVec 1 := Scalar.cmpi .ne v19 c0_i32_14
  v20

def k0_mult65 : BitVec 32 :=
  let c0_i32_20 : BitVec 32 := 0#32
  let c128_i32 : BitVec 32 := 128#32
  let v25 : BitVec 32 := Scalar.muli c0_i32_20 c128_i32
  v25
def k0_off2 (c0_i32_20 : BitVec 32) (c0_i32_21 : BitVec 32) : Fin 2 → Nat :=
  let c128_i32 : BitVec 32 := 128#32
  let v25 : BitVec 32 := Scalar.muli c0_i32_20 c128_i32
  let v26 : BitVec 32 := v25
  let v27 : BitVec 32 := Scalar.addi v26 c0_i32_21
  let v35 : Index := Scalar.indexCast v27
  let c0_22 : Index := 0#32
  ![v35.toNat, 0]
def k0_mult66 : BitVec 32 :=
  let c1_i32 : BitVec 32 := 1#32
  let c128_i32_86 : BitVec 32 := 128#32
  let v291 : BitVec 32 := Scalar.muli c1_i32 c128_i32_86
  v291
def k0_mult67 : BitVec 32 :=
  let c2_i32 : BitVec 32 := 2#32
  let c128_i32_159 : BitVec 32 := 128#32
  let v557 : BitVec 32 := Scalar.muli c2_i32 c128_i32_159
  v557
def k0_mult68 : BitVec 32 :=
  let c3_i32 : BitVec 32 := 3#32
  let c128_i32_232 : BitVec 32 := 128#32
  let v823 : BitVec 32 := Scalar.muli c3_i32 c128_i32_232
  v823
def k0_mult69 : BitVec 32 :=
  let c4_i32 : BitVec 32 := 4#32
  let c128_i32_305 : BitVec 32 := 128#32
  let v1089 : BitVec 32 := Scalar.muli c4_i32 c128_i32_305
  v1089
def k0_mult70 : BitVec 32 :=
  let c5_i32 : BitVec 32 := 5#32
  let c128_i32_378 : BitVec 32 := 128#32
  let v1355 : BitVec 32 := Scalar.muli c5_i32 c128_i32_378
  v1355
def k0_mult71 : BitVec 32 :=
  let c6_i32 : BitVec 32 := 6#32
  let c128_i32_451 : BitVec 32 := 128#32
  let v1621 : BitVec 32 := Scalar.muli c6_i32 c128_i32_451
  v1621
def k0_mult72 : BitVec 32 :=
  let c7_i32_524 : BitVec 32 := 7#32
  let c128_i32_525 : BitVec 32 := 128#32
  let v1887 : BitVec 32 := Scalar.muli c7_i32_524 c128_i32_525
  v1887
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S2x16384x2048 : Shape := ⟨3, ![2, 16384, 2048]⟩
abbrev S2x2x2048 : Shape := ⟨3, ![2, 2, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S2048 : Shape := ⟨1, ![2048]⟩
abbrev S1x1x2048 : Shape := ⟨3, ![1, 1, 2048]⟩
abbrev S_ : Shape := ⟨0, ![]⟩
abbrev S2x16384 : Shape := ⟨2, ![2, 16384]⟩
abbrev S2x16384x1 : Shape := ⟨3, ![2, 16384, 1]⟩
abbrev S2x1x2048 : Shape := ⟨3, ![2, 1, 2048]⟩
abbrev S1x2048x8192 : Shape := ⟨3, ![1, 2048, 8192]⟩
abbrev S2048x8192 : Shape := ⟨2, ![2048, 8192]⟩
abbrev S2x16384x8192 : Shape := ⟨3, ![2, 16384, 8192]⟩
abbrev S1x8192x2048 : Shape := ⟨3, ![1, 8192, 2048]⟩
abbrev S8192x2048 : Shape := ⟨2, ![8192, 2048]⟩
abbrev S32768x2048 : Shape := ⟨2, ![32768, 2048]⟩

abbrev nBuf : Space → Nat
  | .hbm => 66
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048x8192, .f32⟩
  | .hbm, ⟨6, _⟩ => ⟨S2x8192x2048, .f32⟩
  | .hbm, ⟨7, _⟩ => ⟨S2048, .f32⟩
  | .hbm, ⟨8, _⟩ => ⟨S1x1x2048, .f32⟩
  | .hbm, ⟨9, _⟩ => ⟨S2048, .f32⟩
  | .hbm, ⟨10, _⟩ => ⟨S2x16384x2048, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x2048, .f32⟩
  | .hbm, ⟨22, _⟩ => ⟨S2x16384x2048, .f32⟩
  | .hbm, ⟨23, _⟩ => ⟨S1x1x2048, .f32⟩
  | .hbm, ⟨24, _⟩ => ⟨S2x16384x2048, .f32⟩
  | .hbm, ⟨25, _⟩ => ⟨S2x16384x2048, .f32⟩
  | .hbm, ⟨26, _⟩ => ⟨S2x1x2048, .f32⟩
  | .hbm, ⟨27, _⟩ => ⟨S_, .f32⟩
  | .hbm, ⟨28, _⟩ => ⟨S2x1x2048, .f32⟩
  | .hbm, ⟨29, _⟩ => ⟨S2x1x2048, .f32⟩
  | .hbm, ⟨30, _⟩ => ⟨S2x16384x2048, .f32⟩
  | .hbm, ⟨31, _⟩ => ⟨S2x16384x2048, .f32⟩
  | .hbm, ⟨32, _⟩ => ⟨S2x1x2048, .f32⟩
  | .hbm, ⟨33, _⟩ => ⟨S2x16384x2048, .f32⟩
  | .hbm, ⟨34, _⟩ => ⟨S2x16384x2048, .f32⟩
  | .hbm, ⟨35, _⟩ => ⟨S1x2048x8192, .f32⟩
  | .hbm, ⟨36, _⟩ => ⟨S2048x8192, .f32⟩
  | .hbm, ⟨37, _⟩ => ⟨S2x16384x8192, .f32⟩
  | .hbm, ⟨38, _⟩ => ⟨S_, .f32⟩
  | .hbm, ⟨39, _⟩ => ⟨S2x16384x8192, .f32⟩
  | .hbm, ⟨40, _⟩ => ⟨S2x16384x8192, .f32⟩
  | .hbm, ⟨41, _⟩ => ⟨S2x16384x8192, .f32⟩
  | .hbm, ⟨42, _⟩ => ⟨S1x8192x2048, .f32⟩
  | .hbm, ⟨43, _⟩ => ⟨S8192x2048, .f32⟩
  | .hbm, ⟨44, _⟩ => ⟨S2x16384x2048, .f32⟩
  | .hbm, ⟨45, _⟩ => ⟨S2x1x2048, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S2x16384x2048, .f32⟩
  | .hbm, ⟨50, _⟩ => ⟨S_, .f32⟩
  | .hbm, ⟨51, _⟩ => ⟨S2x16384, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S2x16384x1, .f32⟩
  | .hbm, ⟨60, _⟩ => ⟨S2x16384x2048, .f32⟩
  | .hbm, ⟨61, _⟩ => ⟨S2x16384x2048, .f32⟩
  | .hbm, ⟨62, _⟩ => ⟨S1x1x2048, .f32⟩
  | .hbm, ⟨63, _⟩ => ⟨S2x16384x2048, .f32⟩
  | .hbm, ⟨64, _⟩ => ⟨S2x16384x2048, .f32⟩
  | .hbm, ⟨65, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Kernel3.lean ====
abbrev S2x16384x2048 : Shape := ⟨3, ![2, 16384, 2048]⟩
abbrev S2x2x2048 : Shape := ⟨3, ![2, 2, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S32768x2048 : Shape := ⟨2, ![32768, 2048]⟩
abbrev S1x1x2048 : Shape := ⟨3, ![1, 1, 2048]⟩
abbrev S2048 : Shape := ⟨1, ![2048]⟩
abbrev S1x2048 : Shape := ⟨2, ![1, 2048]⟩
abbrev S2x1x2048 : Shape := ⟨3, ![2, 1, 2048]⟩
abbrev S_ : Shape := ⟨0, ![]⟩
abbrev S1024x2048 : Shape := ⟨2, ![1024, 2048]⟩
abbrev S1x2048x1024 : Shape := ⟨3, ![1, 2048, 1024]⟩
abbrev S1x1024x2048 : Shape := ⟨3, ![1, 1024, 2048]⟩
abbrev S16x2048 : Shape := ⟨2, ![16, 2048]⟩
abbrev S16 : Shape := ⟨1, ![16]⟩
abbrev S16x1 : Shape := ⟨2, ![16, 1]⟩
abbrev S2048x1024 : Shape := ⟨2, ![2048, 1024]⟩
abbrev S1024x1024 : Shape := ⟨2, ![1024, 1024]⟩

abbrev nBuf : Space → Nat
  | .hbm => 19
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2x2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048x8192, .f32⟩
  | .hbm, ⟨6, _⟩ => ⟨S2x8192x2048, .f32⟩
  | .hbm, ⟨7, _⟩ => ⟨S32768x2048, .f32⟩
  | .hbm, ⟨8, _⟩ => ⟨S1x1x2048, .f32⟩
  | .hbm, ⟨9, _⟩ => ⟨S2048, .f32⟩
  | .hbm, ⟨10, _⟩ => ⟨S1x2048, .f32⟩
  | .hbm, ⟨11, _⟩ => ⟨S2x1x2048, .f32⟩
  | .hbm, ⟨12, _⟩ => ⟨S2x1x2048, .f32⟩
  | .hbm, ⟨13, _⟩ => ⟨S2x1x2048, .f32⟩
  | .hbm, ⟨14, _⟩ => ⟨S2x2048x8192, .bf16⟩
  | .hbm, ⟨15, _⟩ => ⟨S2x8192x2048, .bf16⟩
  | .hbm, ⟨16, _⟩ => ⟨S_, .f32⟩
  | .hbm, ⟨17, _⟩ => ⟨S1x2048, .f32⟩
  | .hbm, ⟨18, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x2048x1024, .bf16⟩
  | .local _ .vmem, ⟨10, _⟩ => ⟨S1x2048x1024, .bf16⟩
  | .local _ .vmem, ⟨11, _⟩ => ⟨S1x1024x2048, .bf16⟩
  | .local _ .vmem, ⟨12, _⟩ => ⟨S1x1024x2048, .bf16⟩
  | .local _ .vmem, ⟨13, _⟩ => ⟨S1x2048, .f32⟩
  | .local _ .vmem, ⟨14, _⟩ => ⟨S1024x2048, .f32⟩
  | .local _ .vmem, ⟨15, _⟩ => ⟨S1024x2048, .f32⟩
  | .local _ .vmem, ⟨16, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_24 : BitVec 32 := 0#32
  let c16_i32 : BitVec 32 := 16#32
  let v30 : BitVec 32 := Scalar.muli c0_i32_24 c16_i32
  v30
def k0_off1 (c0_i32_24 : BitVec 32) : Fin 2 → Nat :=
  let c16_i32 : BitVec 32 := 16#32
  let v30 : BitVec 32 := Scalar.muli c0_i32_24 c16_i32
  let v31 : BitVec 32 := v30
  let v32 : Index := Scalar.indexCast v31
  let c0_25 : Index := 0#32
  ![v32.toNat, 0]
def k0_mult2 : BitVec 32 :=
  let c1_i32 : BitVec 32 := 1#32
  let c16_i32_30 : BitVec 32 := 16#32
  let v54 : BitVec 32 := Scalar.muli c1_i32 c16_i32_30
  v54
def k0_mult3 : BitVec 32 :=
  let c2_i32 : BitVec 32 := 2#32
  let c16_i32_36 : BitVec 32 := 16#32
  let v78 : BitVec 32 := Scalar.muli c2_i32 c16_i32_36
  v78
def k0_mult4 : BitVec 32 :=
  let c3_i32 : BitVec 32 := 3#32
  let c16_i32_42 : BitVec 32 := 16#32
  let v102 : BitVec 32 := Scalar.muli c3_i32 c16_i32_42
  v102
def k0_mult5 : BitVec 32 :=
  let c4_i32 : BitVec 32 := 4#32
  let c16_i32_48 : BitVec 32 := 16#32
  let v126 : BitVec 32 := Scalar.muli c4_i32 c16_i32_48
  v126
def k0_mult6 : BitVec 32 :=
  let c5_i32 : BitVec 32 := 5#32
  let c16_i32_54 : BitVec 32 := 16#32
  let v150 : BitVec 32 := Scalar.muli c5_i32 c16_i32_54
  v150
def k0_mult7 : BitVec 32 :=
  let c6_i32 : BitVec 32 := 6#32
  let c16_i32_60 : BitVec 32 := 16#32
  let v174 : BitVec 32 := Scalar.muli c6_i32 c16_i32_60
  v174
def k0_mult8 : BitVec 32 :=
  let c7_i32_66 : BitVec 32 := 7#32
  let c16_i32_67 : BitVec 32 := 16#32
  let v198 : BitVec 32 := Scalar.muli c7_i32_66 c16_i32_67
  v198
def k0_mult9 : BitVec 32 :=
  let c8_i32 : BitVec 32 := 8#32
  let c16_i32_73 : BitVec 32 := 16#32
  let v222 : BitVec 32 := Scalar.muli c8_i32 c16_i32_73
  v222
def k0_mult10 : BitVec 32 :=
  let c9_i32 : BitVec 32 := 9#32
  let c16_i32_79 : BitVec 32 := 16#32
  let v246 : BitVec 32 := Scalar.muli c9_i32 c16_i32_79
  v246
def k0_mult11 : BitVec 32 :=
  let c10_i32 : BitVec 32 := 10#32
  let c16_i32_85 : BitVec 32 := 16#32
  let v270 : BitVec 32 := Scalar.muli c10_i32 c16_i32_85
  v270
def k0_mult12 : BitVec 32 :=
  let c11_i32 : BitVec 32 := 11#32
  let c16_i32_91 : BitVec 32 := 16#32
  let v294 : BitVec 32 := Scalar.muli c11_i32 c16_i32_91
  v294
def k0_mult13 : BitVec 32 :=
  let c12_i32 : BitVec 32 := 12#32
  let c16_i32_97 : BitVec 32 := 16#32
  let v318 : BitVec 32 := Scalar.muli c12_i32 c16_i32_97
  v318
def k0_mult14 : BitVec 32 :=
  let c13_i32 : BitVec 32 := 13#32
  let c16_i32_103 : BitVec 32 := 16#32
  let v342 : BitVec 32 := Scalar.muli c13_i32 c16_i32_103
  v342
def k0_mult15 : BitVec 32 :=
  let c14_i32 : BitVec 32 := 14#32
  let c16_i32_109 : BitVec 32 := 16#32
  let v366 : BitVec 32 := Scalar.muli c14_i32 c16_i32_109
  v366
def k0_mult16 : BitVec 32 :=
  let c15_i32 : BitVec 32 := 15#32
  let c16_i32_115 : BitVec 32 := 16#32
  let v390 : BitVec 32 := Scalar.muli c15_i32 c16_i32_115
  v390
def k0_mult17 : BitVec 32 :=
  let c16_i32_121 : BitVec 32 := 16#32
  let c16_i32_122 : BitVec 32 := 16#32
  let v414 : BitVec 32 := Scalar.muli c16_i32_121 c16_i32_122
  v414
def k0_mult18 : BitVec 32 :=
  let c17_i32 : BitVec 32 := 17#32
  let c16_i32_128 : BitVec 32 := 16#32
  let v438 : BitVec 32 := Scalar.muli c17_i32 c16_i32_128
  v438
def k0_mult19 : BitVec 32 :=
  let c18_i32 : BitVec 32 := 18#32
  let c16_i32_134 : BitVec 32 := 16#32
  let v462 : BitVec 32 := Scalar.muli c18_i32 c16_i32_134
  v462
def k0_mult20 : BitVec 32 :=
  let c19_i32 : BitVec 32 := 19#32
  let c16_i32_140 : BitVec 32 := 16#32
  let v486 : BitVec 32 := Scalar.muli c19_i32 c16_i32_140
  v486
def k0_mult21 : BitVec 32 :=
  let c20_i32 : BitVec 32 := 20#32
  let c16_i32_146 : BitVec 32 := 16#32
  let v510 : BitVec 32 := Scalar.muli c20_i32 c16_i32_146
  v510
def k0_mult22 : BitVec 32 :=
  let c21_i32 : BitVec 32 := 21#32
  let c16_i32_152 : BitVec 32 := 16#32
  let v534 : BitVec 32 := Scalar.muli c21_i32 c16_i32_152
  v534
def k0_mult23 : BitVec 32 :=
  let c22_i32 : BitVec 32 := 22#32
  let c16_i32_158 : BitVec 32 := 16#32
  let v558 : BitVec 32 := Scalar.muli c22_i32 c16_i32_158
  v558
def k0_mult24 : BitVec 32 :=
  let c23_i32 : BitVec 32 := 23#32
  let c16_i32_164 : BitVec 32 := 16#32
  let v582 : BitVec 32 := Scalar.muli c23_i32 c16_i32_164
  v582
def k0_mult25 : BitVec 32 :=
  let c24_i32 : BitVec 32 := 24#32
  let c16_i32_170 : BitVec 32 := 16#32
  let v606 : BitVec 32 := Scalar.muli c24_i32 c16_i32_170
  v606
def k0_mult26 : BitVec 32 :=
  let c25_i32 : BitVec 32 := 25#32
  let c16_i32_176 : BitVec 32 := 16#32
  let v630 : BitVec 32 := Scalar.muli c25_i32 c16_i32_176
  v630
def k0_mult27 : BitVec 32 :=
  let c26_i32 : BitVec 32 := 26#32
  let c16_i32_182 : BitVec 32 := 16#32
  let v654 : BitVec 32 := Scalar.muli c26_i32 c16_i32_182
  v654
def k0_mult28 : BitVec 32 :=
  let c27_i32 : BitVec 32 := 27#32
  let c16_i32_188 : BitVec 32 := 16#32
  let v678 : BitVec 32 := Scalar.muli c27_i32 c16_i32_188
  v678
def k0_mult29 : BitVec 32 :=
  let c28_i32 : BitVec 32 := 28#32
  let c16_i32_194 : BitVec 32 := 16#32
  let v702 : BitVec 32 := Scalar.muli c28_i32 c16_i32_194
  v702
def k0_mult30 : BitVec 32 :=
  let c29_i32 : BitVec 32 := 29#32
  let c16_i32_200 : BitVec 32 := 16#32
  let v726 : BitVec 32 := Scalar.muli c29_i32 c16_i32_200
  v726
def k0_mult31 : BitVec 32 :=
  let c30_i32 : BitVec 32 := 30#32
  let c16_i32_206 : BitVec 32 := 16#32
  let v750 : BitVec 32 := Scalar.muli c30_i32 c16_i32_206
  v750
def k0_mult32 : BitVec 32 :=
  let c31_i32 : BitVec 32 := 31#32
  let c16_i32_212 : BitVec 32 := 16#32
  let v774 : BitVec 32 := Scalar.muli c31_i32 c16_i32_212
  v774
def k0_mult33 : BitVec 32 :=
  let c32_i32 : BitVec 32 := 32#32
  let c16_i32_218 : BitVec 32 := 16#32
  let v798 : BitVec 32 := Scalar.muli c32_i32 c16_i32_218
  v798
def k0_mult34 : BitVec 32 :=
  let c33_i32 : BitVec 32 := 33#32
  let c16_i32_224 : BitVec 32 := 16#32
  let v822 : BitVec 32 := Scalar.muli c33_i32 c16_i32_224
  v822
def k0_mult35 : BitVec 32 :=
  let c34_i32 : BitVec 32 := 34#32
  let c16_i32_230 : BitVec 32 := 16#32
  let v846 : BitVec 32 := Scalar.muli c34_i32 c16_i32_230
  v846
def k0_mult36 : BitVec 32 :=
  let c35_i32 : BitVec 32 := 35#32
  let c16_i32_236 : BitVec 32 := 16#32
  let v870 : BitVec 32 := Scalar.muli c35_i32 c16_i32_236
  v870
def k0_mult37 : BitVec 32 :=
  let c36_i32 : BitVec 32 := 36#32
  let c16_i32_242 : BitVec 32 := 16#32
  let v894 : BitVec 32 := Scalar.muli c36_i32 c16_i32_242
  v894
def k0_mult38 : BitVec 32 :=
  let c37_i32 : BitVec 32 := 37#32
  let c16_i32_248 : BitVec 32 := 16#32
  let v918 : BitVec 32 := Scalar.muli c37_i32 c16_i32_248
  v918
def k0_mult39 : BitVec 32 :=
  let c38_i32 : BitVec 32 := 38#32
  let c16_i32_254 : BitVec 32 := 16#32
  let v942 : BitVec 32 := Scalar.muli c38_i32 c16_i32_254
  v942
def k0_mult40 : BitVec 32 :=
  let c39_i32 : BitVec 32 := 39#32
  let c16_i32_260 : BitVec 32 := 16#32
  let v966 : BitVec 32 := Scalar.muli c39_i32 c16_i32_260
  v966
def k0_mult41 : BitVec 32 :=
  let c40_i32 : BitVec 32 := 40#32
  let c16_i32_266 : BitVec 32 := 16#32
  let v990 : BitVec 32 := Scalar.muli c40_i32 c16_i32_266
  v990
def k0_mult42 : BitVec 32 :=
  let c41_i32 : BitVec 32 := 41#32
  let c16_i32_272 : BitVec 32 := 16#32
  let v1014 : BitVec 32 := Scalar.muli c41_i32 c16_i32_272
  v1014
def k0_mult43 : BitVec 32 :=
  let c42_i32 : BitVec 32 := 42#32
  let c16_i32_278 : BitVec 32 := 16#32
  let v1038 : BitVec 32 := Scalar.muli c42_i32 c16_i32_278
  v1038
def k0_mult44 : BitVec 32 :=
  let c43_i32 : BitVec 32 := 43#32
  let c16_i32_284 : BitVec 32 := 16#32
  let v1062 : BitVec 32 := Scalar.muli c43_i32 c16_i32_284
  v1062
def k0_mult45 : BitVec 32 :=
  let c44_i32 : BitVec 32 := 44#32
  let c16_i32_290 : BitVec 32 := 16#32
  let v1086 : BitVec 32 := Scalar.muli c44_i32 c16_i32_290
  v1086
def k0_mult46 : BitVec 32 :=
  let c45_i32 : BitVec 32 := 45#32
  let c16_i32_296 : BitVec 32 := 16#32
  let v1110 : BitVec 32 := Scalar.muli c45_i32 c16_i32_296
  v1110
def k0_mult47 : BitVec 32 :=
  let c46_i32 : BitVec 32 := 46#32
  let c16_i32_302 : BitVec 32 := 16#32
  let v1134 : BitVec 32 := Scalar.muli c46_i32 c16_i32_302
  v1134
def k0_mult48 : BitVec 32 :=
  let c47_i32 : BitVec 32 := 47#32
  let c16_i32_308 : BitVec 32 := 16#32
  let v1158 : BitVec 32 := Scalar.muli c47_i32 c16_i32_308
  v1158
def k0_mult49 : BitVec 32 :=
  let c48_i32 : BitVec 32 := 48#32
  let c16_i32_314 : BitVec 32 := 16#32
  let v1182 : BitVec 32 := Scalar.muli c48_i32 c16_i32_314
  v1182
def k0_mult50 : BitVec 32 :=
  let c49_i32 : BitVec 32 := 49#32
  let c16_i32_320 : BitVec 32 := 16#32
  let v1206 : BitVec 32 := Scalar.muli c49_i32 c16_i32_320
  v1206
def k0_mult51 : BitVec 32 :=
  let c50_i32 : BitVec 32 := 50#32
  let c16_i32_326 : BitVec 32 := 16#32
  let v1230 : BitVec 32 := Scalar.muli c50_i32 c16_i32_326
  v1230
def k0_mult52 : BitVec 32 :=
  let c51_i32 : BitVec 32 := 51#32
  let c16_i32_332 : BitVec 32 := 16#32
  let v1254 : BitVec 32 := Scalar.muli c51_i32 c16_i32_332
  v1254
def k0_mult53 : BitVec 32 :=
  let c52_i32 : BitVec 32 := 52#32
  let c16_i32_338 : BitVec 32 := 16#32
  let v1278 : BitVec 32 := Scalar.muli c52_i32 c16_i32_338
  v1278
def k0_mult54 : BitVec 32 :=
  let c53_i32 : BitVec 32 := 53#32
  let c16_i32_344 : BitVec 32 := 16#32
  let v1302 : BitVec 32 := Scalar.muli c53_i32 c16_i32_344
  v1302
def k0_mult55 : BitVec 32 :=
  let c54_i32 : BitVec 32 := 54#32
  let c16_i32_350 : BitVec 32 := 16#32
  let v1326 : BitVec 32 := Scalar.muli c54_i32 c16_i32_350
  v1326
def k0_mult56 : BitVec 32 :=
  let c55_i32 : BitVec 32 := 55#32
  let c16_i32_356 : BitVec 32 := 16#32
  let v1350 : BitVec 32 := Scalar.muli c55_i32 c16_i32_356
  v1350
def k0_mult57 : BitVec 32 :=
  let c56_i32 : BitVec 32 := 56#32
  let c16_i32_362 : BitVec 32 := 16#32
  let v1374 : BitVec 32 := Scalar.muli c56_i32 c16_i32_362
  v1374
def k0_mult58 : BitVec 32 :=
  let c57_i32 : BitVec 32 := 57#32
  let c16_i32_368 : BitVec 32 := 16#32
  let v1398 : BitVec 32 := Scalar.muli c57_i32 c16_i32_368
  v1398
def k0_mult59 : BitVec 32 :=
  let c58_i32 : BitVec 32 := 58#32
  let c16_i32_374 : BitVec 32 := 16#32
  let v1422 : BitVec 32 := Scalar.muli c58_i32 c16_i32_374
  v1422
def k0_mult60 : BitVec 32 :=
  let c59_i32 : BitVec 32 := 59#32
  let c16_i32_380 : BitVec 32 := 16#32
  let v1446 : BitVec 32 := Scalar.muli c59_i32 c16_i32_380
  v1446
def k0_mult61 : BitVec 32 :=
  let c60_i32 : BitVec 32 := 60#32
  let c16_i32_386 : BitVec 32 := 16#32
  let v1470 : BitVec 32 := Scalar.muli c60_i32 c16_i32_386
  v1470
def k0_mult62 : BitVec 32 :=
  let c61_i32 : BitVec 32 := 61#32
  let c16_i32_392 : BitVec 32 := 16#32
  let v1494 : BitVec 32 := Scalar.muli c61_i32 c16_i32_392
  v1494
def k0_mult63 : BitVec 32 :=
  let c62_i32 : BitVec 32 := 62#32
  let c16_i32_398 : BitVec 32 := 16#32
  let v1518 : BitVec 32 := Scalar.muli c62_i32 c16_i32_398
  v1518
def k0_mult64 : BitVec 32 :=
  let c63_i32 : BitVec 32 := 63#32
  let c16_i32_404 : BitVec 32 := 16#32
  let v1542 : BitVec 32 := Scalar.muli c63_i32 c16_i32_404
  v1542
def k0_cond2 (i : grid0.Coords) : BitVec 1 :=
  let arg1 : BitVec 32 := BitVec.ofNat 32 (i 1).val
  let c7_i32 : BitVec 32 := 7#32
  let v18 : BitVec 1 := Scalar.cmpi .eq arg1 c7_i32
  let v19 : BitVec 32 := Scalar.extui v18
  let c0_i32_14 : BitVec 32 := 0#32
  let v20 : BitVec 1 := Scalar.cmpi .ne v19 c0_i32_14
  v20

def k0_mult65 : BitVec 32 :=
  let c0_i32_18 : BitVec 32 := 0#32
  let c128_i32 : BitVec 32 := 128#32
  let v23 : BitVec 32 := Scalar.muli c0_i32_18 c128_i32
  v23
def k0_off2 (c0_i32_18 : BitVec 32) (c0_i32_19 : BitVec 32) : Fin 2 → Nat :=
  let c128_i32 : BitVec 32 := 128#32
  let v23 : BitVec 32 := Scalar.muli c0_i32_18 c128_i32
  let v24 : BitVec 32 := v23
  let v25 : BitVec 32 := Scalar.addi v24 c0_i32_19
  let v33 : Index := Scalar.indexCast v25
  let c0_20 : Index := 0#32
  ![v33.toNat, 0]
def k0_mult66 : BitVec 32 :=
  let c1_i32 : BitVec 32 := 1#32
  let c128_i32_44 : BitVec 32 := 128#32
  let v121 : BitVec 32 := Scalar.muli c1_i32 c128_i32_44
  v121
def k0_mult67 : BitVec 32 :=
  let c2_i32 : BitVec 32 := 2#32
  let c128_i32_77 : BitVec 32 := 128#32
  let v219 : BitVec 32 := Scalar.muli c2_i32 c128_i32_77
  v219
def k0_mult68 : BitVec 32 :=
  let c3_i32 : BitVec 32 := 3#32
  let c128_i32_110 : BitVec 32 := 128#32
  let v317 : BitVec 32 := Scalar.muli c3_i32 c128_i32_110
  v317
def k0_mult69 : BitVec 32 :=
  let c4_i32 : BitVec 32 := 4#32
  let c128_i32_143 : BitVec 32 := 128#32
  let v415 : BitVec 32 := Scalar.muli c4_i32 c128_i32_143
  v415
def k0_mult70 : BitVec 32 :=
  let c5_i32 : BitVec 32 := 5#32
  let c128_i32_176 : BitVec 32 := 128#32
  let v513 : BitVec 32 := Scalar.muli c5_i32 c128_i32_176
  v513
def k0_mult71 : BitVec 32 :=
  let c6_i32 : BitVec 32 := 6#32
  let c128_i32_209 : BitVec 32 := 128#32
  let v611 : BitVec 32 := Scalar.muli c6_i32 c128_i32_209
  v611
def k0_mult72 : BitVec 32 :=
  let c7_i32_242 : BitVec 32 := 7#32
  let c128_i32_243 : BitVec 32 := 128#32
  let v709 : BitVec 32 := Scalar.muli c7_i32_242 c128_i32_243
  v709
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference3Ideal.lean ====
abbrev S2x16384x2048 : Shape := ⟨3, ![2, 16384, 2048]⟩
abbrev S2x2x2048 : Shape := ⟨3, ![2, 2, 2048]⟩
abbrev S2x2048 : Shape := ⟨2, ![2, 2048]⟩
abbrev S2x2048x8192 : Shape := ⟨3, ![2, 2048, 8192]⟩
abbrev S2x8192x2048 : Shape := ⟨3, ![2, 8192, 2048]⟩
abbrev S1x1x2048 : Shape := ⟨3, ![1, 1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S2x1x2048 : Shape := ⟨3, ![2, 1, 2048]⟩
abbrev S1x2048x8192 : Shape := ⟨3, ![1, 2048, 8192]⟩
abbrev S2048x8192 : Shape := ⟨2, ![2048, 8192]⟩
abbrev S2x16384x8192 : Shape := ⟨3, ![2, 16384, 8192]⟩
abbrev S1x8192x2048 : Shape := ⟨3, ![1, 8192, 2048]⟩
abbrev S8192x2048 : Shape := ⟨2, ![8192, 2048]⟩
abbrev S32768x2048 : Shape := ⟨2, ![32768, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2x2048, .f32⟩
  | .hbm, ⟨2, _⟩ => ⟨S2x2048, .f32⟩
  | .hbm, ⟨3, _⟩ => ⟨S2x2048, .f32⟩
  | .hbm, ⟨4, _⟩ => ⟨S2x2048, .f32⟩
  | .hbm, ⟨5, _⟩ => ⟨S2x2048x8192, .f32⟩
  | .hbm, ⟨6, _⟩ => ⟨S2x8192x2048, .f32⟩
  | .hbm, ⟨7, _⟩ => ⟨S1x1x2048, .f32⟩
  | .hbm, ⟨8, _⟩ => ⟨S2048, .f32⟩
  | .hbm, ⟨9, _⟩ => ⟨S2x16384x2048, .f32⟩
  | .hbm, ⟨10, _⟩ => ⟨S_, .f32⟩
  | .hbm, ⟨11, _⟩ => ⟨S2x16384, .f32⟩
  | .hbm, ⟨12, _⟩ => ⟨S2x16384x1, .f32⟩
  | .hbm, ⟨13, _⟩ => ⟨S_, .f32⟩
  | .hbm, ⟨14, _⟩ => ⟨S2x16384x1, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S2x16384x1, .f32⟩
  | .hbm, ⟨20, _⟩ => ⟨S2x16384x2048, .f32⟩
  | .hbm, ⟨21, _⟩ => ⟨S2x16384x2048, .f32⟩
  | .hbm, ⟨22, _⟩ => ⟨S1x1x2048, .f32⟩
  | .hbm, ⟨23, _⟩ => ⟨S2x16384x2048, .f32⟩
  | .hbm, ⟨24, _⟩ => ⟨S2x16384x2048, .f32⟩
  | .hbm, ⟨25, _⟩ => ⟨S2x1x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x16384x2048, .f32⟩
  | .hbm, ⟨30, _⟩ => ⟨S2x16384x2048, .f32⟩
  | .hbm, ⟨31, _⟩ => ⟨S2x1x2048, .f32⟩
  | .hbm, ⟨32, _⟩ => ⟨S2x16384x2048, .f32⟩
  | .hbm, ⟨33, _⟩ => ⟨S2x16384x2048, .f32⟩
  | .hbm, ⟨34, _⟩ => ⟨S1x2048x8192, .f32⟩
  | .hbm, ⟨35, _⟩ => ⟨S2048x8192, .f32⟩
  | .hbm, ⟨36, _⟩ => ⟨S2x16384x8192, .f32⟩
  | .hbm, ⟨37, _⟩ => ⟨S_, .f32⟩
  | .hbm, ⟨38, _⟩ => ⟨S2x16384x8192, .f32⟩
  | .hbm, ⟨39, _⟩ => ⟨S2x16384x8192, .f32⟩
  | .hbm, ⟨40, _⟩ => ⟨S2x16384x8192, .f32⟩
  | .hbm, ⟨41, _⟩ => ⟨S1x8192x2048, .f32⟩
  | .hbm, ⟨42, _⟩ => ⟨S8192x2048, .f32⟩
  | .hbm, ⟨43, _⟩ => ⟨S2x16384x2048, .f32⟩
  | .hbm, ⟨44, _⟩ => ⟨S2x1x2048, .f32⟩
  | .hbm, ⟨45, _⟩ => ⟨S2x16384x2048, .f32⟩
  | .hbm, ⟨46, _⟩ => ⟨S2x16384x2048, .f32⟩
  | .hbm, ⟨47, _⟩ => ⟨S2x16384x2048, .f32⟩
  | .hbm, ⟨48, _⟩ => ⟨S32768x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_call0_cst : Ref sig .tc := ⟨.hbm, 37, rfl⟩
abbrev main_call0_v0 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel4.lean ====
abbrev S32768x2048 : Shape := ⟨2, ![32768, 2048]⟩
abbrev S1x2048x2048 : Shape := ⟨3, ![1, 2048, 2048]⟩
abbrev S2x16384x2048 : Shape := ⟨3, ![2, 16384, 2048]⟩
abbrev S2x2048 : Shape := ⟨2, ![2, 2048]⟩
abbrev S2x1x2048 : Shape := ⟨3, ![2, 1, 2048]⟩
abbrev S512x2048 : Shape := ⟨2, ![512, 2048]⟩
abbrev S1x1x2048 : Shape := ⟨3, ![1, 1, 2048]⟩
abbrev S2048x2048 : Shape := ⟨2, ![2048, 2048]⟩
abbrev S1x2048 : Shape := ⟨2, ![1, 2048]⟩

abbrev nBuf : Space → Nat
  | .hbm => 8
  | .vmem => 9
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S2x16384x2048, .f32⟩
  | .hbm, ⟨3, _⟩ => ⟨S2x2048, .f32⟩
  | .hbm, ⟨4, _⟩ => ⟨S1x2048x2048, .bf16⟩
  | .hbm, ⟨5, _⟩ => ⟨S32768x2048, .f32⟩
  | .hbm, ⟨6, _⟩ => ⟨S2x1x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S32768x2048 : Shape := ⟨2, ![32768, 2048]⟩
abbrev S1x2048x2048 : Shape := ⟨3, ![1, 2048, 2048]⟩
abbrev S2x16384x2048 : Shape := ⟨3, ![2, 16384, 2048]⟩
abbrev S2x2048 : Shape := ⟨2, ![2, 2048]⟩
abbrev S2x1x2048 : Shape := ⟨3, ![2, 1, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S1x2048x2048, .f32⟩
  | .hbm, ⟨2, _⟩ => ⟨S2x16384x2048, .f32⟩
  | .hbm, ⟨3, _⟩ => ⟨S2x2048, .f32⟩
  | .hbm, ⟨4, _⟩ => ⟨S2x1x2048, .f32⟩
  | .hbm, ⟨5, _⟩ => ⟨S32768x2048, .f32⟩
  | .hbm, ⟨6, _⟩ => ⟨S2x16384x2048, .f32⟩
  | .hbm, ⟨7, _⟩ => ⟨S2048x2048, .f32⟩
  | .hbm, ⟨8, _⟩ => ⟨S2x16384x2048, .f32⟩
  | .hbm, ⟨9, _⟩ => ⟨S2x16384x2048, .f32⟩
  | .hbm, ⟨10, _⟩ => ⟨S2x16384x2048, .f32⟩
  | .hbm, ⟨11, _⟩ => ⟨S2x16384x2048, .f32⟩
  | .hbm, ⟨12, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S2x16384x2048 : Shape := ⟨3, ![2, 16384, 2048]⟩
abbrev S2x2x2048 : Shape := ⟨3, ![2, 2, 2048]⟩
abbrev S2x2048 : Shape := ⟨2, ![2, 2048]⟩
abbrev S1x2048x6160 : Shape := ⟨3, ![1, 2048, 6160]⟩
abbrev S_ : Shape := ⟨0, ![]⟩
abbrev S1024 : Shape := ⟨1, ![1024]⟩
abbrev S4096 : Shape := ⟨1, ![4096]⟩
abbrev S6144 : Shape := ⟨1, ![6144]⟩
abbrev S1x6144 : Shape := ⟨2, ![1, 6144]⟩
abbrev S2048x128 : Shape := ⟨2, ![2048, 128]⟩
abbrev S1x2048x16 : Shape := ⟨3, ![1, 2048, 16]⟩
abbrev S2048x16 : Shape := ⟨2, ![2048, 16]⟩
abbrev S1 : Shape := ⟨1, ![1]⟩
abbrev S32768x2048 : Shape := ⟨2, ![32768, 2048]⟩
abbrev S1x1x2048 : Shape := ⟨3, ![1, 1, 2048]⟩
abbrev S2048 : Shape := ⟨1, ![2048]⟩
abbrev S1x2048 : Shape := ⟨2, ![1, 2048]⟩
abbrev S2x1x2048 : Shape := ⟨3, ![2, 1, 2048]⟩
abbrev S32768x6144 : Shape := ⟨2, ![32768, 6144]⟩
abbrev S32768x128 : Shape := ⟨2, ![32768, 128]⟩
abbrev S1024x2048 : Shape := ⟨2, ![1024, 2048]⟩
abbrev S1x2048x2048 : Shape := ⟨3, ![1, 2048, 2048]⟩
abbrev S1024x128 : Shape := ⟨2, ![1024, 128]⟩
abbrev S16x2048 : Shape := ⟨2, ![16, 2048]⟩
abbrev S16 : Shape := ⟨1, ![16]⟩
abbrev S16x1 : Shape := ⟨2, ![16, 1]⟩
abbrev S2048x2048 : Shape := ⟨2, ![2048, 2048]⟩

abbrev nBuf : Space → Nat
  | .hbm => 29
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2x2x2048, .f32⟩
  | .hbm, ⟨2, _⟩ => ⟨S2x2048, .f32⟩
  | .hbm, ⟨3, _⟩ => ⟨S2x2048, .f32⟩
  | .hbm, ⟨4, _⟩ => ⟨S1x2048x6160, .f32⟩
  | .hbm, ⟨5, _⟩ => ⟨S1x2048x6160, .bf16⟩
  | .hbm, ⟨6, _⟩ => ⟨S_, .f32⟩
  | .hbm, ⟨7, _⟩ => ⟨S1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S4096, .f32⟩
  | .hbm, ⟨12, _⟩ => ⟨S6144, .f32⟩
  | .hbm, ⟨13, _⟩ => ⟨S1x6144, .f32⟩
  | .hbm, ⟨14, _⟩ => ⟨S_, .bf16⟩
  | .hbm, ⟨15, _⟩ => ⟨S2048x128, .bf16⟩
  | .hbm, ⟨16, _⟩ => ⟨S1x2048x16, .bf16⟩
  | .hbm, ⟨17, _⟩ => ⟨S2048x16, .bf16⟩
  | .hbm, ⟨18, _⟩ => ⟨S_, .i32⟩
  | .hbm, ⟨19, _⟩ => ⟨S1, .i32⟩
  | .hbm, ⟨20, _⟩ => ⟨S2048x128, .bf16⟩
  | .hbm, ⟨21, _⟩ => ⟨S32768x2048, .f32⟩
  | .hbm, ⟨22, _⟩ => ⟨S1x1x2048, .f32⟩
  | .hbm, ⟨23, _⟩ => ⟨S2048, .f32⟩
  | .hbm, ⟨24, _⟩ => ⟨S1x2048, .f32⟩
  | .hbm, ⟨25, _⟩ => ⟨S2x1x2048, .f32⟩
  | .hbm, ⟨26, _⟩ => ⟨S2x1x2048, .f32⟩
  | .hbm, ⟨27, _⟩ => ⟨S32768x6144, .bf16⟩
  | .hbm, ⟨28, _⟩ => ⟨S32768x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x2048, .bf16⟩
  | .local _ .vmem, ⟨8, _⟩ => ⟨S1x2048x2048, .bf16⟩
  | .local _ .vmem, ⟨9, _⟩ => ⟨S1x2048, .f32⟩
  | .local _ .vmem, ⟨10, _⟩ => ⟨S1x2048, .f32⟩
  | .local _ .vmem, ⟨11, _⟩ => ⟨S2048x128, .bf16⟩
  | .local _ .vmem, ⟨12, _⟩ => ⟨S1024x2048, .bf16⟩
  | .local _ .vmem, ⟨13, _⟩ => ⟨S1024x2048, .bf16⟩
  | .local _ .vmem, ⟨14, _⟩ => ⟨S1024x128, .f32⟩
  | .local _ .vmem, ⟨15, _⟩ => ⟨S1024x128, .f32⟩
  | .local _ .vmem, ⟨16, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17_0 : Ref sig .tc := ⟨.hbm, 27, rfl⟩
abbrev main_v17_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_mult1 : BitVec 32 :=
  let c0_i32_18 : BitVec 32 := 0#32
  let c16_i32 : BitVec 32 := 16#32
  let v22 : BitVec 32 := Scalar.muli c0_i32_18 c16_i32
  v22
def k0_off1 (c0_i32_18 : BitVec 32) : Fin 2 → Nat :=
  let c16_i32 : BitVec 32 := 16#32
  let v22 : BitVec 32 := Scalar.muli c0_i32_18 c16_i32
  let v23 : BitVec 32 := v22
  let v24 : Index := Scalar.indexCast v23
  let c0_19 : Index := 0#32
  ![v24.toNat, 0]
def k0_mult2 : BitVec 32 :=
  let c1_i32 : BitVec 32 := 1#32
  let c16_i32_24 : BitVec 32 := 16#32
  let v46 : BitVec 32 := Scalar.muli c1_i32 c16_i32_24
  v46
def k0_mult3 : BitVec 32 :=
  let c2_i32 : BitVec 32 := 2#32
  let c16_i32_30 : BitVec 32 := 16#32
  let v70 : BitVec 32 := Scalar.muli c2_i32 c16_i32_30
  v70
def k0_mult4 : BitVec 32 :=
  let c3_i32 : BitVec 32 := 3#32
  let c16_i32_36 : BitVec 32 := 16#32
  let v94 : BitVec 32 := Scalar.muli c3_i32 c16_i32_36
  v94
def k0_mult5 : BitVec 32 :=
  let c4_i32 : BitVec 32 := 4#32
  let c16_i32_42 : BitVec 32 := 16#32
  let v118 : BitVec 32 := Scalar.muli c4_i32 c16_i32_42
  v118
def k0_mult6 : BitVec 32 :=
  let c5_i32 : BitVec 32 := 5#32
  let c16_i32_48 : BitVec 32 := 16#32
  let v142 : BitVec 32 := Scalar.muli c5_i32 c16_i32_48
  v142
def k0_mult7 : BitVec 32 :=
  let c6_i32 : BitVec 32 := 6#32
  let c16_i32_54 : BitVec 32 := 16#32
  let v166 : BitVec 32 := Scalar.muli c6_i32 c16_i32_54
  v166
def k0_mult8 : BitVec 32 :=
  let c7_i32 : BitVec 32 := 7#32
  let c16_i32_60 : BitVec 32 := 16#32
  let v190 : BitVec 32 := Scalar.muli c7_i32 c16_i32_60
  v190
def k0_mult9 : BitVec 32 :=
  let c8_i32 : BitVec 32 := 8#32
  let c16_i32_66 : BitVec 32 := 16#32
  let v214 : BitVec 32 := Scalar.muli c8_i32 c16_i32_66
  v214
def k0_mult10 : BitVec 32 :=
  let c9_i32 : BitVec 32 := 9#32
  let c16_i32_72 : BitVec 32 := 16#32
  let v238 : BitVec 32 := Scalar.muli c9_i32 c16_i32_72
  v238
def k0_mult11 : BitVec 32 :=
  let c10_i32 : BitVec 32 := 10#32
  let c16_i32_78 : BitVec 32 := 16#32
  let v262 : BitVec 32 := Scalar.muli c10_i32 c16_i32_78
  v262
def k0_mult12 : BitVec 32 :=
  let c11_i32 : BitVec 32 := 11#32
  let c16_i32_84 : BitVec 32 := 16#32
  let v286 : BitVec 32 := Scalar.muli c11_i32 c16_i32_84
  v286
def k0_mult13 : BitVec 32 :=
  let c12_i32 : BitVec 32 := 12#32
  let c16_i32_90 : BitVec 32 := 16#32
  let v310 : BitVec 32 := Scalar.muli c12_i32 c16_i32_90
  v310
def k0_mult14 : BitVec 32 :=
  let c13_i32 : BitVec 32 := 13#32
  let c16_i32_96 : BitVec 32 := 16#32
  let v334 : BitVec 32 := Scalar.muli c13_i32 c16_i32_96
  v334
def k0_mult15 : BitVec 32 :=
  let c14_i32 : BitVec 32 := 14#32
  let c16_i32_102 : BitVec 32 := 16#32
  let v358 : BitVec 32 := Scalar.muli c14_i32 c16_i32_102
  v358
def k0_mult16 : BitVec 32 :=
  let c15_i32 : BitVec 32 := 15#32
  let c16_i32_108 : BitVec 32 := 16#32
  let v382 : BitVec 32 := Scalar.muli c15_i32 c16_i32_108
  v382
def k0_mult17 : BitVec 32 :=
  let c16_i32_114 : BitVec 32 := 16#32
  let c16_i32_115 : BitVec 32 := 16#32
  let v406 : BitVec 32 := Scalar.muli c16_i32_114 c16_i32_115
  v406
def k0_mult18 : BitVec 32 :=
  let c17_i32 : BitVec 32 := 17#32
  let c16_i32_121 : BitVec 32 := 16#32
  let v430 : BitVec 32 := Scalar.muli c17_i32 c16_i32_121
  v430
def k0_mult19 : BitVec 32 :=
  let c18_i32 : BitVec 32 := 18#32
  let c16_i32_127 : BitVec 32 := 16#32
  let v454 : BitVec 32 := Scalar.muli c18_i32 c16_i32_127
  v454
def k0_mult20 : BitVec 32 :=
  let c19_i32 : BitVec 32 := 19#32
  let c16_i32_133 : BitVec 32 := 16#32
  let v478 : BitVec 32 := Scalar.muli c19_i32 c16_i32_133
  v478
def k0_mult21 : BitVec 32 :=
  let c20_i32 : BitVec 32 := 20#32
  let c16_i32_139 : BitVec 32 := 16#32
  let v502 : BitVec 32 := Scalar.muli c20_i32 c16_i32_139
  v502
def k0_mult22 : BitVec 32 :=
  let c21_i32 : BitVec 32 := 21#32
  let c16_i32_145 : BitVec 32 := 16#32
  let v526 : BitVec 32 := Scalar.muli c21_i32 c16_i32_145
  v526
def k0_mult23 : BitVec 32 :=
  let c22_i32 : BitVec 32 := 22#32
  let c16_i32_151 : BitVec 32 := 16#32
  let v550 : BitVec 32 := Scalar.muli c22_i32 c16_i32_151
  v550
def k0_mult24 : BitVec 32 :=
  let c23_i32 : BitVec 32 := 23#32
  let c16_i32_157 : BitVec 32 := 16#32
  let v574 : BitVec 32 := Scalar.muli c23_i32 c16_i32_157
  v574
def k0_mult25 : BitVec 32 :=
  let c24_i32 : BitVec 32 := 24#32
  let c16_i32_163 : BitVec 32 := 16#32
  let v598 : BitVec 32 := Scalar.muli c24_i32 c16_i32_163
  v598
def k0_mult26 : BitVec 32 :=
  let c25_i32 : BitVec 32 := 25#32
  let c16_i32_169 : BitVec 32 := 16#32
  let v622 : BitVec 32 := Scalar.muli c25_i32 c16_i32_169
  v622
def k0_mult27 : BitVec 32 :=
  let c26_i32 : BitVec 32 := 26#32
  let c16_i32_175 : BitVec 32 := 16#32
  let v646 : BitVec 32 := Scalar.muli c26_i32 c16_i32_175
  v646
def k0_mult28 : BitVec 32 :=
  let c27_i32 : BitVec 32 := 27#32
  let c16_i32_181 : BitVec 32 := 16#32
  let v670 : BitVec 32 := Scalar.muli c27_i32 c16_i32_181
  v670
def k0_mult29 : BitVec 32 :=
  let c28_i32 : BitVec 32 := 28#32
  let c16_i32_187 : BitVec 32 := 16#32
  let v694 : BitVec 32 := Scalar.muli c28_i32 c16_i32_187
  v694
def k0_mult30 : BitVec 32 :=
  let c29_i32 : BitVec 32 := 29#32
  let c16_i32_193 : BitVec 32 := 16#32
  let v718 : BitVec 32 := Scalar.muli c29_i32 c16_i32_193
  v718
def k0_mult31 : BitVec 32 :=
  let c30_i32 : BitVec 32 := 30#32
  let c16_i32_199 : BitVec 32 := 16#32
  let v742 : BitVec 32 := Scalar.muli c30_i32 c16_i32_199
  v742
def k0_mult32 : BitVec 32 :=
  let c31_i32 : BitVec 32 := 31#32
  let c16_i32_205 : BitVec 32 := 16#32
  let v766 : BitVec 32 := Scalar.muli c31_i32 c16_i32_205
  v766
def k0_mult33 : BitVec 32 :=
  let c32_i32 : BitVec 32 := 32#32
  let c16_i32_211 : BitVec 32 := 16#32
  let v790 : BitVec 32 := Scalar.muli c32_i32 c16_i32_211
  v790
def k0_mult34 : BitVec 32 :=
  let c33_i32 : BitVec 32 := 33#32
  let c16_i32_217 : BitVec 32 := 16#32
  let v814 : BitVec 32 := Scalar.muli c33_i32 c16_i32_217
  v814
def k0_mult35 : BitVec 32 :=
  let c34_i32 : BitVec 32 := 34#32
  let c16_i32_223 : BitVec 32 := 16#32
  let v838 : BitVec 32 := Scalar.muli c34_i32 c16_i32_223
  v838
def k0_mult36 : BitVec 32 :=
  let c35_i32 : BitVec 32 := 35#32
  let c16_i32_229 : BitVec 32 := 16#32
  let v862 : BitVec 32 := Scalar.muli c35_i32 c16_i32_229
  v862
def k0_mult37 : BitVec 32 :=
  let c36_i32 : BitVec 32 := 36#32
  let c16_i32_235 : BitVec 32 := 16#32
  let v886 : BitVec 32 := Scalar.muli c36_i32 c16_i32_235
  v886
def k0_mult38 : BitVec 32 :=
  let c37_i32 : BitVec 32 := 37#32
  let c16_i32_241 : BitVec 32 := 16#32
  let v910 : BitVec 32 := Scalar.muli c37_i32 c16_i32_241
  v910
def k0_mult39 : BitVec 32 :=
  let c38_i32 : BitVec 32 := 38#32
  let c16_i32_247 : BitVec 32 := 16#32
  let v934 : BitVec 32 := Scalar.muli c38_i32 c16_i32_247
  v934
def k0_mult40 : BitVec 32 :=
  let c39_i32 : BitVec 32 := 39#32
  let c16_i32_253 : BitVec 32 := 16#32
  let v958 : BitVec 32 := Scalar.muli c39_i32 c16_i32_253
  v958
def k0_mult41 : BitVec 32 :=
  let c40_i32 : BitVec 32 := 40#32
  let c16_i32_259 : BitVec 32 := 16#32
  let v982 : BitVec 32 := Scalar.muli c40_i32 c16_i32_259
  v982
def k0_mult42 : BitVec 32 :=
  let c41_i32 : BitVec 32 := 41#32
  let c16_i32_265 : BitVec 32 := 16#32
  let v1006 : BitVec 32 := Scalar.muli c41_i32 c16_i32_265
  v1006
def k0_mult43 : BitVec 32 :=
  let c42_i32 : BitVec 32 := 42#32
  let c16_i32_271 : BitVec 32 := 16#32
  let v1030 : BitVec 32 := Scalar.muli c42_i32 c16_i32_271
  v1030
def k0_mult44 : BitVec 32 :=
  let c43_i32 : BitVec 32 := 43#32
  let c16_i32_277 : BitVec 32 := 16#32
  let v1054 : BitVec 32 := Scalar.muli c43_i32 c16_i32_277
  v1054
def k0_mult45 : BitVec 32 :=
  let c44_i32 : BitVec 32 := 44#32
  let c16_i32_283 : BitVec 32 := 16#32
  let v1078 : BitVec 32 := Scalar.muli c44_i32 c16_i32_283
  v1078
def k0_mult46 : BitVec 32 :=
  let c45_i32 : BitVec 32 := 45#32
  let c16_i32_289 : BitVec 32 := 16#32
  let v1102 : BitVec 32 := Scalar.muli c45_i32 c16_i32_289
  v1102
def k0_mult47 : BitVec 32 :=
  let c46_i32 : BitVec 32 := 46#32
  let c16_i32_295 : BitVec 32 := 16#32
  let v1126 : BitVec 32 := Scalar.muli c46_i32 c16_i32_295
  v1126
def k0_mult48 : BitVec 32 :=
  let c47_i32 : BitVec 32 := 47#32
  let c16_i32_301 : BitVec 32 := 16#32
  let v1150 : BitVec 32 := Scalar.muli c47_i32 c16_i32_301
  v1150
def k0_mult49 : BitVec 32 :=
  let c48_i32 : BitVec 32 := 48#32
  let c16_i32_307 : BitVec 32 := 16#32
  let v1174 : BitVec 32 := Scalar.muli c48_i32 c16_i32_307
  v1174
def k0_mult50 : BitVec 32 :=
  let c49_i32 : BitVec 32 := 49#32
  let c16_i32_313 : BitVec 32 := 16#32
  let v1198 : BitVec 32 := Scalar.muli c49_i32 c16_i32_313
  v1198
def k0_mult51 : BitVec 32 :=
  let c50_i32 : BitVec 32 := 50#32
  let c16_i32_319 : BitVec 32 := 16#32
  let v1222 : BitVec 32 := Scalar.muli c50_i32 c16_i32_319
  v1222
def k0_mult52 : BitVec 32 :=
  let c51_i32 : BitVec 32 := 51#32
  let c16_i32_325 : BitVec 32 := 16#32
  let v1246 : BitVec 32 := Scalar.muli c51_i32 c16_i32_325
  v1246
def k0_mult53 : BitVec 32 :=
  let c52_i32 : BitVec 32 := 52#32
  let c16_i32_331 : BitVec 32 := 16#32
  let v1270 : BitVec 32 := Scalar.muli c52_i32 c16_i32_331
  v1270
def k0_mult54 : BitVec 32 :=
  let c53_i32 : BitVec 32 := 53#32
  let c16_i32_337 : BitVec 32 := 16#32
  let v1294 : BitVec 32 := Scalar.muli c53_i32 c16_i32_337
  v1294
def k0_mult55 : BitVec 32 :=
  let c54_i32 : BitVec 32 := 54#32
  let c16_i32_343 : BitVec 32 := 16#32
  let v1318 : BitVec 32 := Scalar.muli c54_i32 c16_i32_343
  v1318
def k0_mult56 : BitVec 32 :=
  let c55_i32 : BitVec 32 := 55#32
  let c16_i32_349 : BitVec 32 := 16#32
  let v1342 : BitVec 32 := Scalar.muli c55_i32 c16_i32_349
  v1342
def k0_mult57 : BitVec 32 :=
  let c56_i32 : BitVec 32 := 56#32
  let c16_i32_355 : BitVec 32 := 16#32
  let v1366 : BitVec 32 := Scalar.muli c56_i32 c16_i32_355
  v1366
def k0_mult58 : BitVec 32 :=
  let c57_i32 : BitVec 32 := 57#32
  let c16_i32_361 : BitVec 32 := 16#32
  let v1390 : BitVec 32 := Scalar.muli c57_i32 c16_i32_361
  v1390
def k0_mult59 : BitVec 32 :=
  let c58_i32 : BitVec 32 := 58#32
  let c16_i32_367 : BitVec 32 := 16#32
  let v1414 : BitVec 32 := Scalar.muli c58_i32 c16_i32_367
  v1414
def k0_mult60 : BitVec 32 :=
  let c59_i32 : BitVec 32 := 59#32
  let c16_i32_373 : BitVec 32 := 16#32
  let v1438 : BitVec 32 := Scalar.muli c59_i32 c16_i32_373
  v1438
def k0_mult61 : BitVec 32 :=
  let c60_i32 : BitVec 32 := 60#32
  let c16_i32_379 : BitVec 32 := 16#32
  let v1462 : BitVec 32 := Scalar.muli c60_i32 c16_i32_379
  v1462
def k0_mult62 : BitVec 32 :=
  let c61_i32 : BitVec 32 := 61#32
  let c16_i32_385 : BitVec 32 := 16#32
  let v1486 : BitVec 32 := Scalar.muli c61_i32 c16_i32_385
  v1486
def k0_mult63 : BitVec 32 :=
  let c62_i32 : BitVec 32 := 62#32
  let c16_i32_391 : BitVec 32 := 16#32
  let v1510 : BitVec 32 := Scalar.muli c62_i32 c16_i32_391
  v1510
def k0_mult64 : BitVec 32 :=
  let c63_i32 : BitVec 32 := 63#32
  let c16_i32_397 : BitVec 32 := 16#32
  let v1534 : BitVec 32 := Scalar.muli c63_i32 c16_i32_397
  v1534
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference5Ideal.lean ====
abbrev S2x16384x2048 : Shape := ⟨3, ![2, 16384, 2048]⟩
abbrev S2x2x2048 : Shape := ⟨3, ![2, 2, 2048]⟩
abbrev S2x2048 : Shape := ⟨2, ![2, 2048]⟩
abbrev S1x2048x6160 : Shape := ⟨3, ![1, 2048, 6160]⟩
abbrev S1x1x2048 : Shape := ⟨3, ![1, 1, 2048]⟩
abbrev S2048 : Shape := ⟨1, ![2048]⟩
abbrev S_ : Shape := ⟨0, ![]⟩
abbrev S2x16384 : Shape := ⟨2, ![2, 16384]⟩
abbrev S2x16384x1 : Shape := ⟨3, ![2, 16384, 1]⟩
abbrev S2x1x2048 : Shape := ⟨3, ![2, 1, 2048]⟩
abbrev S2048x6160 : Shape := ⟨2, ![2048, 6160]⟩
abbrev S2x16384x6160 : Shape := ⟨3, ![2, 16384, 6160]⟩
abbrev S2x16384x1024 : Shape := ⟨3, ![2, 16384, 1024]⟩
abbrev S2x16384x4096 : Shape := ⟨3, ![2, 16384, 4096]⟩
abbrev S2x16384x16 : Shape := ⟨3, ![2, 16384, 16]⟩
abbrev S2x16384x6144 : Shape := ⟨3, ![2, 16384, 6144]⟩
abbrev S2x16384x128 : Shape := ⟨3, ![2, 16384, 128]⟩
abbrev S32768x6144 : Shape := ⟨2, ![32768, 6144]⟩
abbrev S32768x128 : Shape := ⟨2, ![32768, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x2x2048, .f32⟩
  | .hbm, ⟨2, _⟩ => ⟨S2x2048, .f32⟩
  | .hbm, ⟨3, _⟩ => ⟨S2x2048, .f32⟩
  | .hbm, ⟨4, _⟩ => ⟨S1x2048x6160, .f32⟩
  | .hbm, ⟨5, _⟩ => ⟨S1x1x2048, .f32⟩
  | .hbm, ⟨6, _⟩ => ⟨S2048, .f32⟩
  | .hbm, ⟨7, _⟩ => ⟨S2x16384x2048, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x2048, .f32⟩
  | .hbm, ⟨19, _⟩ => ⟨S2x16384x2048, .f32⟩
  | .hbm, ⟨20, _⟩ => ⟨S1x1x2048, .f32⟩
  | .hbm, ⟨21, _⟩ => ⟨S2x16384x2048, .f32⟩
  | .hbm, ⟨22, _⟩ => ⟨S2x16384x2048, .f32⟩
  | .hbm, ⟨23, _⟩ => ⟨S2x1x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x16384x2048, .f32⟩
  | .hbm, ⟨28, _⟩ => ⟨S2x16384x2048, .f32⟩
  | .hbm, ⟨29, _⟩ => ⟨S2x1x2048, .f32⟩
  | .hbm, ⟨30, _⟩ => ⟨S2x16384x2048, .f32⟩
  | .hbm, ⟨31, _⟩ => ⟨S2x16384x2048, .f32⟩
  | .hbm, ⟨32, _⟩ => ⟨S2048x6160, .f32⟩
  | .hbm, ⟨33, _⟩ => ⟨S2x16384x6160, .f32⟩
  | .hbm, ⟨34, _⟩ => ⟨S2x16384x1024, .f32⟩
  | .hbm, ⟨35, _⟩ => ⟨S2x16384x1024, .f32⟩
  | .hbm, ⟨36, _⟩ => ⟨S2x16384x4096, .f32⟩
  | .hbm, ⟨37, _⟩ => ⟨S2x16384x16, .f32⟩
  | .hbm, ⟨38, _⟩ => ⟨S_, .f32⟩
  | .hbm, ⟨39, _⟩ => ⟨S2x16384x1024, .f32⟩
  | .hbm, ⟨40, _⟩ => ⟨S2x16384x1024, .f32⟩
  | .hbm, ⟨41, _⟩ => ⟨S2x16384x6144, .f32⟩
  | .hbm, ⟨42, _⟩ => ⟨S2x16384x6144, .bf16⟩
  | .hbm, ⟨43, _⟩ => ⟨S_, .i32⟩
  | .hbm, ⟨44, _⟩ => ⟨S_, .f32⟩
  | .hbm, ⟨45, _⟩ => ⟨S2x16384x128, .f32⟩
  | .hbm, ⟨46, _⟩ => ⟨S32768x6144, .bf16⟩
  | .hbm, ⟨47, _⟩ => ⟨S32768x128, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c : Ref sig .tc := ⟨.hbm, 43, rfl⟩
abbrev main_call0_v0 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== Proof.Steps.lean ====
module

public import proofs.«01_k».proof.Proof.Gen.KernelIdeal.Skeleton

@[expose] public section

set_option maxRecDepth 65536
set_option synthInstance.maxSize 4096

noncomputable section

namespace Cert.KernelIdeal.Steps

open Idealize.ShloMosaic Idealize.SL.Sem Cert.KernelIdeal.Gen

variable {F : FTy → Type} [FloatOps F] [Named F]

/-! ## The pure steps -/

/-- The products of a key block (with its position columns) and the query rows, keys down and queries across. -/
def scoreV (k kp : FVec F S512x128 .bf16) (q : FVec F S1x512x256 .bf16) : FVec F S512x512 .f32 :=
  matmul dot_S512x256_S512x256_S512x512_1_1_0_0_n_n none
    (concatenate S512x256 1 [⟨S512x128, shapeCast S512x128 k shapeCasts_S512x128_S512x128⟩, ⟨S512x128, kp⟩]
      concatenates_S512x128_S512x128_S512x256_d1)
    (shapeCast S512x256 q shapeCasts_S1x512x256_S512x256) (constant S512x512 .f32 0x00000000#32)

/-- The scores with the keys after their query put to minus infinity. -/
def maskV (st : FVec F S512x512 .f32) : FVec F S512x512 .f32 :=
  select (cmpi .sle (iota .tc S512x512 32 [0] iota_S512x512_d0_w32) (iota .tc S512x512 32 [1] iota_S512x512_d1_w32)) st
    (broadcast S512x512 (Scalar.ofBits .f32 0xFF800000#32 : F .f32))

/-- The greatest score of each query. -/
def colMax (st : FVec F S512x512 .f32) : FVec F S1x512 .f32 :=
  shapeCast S1x512 (multiReduction .maximumf [0] S512 st 0xFF800000#32 reduces_S512x512_S512 (.inl rfl) rfl) shapeCasts_S512_S1x512

/-- A value block with its rows of ones below. -/
def vAug (v : FVec F S1x256x512 .bf16) : FVec F S272x512 .bf16 :=
  concatenate S272x512 0 [⟨S256x512, shapeCast S256x512 v shapeCasts_S1x256x512_S256x512⟩,
    ⟨S16x512, broadcast S16x512 (Scalar.ofBits .bf16 0x3F80#16 : F .bf16)⟩] concatenates_S256x512_S16x512_S272x512_d0

/-- The bias of key block `kj` against query block `qi`. -/
def biasV (sl : FVec F S1x1 .f32) (kj qi : BitVec 32) : FVec F S1x1 .f32 :=
  mulf sl (sitofp .f32 (broadcast S1x1 (Scalar.muli (Scalar.subi kj qi) 512#32) : IVec S1x1 32))

/-- The running maximum after a block. -/
def newM (mo bm : FVec F S1x512 .f32) (bias : FVec F S1x1 .f32) : FVec F S1x512 .f32 :=
  maximumf mo (addf bm (broadcastTo S1x512 bias broadcasts_S1x1_S1x512))

/-- The block's weights: two to the score less the maximum. -/
def ptV (st : FVec F S512x512 .f32) (mn : FVec F S1x512 .f32) (bias : FVec F S1x1 .f32) : FVec F S512x512 .f32 :=
  exp2 (subf st (broadcastTo S512x512 (subf mn (broadcastTo S1x512 bias broadcasts_S1x1_S1x512)) broadcasts_S1x512_S512x512))

/-- The accumulator after a block. -/
def newAcc (ac : FVec F S272x512 .f32) (mo mn : FVec F S1x512 .f32) (va : FVec F S272x512 .bf16) (pt : FVec F S512x512 .f32) :
    FVec F S272x512 .f32 :=
  addf (mulf ac (broadcastTo S272x512 (exp2 (subf mo mn)) broadcasts_S1x512_S272x512))
    (matmul dot_S272x512_S512x512_S272x512_1_0_0_1_n_n none va (truncf .bf16 pt bitsLt_bf16_f32) (constant S272x512 .f32 0x00000000#32))

/-! ## The steps as programs -/

theorem inbS (b s : ℕ) (hb : b < 2) (hs : s < 2) : ∀ a, (![b, s, 0, 0] : Fin 4 → ℕ) a + S1x1x512x512.size a ≤ S2x2x512x512.size a := by
  intro a; fin_cases a <;> simp [Shape.size] <;> omega
theorem inbB (b s : ℕ) (hb : b < 2) (hs : s < 2) : ∀ a, (![b, s, 0, 0] : Fin 4 → ℕ) a + S1x1x1x512.size a ≤ S2x2x1x512.size a := by
  intro a; fin_cases a <;> simp [Shape.size] <;> omega
theorem inbM (s : ℕ) (hs : s < 2) : ∀ a, (![s, 0, 0] : Fin 3 → ℕ) a + S1x1x512.size a ≤ S2x1x512.size a := by
  intro a; fin_cases a <;> simp [Shape.size] <;> omega
theorem inbA (s : ℕ) (hs : s < 2) : ∀ a, (![s, 0, 0] : Fin 3 → ℕ) a + S1x272x512.size a ≤ S2x272x512.size a := by
  intro a; fin_cases a <;> simp [Shape.size] <;> omega
theorem inbQ (s : ℕ) (hs : s < 2) : ∀ a, (![s, 0, 0] : Fin 3 → ℕ) a + S1x512x256.size a ≤ S2x512x256.size a := by
  intro a; fin_cases a <;> simp [Shape.size] <;> omega

section progs
variable (arg4 : Memref sig .tc .vmem S16384x256 .bf16) (arg5 : Memref sig .tc .vmem S1x256x16384 .bf16)
  (arg10 : Memref sig .tc .vmem S2x512x256 .bf16) (arg11 : Memref sig .tc .vmem S512x128 .bf16)
  (arg12 : Memref sig .tc .vmem S2x2x512x512 .f32) (arg13 : Memref sig .tc .vmem S2x2x1x512 .f32)
  (arg14 : Memref sig .tc .vmem S2x1x512 .f32) (arg15 : Memref sig .tc .vmem S2x272x512 .f32)

/-- One half of a block's scores, stored with their maxima in buffer `b`. -/
def scoreP (f : FVec F S512x512 .f32 → FVec F S512x512 .f32) (off : Fin 2 → ℕ) (hoff : ∀ a, off a + S512x128.size a ≤ S16384x256.size a)
    (b s : ℕ) (hb : b < 2) (hs : s < 2) : Prog (TpuEff nD τ sig (Elt F) Λ₀ .tc) PUnit := do
  let k : Vec F S512x128 .bf16 ← Prog.lift (.load arg4 (Rect.unit (s := S16384x256) off S512x128.size hoff).toLoadRect (View.loadsAt_vmem h_S512x128))
  let kp : Vec F S512x128 .bf16 ← Prog.lift (.load arg11 (Rect.unit (s := S512x128) ![0, 0] S512x128.size inb_S512x128_S512x128_0_0).toLoadRect (View.loadsAt_vmem h_S512x128))
  let q : Vec F S1x512x256 .bf16 ← Prog.lift (.load arg10 (Rect.unit (s := S2x512x256) ![s, 0, 0] S1x512x256.size (inbQ s hs)).toLoadRect (View.loadsAt_vmem h_S1x512x256))
  let d : Vec F S1x1x512x512 .f32 ← Prog.lift (.load arg12 (Rect.unit (s := S2x2x512x512) ![b, s, 0, 0] S1x1x512x512.size (inbS b s hb hs)).toLoadRect (View.loadsAt_vmem h_S1x1x512x512))
  Prog.lift (.store arg12 (Rect.unit (s := S2x2x512x512) ![b, s, 0, 0] S1x1x512x512.size (inbS b s hb hs)) (shapeCast S1x1x512x512 (f (scoreV k kp q)) shapeCasts_S512x512_S1x1x512x512) Finset.univ (View.stores_vmem_bits_univ h_S1x1x512x512 rfl) (.inl rfl))
  let d' : Vec F S1x1x1x512 .f32 ← Prog.lift (.load arg13 (Rect.unit (s := S2x2x1x512) ![b, s, 0, 0] S1x1x1x512.size (inbB b s hb hs)).toLoadRect (View.loadsAt_vmem h_S1x1x1x512))
  Prog.lift (.store arg13 (Rect.unit (s := S2x2x1x512) ![b, s, 0, 0] S1x1x1x512.size (inbB b s hb hs)) (shapeCast S1x1x1x512 (colMax (f (scoreV k kp q))) shapeCasts_S1x512_S1x1x1x512) Finset.univ (View.stores_vmem_bits_univ h_S1x1x1x512 rfl) (.inl rfl))

/-- One half of a block's accumulation, from buffer `b`. -/
def accHalf (va : FVec F S272x512 .bf16) (bias : FVec F S1x1 .f32) (b s : ℕ) (hb : b < 2) (hs : s < 2) :
    Prog (TpuEff nD τ sig (Elt F) Λ₀ .tc) PUnit := do
  let mo : Vec F S1x1x512 .f32 ← Prog.lift (.load arg14 (Rect.unit (s := S2x1x512) ![s, 0, 0] S1x1x512.size (inbM s hs)).toLoadRect (View.loadsAt_vmem h_S1x1x512))
  let bm : Vec F S1x1x1x512 .f32 ← Prog.lift (.load arg13 (Rect.unit (s := S2x2x1x512) ![b, s, 0, 0] S1x1x1x512.size (inbB b s hb hs)).toLoadRect (View.loadsAt_vmem h_S1x1x1x512))
  let st : Vec F S1x1x512x512 .f32 ← Prog.lift (.load arg12 (Rect.unit (s := S2x2x512x512) ![b, s, 0, 0] S1x1x512x512.size (inbS b s hb hs)).toLoadRect (View.loadsAt_vmem h_S1x1x512x512))
  let ac : Vec F S1x272x512 .f32 ← Prog.lift (.load arg15 (Rect.unit (s := S2x272x512) ![s, 0, 0] S1x272x512.size (inbA s hs)).toLoadRect (View.loadsAt_vmem h_S1x272x512))
  let d : Vec F S1x272x512 .f32 ← Prog.lift (.load arg15 (Rect.unit (s := S2x272x512) ![s, 0, 0] S1x272x512.size (inbA s hs)).toLoadRect (View.loadsAt_vmem h_S1x272x512))
  Prog.lift (.store arg15 (Rect.unit (s := S2x272x512) ![s, 0, 0] S1x272x512.size (inbA s hs))
    (shapeCast S1x272x512 (newAcc (shapeCast S272x512 ac shapeCasts_S1x272x512_S272x512) (shapeCast S1x512 mo shapeCasts_S1x1x512_S1x512)
      (newM (shapeCast S1x512 mo shapeCasts_S1x1x512_S1x512) (shapeCast S1x512 bm shapeCasts_S1x1x1x512_S1x512) bias) va
      (ptV (shapeCast S512x512 st shapeCasts_S1x1x512x512_S512x512)
        (newM (shapeCast S1x512 mo shapeCasts_S1x1x512_S1x512) (shapeCast S1x512 bm shapeCasts_S1x1x1x512_S1x512) bias) bias)) shapeCasts_S272x512_S1x272x512)
    Finset.univ (View.stores_vmem_bits_univ h_S1x272x512 rfl) (.inl rfl))
  let d' : Vec F S1x1x512 .f32 ← Prog.lift (.load arg14 (Rect.unit (s := S2x1x512) ![s, 0, 0] S1x1x512.size (inbM s hs)).toLoadRect (View.loadsAt_vmem h_S1x1x512))
  Prog.lift (.store arg14 (Rect.unit (s := S2x1x512) ![s, 0, 0] S1x1x512.size (inbM s hs))
    (shapeCast S1x1x512 (newM (shapeCast S1x512 mo shapeCasts_S1x1x512_S1x512) (shapeCast S1x512 bm shapeCasts_S1x1x1x512_S1x512) bias) shapeCasts_S1x512_S1x1x512)
    Finset.univ (View.stores_vmem_bits_univ h_S1x1x512 rfl) (.inl rfl))

/-- A block's accumulation, from buffer `b`. -/
def accP (sl : FVec F S1x1 .f32) (kj qi : BitVec 32) (off : Fin 3 → ℕ) (hoff : ∀ a, off a + S1x256x512.size a ≤ S1x256x16384.size a)
    (b : ℕ) (hb : b < 2) : Prog (TpuEff nD τ sig (Elt F) Λ₀ .tc) PUnit := do
  let v : Vec F S1x256x512 .bf16 ← Prog.lift (.load arg5 (Rect.unit (s := S1x256x16384) off S1x256x512.size hoff).toLoadRect (View.loadsAt_vmem h_S1x256x512))
  accHalf arg12 arg13 arg14 arg15 (vAug v) (biasV sl kj qi) b 0 hb (by omega)
  accHalf arg12 arg13 arg14 arg15 (vAug v) (biasV sl kj qi) b 1 hb (by omega)

end progs
end Cert.KernelIdeal.Steps
end
-- ==== Proof.Prog.lean ====
module

public import proofs.«01_k».proof.Proof.Steps
public import Idealize.ShloMosaic.Lib.Pipeline.Regions

@[expose] public section

set_option maxRecDepth 65536
set_option synthInstance.maxSize 4096

noncomputable section

namespace Cert.KernelIdeal.Steps

open Idealize.ShloMosaic Idealize.SL.Sem Cert.KernelIdeal.Gen

variable {F : FTy → Type} [FloatOps F] [Named F]

/-- The block a step of the loop takes its keys from: the diagonal one first, then the earlier ones in order. -/
def blockOf (qi t : BitVec 32) : BitVec 32 := Scalar.select (Scalar.cmpi .eq t 0#32) qi (Scalar.subi t 1#32)

section progs
variable (i : grid0.Coords) (arg3 : Memref sig .tc .vmem S512x256 .bf16) (harg3 : arg3.IsWhole)
  (arg4 : Memref sig .tc .vmem S16384x256 .bf16) (harg4 : arg4.IsWhole) (arg5 : Memref sig .tc .vmem S1x256x16384 .bf16) (harg5 : arg5.IsWhole)
  (arg6 : Memref sig .tc .vmem S1x1x128 .f32) (harg6 : arg6.IsWhole) (arg7 : Memref sig .tc .vmem S4x128 .f32) (harg7 : arg7.IsWhole)
  (arg8 : Memref sig .tc .vmem S1x256 .f32) (harg8 : arg8.IsWhole) (arg9 : Memref sig .tc .vmem S512x256 .bf16) (harg9 : arg9.IsWhole)
  (arg10 : Memref sig .tc .vmem S2x512x256 .bf16) (harg10 : arg10.IsWhole) (arg11 : Memref sig .tc .vmem S512x128 .bf16) (harg11 : arg11.IsWhole)
  (arg12 : Memref sig .tc .vmem S2x2x512x512 .f32) (harg12 : arg12.IsWhole) (arg13 : Memref sig .tc .vmem S2x2x1x512 .f32) (harg13 : arg13.IsWhole)
  (arg14 : Memref sig .tc .vmem S2x1x512 .f32) (harg14 : arg14.IsWhole) (arg15 : Memref sig .tc .vmem S2x272x512 .f32) (harg15 : arg15.IsWhole)

/-- One pair of blocks: scores ahead into one buffer while the other is accumulated. -/
def pairP (sl : FVec F S1x1 .f32) (qi t : BitVec 32)
    (o1 : Fin 2 → ℕ) (h1 : ∀ a, o1 a + S512x128.size a ≤ S16384x256.size a) (o2 : Fin 2 → ℕ) (h2 : ∀ a, o2 a + S512x128.size a ≤ S16384x256.size a)
    (o3 : Fin 3 → ℕ) (h3 : ∀ a, o3 a + S1x256x512.size a ≤ S1x256x16384.size a)
    (o4 : Fin 2 → ℕ) (h4 : ∀ a, o4 a + S512x128.size a ≤ S16384x256.size a) (o5 : Fin 2 → ℕ) (h5 : ∀ a, o5 a + S512x128.size a ≤ S16384x256.size a)
    (o6 : Fin 3 → ℕ) (h6 : ∀ a, o6 a + S1x256x512.size a ≤ S1x256x16384.size a) : Prog (TpuEff nD τ sig (Elt F) Λ₀ .tc) PUnit := do
  scoreP arg4 arg10 arg11 arg12 arg13 id o1 h1 1 0 (by omega) (by omega)
  scoreP arg4 arg10 arg11 arg12 arg13 id o2 h2 1 1 (by omega) (by omega)
  accP arg5 arg12 arg13 arg14 arg15 sl (blockOf qi t) qi o3 h3 0 (by omega)
  scoreP arg4 arg10 arg11 arg12 arg13 id o4 h4 0 0 (by omega) (by omega)
  scoreP arg4 arg10 arg11 arg12 arg13 id o5 h5 0 1 (by omega) (by omega)
  accP arg5 arg12 arg13 arg14 arg15 sl t qi o6 h6 1 (by omega)

/-- Pair `r` of a trip of the loop over four pairs. -/
abbrev pairT1 (qi : BitVec 32) (sl : FVec F S1x1 .f32) (k : Fin (k0_t1_loop i).trips) (r : Fin 4) : Prog (TpuEff nD τ sig (Elt F) Λ₀ .tc) PUnit :=
  pairP arg4 arg5 arg10 arg11 arg12 arg13 arg14 arg15 sl qi
    (Scalar.muli 2#32 (Scalar.addi (Scalar.muli 4#32 (Scf.iv 0#32 1#32 k)) (BitVec.ofNat 32 r.val)))
    (k0_off3 i k (BitVec.ofNat 32 r.val)) (k0_off3_inb i k r) (k0_off4 i k (BitVec.ofNat 32 r.val)) (k0_off4_inb i k r)
    (k0_off5 i k (BitVec.ofNat 32 r.val)) (k0_off5_inb i k r) (k0_off6 i k (BitVec.ofNat 32 r.val)) (k0_off6_inb i k r)
    (k0_off7 i k (BitVec.ofNat 32 r.val)) (k0_off7_inb i k r) (k0_off8 i k (BitVec.ofNat 32 r.val)) (k0_off8_inb i k r)

/-- Where the loop over the remaining groups of four starts: where the first loop ended. -/
def t2lb (qi : BitVec 32) : BitVec 32 :=
  Scalar.addi 0#32 (Scalar.muli (Scalar.divsi (Scalar.subi (Scalar.shrui (Scalar.shrui qi 1#32) 2#32) 0#32) 1#32) 1#32)

/-- Pair `r` of a trip of the second loop. -/
abbrev pairT2 (qi : BitVec 32) (sl : FVec F S1x1 .f32) (k : Fin (k0_t2_loop i).trips) (r : Fin 4) : Prog (TpuEff nD τ sig (Elt F) Λ₀ .tc) PUnit :=
  pairP arg4 arg5 arg10 arg11 arg12 arg13 arg14 arg15 sl qi
    (Scalar.muli 2#32 (Scalar.addi (Scalar.muli 4#32 (Scf.iv (t2lb qi) 1#32 k)) (BitVec.ofNat 32 r.val)))
    (k0_off9 i k (BitVec.ofNat 32 r.val)) (k0_off9_inb i k r) (k0_off10 i k (BitVec.ofNat 32 r.val)) (k0_off10_inb i k r)
    (k0_off11 i k (BitVec.ofNat 32 r.val)) (k0_off11_inb i k r) (k0_off12 i k (BitVec.ofNat 32 r.val)) (k0_off12_inb i k r)
    (k0_off13 i k (BitVec.ofNat 32 r.val)) (k0_off13_inb i k r) (k0_off14 i k (BitVec.ofNat 32 r.val)) (k0_off14_inb i k r)

/-- What the first point of a head stores once for all its query blocks. -/
def initP (sl : FVec F S1x1 .f32) : Prog (TpuEff nD τ sig (Elt F) Λ₀ .tc) PUnit := do
  let d : Vec F S512x128 .bf16 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (k0_pay3 sl) Finset.univ (View.stores_vmem h_S512x128 (harg11.storeExact_slice rfl _ packedbf16_S512x128_S512x128_0_0) (fun _ => rfl)) (.inl rfl))
  let d : Vec F S1x512x128 .bf16 ← Prog.lift (.load arg10 (Rect.unit (s := S2x512x256) ![0, 0, 128] S1x512x128.size inb_S2x512x256_S1x512x128_0_0_128).toLoadRect (View.loadsAt_vmem h_S1x512x128))
  Prog.lift (.store arg10 (Rect.unit (s := S2x512x256) ![0, 0, 128] S1x512x128.size inb_S2x512x256_S1x512x128_0_0_128) (k0_pay4 (F := F)) Finset.univ (View.stores_vmem h_S1x512x128 (harg10.storeExact_slice rfl _ packedbf16_S2x512x256_S1x512x128_0_0_128) (fun _ => rfl)) (.inl rfl))
  let d : Vec F S1x512x128 .bf16 ← Prog.lift (.load arg10 (Rect.unit (s := S2x512x256) ![1, 0, 128] S1x512x128.size inb_S2x512x256_S1x512x128_1_0_128).toLoadRect (View.loadsAt_vmem h_S1x512x128))
  Prog.lift (.store arg10 (Rect.unit (s := S2x512x256) ![1, 0, 128] S1x512x128.size inb_S2x512x256_S1x512x128_1_0_128) (k0_pay4 (F := F)) Finset.univ (View.stores_vmem h_S1x512x128 (harg10.storeExact_slice rfl _ packedbf16_S2x512x256_S1x512x128_1_0_128) (fun _ => rfl)) (.inl rfl))

/-- The query block copied beside the constant columns, the accumulators and the maxima reset. -/
def startP : Prog (TpuEff nD τ sig (Elt F) Λ₀ .tc) PUnit := do
  let v7 : Vec F S512x128 .bf16 ← Prog.lift (.load arg3 (Rect.unit (s := S512x256) ![0, 0] S512x128.size inb_S512x256_S512x128_0_0).toLoadRect (View.loadsAt_vmem h_S512x128))
  let v9 : Vec F S1x512x128 .bf16 ← Prog.lift (.load arg10 (Rect.unit (s := S2x512x256) ![0, 0, 0] S1x512x128.size inb_S2x512x256_S1x512x128_0_0_0).toLoadRect (View.loadsAt_vmem h_S1x512x128))
  Prog.lift (.store arg10 (Rect.unit (s := S2x512x256) ![0, 0, 0] S1x512x128.size inb_S2x512x256_S1x512x128_0_0_0) (k0_pay447 v7) Finset.univ (View.stores_vmem h_S1x512x128 (harg10.storeExact_slice rfl _ packedbf16_S2x512x256_S1x512x128_0_0_0) (fun _ => rfl)) (.inl rfl))
  let v12 : Vec F S512x128 .bf16 ← Prog.lift (.load arg3 (Rect.unit (s := S512x256) ![0, 128] S512x128.size inb_S512x256_S512x128_0_128).toLoadRect (View.loadsAt_vmem h_S512x128))
  let v14 : Vec F S1x512x128 .bf16 ← Prog.lift (.load arg10 (Rect.unit (s := S2x512x256) ![1, 0, 0] S1x512x128.size inb_S2x512x256_S1x512x128_1_0_0).toLoadRect (View.loadsAt_vmem h_S1x512x128))
  Prog.lift (.store arg10 (Rect.unit (s := S2x512x256) ![1, 0, 0] S1x512x128.size inb_S2x512x256_S1x512x128_1_0_0) (k0_pay448 v12) Finset.univ (View.stores_vmem h_S1x512x128 (harg10.storeExact_slice rfl _ packedbf16_S2x512x256_S1x512x128_1_0_0) (fun _ => rfl)) (.inl rfl))
  let v18 : Vec F S2x272x512 .f32 ← Prog.lift (.load arg15 (Rect.unit (s := S2x272x512) ![0, 0, 0] S2x272x512.size inb_S2x272x512_S2x272x512_0_0_0).toLoadRect (View.loadsAt_vmem h_S2x272x512))
  Prog.lift (.store arg15 (Rect.unit (s := S2x272x512) ![0, 0, 0] S2x272x512.size inb_S2x272x512_S2x272x512_0_0_0) (k0_pay449 (F := F)) Finset.univ (View.stores_vmem_bits_univ h_S2x272x512 rfl) (.inl rfl))
  let v22 : Vec F S2x1x512 .f32 ← Prog.lift (.load arg14 (Rect.unit (s := S2x1x512) ![0, 0, 0] S2x1x512.size inb_S2x1x512_S2x1x512_0_0_0).toLoadRect (View.loadsAt_vmem h_S2x1x512))
  Prog.lift (.store arg14 (Rect.unit (s := S2x1x512) ![0, 0, 0] S2x1x512.size inb_S2x1x512_S2x1x512_0_0_0) (k0_pay450 (F := F)) Finset.univ (View.stores_vmem_bits_univ h_S2x1x512 rfl) (.inl rfl))

/-- The two maps' quotients, their difference, its norm and the weights: the output block. -/
def finishP : Prog (TpuEff nD τ sig (Elt F) Λ₀ .tc) PUnit := do
  let v165 : Vec F S4x128 .f32 ← Prog.lift (.load arg7 (Rect.unit (s := S4x128) ![0, 0] S4x128.size inb_S4x128_S4x128_0_0).toLoadRect (View.loadsAt_vmem h_S4x128))
  let v181 : Vec F S1x256x512 .f32 ← Prog.lift (.load arg15 (Rect.unit (s := S2x272x512) ![0, 0, 0] S1x256x512.size inb_S2x272x512_S1x256x512_0_0_0).toLoadRect (View.loadsAt_vmem h_S1x256x512))
  let v183 : Vec F S1x1x512 .f32 ← Prog.lift (.load arg15 (Rect.unit (s := S2x272x512) ![0, 256, 0] S1x1x512.size inb_S2x272x512_S1x1x512_0_256_0).toLoadRect (View.loadsAt_vmem h_S1x1x512))
  let v189 : Vec F S1x256x512 .f32 ← Prog.lift (.load arg15 (Rect.unit (s := S2x272x512) ![1, 0, 0] S1x256x512.size inb_S2x272x512_S1x256x512_1_0_0).toLoadRect (View.loadsAt_vmem h_S1x256x512))
  let v191 : Vec F S1x1x512 .f32 ← Prog.lift (.load arg15 (Rect.unit (s := S2x272x512) ![1, 256, 0] S1x1x512.size inb_S2x272x512_S1x1x512_1_256_0).toLoadRect (View.loadsAt_vmem h_S1x1x512))
  let v211 : Vec F S1x256 .f32 ← Prog.lift (.load arg8 (Rect.unit (s := S1x256) ![0, 0] S1x256.size inb_S1x256_S1x256_0_0).toLoadRect (View.loadsAt_vmem h_S1x256))
  let v218 : Vec F S512x256 .bf16 ← Prog.lift (.load arg9 (Rect.unit (s := S512x256) ![0, 0] S512x256.size inb_S512x256_S512x256_0_0).toLoadRect (View.loadsAt_vmem h_S512x256))
  Prog.lift (.store arg9 (Rect.unit (s := S512x256) ![0, 0] S512x256.size inb_S512x256_S512x256_0_0) (k0_pay2 (k0_pay444 v165 v181 v183 v189 v191) v211) Finset.univ (View.stores_vmem h_S512x256 (harg9.storeExact_slice rfl _ packedbf16_S512x256_S512x256_0_0) (fun _ => rfl)) (.inl rfl))

/-- Twice the number of pairs. -/
def rest2 (qi : BitVec 32) : BitVec 32 := Scalar.muli 2#32 (Scalar.shrui qi 1#32)

/-- The start of a point: the head's slope, the constant columns, the query block and the resets. -/
def headP : Prog (TpuEff nD τ sig (Elt F) Λ₀ .tc) (Σ' (arg2 : BitVec 32) (v3 : FVec F S1x1 .f32), BitVec 32) := do
  let v0 : Vec F S1x1x1 .f32 ← Prog.lift (.load arg6 (Rect.unit (s := S1x1x128) ![0, 0, 0] S1x1x1.size inb_S1x1x128_S1x1x1_0_0_0).toLoadRect (View.loadsAt_vmem h_S1x1x1))
  if k0_h1 : (Scalar.cmpi .ne (Scalar.extui (Scalar.cmpi .eq (BitVec.ofNat 32 (i 2).val) 0#32)) 0#32) = 1#1 then
    initP arg10 harg10 arg11 harg11 (k0_pay445 v0)
  else pure ⟨⟩
  startP arg3 arg10 harg10 arg14 arg15
  pure ⟨BitVec.ofNat 32 (i 2).val, k0_pay445 v0, Scalar.muli (BitVec.ofNat 32 (i 2).val) 512#32⟩

/-- The diagonal block's scores, then every pair of blocks in turn. -/
def pairsP (qi : BitVec 32) (sl : FVec F S1x1 .f32) : Prog (TpuEff nD τ sig (Elt F) Λ₀ .tc) (Σ' (v84 : BitVec 32) (v86 : BitVec 1) (v87 : BitVec 32), BitVec 32) := do
  scoreP arg4 arg10 arg11 arg12 arg13 maskV (k0_off1 i) (k0_off1_inb i) 0 0 (by omega) (by omega)
  scoreP arg4 arg10 arg11 arg12 arg13 maskV (k0_off2 i) (k0_off2_inb i) 0 1 (by omega) (by omega)
  Scf.Loop.for (k0_t1_loop i) (k0_t1_ok i) () (fun k _ => do
    pairT1 i arg4 arg5 arg10 arg11 arg12 arg13 arg14 arg15 qi sl k 0
    pairT1 i arg4 arg5 arg10 arg11 arg12 arg13 arg14 arg15 qi sl k 1
    pairT1 i arg4 arg5 arg10 arg11 arg12 arg13 arg14 arg15 qi sl k 2
    pairT1 i arg4 arg5 arg10 arg11 arg12 arg13 arg14 arg15 qi sl k 3)
  Scf.Loop.for (k0_t2_loop i) (k0_t2_ok i) () (fun k _ => do
    pairT2 i arg4 arg5 arg10 arg11 arg12 arg13 arg14 arg15 qi sl k 0
    pairT2 i arg4 arg5 arg10 arg11 arg12 arg13 arg14 arg15 qi sl k 1
    pairT2 i arg4 arg5 arg10 arg11 arg12 arg13 arg14 arg15 qi sl k 2
    pairT2 i arg4 arg5 arg10 arg11 arg12 arg13 arg14 arg15 qi sl k 3)
  if h2 : k0_cond2 i = 1#1 then do
    pairP arg4 arg5 arg10 arg11 arg12 arg13 arg14 arg15 sl qi
      (Scalar.muli 2#32 (Scalar.muli 4#32 (Scalar.shrui (Scalar.shrui qi 1#32) 2#32)))
      (k0_off15 i) (k0_off15_inb i h2) (k0_off16 i) (k0_off16_inb i h2) (k0_off17 i) (k0_off17_inb i h2)
      (k0_off18 i) (k0_off18_inb i h2) (k0_off19 i) (k0_off19_inb i h2) (k0_off20 i) (k0_off20_inb i h2)
    pairP arg4 arg5 arg10 arg11 arg12 arg13 arg14 arg15 sl qi
      (Scalar.muli 2#32 (Scalar.addi (Scalar.muli 4#32 (Scalar.shrui (Scalar.shrui qi 1#32) 2#32)) 1#32))
      (k0_off21 i) (k0_off21_inb i h2) (k0_off22 i) (k0_off22_inb i h2) (k0_off23 i) (k0_off23_inb i h2)
      (k0_off24 i) (k0_off24_inb i h2) (k0_off25 i) (k0_off25_inb i h2) (k0_off26 i) (k0_off26_inb i h2)
  else pure ⟨⟩
  if h3 : k0_cond3 i = 1#1 then
    pairP arg4 arg5 arg10 arg11 arg12 arg13 arg14 arg15 sl qi
      (Scalar.muli 2#32 (Scalar.subi (Scalar.shrui qi 1#32) 1#32))
      (k0_off27 i) (k0_off27_inb i h3) (k0_off28 i) (k0_off28_inb i h3) (k0_off29 i) (k0_off29_inb i h3)
      (k0_off30 i) (k0_off30_inb i h3) (k0_off31 i) (k0_off31_inb i h3) (k0_off32 i) (k0_off32_inb i h3)
  else pure ⟨⟩
  pure ⟨rest2 qi, Scalar.cmpi .eq (Scalar.andi qi 1#32) 1#32, Scalar.extui (Scalar.cmpi .eq (Scalar.andi qi 1#32) 1#32), 0#32⟩

/-- The last block or two and the output block. -/
def tailP (qi v84 : BitVec 32) (sl : FVec F S1x1 .f32) : Prog (TpuEff nD τ sig (Elt F) Λ₀ .tc) PUnit := do
  if h4 : k0_cond4 i = 1#1 then do
    scoreP arg4 arg10 arg11 arg12 arg13 id (k0_off33 i) (k0_off33_inb i h4) 1 0 (by omega) (by omega)
    scoreP arg4 arg10 arg11 arg12 arg13 id (k0_off34 i) (k0_off34_inb i h4) 1 1 (by omega) (by omega)
    accP arg5 arg12 arg13 arg14 arg15 sl (blockOf qi v84) qi (k0_off35 i) (k0_off35_inb i h4) 0 (by omega)
    accP arg5 arg12 arg13 arg14 arg15 sl v84 qi (k0_off36 i) (k0_off36_inb i h4) 1 (by omega)
    finishP arg7 arg8 arg9 harg9 arg15
  else pure ⟨⟩
  if h5 : k0_cond5 i = 1#1 then do
    accP arg5 arg12 arg13 arg14 arg15 sl (blockOf qi v84) qi (k0_off37 i) (k0_off37_inb i h5) 0 (by omega)
    finishP arg7 arg8 arg9 harg9 arg15
  else pure ⟨⟩
  pure ⟨⟩

/-- The whole body in these steps. -/
def bodyP : Prog (TpuEff nD τ sig (Elt F) Λ₀ .tc) PUnit := do
  let r ← headP i arg3 arg6 arg10 harg10 arg11 harg11 arg14 arg15
  let r' ← pairsP i arg4 arg5 arg10 arg11 arg12 arg13 arg14 arg15 r.1 r.2.1
  tailP i arg4 arg5 arg7 arg8 arg9 harg9 arg10 arg11 arg12 arg13 arg14 arg15 r.1 r'.1 r.2.1

/-- The printed start is `headP`. -/
theorem head_eq : k0_part82 (F := F) i arg3 harg3 arg4 harg4 arg5 harg5 arg6 harg6 arg7 harg7 arg8 harg8 arg9 harg9 arg10 harg10 arg11 harg11 arg12 harg12 arg13 harg13 arg14 harg14 arg15 harg15 = headP i arg3 arg6 arg10 harg10 arg11 harg11 arg14 arg15 := by
  chain_rfl

/-- The printed middle is `pairsP`. -/
theorem pairs_eq (qi : BitVec 32) (sl : FVec F S1x1 .f32) (v26 : BitVec 32) : (k0_part83 (F := F) i arg3 harg3 arg4 harg4 arg5 harg5 arg6 harg6 arg7 harg7 arg8 harg8 arg9 harg9 arg10 harg10 arg11 harg11 arg12 harg12 arg13 harg13 arg14 harg14 arg15 harg15 v26 >>= fun r => k0_part84 i arg3 harg3 arg4 harg4 arg5 harg5 arg6 harg6 arg7 harg7 arg8 harg8 arg9 harg9 arg10 harg10 arg11 harg11 arg12 harg12 arg13 harg13 arg14 harg14 arg15 harg15 qi sl r.1 r.2.1 r.2.2) = pairsP i arg4 arg5 arg10 arg11 arg12 arg13 arg14 arg15 qi sl := by
  chain_rfl

/-- The printed body is this program. -/
theorem body_eq : cc0_diff_attention (F := F) i arg3 harg3 arg4 harg4 arg5 harg5 arg6 harg6 arg7 harg7 arg8 harg8 arg9 harg9 arg10 harg10 arg11 harg11 arg12 harg12 arg13 harg13 arg14 harg14 arg15 harg15 = bodyP i arg3 arg4 arg5 arg6 arg7 arg8 arg9 harg9 arg10 harg10 arg11 harg11 arg12 arg13 arg14 arg15 := by
  chain_rfl

end progs
end Cert.KernelIdeal.Steps
end
-- ==== Proof.Runs.lean ====
module

public import proofs.«01_k».proof.Proof.Prog
public import proofs.«01_k».proof.Proof.Gen.KernelIdeal.Points

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! ## Runs: what a program leaves, as a relation that composes -/

/-- From `P` the program returns `a` and leaves `Q`. -/
def Runs {α : Type} (c : Dev nD) (p : Prog (TpuEff nD τ sig (Elt F) Λ₀ .tc) α) (P : sProp 𝕄) (a : α) (Q : sProp 𝕄) : Prop :=
  ∀ (E : Set ℕ) (K : α → sProp 𝕄), iprop(P ∗ (Q -∗ K a)) ⊢ wp frame (wpE (defs₀ (F := F)) Variants.none (c : Thread nD τ) none) E p K

variable {c : Dev nD}

theorem Runs.pure {α : Type} (a : α) (P : sProp 𝕄) : Runs c (Pure.pure a) P a P := by
  intro E K
  rw [wp_pure]
  iintro ⟨HP, HK⟩
  imodintro
  iapply HK; iexact HP

theorem Runs.bind {α β : Type} {p : Prog (TpuEff nD τ sig (Elt F) Λ₀ .tc) α} {k : α → Prog (TpuEff nD τ sig (Elt F) Λ₀ .tc) β}
    {P Q R : sProp 𝕄} {a : α} {b : β} (h : Runs c p P a Q) (h' : Runs c (k a) Q b R) : Runs c (p >>= k) P b R := by
  intro E K
  rw [wp_bind]
  refine BIBase.Entails.trans ?_ (h E _)
  iintro ⟨HP, HK⟩
  isplitl [HP]; · iexact HP
  iintro HQ
  iapply (h' E K)
  isplitl [HQ] <;> iassumption

theorem Runs.conseq {α : Type} {p : Prog (TpuEff nD τ sig (Elt F) Λ₀ .tc) α} {P P' Q Q' : sProp 𝕄} {a : α}
    (hP : P' ⊢ P) (h : Runs c p P a Q) (hQ : Q ⊢ Q') : Runs c p P' a Q' := by
  intro E K
  refine BIBase.Entails.trans ?_ (h E K)
  iintro ⟨HP, HK⟩
  isplitl [HP]
  · iapply hP; iexact HP
  · iintro HQ; iapply HK; iapply hQ; iexact HQ

/-- A fact in hand of the state, used to run. -/
theorem Runs.of_exists {α ι : Type} {p : Prog (TpuEff nD τ sig (Elt F) Λ₀ .tc) α} {P : ι → sProp 𝕄} {I : ι → Prop} {Q : sProp 𝕄} {a : α}
    (h : ∀ x, I x → Runs c p (P x) a Q) : Runs c p iprop(∃ x, ⌜I x⌝ ∗ P x) a Q := by
  intro E K
  iintro ⟨⟨%x, %hx, HP⟩, HK⟩
  iapply (h x hx E K)
  isplitl [HP] <;> iassumption

/-- A load through a memref owned at `X` returns `X` on the rectangle. -/
theorem Runs.load {sh : Shape} {e : EltTy} {m : Memref sig .tc .vmem sh e} {r : Rect sh} {hl : m.view.LoadsAt r.toLoadRect}
    {P : sProp 𝕄} {X : sh.Idx → Elt F e}
    (h : P ⊢ iprop(owns (c : Thread nD τ) m fullShare X ∗ (owns (c : Thread nD τ) m fullShare X -∗ P))) :
    Runs c (Prog.lift (.load m r.toLoadRect hl)) P (fun j => X (r.emb j)) P := by
  intro E K
  iintro ⟨HP, HK⟩
  ihave H := h $$ HP
  icases H with ⟨HO, HP⟩
  unfold owns
  icases HO with ⟨%f, %hf, HO⟩
  iapply (wp_load_rect Variants.none (c : Thread nD τ) none E (m := m) (r := r) (hl := hl) (k := .ret) (f := f) (S := m.view.set) (View.set_slice_subset m.view r)) $$ HO
  iintro HO
  have e : (m.access r).read (Elt F) f = fun j => X (r.emb j) := by subst hf; rfl
  rw [e, wp_ret]
  imodintro
  iapply HK
  iapply HP
  iexists f
  isplitr; · ipureintro; exact hf
  iexact HO

/-- Reading after a store: the rectangle's part replaced. -/
theorem read_write_overlay {sh : Shape} {e : EltTy} (m : Memref sig .tc .vmem sh e) (r : Rect sh) (w : r.shape.Idx → Elt F e)
    (f : m.view.ty.Contents (Elt F)) :
    m.view.read (Elt F) ((m.access r).write (Elt F) f w Finset.univ) = r.overlay (m.view.read (Elt F) f) w := by
  funext j
  by_cases hj : j ∈ r.set
  · obtain ⟨i, rfl⟩ := r.exists_idx_of_mem hj
    change m.view.read (Elt F) _ (r.emb i) = r.overlay _ w (r.emb i)
    rw [Rect.overlay_emb]
    exact View.read_slice_write_emb r _ w (Finset.mem_univ i)
  · rw [Rect.overlay_of_not_mem _ _ _ hj]
    exact View.read_slice_write_of_not_mem r _ w _ (by rw [Rect.map_emb_univ]; exact hj)

/-- A store through a memref owned at `X` leaves `X` with the rectangle's part replaced. -/
theorem Runs.store {sh : Shape} {e : EltTy} {m : Memref sig .tc .vmem sh e} {r : Rect sh} {w : r.shape.Idx → Elt F e}
    {hx : (m.access r).Stores Finset.univ} {hm : (Finset.univ : Finset r.shape.Idx) = Finset.univ ∨ ∀ a, r.stride a = 1}
    {P Q : sProp 𝕄} {X : sh.Idx → Elt F e}
    (h : P ⊢ iprop(owns (c : Thread nD τ) m fullShare X ∗ (owns (c : Thread nD τ) m fullShare (r.overlay X w) -∗ Q))) :
    Runs c (Prog.lift (.store m r w Finset.univ hx hm)) P ⟨⟩ Q := by
  intro E K
  iintro ⟨HP, HK⟩
  ihave H := h $$ HP
  icases H with ⟨HO, HP⟩
  unfold owns
  icases HO with ⟨%f, %hf, HO⟩
  iapply (wp_store Variants.none (c : Thread nD τ) none E (m := m) (r := r) (hx := hx) (hm := hm) (k := .ret) (f := f) (S := m.view.set)
    (by rw [View.setOn_univ]; exact View.set_slice_subset m.view r)) $$ HO
  iintro HO
  rw [wp_ret]
  imodintro
  iapply HK
  iapply HP
  iexists ((m.access r).write (Elt F) f w Finset.univ)
  isplitr; · ipureintro; rw [read_write_overlay, hf]
  iexact HO

/-- A loop by what its trips leave. -/
theorem Runs.loop (lp : Scf.Loop 32) (hok : lp.OK) {body : Fin lp.trips → Unit → Prog (TpuEff nD τ sig (Elt F) Λ₀ .tc) Unit}
    (P : ℕ → sProp 𝕄) (h : ∀ k : Fin lp.trips, Runs c (body k ()) (P k.val) () (P (k.val + 1))) :
    Runs c (Scf.Loop.for lp hok () body) (P 0) () (P lp.trips) := by
  intro E K
  refine BIBase.Entails.trans ?_ (Scf.wp_for _ _ _ lp.lb lp.ub lp.st hok () body (fun k _ => P k) (fun k acc => ?_))
  · iintro ⟨HP, HK⟩
    isplitl [HP]; · iexact HP
    iintro %a HP
    iapply HK; iexact HP
  · refine BIBase.Entails.trans ?_ (h k E _)
    iintro HP
    isplitl [HP]; · iexact HP
    iintro HP; iexact HP

end Cert.KernelIdeal.Steps
end
-- ==== Proof.Mem.lean ====
module

public import proofs.«01_k».proof.Proof.Runs
public import Idealize.ShloMosaic.Lib.Pipeline.Value
public import Idealize.ShloMosaic.Lib.Pipeline.ValueKit.Geometry

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! ## The memory of one point -/

/-- The windows and scratch buffers of the body. -/
structure Refs where
  m3 : Memref sig .tc .vmem S512x256 .bf16
  m4 : Memref sig .tc .vmem S16384x256 .bf16
  m5 : Memref sig .tc .vmem S1x256x16384 .bf16
  m6 : Memref sig .tc .vmem S1x1x128 .f32
  m7 : Memref sig .tc .vmem S4x128 .f32
  m8 : Memref sig .tc .vmem S1x256 .f32
  m9 : Memref sig .tc .vmem S512x256 .bf16
  m10 : Memref sig .tc .vmem S2x512x256 .bf16
  m11 : Memref sig .tc .vmem S512x128 .bf16
  m12 : Memref sig .tc .vmem S2x2x512x512 .f32
  m13 : Memref sig .tc .vmem S2x2x1x512 .f32
  m14 : Memref sig .tc .vmem S2x1x512 .f32
  m15 : Memref sig .tc .vmem S2x272x512 .f32

/-- Their contents. -/
structure Mem (F : FTy → Type) where
  /-- queries -/
  a3 : Vec F S512x256 .bf16
  /-- keys -/
  a4 : Vec F S16384x256 .bf16
  /-- values -/
  a5 : Vec F S1x256x16384 .bf16
  /-- slope -/
  a6 : Vec F S1x1x128 .f32
  /-- lambda rows -/
  a7 : Vec F S4x128 .f32
  /-- norm weights -/
  a8 : Vec F S1x256 .f32
  /-- output -/
  a9 : Vec F S512x256 .bf16
  /-- query rows with their constant columns -/
  a10 : Vec F S2x512x256 .bf16
  /-- position columns -/
  a11 : Vec F S512x128 .bf16
  /-- scores -/
  a12 : Vec F S2x2x512x512 .f32
  /-- score maxima -/
  a13 : Vec F S2x2x1x512 .f32
  /-- running maxima -/
  a14 : Vec F S2x1x512 .f32
  /-- accumulators -/
  a15 : Vec F S2x272x512 .f32

/-- The core owns them at these contents. -/
def held (c : Dev nD) (R : Refs) (M : Mem F) : sProp 𝕄 :=
  iprop(owns (c : Thread nD τ) R.m3 fullShare M.a3 ∗ owns (c : Thread nD τ) R.m4 fullShare M.a4 ∗ owns (c : Thread nD τ) R.m5 fullShare M.a5 ∗ owns (c : Thread nD τ) R.m6 fullShare M.a6 ∗ owns (c : Thread nD τ) R.m7 fullShare M.a7 ∗ owns (c : Thread nD τ) R.m8 fullShare M.a8 ∗ owns (c : Thread nD τ) R.m9 fullShare M.a9 ∗ owns (c : Thread nD τ) R.m10 fullShare M.a10 ∗ owns (c : Thread nD τ) R.m11 fullShare M.a11 ∗ owns (c : Thread nD τ) R.m12 fullShare M.a12 ∗ owns (c : Thread nD τ) R.m13 fullShare M.a13 ∗ owns (c : Thread nD τ) R.m14 fullShare M.a14 ∗ owns (c : Thread nD τ) R.m15 fullShare M.a15)

/-- One memref of what is held taken out, with what is held once it is given back at any contents. -/
def Focus (c : Dev nD) {sh : Shape} {e : EltTy} (P : sProp 𝕄) (m : Memref sig .tc .vmem sh e) (X : sh.Idx → Elt F e)
    (upd : (sh.Idx → Elt F e) → sProp 𝕄) : Prop :=
  P ⊢ iprop(owns (c : Thread nD τ) m fullShare X ∗ (∀ Y, owns (c : Thread nD τ) m fullShare Y -∗ upd Y))

variable {c : Dev nD} {R : Refs}

theorem foc3 (M : Mem F) : Focus c (held c R M) R.m3 M.a3 (fun Y => held c R { M with a3 := Y }) := by
  unfold Focus held
  iintro ⟨H3, H4, H5, H6, H7, H8, H9, H10, H11, H12, H13, H14, H15⟩
  isplitl [H3]; · iexact H3
  iintro %Y H3
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc4 (M : Mem F) : Focus c (held c R M) R.m4 M.a4 (fun Y => held c R { M with a4 := Y }) := by
  unfold Focus held
  iintro ⟨H3, H4, H5, H6, H7, H8, H9, H10, H11, H12, H13, H14, H15⟩
  isplitl [H4]; · iexact H4
  iintro %Y H4
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc5 (M : Mem F) : Focus c (held c R M) R.m5 M.a5 (fun Y => held c R { M with a5 := Y }) := by
  unfold Focus held
  iintro ⟨H3, H4, H5, H6, H7, H8, H9, H10, H11, H12, H13, H14, H15⟩
  isplitl [H5]; · iexact H5
  iintro %Y H5
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc6 (M : Mem F) : Focus c (held c R M) R.m6 M.a6 (fun Y => held c R { M with a6 := Y }) := by
  unfold Focus held
  iintro ⟨H3, H4, H5, H6, H7, H8, H9, H10, H11, H12, H13, H14, H15⟩
  isplitl [H6]; · iexact H6
  iintro %Y H6
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc7 (M : Mem F) : Focus c (held c R M) R.m7 M.a7 (fun Y => held c R { M with a7 := Y }) := by
  unfold Focus held
  iintro ⟨H3, H4, H5, H6, H7, H8, H9, H10, H11, H12, H13, H14, H15⟩
  isplitl [H7]; · iexact H7
  iintro %Y H7
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc8 (M : Mem F) : Focus c (held c R M) R.m8 M.a8 (fun Y => held c R { M with a8 := Y }) := by
  unfold Focus held
  iintro ⟨H3, H4, H5, H6, H7, H8, H9, H10, H11, H12, H13, H14, H15⟩
  isplitl [H8]; · iexact H8
  iintro %Y H8
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc9 (M : Mem F) : Focus c (held c R M) R.m9 M.a9 (fun Y => held c R { M with a9 := Y }) := by
  unfold Focus held
  iintro ⟨H3, H4, H5, H6, H7, H8, H9, H10, H11, H12, H13, H14, H15⟩
  isplitl [H9]; · iexact H9
  iintro %Y H9
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc10 (M : Mem F) : Focus c (held c R M) R.m10 M.a10 (fun Y => held c R { M with a10 := Y }) := by
  unfold Focus held
  iintro ⟨H3, H4, H5, H6, H7, H8, H9, H10, H11, H12, H13, H14, H15⟩
  isplitl [H10]; · iexact H10
  iintro %Y H10
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc11 (M : Mem F) : Focus c (held c R M) R.m11 M.a11 (fun Y => held c R { M with a11 := Y }) := by
  unfold Focus held
  iintro ⟨H3, H4, H5, H6, H7, H8, H9, H10, H11, H12, H13, H14, H15⟩
  isplitl [H11]; · iexact H11
  iintro %Y H11
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc12 (M : Mem F) : Focus c (held c R M) R.m12 M.a12 (fun Y => held c R { M with a12 := Y }) := by
  unfold Focus held
  iintro ⟨H3, H4, H5, H6, H7, H8, H9, H10, H11, H12, H13, H14, H15⟩
  isplitl [H12]; · iexact H12
  iintro %Y H12
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc13 (M : Mem F) : Focus c (held c R M) R.m13 M.a13 (fun Y => held c R { M with a13 := Y }) := by
  unfold Focus held
  iintro ⟨H3, H4, H5, H6, H7, H8, H9, H10, H11, H12, H13, H14, H15⟩
  isplitl [H13]; · iexact H13
  iintro %Y H13
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc14 (M : Mem F) : Focus c (held c R M) R.m14 M.a14 (fun Y => held c R { M with a14 := Y }) := by
  unfold Focus held
  iintro ⟨H3, H4, H5, H6, H7, H8, H9, H10, H11, H12, H13, H14, H15⟩
  isplitl [H14]; · iexact H14
  iintro %Y H14
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem foc15 (M : Mem F) : Focus c (held c R M) R.m15 M.a15 (fun Y => held c R { M with a15 := Y }) := by
  unfold Focus held
  iintro ⟨H3, H4, H5, H6, H7, H8, H9, H10, H11, H12, H13, H14, H15⟩
  isplitl [H15]; · iexact H15
  iintro %Y H15
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- A load from what is held. -/
theorem Runs.ld {sh : Shape} {e : EltTy} {m : Memref sig .tc .vmem sh e} {r : Rect sh} {hl : m.view.LoadsAt r.toLoadRect}
    {P : sProp 𝕄} {X : sh.Idx → Elt F e} {upd : (sh.Idx → Elt F e) → sProp 𝕄} (h : Focus c P m X upd) (hP : upd X = P) :
    Runs c (Prog.lift (.load m r.toLoadRect hl)) P (fun j => X (r.emb j)) P := by
  refine Runs.load (X := X) ?_
  refine BIBase.Entails.trans h ?_
  iintro ⟨HO, HW⟩
  isplitl [HO]; · iexact HO
  iintro HO
  rw [← hP]
  iapply HW; iexact HO

/-- A store to what is held. -/
theorem Runs.st {sh : Shape} {e : EltTy} {m : Memref sig .tc .vmem sh e} {r : Rect sh} {w : r.shape.Idx → Elt F e}
    {hx : (m.access r).Stores Finset.univ} {hm : (Finset.univ : Finset r.shape.Idx) = Finset.univ ∨ ∀ a, r.stride a = 1}
    {P : sProp 𝕄} {X : sh.Idx → Elt F e} {upd : (sh.Idx → Elt F e) → sProp 𝕄} (h : Focus c P m X upd) :
    Runs c (Prog.lift (.store m r w Finset.univ hx hm)) P ⟨⟩ (upd (r.overlay X w)) := by
  refine Runs.store (X := X) ?_
  refine BIBase.Entails.trans h ?_
  iintro ⟨HO, HW⟩
  isplitl [HO]; · iexact HO
  iintro HO
  iapply HW; iexact HO

theorem ld3 (M : Mem F) (r : Rect S512x256) (hl : R.m3.view.LoadsAt r.toLoadRect) :
    Runs c (Prog.lift (.load R.m3 r.toLoadRect hl)) (held c R M) (fun j => M.a3 (r.emb j)) (held c R M) :=
  Runs.ld (foc3 M) (congrArg (held c R) (show { M with a3 := M.a3 } = M from rfl))
theorem st3 (M : Mem F) (r : Rect S512x256) (w : r.shape.Idx → F .bf16) (hx : (R.m3.access r).Stores Finset.univ)
    (hm : (Finset.univ : Finset r.shape.Idx) = Finset.univ ∨ ∀ a, r.stride a = 1) :
    Runs c (Prog.lift (.store R.m3 r w Finset.univ hx hm)) (held c R M) ⟨⟩ (held c R { M with a3 := r.overlay M.a3 w }) :=
  Runs.st (foc3 M)

theorem ld4 (M : Mem F) (r : Rect S16384x256) (hl : R.m4.view.LoadsAt r.toLoadRect) :
    Runs c (Prog.lift (.load R.m4 r.toLoadRect hl)) (held c R M) (fun j => M.a4 (r.emb j)) (held c R M) :=
  Runs.ld (foc4 M) (congrArg (held c R) (show { M with a4 := M.a4 } = M from rfl))
theorem st4 (M : Mem F) (r : Rect S16384x256) (w : r.shape.Idx → F .bf16) (hx : (R.m4.access r).Stores Finset.univ)
    (hm : (Finset.univ : Finset r.shape.Idx) = Finset.univ ∨ ∀ a, r.stride a = 1) :
    Runs c (Prog.lift (.store R.m4 r w Finset.univ hx hm)) (held c R M) ⟨⟩ (held c R { M with a4 := r.overlay M.a4 w }) :=
  Runs.st (foc4 M)

theorem ld5 (M : Mem F) (r : Rect S1x256x16384) (hl : R.m5.view.LoadsAt r.toLoadRect) :
    Runs c (Prog.lift (.load R.m5 r.toLoadRect hl)) (held c R M) (fun j => M.a5 (r.emb j)) (held c R M) :=
  Runs.ld (foc5 M) (congrArg (held c R) (show { M with a5 := M.a5 } = M from rfl))
theorem st5 (M : Mem F) (r : Rect S1x256x16384) (w : r.shape.Idx → F .bf16) (hx : (R.m5.access r).Stores Finset.univ)
    (hm : (Finset.univ : Finset r.shape.Idx) = Finset.univ ∨ ∀ a, r.stride a = 1) :
    Runs c (Prog.lift (.store R.m5 r w Finset.univ hx hm)) (held c R M) ⟨⟩ (held c R { M with a5 := r.overlay M.a5 w }) :=
  Runs.st (foc5 M)

theorem ld6 (M : Mem F) (r : Rect S1x1x128) (hl : R.m6.view.LoadsAt r.toLoadRect) :
    Runs c (Prog.lift (.load R.m6 r.toLoadRect hl)) (held c R M) (fun j => M.a6 (r.emb j)) (held c R M) :=
  Runs.ld (foc6 M) (congrArg (held c R) (show { M with a6 := M.a6 } = M from rfl))
theorem st6 (M : Mem F) (r : Rect S1x1x128) (w : r.shape.Idx → F .f32) (hx : (R.m6.access r).Stores Finset.univ)
    (hm : (Finset.univ : Finset r.shape.Idx) = Finset.univ ∨ ∀ a, r.stride a = 1) :
    Runs c (Prog.lift (.store R.m6 r w Finset.univ hx hm)) (held c R M) ⟨⟩ (held c R { M with a6 := r.overlay M.a6 w }) :=
  Runs.st (foc6 M)

theorem ld7 (M : Mem F) (r : Rect S4x128) (hl : R.m7.view.LoadsAt r.toLoadRect) :
    Runs c (Prog.lift (.load R.m7 r.toLoadRect hl)) (held c R M) (fun j => M.a7 (r.emb j)) (held c R M) :=
  Runs.ld (foc7 M) (congrArg (held c R) (show { M with a7 := M.a7 } = M from rfl))
theorem st7 (M : Mem F) (r : Rect S4x128) (w : r.shape.Idx → F .f32) (hx : (R.m7.access r).Stores Finset.univ)
    (hm : (Finset.univ : Finset r.shape.Idx) = Finset.univ ∨ ∀ a, r.stride a = 1) :
    Runs c (Prog.lift (.store R.m7 r w Finset.univ hx hm)) (held c R M) ⟨⟩ (held c R { M with a7 := r.overlay M.a7 w }) :=
  Runs.st (foc7 M)

theorem ld8 (M : Mem F) (r : Rect S1x256) (hl : R.m8.view.LoadsAt r.toLoadRect) :
    Runs c (Prog.lift (.load R.m8 r.toLoadRect hl)) (held c R M) (fun j => M.a8 (r.emb j)) (held c R M) :=
  Runs.ld (foc8 M) (congrArg (held c R) (show { M with a8 := M.a8 } = M from rfl))
theorem st8 (M : Mem F) (r : Rect S1x256) (w : r.shape.Idx → F .f32) (hx : (R.m8.access r).Stores Finset.univ)
    (hm : (Finset.univ : Finset r.shape.Idx) = Finset.univ ∨ ∀ a, r.stride a = 1) :
    Runs c (Prog.lift (.store R.m8 r w Finset.univ hx hm)) (held c R M) ⟨⟩ (held c R { M with a8 := r.overlay M.a8 w }) :=
  Runs.st (foc8 M)

theorem ld9 (M : Mem F) (r : Rect S512x256) (hl : R.m9.view.LoadsAt r.toLoadRect) :
    Runs c (Prog.lift (.load R.m9 r.toLoadRect hl)) (held c R M) (fun j => M.a9 (r.emb j)) (held c R M) :=
  Runs.ld (foc9 M) (congrArg (held c R) (show { M with a9 := M.a9 } = M from rfl))
theorem st9 (M : Mem F) (r : Rect S512x256) (w : r.shape.Idx → F .bf16) (hx : (R.m9.access r).Stores Finset.univ)
    (hm : (Finset.univ : Finset r.shape.Idx) = Finset.univ ∨ ∀ a, r.stride a = 1) :
    Runs c (Prog.lift (.store R.m9 r w Finset.univ hx hm)) (held c R M) ⟨⟩ (held c R { M with a9 := r.overlay M.a9 w }) :=
  Runs.st (foc9 M)

theorem ld10 (M : Mem F) (r : Rect S2x512x256) (hl : R.m10.view.LoadsAt r.toLoadRect) :
    Runs c (Prog.lift (.load R.m10 r.toLoadRect hl)) (held c R M) (fun j => M.a10 (r.emb j)) (held c R M) :=
  Runs.ld (foc10 M) (congrArg (held c R) (show { M with a10 := M.a10 } = M from rfl))
theorem st10 (M : Mem F) (r : Rect S2x512x256) (w : r.shape.Idx → F .bf16) (hx : (R.m10.access r).Stores Finset.univ)
    (hm : (Finset.univ : Finset r.shape.Idx) = Finset.univ ∨ ∀ a, r.stride a = 1) :
    Runs c (Prog.lift (.store R.m10 r w Finset.univ hx hm)) (held c R M) ⟨⟩ (held c R { M with a10 := r.overlay M.a10 w }) :=
  Runs.st (foc10 M)

theorem ld11 (M : Mem F) (r : Rect S512x128) (hl : R.m11.view.LoadsAt r.toLoadRect) :
    Runs c (Prog.lift (.load R.m11 r.toLoadRect hl)) (held c R M) (fun j => M.a11 (r.emb j)) (held c R M) :=
  Runs.ld (foc11 M) (congrArg (held c R) (show { M with a11 := M.a11 } = M from rfl))
theorem st11 (M : Mem F) (r : Rect S512x128) (w : r.shape.Idx → F .bf16) (hx : (R.m11.access r).Stores Finset.univ)
    (hm : (Finset.univ : Finset r.shape.Idx) = Finset.univ ∨ ∀ a, r.stride a = 1) :
    Runs c (Prog.lift (.store R.m11 r w Finset.univ hx hm)) (held c R M) ⟨⟩ (held c R { M with a11 := r.overlay M.a11 w }) :=
  Runs.st (foc11 M)

theorem ld12 (M : Mem F) (r : Rect S2x2x512x512) (hl : R.m12.view.LoadsAt r.toLoadRect) :
    Runs c (Prog.lift (.load R.m12 r.toLoadRect hl)) (held c R M) (fun j => M.a12 (r.emb j)) (held c R M) :=
  Runs.ld (foc12 M) (congrArg (held c R) (show { M with a12 := M.a12 } = M from rfl))
theorem st12 (M : Mem F) (r : Rect S2x2x512x512) (w : r.shape.Idx → F .f32) (hx : (R.m12.access r).Stores Finset.univ)
    (hm : (Finset.univ : Finset r.shape.Idx) = Finset.univ ∨ ∀ a, r.stride a = 1) :
    Runs c (Prog.lift (.store R.m12 r w Finset.univ hx hm)) (held c R M) ⟨⟩ (held c R { M with a12 := r.overlay M.a12 w }) :=
  Runs.st (foc12 M)

theorem ld13 (M : Mem F) (r : Rect S2x2x1x512) (hl : R.m13.view.LoadsAt r.toLoadRect) :
    Runs c (Prog.lift (.load R.m13 r.toLoadRect hl)) (held c R M) (fun j => M.a13 (r.emb j)) (held c R M) :=
  Runs.ld (foc13 M) (congrArg (held c R) (show { M with a13 := M.a13 } = M from rfl))
theorem st13 (M : Mem F) (r : Rect S2x2x1x512) (w : r.shape.Idx → F .f32) (hx : (R.m13.access r).Stores Finset.univ)
    (hm : (Finset.univ : Finset r.shape.Idx) = Finset.univ ∨ ∀ a, r.stride a = 1) :
    Runs c (Prog.lift (.store R.m13 r w Finset.univ hx hm)) (held c R M) ⟨⟩ (held c R { M with a13 := r.overlay M.a13 w }) :=
  Runs.st (foc13 M)

theorem ld14 (M : Mem F) (r : Rect S2x1x512) (hl : R.m14.view.LoadsAt r.toLoadRect) :
    Runs c (Prog.lift (.load R.m14 r.toLoadRect hl)) (held c R M) (fun j => M.a14 (r.emb j)) (held c R M) :=
  Runs.ld (foc14 M) (congrArg (held c R) (show { M with a14 := M.a14 } = M from rfl))
theorem st14 (M : Mem F) (r : Rect S2x1x512) (w : r.shape.Idx → F .f32) (hx : (R.m14.access r).Stores Finset.univ)
    (hm : (Finset.univ : Finset r.shape.Idx) = Finset.univ ∨ ∀ a, r.stride a = 1) :
    Runs c (Prog.lift (.store R.m14 r w Finset.univ hx hm)) (held c R M) ⟨⟩ (held c R { M with a14 := r.overlay M.a14 w }) :=
  Runs.st (foc14 M)

theorem ld15 (M : Mem F) (r : Rect S2x272x512) (hl : R.m15.view.LoadsAt r.toLoadRect) :
    Runs c (Prog.lift (.load R.m15 r.toLoadRect hl)) (held c R M) (fun j => M.a15 (r.emb j)) (held c R M) :=
  Runs.ld (foc15 M) (congrArg (held c R) (show { M with a15 := M.a15 } = M from rfl))
theorem st15 (M : Mem F) (r : Rect S2x272x512) (w : r.shape.Idx → F .f32) (hx : (R.m15.access r).Stores Finset.univ)
    (hm : (Finset.univ : Finset r.shape.Idx) = Finset.univ ∨ ∀ a, r.stride a = 1) :
    Runs c (Prog.lift (.store R.m15 r w Finset.univ hx hm)) (held c R M) ⟨⟩ (held c R { M with a15 := r.overlay M.a15 w }) :=
  Runs.st (foc15 M)

/-! ## The steps' effect on the memory -/

/-- The memory after half a block's scores. -/
def scoreM (f : FVec F S512x512 .f32 → FVec F S512x512 .f32) (off : Fin 2 → ℕ) (hoff : ∀ a, off a + S512x128.size a ≤ S16384x256.size a)
    (b s : ℕ) (hb : b < 2) (hs : s < 2) (M : Mem F) : Mem F :=
  let x : FVec F S512x512 .f32 := f (scoreV (fun j => M.a4 ((Rect.unit (s := S16384x256) off S512x128.size hoff).emb j))
    (fun j => M.a11 ((Rect.unit (s := S512x128) ![0, 0] S512x128.size inb_S512x128_S512x128_0_0).emb j))
    (fun j => M.a10 ((Rect.unit (s := S2x512x256) ![s, 0, 0] S1x512x256.size (inbQ s hs)).emb j)))
  { M with
    a12 := (Rect.unit (s := S2x2x512x512) ![b, s, 0, 0] S1x1x512x512.size (inbS b s hb hs)).overlay M.a12
      (shapeCast S1x1x512x512 x shapeCasts_S512x512_S1x1x512x512)
    a13 := (Rect.unit (s := S2x2x1x512) ![b, s, 0, 0] S1x1x1x512.size (inbB b s hb hs)).overlay M.a13
      (shapeCast S1x1x1x512 (colMax x) shapeCasts_S1x512_S1x1x1x512) }

theorem score_runs (f : FVec F S512x512 .f32 → FVec F S512x512 .f32) (off : Fin 2 → ℕ) (hoff : ∀ a, off a + S512x128.size a ≤ S16384x256.size a)
    (b s : ℕ) (hb : b < 2) (hs : s < 2) (M : Mem F) :
    Runs c (scoreP R.m4 R.m10 R.m11 R.m12 R.m13 f off hoff b s hb hs) (held c R M) ⟨⟩ (held c R (scoreM f off hoff b s hb hs M)) := by
  unfold scoreP
  refine Runs.bind (ld4 M _ _) ?_
  refine Runs.bind (ld11 M _ _) ?_
  refine Runs.bind (ld10 M _ _) ?_
  refine Runs.bind (ld12 M _ _) ?_
  refine Runs.bind (st12 M _ _ _ _) ?_
  refine Runs.bind (ld13 _ _ _) ?_
  refine Runs.conseq .rfl (st13 _ _ _ _ _) ?_
  refine BIBase.Entails.of_eq (congrArg (held c R) ?_)
  unfold scoreM
  dsimp only
  congr 1

/-- The scores in buffer `b` of map `s`. -/
def getS (A : FVec F S2x2x512x512 .f32) (b s : ℕ) (hb : b < 2) (hs : s < 2) : FVec F S512x512 .f32 :=
  shapeCast S512x512 (fun j => A ((Rect.unit (s := S2x2x512x512) ![b, s, 0, 0] S1x1x512x512.size (inbS b s hb hs)).emb j)) shapeCasts_S1x1x512x512_S512x512
/-- Their maxima. -/
def getB (A : FVec F S2x2x1x512 .f32) (b s : ℕ) (hb : b < 2) (hs : s < 2) : FVec F S1x512 .f32 :=
  shapeCast S1x512 (fun j => A ((Rect.unit (s := S2x2x1x512) ![b, s, 0, 0] S1x1x1x512.size (inbB b s hb hs)).emb j)) shapeCasts_S1x1x1x512_S1x512
/-- The running maxima of map `s`. -/
def getM (A : FVec F S2x1x512 .f32) (s : ℕ) (hs : s < 2) : FVec F S1x512 .f32 :=
  shapeCast S1x512 (fun j => A ((Rect.unit (s := S2x1x512) ![s, 0, 0] S1x1x512.size (inbM s hs)).emb j)) shapeCasts_S1x1x512_S1x512
/-- The accumulator of map `s`. -/
def getA (A : FVec F S2x272x512 .f32) (s : ℕ) (hs : s < 2) : FVec F S272x512 .f32 :=
  shapeCast S272x512 (fun j => A ((Rect.unit (s := S2x272x512) ![s, 0, 0] S1x272x512.size (inbA s hs)).emb j)) shapeCasts_S1x272x512_S272x512

/-- The memory after half a block's accumulation. -/
def accM (va : FVec F S272x512 .bf16) (bias : FVec F S1x1 .f32) (b s : ℕ) (hb : b < 2) (hs : s < 2) (M : Mem F) : Mem F :=
  let mn : FVec F S1x512 .f32 := newM (getM M.a14 s hs) (getB M.a13 b s hb hs) bias
  { M with
    a15 := (Rect.unit (s := S2x272x512) ![s, 0, 0] S1x272x512.size (inbA s hs)).overlay M.a15
      (shapeCast S1x272x512 (newAcc (getA M.a15 s hs) (getM M.a14 s hs) mn va (ptV (getS M.a12 b s hb hs) mn bias)) shapeCasts_S272x512_S1x272x512)
    a14 := (Rect.unit (s := S2x1x512) ![s, 0, 0] S1x1x512.size (inbM s hs)).overlay M.a14
      (shapeCast S1x1x512 mn shapeCasts_S1x512_S1x1x512) }

theorem accHalf_runs (va : FVec F S272x512 .bf16) (bias : FVec F S1x1 .f32) (b s : ℕ) (hb : b < 2) (hs : s < 2) (M : Mem F) :
    Runs c (accHalf R.m12 R.m13 R.m14 R.m15 va bias b s hb hs) (held c R M) ⟨⟩ (held c R (accM va bias b s hb hs M)) := by
  unfold accHalf
  refine Runs.bind (ld14 M _ _) ?_
  refine Runs.bind (ld13 M _ _) ?_
  refine Runs.bind (ld12 M _ _) ?_
  refine Runs.bind (ld15 M _ _) ?_
  refine Runs.bind (ld15 M _ _) ?_
  refine Runs.bind (st15 M _ _ _ _) ?_
  refine Runs.bind (ld14 _ _ _) ?_
  refine Runs.conseq .rfl (st14 _ _ _ _ _) ?_
  refine BIBase.Entails.of_eq (congrArg (held c R) ?_)
  unfold accM
  dsimp only
  congr 1

/-- The values of a block, with the rows of ones. -/
def vBlock (v : FVec F S1x256x16384 .bf16) (off : Fin 3 → ℕ) (hoff : ∀ a, off a + S1x256x512.size a ≤ S1x256x16384.size a) : FVec F S272x512 .bf16 :=
  vAug (fun j => v ((Rect.unit (s := S1x256x16384) off S1x256x512.size hoff).emb j))

theorem acc_runs (sl : FVec F S1x1 .f32) (kj qi : BitVec 32) (off : Fin 3 → ℕ) (hoff : ∀ a, off a + S1x256x512.size a ≤ S1x256x16384.size a)
    (b : ℕ) (hb : b < 2) (M : Mem F) :
    Runs c (accP R.m5 R.m12 R.m13 R.m14 R.m15 sl kj qi off hoff b hb) (held c R M) ⟨⟩
      (held c R (accM (vBlock M.a5 off hoff) (biasV sl kj qi) b 1 hb (by omega) (accM (vBlock M.a5 off hoff) (biasV sl kj qi) b 0 hb (by omega) M))) := by
  unfold accP
  refine Runs.bind (ld5 M _ _) ?_
  refine Runs.bind (accHalf_runs _ _ b 0 hb (by omega) M) ?_
  exact accHalf_runs _ _ b 1 hb (by omega) _

/-! ## Reading back -/

theorem getS_same (A : FVec F S2x2x512x512 .f32) (b s : ℕ) (hb : b < 2) (hs : s < 2) (x : FVec F S512x512 .f32) :
    getS ((Rect.unit (s := S2x2x512x512) ![b, s, 0, 0] S1x1x512x512.size (inbS b s hb hs)).overlay A (shapeCast S1x1x512x512 x shapeCasts_S512x512_S1x1x512x512)) b s hb hs = x := by
  unfold getS
  simp only [Rect.overlay_emb]
  exact shapeCast_shapeCast x _ _

theorem getB_same (A : FVec F S2x2x1x512 .f32) (b s : ℕ) (hb : b < 2) (hs : s < 2) (x : FVec F S1x512 .f32) :
    getB ((Rect.unit (s := S2x2x1x512) ![b, s, 0, 0] S1x1x1x512.size (inbB b s hb hs)).overlay A (shapeCast S1x1x1x512 x shapeCasts_S1x512_S1x1x1x512)) b s hb hs = x := by
  unfold getB
  simp only [Rect.overlay_emb]
  exact shapeCast_shapeCast x _ _

theorem getM_same (A : FVec F S2x1x512 .f32) (s : ℕ) (hs : s < 2) (x : FVec F S1x512 .f32) :
    getM ((Rect.unit (s := S2x1x512) ![s, 0, 0] S1x1x512.size (inbM s hs)).overlay A (shapeCast S1x1x512 x shapeCasts_S1x512_S1x1x512)) s hs = x := by
  unfold getM
  simp only [Rect.overlay_emb]
  exact shapeCast_shapeCast x _ _

theorem getA_same (A : FVec F S2x272x512 .f32) (s : ℕ) (hs : s < 2) (x : FVec F S272x512 .f32) :
    getA ((Rect.unit (s := S2x272x512) ![s, 0, 0] S1x272x512.size (inbA s hs)).overlay A (shapeCast S1x272x512 x shapeCasts_S272x512_S1x272x512)) s hs = x := by
  unfold getA
  simp only [Rect.overlay_emb]
  exact shapeCast_shapeCast x _ _

theorem pair_apart {b b' s s' u v : ℕ} (h : b ≠ b' ∨ s ≠ s') (hu : u < 1) (hv : v < 1) (h0 : b ≤ b' + u ∧ b' + u < b + 1) (h1 : s ≤ s' + v ∧ s' + v < s + 1) : False := by
  omega

theorem getS_other (A : FVec F S2x2x512x512 .f32) (b s b' s' : ℕ) (hb : b < 2) (hs : s < 2) (hb' : b' < 2) (hs' : s' < 2) (w) (h : b ≠ b' ∨ s ≠ s') :
    getS ((Rect.unit (s := S2x2x512x512) ![b, s, 0, 0] S1x1x512x512.size (inbS b s hb hs)).overlay A w) b' s' hb' hs' = getS A b' s' hb' hs' := by
  unfold getS
  refine congrArg (fun X => shapeCast _ X _) (funext fun j => ?_)
  refine Rect.overlay_of_not_mem _ _ _ fun hj => ?_
  rw [Rect.mem_set_unit] at hj
  have h0 := hj (0 : Fin 4)
  have h1 := hj (1 : Fin 4)
  rw [ValueKit.rect_emb_unit_val] at h0 h1
  have g0 : (j (0 : Fin 4)).val < 1 := (j (0 : Fin 4)).isLt
  have g1 : (j (1 : Fin 4)).val < 1 := (j (1 : Fin 4)).isLt
  exact pair_apart (u := (j (0 : Fin 4)).val) (v := (j (1 : Fin 4)).val) h g0 g1 h0 h1

theorem getB_other (A : FVec F S2x2x1x512 .f32) (b s b' s' : ℕ) (hb : b < 2) (hs : s < 2) (hb' : b' < 2) (hs' : s' < 2) (w) (h : b ≠ b' ∨ s ≠ s') :
    getB ((Rect.unit (s := S2x2x1x512) ![b, s, 0, 0] S1x1x1x512.size (inbB b s hb hs)).overlay A w) b' s' hb' hs' = getB A b' s' hb' hs' := by
  unfold getB
  refine congrArg (fun X => shapeCast _ X _) (funext fun j => ?_)
  refine Rect.overlay_of_not_mem _ _ _ fun hj => ?_
  rw [Rect.mem_set_unit] at hj
  have h0 := hj (0 : Fin 4)
  have h1 := hj (1 : Fin 4)
  rw [ValueKit.rect_emb_unit_val] at h0 h1
  have g0 : (j (0 : Fin 4)).val < 1 := (j (0 : Fin 4)).isLt
  have g1 : (j (1 : Fin 4)).val < 1 := (j (1 : Fin 4)).isLt
  exact pair_apart (u := (j (0 : Fin 4)).val) (v := (j (1 : Fin 4)).val) h g0 g1 h0 h1

theorem getM_other (A : FVec F S2x1x512 .f32) (s s' : ℕ) (hs : s < 2) (hs' : s' < 2) (w) (h : s ≠ s') :
    getM ((Rect.unit (s := S2x1x512) ![s, 0, 0] S1x1x512.size (inbM s hs)).overlay A w) s' hs' = getM A s' hs' := by
  unfold getM
  congr 1
  funext j
  refine Rect.overlay_of_not_mem _ _ _ fun hj => ?_
  rw [Rect.mem_set_unit] at hj
  have h0 := hj 0
  rw [ValueKit.rect_emb_unit_val] at h0
  have j0 : (j 0).val < 1 := (j 0).isLt
  change s ≤ s' + (j 0).val ∧ s' + (j 0).val < s + 1 at h0
  omega

theorem getA_other (A : FVec F S2x272x512 .f32) (s s' : ℕ) (hs : s < 2) (hs' : s' < 2) (w) (h : s ≠ s') :
    getA ((Rect.unit (s := S2x272x512) ![s, 0, 0] S1x272x512.size (inbA s hs)).overlay A w) s' hs' = getA A s' hs' := by
  unfold getA
  congr 1
  funext j
  refine Rect.overlay_of_not_mem _ _ _ fun hj => ?_
  rw [Rect.mem_set_unit] at hj
  have h0 := hj 0
  rw [ValueKit.rect_emb_unit_val] at h0
  have j0 : (j 0).val < 1 := (j 0).isLt
  change s ≤ s' + (j 0).val ∧ s' + (j 0).val < s + 1 at h0
  omega

end Cert.KernelIdeal.Steps
end
-- ==== Proof.Acc.lean ====
module

public import proofs.«01_k».proof.Proof.Mem

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! ## The memory of one point -/

variable {c : Dev nD} {R : Refs}

attribute [local irreducible] getS getB getM getA scoreV maskV colMax newM newAcc ptV vAug vBlock biasV Rect.overlay shapeCast

/-! ## What the loop computes -/

theorem inbK (n s : ℕ) : ∀ a, (![512 * (n % 32), 128 * (s % 2)] : Fin 2 → ℕ) a + S512x128.size a ≤ S16384x256.size a := by
  intro a; fin_cases a <;> simp [Shape.size] <;> omega
theorem inbV (n : ℕ) : ∀ a, (![0, 0, 512 * (n % 32)] : Fin 3 → ℕ) a + S1x256x512.size a ≤ S1x256x16384.size a := by
  intro a; fin_cases a <;> simp [Shape.size] <;> omega

/-- One query block's data: the memory it starts its loop with, its slope and its number. -/
structure Ctx (F : FTy → Type) where
  M : Mem F
  sl : FVec F S1x1 .f32
  q : ℕ

/-- Key block `n` of map `s`. -/
def kB (K : FVec F S16384x256 .bf16) (n s : ℕ) : FVec F S512x128 .bf16 :=
  fun j => K ((Rect.unit (s := S16384x256) ![512 * (n % 32), 128 * (s % 2)] S512x128.size (inbK n s)).emb j)

/-- The query rows of map `s`. -/
def qB (Q : FVec F S2x512x256 .bf16) (s : ℕ) (hs : s < 2) : FVec F S1x512x256 .bf16 :=
  fun j => Q ((Rect.unit (s := S2x512x256) ![s, 0, 0] S1x512x256.size (inbQ s hs)).emb j)

/-- The position columns. -/
def pB (P : FVec F S512x128 .bf16) : FVec F S512x128 .bf16 :=
  fun j => P ((Rect.unit (s := S512x128) ![0, 0] S512x128.size inb_S512x128_S512x128_0_0).emb j)

/-- The scores of key block `n`. -/
def Ctx.sc (x : Ctx F) (n s : ℕ) (hs : s < 2) : FVec F S512x512 .f32 :=
  scoreV (kB x.M.a4 n s) (pB x.M.a11) (qB x.M.a10 s hs)

/-- The scores of step `n`: the diagonal block masked first, then the earlier blocks in order. -/
def Ctx.blk (x : Ctx F) (n s : ℕ) (hs : s < 2) : FVec F S512x512 .f32 :=
  match n with
  | 0 => maskV (x.sc x.q s hs)
  | n + 1 => x.sc n s hs

/-- The key block of step `n`. -/
def Ctx.key (x : Ctx F) (n : ℕ) : ℕ :=
  match n with
  | 0 => x.q
  | n + 1 => n

/-- The bias of step `n`. -/
def Ctx.bias (x : Ctx F) (n : ℕ) : FVec F S1x1 .f32 := biasV x.sl (BitVec.ofNat 32 (x.key n)) (BitVec.ofNat 32 x.q)

/-- The values of step `n`. -/
def Ctx.val (x : Ctx F) (n : ℕ) : FVec F S272x512 .bf16 := vBlock x.M.a5 ![0, 0, 512 * (x.key n % 32)] (inbV _)

/-- The running maxima and the accumulator before step `n`. -/
def Ctx.ma (x : Ctx F) (s : ℕ) (hs : s < 2) : ℕ → FVec F S1x512 .f32 × FVec F S272x512 .f32
  | 0 => (getM x.M.a14 s hs, getA x.M.a15 s hs)
  | n + 1 =>
    (newM (x.ma s hs n).1 (colMax (x.blk n s hs)) (x.bias n),
      newAcc (x.ma s hs n).2 (x.ma s hs n).1 (newM (x.ma s hs n).1 (colMax (x.blk n s hs)) (x.bias n)) (x.val n)
        (ptV (x.blk n s hs) (newM (x.ma s hs n).1 (colMax (x.blk n s hs)) (x.bias n)) (x.bias n)))

/-! ## The invariant -/

/-- What the loop leaves alone. -/
structure Fix (M₀ M : Mem F) : Prop where
  h3 : M.a3 = M₀.a3
  h4 : M.a4 = M₀.a4
  h5 : M.a5 = M₀.a5
  h6 : M.a6 = M₀.a6
  h7 : M.a7 = M₀.a7
  h8 : M.a8 = M₀.a8
  h9 : M.a9 = M₀.a9
  h10 : M.a10 = M₀.a10
  h11 : M.a11 = M₀.a11

theorem Fix.refl (M : Mem F) : Fix M M := ⟨rfl, rfl, rfl, rfl, rfl, rfl, rfl, rfl, rfl⟩

/-- Buffer `b` of map `s` holds step `n`'s scores and their maxima. -/
structure Sc (x : Ctx F) (b s : ℕ) (hb : b < 2) (hs : s < 2) (n : ℕ) (M : Mem F) : Prop where
  score : getS M.a12 b s hb hs = x.blk n s hs
  max : getB M.a13 b s hb hs = colMax (x.blk n s hs)

/-- The accumulator and running maxima of map `s` are those before step `n`. -/
structure Ac (x : Ctx F) (s : ℕ) (hs : s < 2) (n : ℕ) (M : Mem F) : Prop where
  max : getM M.a14 s hs = (x.ma s hs n).1
  acc : getA M.a15 s hs = (x.ma s hs n).2

theorem scoreM_fix {M₀ M : Mem F} (h : Fix M₀ M) (f off hoff b s hb hs) : Fix M₀ (scoreM f off hoff b s hb hs M) := by
  obtain ⟨h3, h4, h5, h6, h7, h8, h9, h10, h11⟩ := h
  exact ⟨h3, h4, h5, h6, h7, h8, h9, h10, h11⟩

theorem accM_fix {M₀ M : Mem F} (h : Fix M₀ M) (va bias b s hb hs) : Fix M₀ (accM va bias b s hb hs M) := by
  obtain ⟨h3, h4, h5, h6, h7, h8, h9, h10, h11⟩ := h
  exact ⟨h3, h4, h5, h6, h7, h8, h9, h10, h11⟩

/-- Scores of a block past the diagonal one. -/
theorem scoreM_same {x : Ctx F} {M : Mem F} (h : Fix x.M M) {off : Fin 2 → ℕ} (hoff) (b s : ℕ) (hb : b < 2) (hs : s < 2) (n : ℕ)
    (ho : off = ![512 * (n % 32), 128 * (s % 2)]) : Sc x b s hb hs (n + 1) (scoreM id off hoff b s hb hs M) := by
  subst ho
  have e : scoreV (fun j => M.a4 ((Rect.unit (s := S16384x256) ![512 * (n % 32), 128 * (s % 2)] S512x128.size hoff).emb j))
    (fun j => M.a11 ((Rect.unit (s := S512x128) ![0, 0] S512x128.size inb_S512x128_S512x128_0_0).emb j))
    (fun j => M.a10 ((Rect.unit (s := S2x512x256) ![s, 0, 0] S1x512x256.size (inbQ s hs)).emb j)) = x.blk (n + 1) s hs := by
    rw [h.h4, h.h10, h.h11]; rfl
  constructor
  · unfold scoreM; dsimp only; rw [e]; exact getS_same _ _ _ _ _ _
  · unfold scoreM; dsimp only; rw [e]; exact getB_same _ _ _ _ _ _

/-- Scores of the diagonal block. -/
theorem scoreM_diag {x : Ctx F} {M : Mem F} (h : Fix x.M M) {off : Fin 2 → ℕ} (hoff) (b s : ℕ) (hb : b < 2) (hs : s < 2)
    (ho : off = ![512 * (x.q % 32), 128 * (s % 2)]) : Sc x b s hb hs 0 (scoreM maskV off hoff b s hb hs M) := by
  subst ho
  have e : maskV (scoreV (fun j => M.a4 ((Rect.unit (s := S16384x256) ![512 * (x.q % 32), 128 * (s % 2)] S512x128.size hoff).emb j))
    (fun j => M.a11 ((Rect.unit (s := S512x128) ![0, 0] S512x128.size inb_S512x128_S512x128_0_0).emb j))
    (fun j => M.a10 ((Rect.unit (s := S2x512x256) ![s, 0, 0] S1x512x256.size (inbQ s hs)).emb j))) = x.blk 0 s hs := by
    rw [h.h4, h.h10, h.h11]; rfl
  constructor
  · unfold scoreM; dsimp only; rw [e]; exact getS_same _ _ _ _ _ _
  · unfold scoreM; dsimp only; rw [e]; exact getB_same _ _ _ _ _ _

theorem scoreM_other {x : Ctx F} {M : Mem F} {b' s' : ℕ} {hb' : b' < 2} {hs' : s' < 2} {m : ℕ} (h : Sc x b' s' hb' hs' m M)
    (f off hoff) (b s : ℕ) (hb : b < 2) (hs : s < 2) (hne : b ≠ b' ∨ s ≠ s') : Sc x b' s' hb' hs' m (scoreM f off hoff b s hb hs M) := by
  constructor
  · unfold scoreM; dsimp only; exact (getS_other _ _ _ _ _ hb hs _ _ _ hne).trans h.score
  · unfold scoreM; dsimp only; exact (getB_other _ _ _ _ _ hb hs _ _ _ hne).trans h.max

theorem scoreM_ac {x : Ctx F} {M : Mem F} {s' : ℕ} {hs' : s' < 2} {m : ℕ} (h : Ac x s' hs' m M)
    (f off hoff) (b s : ℕ) (hb : b < 2) (hs : s < 2) : Ac x s' hs' m (scoreM f off hoff b s hb hs M) := ⟨h.max, h.acc⟩

theorem accM_sc {x : Ctx F} {M : Mem F} {b' s' : ℕ} {hb' : b' < 2} {hs' : s' < 2} {m : ℕ} (h : Sc x b' s' hb' hs' m M)
    (va bias) (b s : ℕ) (hb : b < 2) (hs : s < 2) : Sc x b' s' hb' hs' m (accM va bias b s hb hs M) := ⟨h.score, h.max⟩

theorem accM_same {x : Ctx F} {M : Mem F} {b s n : ℕ} {hb : b < 2} {hs : s < 2} (h : Ac x s hs n M) (h' : Sc x b s hb hs n M)
    {va bias} (hv : va = x.val n) (hb' : bias = x.bias n) : Ac x s hs (n + 1) (accM va bias b s hb hs M) := by
  subst hv hb'
  constructor
  · unfold accM; dsimp only
    rw [getM_same, h.max, h'.max]; rfl
  · unfold accM; dsimp only
    rw [getA_same, h.max, h.acc, h'.max, h'.score]; rfl

theorem accM_other {x : Ctx F} {M : Mem F} {s' m : ℕ} {hs' : s' < 2} (h : Ac x s' hs' m M)
    (va bias) (b s : ℕ) (hb : b < 2) (hs : s < 2) (hne : s ≠ s') : Ac x s' hs' m (accM va bias b s hb hs M) := by
  constructor
  · unfold accM; dsimp only; exact (getM_other _ _ _ hs _ _ hne).trans h.max
  · unfold accM; dsimp only; exact (getA_other _ _ _ hs _ _ hne).trans h.acc

/-- Before step `n`: its scores lie in buffer `b`. -/
structure Inv (x : Ctx F) (b : ℕ) (hb : b < 2) (n : ℕ) (M : Mem F) : Prop where
  fix : Fix x.M M
  s0 : Sc x b 0 hb (by omega) n M
  s1 : Sc x b 1 hb (by omega) n M
  a0 : Ac x 0 (by omega) n M
  a1 : Ac x 1 (by omega) n M

/-- The memory after a block's accumulation. -/
abbrev acc2M (va : FVec F S272x512 .bf16) (bias : FVec F S1x1 .f32) (b : ℕ) (hb : b < 2) (M : Mem F) : Mem F :=
  accM va bias b 1 hb (by omega) (accM va bias b 0 hb (by omega) M)

/-- The accumulators after a step, wherever its scores lie. -/
theorem acc2_ac {x : Ctx F} {b : ℕ} {hb : b < 2} {n : ℕ} {M : Mem F} (s0 : Sc x b 0 hb (by omega) n M) (s1 : Sc x b 1 hb (by omega) n M)
    (a0 : Ac x 0 (by omega) n M) (a1 : Ac x 1 (by omega) n M) {va bias} (hv : va = x.val n) (hb' : bias = x.bias n) :
    Ac x 0 (by omega) (n + 1) (acc2M va bias b hb M) ∧ Ac x 1 (by omega) (n + 1) (acc2M va bias b hb M) :=
  ⟨accM_other (accM_same a0 s0 hv hb') _ _ _ _ _ _ (by omega),
    accM_same (accM_other a1 _ _ _ _ _ _ (by omega)) (accM_sc s1 _ _ _ _ _ _) hv hb'⟩

/-- One step with the next one's scores computed ahead into the other buffer. -/
theorem step_inv {x : Ctx F} {b b' : ℕ} {hb : b < 2} {hb' : b' < 2} (hbb : b' ≠ b) {n : ℕ} {M : Mem F} (h : Inv x b hb n M)
    {o1 o2 : Fin 2 → ℕ} {h1 h2} (e1 : o1 = ![512 * (n % 32), 128 * (0 % 2)]) (e2 : o2 = ![512 * (n % 32), 128 * (1 % 2)])
    {va bias} (hv : va = x.val n) (hbi : bias = x.bias n) :
    Inv x b' hb' (n + 1) (acc2M va bias b hb (scoreM id o2 h2 b' 1 hb' (by omega) (scoreM id o1 h1 b' 0 hb' (by omega) M))) := by
  have f1 := scoreM_fix h.fix id o1 h1 b' 0 hb' (by omega)
  have t0 := scoreM_other (scoreM_other h.s0 id o1 h1 b' 0 hb' (by omega) (.inl hbb)) id o2 h2 b' 1 hb' (by omega) (.inl hbb)
  have t1 := scoreM_other (scoreM_other h.s1 id o1 h1 b' 0 hb' (by omega) (.inl hbb)) id o2 h2 b' 1 hb' (by omega) (.inl hbb)
  have c0 := scoreM_ac (scoreM_ac h.a0 id o1 h1 b' 0 hb' (by omega)) id o2 h2 b' 1 hb' (by omega)
  have c1 := scoreM_ac (scoreM_ac h.a1 id o1 h1 b' 0 hb' (by omega)) id o2 h2 b' 1 hb' (by omega)
  have A := acc2_ac t0 t1 c0 c1 hv hbi
  exact ⟨accM_fix (accM_fix (scoreM_fix f1 _ _ _ _ _ _ _) _ _ _ _ _ _) _ _ _ _ _ _,
    accM_sc (accM_sc (scoreM_other (scoreM_same h.fix h1 b' 0 hb' (by omega) n e1) _ _ _ _ _ _ _ (.inr (by omega))) _ _ _ _ _ _) _ _ _ _ _ _,
    accM_sc (accM_sc (scoreM_same f1 h2 b' 1 hb' (by omega) n e2) _ _ _ _ _ _) _ _ _ _ _ _, A.1, A.2⟩

/-! ## The words -/

/-- The offset of key block `t`, as the kernel computes it. -/
def kw (t : BitVec 32) (s : ℕ) : Fin 2 → ℕ := ![(Scalar.indexCast (Scalar.muli t 512#32)).toNat, s]
/-- The offset of value block `t`, as the kernel computes it. -/
def vw (t : BitVec 32) : Fin 3 → ℕ := ![0, 0, (Scalar.indexCast (Scalar.muli t 512#32)).toNat]

theorem kw_eq (n : ℕ) (hn : n < 32) (s : ℕ) : kw (BitVec.ofNat 32 n) s = ![512 * (n % 32), s] := by
  unfold kw
  have : ∀ n : Fin 32, (Scalar.indexCast (Scalar.muli (BitVec.ofNat 32 n.val) 512#32)).toNat = 512 * (n.val % 32) := by decide
  rw [this ⟨n, hn⟩]
theorem vw_eq (n : ℕ) (hn : n < 32) : vw (BitVec.ofNat 32 n) = ![0, 0, 512 * (n % 32)] := by
  unfold vw
  have : ∀ n : Fin 32, (Scalar.indexCast (Scalar.muli (BitVec.ofNat 32 n.val) 512#32)).toNat = 512 * (n.val % 32) := by decide
  rw [this ⟨n, hn⟩]

theorem blockOf_eq (x : Ctx F) (hq : x.q < 32) (n : ℕ) (hn : n < 32) : blockOf (BitVec.ofNat 32 x.q) (BitVec.ofNat 32 n) = BitVec.ofNat 32 (x.key n) := by
  cases n with
  | zero => rfl
  | succ n =>
    show _ = BitVec.ofNat 32 n
    have : ∀ n : Fin 31, ∀ q : Fin 32, blockOf (BitVec.ofNat 32 q.val) (BitVec.ofNat 32 (n.val + 1)) = BitVec.ofNat 32 n.val := by decide
    exact this ⟨n, by omega⟩ ⟨x.q, hq⟩

theorem key_lt (x : Ctx F) (hq : x.q < 32) (n : ℕ) (hn : n < 32) : x.key n < 32 := by
  cases n with
  | zero => exact hq
  | succ n => exact (by omega : n < 32)

/-- A pair of blocks. -/
theorem pair_runs (x : Ctx F) (hq : x.q < 32) (n : ℕ) (hn : n + 1 < 32) (t : BitVec 32) (ht : t = BitVec.ofNat 32 n)
    {o1 o2 o4 o5 : Fin 2 → ℕ} {o3 o6 : Fin 3 → ℕ} {h1 h2 h3 h4 h5 h6}
    (e1 : o1 = kw t 0) (e2 : o2 = kw t 128) (e3 : o3 = vw (blockOf (BitVec.ofNat 32 x.q) t))
    (e4 : o4 = kw (Scalar.addi t 1#32) 0) (e5 : o5 = kw (Scalar.addi t 1#32) 128) (e6 : o6 = vw t) :
    Runs c (pairP R.m4 R.m5 R.m10 R.m11 R.m12 R.m13 R.m14 R.m15 x.sl (BitVec.ofNat 32 x.q) t o1 h1 o2 h2 o3 h3 o4 h4 o5 h5 o6 h6)
      iprop(∃ M, ⌜Inv x 0 (by omega) n M⌝ ∗ held c R M) () iprop(∃ M, ⌜Inv x 0 (by omega) (n + 2) M⌝ ∗ held c R M) := by
  subst ht
  have es : Scalar.addi (BitVec.ofNat 32 n) 1#32 = BitVec.ofNat 32 (n + 1) := by
    have : ∀ n : Fin 32, Scalar.addi (BitVec.ofNat 32 n.val) 1#32 = BitVec.ofNat 32 (n.val + 1) := by decide
    exact this ⟨n, by omega⟩
  rw [kw_eq n (by omega)] at e1 e2
  rw [es, kw_eq (n + 1) (by omega)] at e4 e5
  rw [blockOf_eq x hq n (by omega), vw_eq _ (key_lt x hq n (by omega))] at e3
  rw [vw_eq n (by omega)] at e6
  subst e1 e2 e3 e4 e5 e6
  refine Runs.of_exists fun M hM => ?_
  unfold pairP
  refine Runs.bind (score_runs _ _ _ _ _ _ _ _) ?_
  refine Runs.bind (score_runs _ _ _ _ _ _ _ _) ?_
  refine Runs.bind (acc_runs _ _ _ _ _ _ _ _) ?_
  refine Runs.bind (score_runs _ _ _ _ _ _ _ _) ?_
  refine Runs.bind (score_runs _ _ _ _ _ _ _ _) ?_
  refine Runs.conseq .rfl (acc_runs _ _ _ _ _ _ _ _) ?_
  rw [blockOf_eq x hq n (by omega)]
  have i1 := step_inv (b' := 1) (hb' := by omega) (by omega) hM (h1 := h1) (h2 := h2) rfl rfl
    (va := vBlock M.a5 ![0, 0, 512 * (x.key n % 32)] h3) (by rw [hM.fix.h5]; rfl) (rfl : x.bias n = x.bias n)
  have i2 := step_inv (b' := 0) (hb' := by omega) (by omega) i1 (h1 := h4) (h2 := h5) rfl rfl
    (va := vBlock M.a5 ![0, 0, 512 * (n % 32)] h6) (by rw [hM.fix.h5]; rfl) (rfl : x.bias (n + 1) = x.bias (n + 1))
  iintro H
  iexists _
  isplitr [H]
  · ipureintro; exact i2
  · iexact H

end Cert.KernelIdeal.Steps
end
-- ==== Proof.Body.lean ====
module

public import proofs.«01_k».proof.Proof.Acc
public import Idealize.ShloMosaic.Lib.VecWindow

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! ## The memory of one point -/

variable {c : Dev nD} {R : Refs}

attribute [local irreducible] getS getB getM getA scoreV maskV colMax newM newAcc ptV vAug vBlock biasV Rect.overlay shapeCast
  k0_pay2 k0_pay3 k0_pay4 k0_pay444 k0_pay445 k0_pay447 k0_pay448 k0_pay449 k0_pay450

/-! ## Indices and overlays -/

/-- An index of a matrix. -/
def mk2 {a b : ℕ} (x : Fin a) (y : Fin b) : (⟨2, ![a, b]⟩ : Shape).Idx := fun | ⟨0, _⟩ => x | ⟨1, _⟩ => y
/-- An index of a stack of matrices. -/
def mk3 {a b d : ℕ} (x : Fin a) (y : Fin b) (z : Fin d) : (⟨3, ![a, b, d]⟩ : Shape).Idx := fun | ⟨0, _⟩ => x | ⟨1, _⟩ => y | ⟨2, _⟩ => z

theorem overlay_in {s : Shape} {α : Type} {off sz : Fin s.rank → ℕ} {inb} (X : s.Idx → α) (w : (Rect.unit (s := s) off sz inb).shape.Idx → α)
    (j : s.Idx) (k : (Rect.unit (s := s) off sz inb).shape.Idx) (h : ∀ a, (j a).val = off a + (k a).val) :
    (Rect.unit (s := s) off sz inb).overlay X w j = w k := by
  have : j = (Rect.unit (s := s) off sz inb).emb k := funext fun a => Fin.ext (by rw [ValueKit.rect_emb_unit_val]; exact h a)
  rw [this, Rect.overlay_emb]

theorem overlay_out {s : Shape} {α : Type} {off sz : Fin s.rank → ℕ} {inb} (X : s.Idx → α) (w : (Rect.unit (s := s) off sz inb).shape.Idx → α)
    (j : s.Idx) (a : Fin s.rank) (h : (j a).val < off a ∨ off a + sz a ≤ (j a).val) :
    (Rect.unit (s := s) off sz inb).overlay X w j = X j := by
  refine Rect.overlay_of_not_mem _ _ _ fun hj => ?_
  rw [Rect.mem_set_unit] at hj
  have := hj a
  omega

theorem overlay_full {s : Shape} {α : Type} {off : Fin s.rank → ℕ} {inb} (X : s.Idx → α) (w : s.Idx → α) :
    (Rect.unit (s := s) off s.size inb).overlay X w = w := by
  funext j
  have h := Rect.overlay_emb (Rect.unit (s := s) off s.size inb) X w j
  exact (congrArg ((Rect.unit (s := s) off s.size inb).overlay X w) (Rect.emb_unit_full inb j)).symm.trans h

/-- An overlay on the query rows. -/
theorem overlayQ_in {off : Fin 3 → ℕ} {inb : ∀ a, off a + S1x512x128.size a ≤ S2x512x256.size a} (X : FVec F S2x512x256 .bf16)
    (w : FVec F S1x512x128 .bf16) (j : S2x512x256.Idx) (k : S1x512x128.Idx) (h : ∀ a : Fin 3, (j a).val = off a + (k a).val) :
    (Rect.unit (s := S2x512x256) off S1x512x128.size inb).overlay X w j = w k := overlay_in (s := S2x512x256) X w j k h

theorem Runs.ite {α : Type} {q : Prop} [Decidable q] {p : q → Prog (TpuEff nD τ sig (Elt F) Λ₀ .tc) α} {p' : ¬ q → Prog (TpuEff nD τ sig (Elt F) Λ₀ .tc) α}
    {P Q : sProp 𝕄} {a : α} (h : ∀ hq, Runs c (p hq) P a Q) (h' : ∀ hq, Runs c (p' hq) P a Q) : Runs c (dite q p p') P a Q := by
  by_cases hq : q
  · rw [dif_pos hq]; exact h hq
  · rw [dif_neg hq]; exact h' hq

/-! ## The start of a point -/

/-- The head's slope in powers of two. -/
def slV (a : FVec F S1x1x128 .f32) : FVec F S1x1 .f32 :=
  k0_pay445 (fun j => a ((Rect.unit (s := S1x1x128) ![0, 0, 0] S1x1x1.size inb_S1x1x128_S1x1x1_0_0_0).emb j))

/-- The query rows' constant columns. -/
def Cols (A : FVec F S2x512x256 .bf16) : Prop :=
  ∀ (s : Fin 2) (r : Fin 512) (k : Fin 128), A (mk3 s r ⟨128 + k.val, by omega⟩) = k0_pay4 (F := F) (mk3 (0 : Fin 1) r k)

/-- One entry of the two maps' query rows beside the constant columns. -/
def qAt (q : FVec F S512x256 .bf16) (s : Fin 2) (r : Fin 512) (k : Fin 256) : F .bf16 :=
  if h : k.val < 128 then q (mk2 r (⟨128 * s.val + k.val, by omega⟩ : Fin 256))
  else k0_pay4 (F := F) (mk3 (0 : Fin 1) r (⟨k.val - 128, by omega⟩ : Fin 128))

/-- The two maps' query rows beside the constant columns. -/
def qFull (q : FVec F S512x256 .bf16) : FVec F S2x512x256 .bf16 := fun j => qAt q (j (0 : Fin 3)) (j (1 : Fin 3)) (j (2 : Fin 3))

theorem qAt_lt (q : FVec F S512x256 .bf16) (s : Fin 2) (r : Fin 512) (k : Fin 256) (h : k.val < 128) :
    qAt q s r k = q (mk2 r (⟨128 * s.val + k.val, by omega⟩ : Fin 256)) := dif_pos h

theorem qAt_ge (q : FVec F S512x256 .bf16) (s : Fin 2) (r : Fin 512) (k : Fin 128) :
    qAt q s r ⟨128 + k.val, by omega⟩ = k0_pay4 (F := F) (mk3 (0 : Fin 1) r k) := by
  unfold qAt
  rw [dif_neg (by show ¬ (128 + k.val < 128); omega)]
  have e : (⟨(⟨128 + k.val, by omega⟩ : Fin 256).val - 128, by show 128 + k.val - 128 < 128; omega⟩ : Fin 128) = k := Fin.ext (by show 128 + k.val - 128 = k.val; omega)
  exact congrArg (fun z => k0_pay4 (F := F) (mk3 (0 : Fin 1) r z)) e

/-- The memory after the first point's constant columns, or where they are there already. -/
def InitAt (M M' : Mem F) : Prop :=
  M' = { M with a10 := M'.a10, a11 := k0_pay3 (slV M.a6) } ∧ Cols M'.a10

/-- The memory after a point's start. -/
def headM (M : Mem F) : Mem F :=
  { M with a10 := qFull M.a3, a11 := k0_pay3 (slV M.a6), a14 := k0_pay450, a15 := k0_pay449 }

theorem init_runs (harg10 : R.m10.IsWhole) (harg11 : R.m11.IsWhole) (M : Mem F) :
    Runs c (initP R.m10 harg10 R.m11 harg11 (slV M.a6)) (held c R M) ⟨⟩ iprop(∃ M', ⌜InitAt M M'⌝ ∗ held c R M') := by
  unfold initP
  refine Runs.bind (ld11 M _ _) ?_
  refine Runs.bind (st11 M _ _ _ _) ?_
  refine Runs.bind (ld10 _ _ _) ?_
  refine Runs.bind (st10 _ _ _ _ _) ?_
  refine Runs.bind (ld10 _ _ _) ?_
  refine Runs.conseq .rfl (st10 _ _ _ _ _) ?_
  iintro H
  iexists _
  isplitr [H]
  rotate_left
  · iexact H
  · ipureintro
    constructor
    · congr 1
      exact overlay_full _ _
    · intro s r k
      have hs : s.val = 0 ∨ s.val = 1 := by omega
      rcases hs with hs | hs
      · refine (overlay_out _ _ _ (0 : Fin 3) (.inl (by show s.val < 1; omega))).trans ?_
        refine overlayQ_in _ _ _ (mk3 (0 : Fin 1) r k) fun a => ?_
        match a with
        | ⟨0, _⟩ => exact hs
        | ⟨1, _⟩ => exact (Nat.zero_add _).symm
        | ⟨2, _⟩ => rfl
      · refine overlayQ_in _ _ _ (mk3 (0 : Fin 1) r k) fun a => ?_
        match a with
        | ⟨0, _⟩ => exact hs
        | ⟨1, _⟩ => exact (Nat.zero_add _).symm
        | ⟨2, _⟩ => rfl

theorem pay447_apply (v : FVec F S512x128 .bf16) (s : Fin 1) (r : Fin 512) (k : Fin 128) : k0_pay447 v (mk3 s r k) = v (mk2 r k) := by
  unfold k0_pay447
  refine (shapeCast_addUnit_apply _ _ _ _).trans ?_
  rw [shapeCast_self]
  congr 1
  funext a
  match a with
  | ⟨0, _⟩ => rfl
  | ⟨1, _⟩ => rfl
theorem pay448_apply (v : FVec F S512x128 .bf16) (s : Fin 1) (r : Fin 512) (k : Fin 128) : k0_pay448 v (mk3 s r k) = v (mk2 r k) := by
  unfold k0_pay448
  refine (shapeCast_addUnit_apply _ _ _ _).trans ?_
  rw [shapeCast_self]
  congr 1
  funext a
  match a with
  | ⟨0, _⟩ => rfl
  | ⟨1, _⟩ => rfl

theorem idx3_eta (j : S2x512x256.Idx) : j = mk3 (j (0 : Fin 3)) (j (1 : Fin 3)) (j (2 : Fin 3)) := by
  funext a
  match a with
  | ⟨0, _⟩ => rfl
  | ⟨1, _⟩ => rfl
  | ⟨2, _⟩ => rfl

/-- The two copies into the query rows leave `qAt`. -/
theorem start_q (q : FVec F S512x256 .bf16) (A : FVec F S2x512x256 .bf16) (hc : Cols A) (s : Fin 2) (r : Fin 512) (k : Fin 256) :
    (Rect.unit (s := S2x512x256) ![1, 0, 0] S1x512x128.size inb_S2x512x256_S1x512x128_1_0_0).overlay
      ((Rect.unit (s := S2x512x256) ![0, 0, 0] S1x512x128.size inb_S2x512x256_S1x512x128_0_0_0).overlay A
        (k0_pay447 fun j => q ((Rect.unit (s := S512x256) ![0, 0] S512x128.size inb_S512x256_S512x128_0_0).emb j)))
      (k0_pay448 fun j => q ((Rect.unit (s := S512x256) ![0, 128] S512x128.size inb_S512x256_S512x128_0_128).emb j)) (mk3 s r k) = qAt q s r k := by
  by_cases hk' : k.val < 128
  · rw [qAt_lt _ _ _ _ hk']
    have hs' : s.val = 0 ∨ s.val = 1 := by omega
    rcases hs' with hs' | hs'
    · refine (overlay_out _ _ _ (0 : Fin 3) (.inl (by show s.val < 1; omega))).trans ?_
      refine (overlayQ_in _ _ _ (mk3 (0 : Fin 1) r (⟨k.val, hk'⟩ : Fin 128)) fun a => ?_).trans ?_
      · match a with
        | ⟨0, _⟩ => exact hs'
        | ⟨1, _⟩ => exact (Nat.zero_add _).symm
        | ⟨2, _⟩ => exact (Nat.zero_add _).symm
      · refine (pay447_apply _ _ _ _).trans ?_
        congr 1
        funext a
        match a with
        | ⟨0, _⟩ => exact Fin.ext ((ValueKit.rect_emb_unit_val _ _ _ _ _).trans (Nat.zero_add _))
        | ⟨1, _⟩ => exact Fin.ext ((ValueKit.rect_emb_unit_val _ _ _ _ _).trans (by show 0 + k.val = 128 * s.val + k.val; omega))
    · refine (overlayQ_in _ _ _ (mk3 (0 : Fin 1) r (⟨k.val, hk'⟩ : Fin 128)) fun a => ?_).trans ?_
      · match a with
        | ⟨0, _⟩ => exact hs'
        | ⟨1, _⟩ => exact (Nat.zero_add _).symm
        | ⟨2, _⟩ => exact (Nat.zero_add _).symm
      · refine (pay448_apply _ _ _ _).trans ?_
        congr 1
        funext a
        match a with
        | ⟨0, _⟩ => exact Fin.ext ((ValueKit.rect_emb_unit_val _ _ _ _ _).trans (Nat.zero_add _))
        | ⟨1, _⟩ => exact Fin.ext ((ValueKit.rect_emb_unit_val _ _ _ _ _).trans (by show 128 + k.val = 128 * s.val + k.val; omega))
  · refine (overlay_out _ _ _ (2 : Fin 3) (.inr (by show 0 + 128 ≤ k.val; omega))).trans ?_
    refine (overlay_out _ _ _ (2 : Fin 3) (.inr (by show 0 + 128 ≤ k.val; omega))).trans ?_
    have ek : k = (⟨128 + (k.val - 128), by omega⟩ : Fin 256) := Fin.ext (by show k.val = 128 + (k.val - 128); omega)
    have := hc s r ⟨k.val - 128, by omega⟩
    rw [ek]
    refine this.trans ?_
    exact (qAt_ge q s r ⟨k.val - 128, by omega⟩).symm

theorem start_runs (harg10 : R.m10.IsWhole) (M M' : Mem F) (h : InitAt M M') :
    Runs c (startP R.m3 R.m10 harg10 R.m14 R.m15) (held c R M') ⟨⟩ (held c R (headM M)) := by
  obtain ⟨h, hc⟩ := h
  generalize M'.a10 = A at h hc
  subst h
  unfold startP
  refine Runs.bind (ld3 _ _ _) ?_
  refine Runs.bind (ld10 _ _ _) ?_
  refine Runs.bind (st10 _ _ _ _ _) ?_
  refine Runs.bind (ld3 _ _ _) ?_
  refine Runs.bind (ld10 _ _ _) ?_
  refine Runs.bind (st10 _ _ _ _ _) ?_
  refine Runs.bind (ld15 _ _ _) ?_
  refine Runs.bind (st15 _ _ _ _ _) ?_
  refine Runs.bind (ld14 _ _ _) ?_
  refine Runs.conseq .rfl (st14 _ _ _ _ _) (BIBase.Entails.of_eq (congrArg (held c R) ?_))
  unfold headM
  dsimp only
  congr 1
  · funext j
    rw [idx3_eta j]
    exact start_q M.a3 A hc (j (0 : Fin 3)) (j (1 : Fin 3)) (j (2 : Fin 3))
  · exact overlay_full _ _
  · exact overlay_full _ _

theorem cond1_iff (i : grid0.Coords) :
    (Scalar.cmpi .ne (Scalar.extui (Scalar.cmpi .eq (BitVec.ofNat 32 (i 2).val) 0#32)) 0#32) = 1#1 ↔ (i 2).val = 0 := by
  have : ∀ n : Fin 32, (Scalar.cmpi .ne (Scalar.extui (Scalar.cmpi .eq (BitVec.ofNat 32 n.val) 0#32)) 0#32) = 1#1 ↔ n.val = 0 := by decide
  exact this (i 2)

/-- A point's start, given the constant columns where they are not written. -/
theorem head_runs (i : grid0.Coords) (harg10 : R.m10.IsWhole) (harg11 : R.m11.IsWhole) (M : Mem F)
    (h : (i 2).val ≠ 0 → M.a11 = k0_pay3 (slV M.a6) ∧ Cols M.a10) :
    Runs c (headP i R.m3 R.m6 R.m10 harg10 R.m11 harg11 R.m14 R.m15) (held c R M)
      (⟨BitVec.ofNat 32 (i 2).val, slV M.a6, Scalar.muli (BitVec.ofNat 32 (i 2).val) 512#32⟩ : Σ' (arg2 : BitVec 32) (v3 : FVec F S1x1 .f32), BitVec 32) (held c R (headM M)) := by
  unfold headP
  refine Runs.bind (ld6 M _ _) ?_
  have rest : ∀ M', InitAt M M' → Runs c (startP R.m3 R.m10 harg10 R.m14 R.m15 >>= fun _ =>
      Pure.pure (⟨BitVec.ofNat 32 (i 2).val, slV M.a6, Scalar.muli (BitVec.ofNat 32 (i 2).val) 512#32⟩ : Σ' (arg2 : BitVec 32) (v3 : FVec F S1x1 .f32), BitVec 32))
      (held c R M') ⟨BitVec.ofNat 32 (i 2).val, slV M.a6, Scalar.muli (BitVec.ofNat 32 (i 2).val) 512#32⟩ (held c R (headM M)) :=
    fun M' hM' => Runs.bind (start_runs harg10 M M' hM') (Runs.pure _ _)
  dsimp only
  refine Runs.ite (fun hq => ?_) (fun hq => ?_)
  · exact Runs.bind (init_runs harg10 harg11 M) (Runs.of_exists fun M' hM' => rest M' hM')
  · obtain ⟨h1, h2⟩ := h (fun h0 => hq ((cond1_iff i).2 h0))
    exact rest M ⟨by rw [← h1], h2⟩

end Cert.KernelIdeal.Steps
end
-- ==== Proof.Point.lean ====
module

public import proofs.«01_k».proof.Proof.Body

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! ## The memory of one point -/

variable {c : Dev nD} {R : Refs}

attribute [local irreducible] getS getB getM getA scoreV maskV colMax newM newAcc ptV vAug vBlock biasV Rect.overlay shapeCast
  k0_pay2 k0_pay3 k0_pay4 k0_pay444 k0_pay445 k0_pay447 k0_pay448 k0_pay449 k0_pay450

/-! ## The words of the loops and branches -/

theorem trips1 (i : grid0.Coords) : (k0_t1_loop i).trips = (i 2).val / 8 := by
  have : ∀ n : Fin 32, (⟨0#32, Scalar.addi 0#32 (Scalar.muli (Scalar.divsi (Scalar.subi (Scalar.shrui (Scalar.shrui (BitVec.ofNat 32 n.val) 1#32) 2#32) 0#32) 1#32) 1#32), 1#32⟩ : Scf.Loop 32).trips = n.val / 8 := by decide
  exact this (i 2)

theorem trips2 (i : grid0.Coords) : (k0_t2_loop i).trips = 0 := by
  have : ∀ n : Fin 32, (⟨t2lb (BitVec.ofNat 32 n.val), Scalar.addi 0#32 (Scalar.subi (Scalar.shrui (Scalar.shrui (BitVec.ofNat 32 n.val) 1#32) 2#32) 0#32), 1#32⟩ : Scf.Loop 32).trips = 0 := by decide
  exact this (i 2)

theorem word1 (k r : ℕ) (hk : k < 4) (hr : r < 4) :
    Scalar.muli 2#32 (Scalar.addi (Scalar.muli 4#32 (Scf.iv 0#32 1#32 k)) (BitVec.ofNat 32 r)) = BitVec.ofNat 32 (8 * k + 2 * r) := by
  have : ∀ k r : Fin 4, Scalar.muli 2#32 (Scalar.addi (Scalar.muli 4#32 (Scf.iv 0#32 1#32 k.val)) (BitVec.ofNat 32 r.val)) = BitVec.ofNat 32 (8 * k.val + 2 * r.val) := by decide
  exact this ⟨k, hk⟩ ⟨r, hr⟩

theorem word2 (q : ℕ) (hq : q < 32) : Scalar.muli 2#32 (Scalar.muli 4#32 (Scalar.shrui (Scalar.shrui (BitVec.ofNat 32 q) 1#32) 2#32)) = BitVec.ofNat 32 (8 * (q / 8)) := by
  have : ∀ q : Fin 32, Scalar.muli 2#32 (Scalar.muli 4#32 (Scalar.shrui (Scalar.shrui (BitVec.ofNat 32 q.val) 1#32) 2#32)) = BitVec.ofNat 32 (8 * (q.val / 8)) := by decide
  exact this ⟨q, hq⟩

theorem word3 (q : ℕ) (hq : q < 32) : Scalar.muli 2#32 (Scalar.addi (Scalar.muli 4#32 (Scalar.shrui (Scalar.shrui (BitVec.ofNat 32 q) 1#32) 2#32)) 1#32) = BitVec.ofNat 32 (8 * (q / 8) + 2) := by
  have : ∀ q : Fin 32, Scalar.muli 2#32 (Scalar.addi (Scalar.muli 4#32 (Scalar.shrui (Scalar.shrui (BitVec.ofNat 32 q.val) 1#32) 2#32)) 1#32) = BitVec.ofNat 32 (8 * (q.val / 8) + 2) := by decide
  exact this ⟨q, hq⟩

theorem word4 (q : ℕ) (hq : q < 32) (h : q / 2 % 2 = 1) : Scalar.muli 2#32 (Scalar.subi (Scalar.shrui (BitVec.ofNat 32 q) 1#32) 1#32) = BitVec.ofNat 32 (2 * (q / 2) - 2) := by
  have : ∀ q : Fin 32, q.val / 2 % 2 = 1 → Scalar.muli 2#32 (Scalar.subi (Scalar.shrui (BitVec.ofNat 32 q.val) 1#32) 1#32) = BitVec.ofNat 32 (2 * (q.val / 2) - 2) := by decide
  exact this ⟨q, hq⟩ h

theorem word5 (q : ℕ) (hq : q < 32) : rest2 (BitVec.ofNat 32 q) = BitVec.ofNat 32 (2 * (q / 2)) := by
  have : ∀ q : Fin 32, rest2 (BitVec.ofNat 32 q.val) = BitVec.ofNat 32 (2 * (q.val / 2)) := by decide
  exact this ⟨q, hq⟩

theorem cond2_iff (i : grid0.Coords) : k0_cond2 i = 1#1 ↔ (i 2).val / 2 / 2 % 2 = 1 := by
  have : ∀ n : Fin 32, Scalar.cmpi .ne (Scalar.extui (Scalar.cmpi .eq (Scalar.andi (Scalar.shrui (BitVec.ofNat 32 n.val) 1#32) 2#32) 2#32)) 0#32 = 1#1 ↔ n.val / 2 / 2 % 2 = 1 := by decide
  exact this (i 2)
theorem cond3_iff (i : grid0.Coords) : k0_cond3 i = 1#1 ↔ (i 2).val / 2 % 2 = 1 := by
  have : ∀ n : Fin 32, Scalar.cmpi .ne (Scalar.extui (Scalar.cmpi .eq (Scalar.andi (Scalar.shrui (BitVec.ofNat 32 n.val) 1#32) 1#32) 1#32)) 0#32 = 1#1 ↔ n.val / 2 % 2 = 1 := by decide
  exact this (i 2)
theorem cond4_iff (i : grid0.Coords) : k0_cond4 i = 1#1 ↔ (i 2).val % 2 = 1 := by
  have : ∀ n : Fin 32, Scalar.cmpi .ne (Scalar.extui (Scalar.cmpi .eq (Scalar.andi (BitVec.ofNat 32 n.val) 1#32) 1#32)) 0#32 = 1#1 ↔ n.val % 2 = 1 := by decide
  exact this (i 2)
theorem cond5_iff (i : grid0.Coords) : k0_cond5 i = 1#1 ↔ (i 2).val % 2 = 0 := by
  have : ∀ n : Fin 32, Scalar.cmpi .ne (Scalar.extui (Scalar.xori (Scalar.cmpi .eq (Scalar.andi (BitVec.ofNat 32 n.val) 1#32) 1#32) 1#1)) 0#32 = 1#1 ↔ n.val % 2 = 0 := by decide
  exact this (i 2)

/-! ## All the pairs of a point -/

/-- What is held before step `n`, with its scores in the first buffer. -/
abbrev At (c : Dev nD) (R : Refs) (x : Ctx F) (n : ℕ) : sProp 𝕄 := iprop(∃ M, ⌜Inv x 0 (by omega) n M⌝ ∗ held c R M)

/-- The diagonal block's scores and every pair of blocks. -/
theorem pairs_runs (i : grid0.Coords) (x : Ctx F) (hi : (i 2).val = x.q) :
    Runs c (pairsP i R.m4 R.m5 R.m10 R.m11 R.m12 R.m13 R.m14 R.m15 (BitVec.ofNat 32 x.q) x.sl) (held c R x.M)
      ⟨rest2 (BitVec.ofNat 32 x.q), Scalar.cmpi .eq (Scalar.andi (BitVec.ofNat 32 x.q) 1#32) 1#32,
        Scalar.extui (Scalar.cmpi .eq (Scalar.andi (BitVec.ofNat 32 x.q) 1#32) 1#32), 0#32⟩ (At c R x (2 * (x.q / 2))) := by
  have hq : x.q < 32 := hi ▸ (i 2).isLt
  have hw : BitVec.ofNat 32 x.q = BitVec.ofNat 32 (i 2).val := by rw [hi]
  have t1 := trips1 i
  have t2 := trips2 i
  rw [hi] at t1
  unfold pairsP
  refine Runs.bind (score_runs _ _ _ _ _ _ _ _) ?_
  refine Runs.bind (Q := At c R x (8 * 0)) (a := PUnit.unit) (Runs.conseq .rfl (score_runs _ _ _ _ _ _ _ _) ?_) ?_
  · have f1 := scoreM_fix (Fix.refl x.M) maskV (k0_off1 i) (k0_off1_inb i) 0 0 (by omega) (by omega)
    have e1 : k0_off1 i = ![512 * (x.q % 32), 128 * (0 % 2)] := by rw [← kw_eq x.q hq]; rw [hw]; rfl
    have e2 : k0_off2 i = ![512 * (x.q % 32), 128 * (1 % 2)] := by rw [← kw_eq x.q hq]; rw [hw]; rfl
    have I : Inv x 0 (by omega) 0 (scoreM maskV (k0_off2 i) (k0_off2_inb i) 0 1 (by omega) (by omega) (scoreM maskV (k0_off1 i) (k0_off1_inb i) 0 0 (by omega) (by omega) x.M)) :=
      ⟨scoreM_fix f1 _ _ _ _ _ _ _, scoreM_other (scoreM_diag (Fix.refl x.M) (k0_off1_inb i) 0 0 (by omega) (by omega) e1) _ _ _ _ _ _ _ (.inr (by omega)),
        scoreM_diag f1 (k0_off2_inb i) 0 1 (by omega) (by omega) e2, ⟨rfl, rfl⟩, ⟨rfl, rfl⟩⟩
    iintro H
    iexists _
    isplitr [H]
    · ipureintro; exact I
    · iexact H
  refine Runs.bind (Q := At c R x (8 * (k0_t1_loop i).trips)) (a := ())
    (Runs.loop (k0_t1_loop i) (k0_t1_ok i) (fun k => At c R x (8 * k)) fun k => ?_) ?_
  · have hk : k.val < x.q / 8 := t1 ▸ k.isLt
    have step (r : Fin 4) : Runs c (pairT1 i R.m4 R.m5 R.m10 R.m11 R.m12 R.m13 R.m14 R.m15 (BitVec.ofNat 32 x.q) x.sl k r)
        (At c R x (8 * k.val + 2 * r.val)) () (At c R x (8 * k.val + 2 * r.val + 2)) :=
      pair_runs x hq (8 * k.val + 2 * r.val) (by omega) _ (word1 k.val r.val (by omega) r.isLt) rfl rfl (by rw [hw]; rfl) rfl rfl rfl
    exact Runs.bind (step 0) (Runs.bind (step 1) (Runs.bind (step 2) (step 3)))
  refine Runs.bind (Q := At c R x (8 * (k0_t1_loop i).trips)) (a := ())
    (Runs.loop (k0_t2_loop i) (k0_t2_ok i) (fun k => At c R x (8 * (k0_t1_loop i).trips)) fun k => absurd k.isLt (by omega)) ?_
  rw [t1]
  dsimp only
  have c2 := cond2_iff i
  have c3 := cond3_iff i
  rw [hi] at c2 c3
  have p2 (h2 : k0_cond2 i = 1#1) := pair_runs (c := c) (R := R) x hq (8 * (x.q / 8)) (by omega) _ (word2 x.q hq)
    (h1 := k0_off15_inb i h2) (h2 := k0_off16_inb i h2) (h3 := k0_off17_inb i h2) (h4 := k0_off18_inb i h2) (h5 := k0_off19_inb i h2) (h6 := k0_off20_inb i h2)
    (by rw [hw]; rfl) (by rw [hw]; rfl) (by rw [hw]; rfl) (by rw [hw]; rfl) (by rw [hw]; rfl) (by rw [hw]; rfl)
  have p2' (h2 : k0_cond2 i = 1#1) := pair_runs (c := c) (R := R) x hq (8 * (x.q / 8) + 2) (by have := c2.1 h2; omega) _ (word3 x.q hq)
    (h1 := k0_off21_inb i h2) (h2 := k0_off22_inb i h2) (h3 := k0_off23_inb i h2) (h4 := k0_off24_inb i h2) (h5 := k0_off25_inb i h2) (h6 := k0_off26_inb i h2)
    (by rw [hw]; rfl) (by rw [hw]; rfl) (by rw [hw]; rfl) (by rw [hw]; rfl) (by rw [hw]; rfl) (by rw [hw]; rfl)
  have p3 (h3 : k0_cond3 i = 1#1) := pair_runs (c := c) (R := R) x hq (2 * (x.q / 2) - 2) (by omega) _ (word4 x.q hq (c3.1 h3))
    (h1 := k0_off27_inb i h3) (h2 := k0_off28_inb i h3) (h3 := k0_off29_inb i h3) (h4 := k0_off30_inb i h3) (h5 := k0_off31_inb i h3) (h6 := k0_off32_inb i h3)
    (by rw [hw]; rfl) (by rw [hw]; rfl) (by rw [hw]; rfl) (by rw [hw]; rfl) (by rw [hw]; rfl) (by rw [hw]; rfl)
  have en (n : ℕ) (h : n = 2 * (x.q / 2)) : At c R x n ⊢ At c R x (2 * (x.q / 2)) := BIBase.Entails.of_eq (by rw [h])
  have et (n m : ℕ) (h : n = m) : At c R x n ⊢ At c R x m := BIBase.Entails.of_eq (by rw [h])
  by_cases h2 : k0_cond2 i = 1#1
  · have := c2.1 h2
    rw [dif_pos h2]
    refine Runs.bind (p2 h2) (Runs.bind (p2' h2) ?_)
    by_cases h3 : k0_cond3 i = 1#1
    · have := c3.1 h3
      rw [dif_pos h3]
      refine Runs.bind (Runs.conseq (et _ _ (by omega)) (p3 h3) (en _ (by omega))) (Runs.pure _ _)
    · have := mt c3.2 h3
      rw [dif_neg h3]
      exact Runs.conseq (en _ (by omega)) (Runs.pure _ _) .rfl
  · have := mt c2.2 h2
    rw [dif_neg h2]
    by_cases h3 : k0_cond3 i = 1#1
    · have := c3.1 h3
      rw [dif_pos h3]
      refine Runs.bind (Runs.conseq (et _ _ (by omega)) (p3 h3) (en _ (by omega))) (Runs.pure _ _)
    · have := mt c3.2 h3
      rw [dif_neg h3]
      exact Runs.conseq (en _ (by omega)) (Runs.pure _ _) .rfl

/-! ## The output block -/

/-- The output block of accumulators `A` (one each map). -/
def outV (lam : FVec F S4x128 .f32) (g : FVec F S1x256 .f32) (A B : FVec F S272x512 .f32) : FVec F S512x256 .bf16 :=
  k0_pay2 (k0_pay444 lam (fun j => A (mk2 ⟨(j (1 : Fin 3)).val, Nat.lt_of_lt_of_le (j (1 : Fin 3)).isLt (by decide : 256 ≤ 272)⟩ (j (2 : Fin 3))))
    (fun j => A (mk2 (256 : Fin 272) (j (2 : Fin 3))))
    (fun j => B (mk2 ⟨(j (1 : Fin 3)).val, Nat.lt_of_lt_of_le (j (1 : Fin 3)).isLt (by decide : 256 ≤ 272)⟩ (j (2 : Fin 3))))
    (fun j => B (mk2 (256 : Fin 272) (j (2 : Fin 3))))) g

theorem getA_apply (A : FVec F S2x272x512 .f32) (s : ℕ) (hs : s < 2) (r : Fin 272) (k : Fin 512) :
    getA A s hs (mk2 r k) = A (mk3 (⟨s, hs⟩ : Fin 2) r k) := by
  unfold getA
  refine (shapeCast_dropUnit_apply _ _ _ _).trans ?_
  congr 1
  funext a
  match a with
  | ⟨0, _⟩ => exact Fin.ext ((ValueKit.rect_emb_unit_val _ _ _ _ _).trans rfl)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))

/-- A read of some rows of one map's accumulator. -/
theorem read_acc {T : FVec F S2x272x512 .f32} {s : ℕ} {hs : s < 2} {A : FVec F S272x512 .f32} (h : getA T s hs = A) (o : ℕ) (d : ℕ)
    (inb : ∀ a, (![s, o, 0] : Fin 3 → ℕ) a + (![1, d, 512] : Fin 3 → ℕ) a ≤ S2x272x512.size a) (hod : o + d ≤ 272) (j : (⟨3, ![1, d, 512]⟩ : Shape).Idx) :
    T ((Rect.unit (s := S2x272x512) ![s, o, 0] ![1, d, 512] inb).emb j)
      = A (mk2 (⟨o + (j (1 : Fin 3)).val, by have : (j (1 : Fin 3)).val < d := (j (1 : Fin 3)).isLt; omega⟩ : Fin 272) (j (2 : Fin 3))) := by
  subst h
  refine Eq.trans ?_ (getA_apply T s hs _ _).symm
  congr 1
  have h0 : (j (0 : Fin 3)).val < 1 := (j (0 : Fin 3)).isLt
  funext a
  match a with
  | ⟨0, _⟩ => exact Fin.ext ((ValueKit.rect_emb_unit_val _ _ _ _ _).trans (by show s + (j (0 : Fin 3)).val = s; omega))
  | ⟨1, _⟩ => exact Fin.ext (ValueKit.rect_emb_unit_val _ _ _ _ _)
  | ⟨2, _⟩ => exact Fin.ext ((ValueKit.rect_emb_unit_val _ _ _ _ _).trans (Nat.zero_add _))

theorem finish_runs (harg9 : R.m9.IsWhole) (M : Mem F) {A B : FVec F S272x512 .f32} (hA : getA M.a15 0 (by omega) = A) (hB : getA M.a15 1 (by omega) = B) :
    Runs c (finishP R.m7 R.m8 R.m9 harg9 R.m15) (held c R M) ⟨⟩ (held c R { M with a9 := outV M.a7 M.a8 A B }) := by
  unfold finishP
  refine Runs.bind (ld7 _ _ _) ?_
  refine Runs.bind (ld15 _ _ _) ?_
  refine Runs.bind (ld15 _ _ _) ?_
  refine Runs.bind (ld15 _ _ _) ?_
  refine Runs.bind (ld15 _ _ _) ?_
  refine Runs.bind (ld8 _ _ _) ?_
  refine Runs.bind (ld9 _ _ _) ?_
  refine Runs.conseq .rfl (st9 _ _ _ _ _) (BIBase.Entails.of_eq (congrArg (held c R) ?_))
  congr 1
  refine (overlay_full _ _).trans ?_
  have e7 : (fun j => M.a7 ((Rect.unit (s := S4x128) ![0, 0] S4x128.size inb_S4x128_S4x128_0_0).emb j)) = M.a7 := funext fun j => congrArg M.a7 (Rect.emb_unit_full _ j)
  have e8 : (fun j => M.a8 ((Rect.unit (s := S1x256) ![0, 0] S1x256.size inb_S1x256_S1x256_0_0).emb j)) = M.a8 := funext fun j => congrArg M.a8 (Rect.emb_unit_full _ j)
  have a0 : (fun j => M.a15 ((Rect.unit (s := S2x272x512) ![0, 0, 0] S1x256x512.size inb_S2x272x512_S1x256x512_0_0_0).emb j))
      = fun j : S1x256x512.Idx => A (mk2 ⟨(j (1 : Fin 3)).val, Nat.lt_of_lt_of_le (j (1 : Fin 3)).isLt (by decide : 256 ≤ 272)⟩ (j (2 : Fin 3))) :=
    funext fun j => (read_acc hA 0 256 _ (by omega) j).trans (congrArg A (congrArg (mk2 · _) (Fin.ext (Nat.zero_add _))))
  have a1 : (fun j => M.a15 ((Rect.unit (s := S2x272x512) ![1, 0, 0] S1x256x512.size inb_S2x272x512_S1x256x512_1_0_0).emb j))
      = fun j : S1x256x512.Idx => B (mk2 ⟨(j (1 : Fin 3)).val, Nat.lt_of_lt_of_le (j (1 : Fin 3)).isLt (by decide : 256 ≤ 272)⟩ (j (2 : Fin 3))) :=
    funext fun j => (read_acc hB 0 256 _ (by omega) j).trans (congrArg B (congrArg (mk2 · _) (Fin.ext (Nat.zero_add _))))
  have l0 : (fun j => M.a15 ((Rect.unit (s := S2x272x512) ![0, 256, 0] S1x1x512.size inb_S2x272x512_S1x1x512_0_256_0).emb j))
      = fun j : S1x1x512.Idx => A (mk2 (256 : Fin 272) (j (2 : Fin 3))) :=
    funext fun j => (read_acc hA 256 1 _ (by omega) j).trans (congrArg A (congrArg (mk2 · _) (Fin.ext (by
      have : (j (1 : Fin 3)).val < 1 := (j (1 : Fin 3)).isLt
      show 256 + (j (1 : Fin 3)).val = 256; omega))))
  have l1 : (fun j => M.a15 ((Rect.unit (s := S2x272x512) ![1, 256, 0] S1x1x512.size inb_S2x272x512_S1x1x512_1_256_0).emb j))
      = fun j : S1x1x512.Idx => B (mk2 (256 : Fin 272) (j (2 : Fin 3))) :=
    funext fun j => (read_acc hB 256 1 _ (by omega) j).trans (congrArg B (congrArg (mk2 · _) (Fin.ext (by
      have : (j (1 : Fin 3)).val < 1 := (j (1 : Fin 3)).isLt
      show 256 + (j (1 : Fin 3)).val = 256; omega))))
  unfold outV
  rw [e7, e8, a0, a1, l0, l1]

/-- What a point leaves: the output block, with the windows and the constant parts of the scratch as they were. -/
structure Done (x : Ctx F) (M : Mem F) : Prop where
  out : M.a9 = outV x.M.a7 x.M.a8 (x.ma 0 (by omega) (x.q + 1)).2 (x.ma 1 (by omega) (x.q + 1)).2
  h3 : M.a3 = x.M.a3
  h4 : M.a4 = x.M.a4
  h5 : M.a5 = x.M.a5
  h6 : M.a6 = x.M.a6
  h7 : M.a7 = x.M.a7
  h8 : M.a8 = x.M.a8
  h10 : M.a10 = x.M.a10
  h11 : M.a11 = x.M.a11

theorem done_of {x : Ctx F} {M : Mem F} (harg9 : R.m9.IsWhole) (f : Fix x.M M) (a0 : Ac x 0 (by omega) (x.q + 1) M) (a1 : Ac x 1 (by omega) (x.q + 1) M) :
    Runs c (finishP R.m7 R.m8 R.m9 harg9 R.m15) (held c R M) ⟨⟩ iprop(∃ M, ⌜Done x M⌝ ∗ held c R M) := by
  refine Runs.conseq .rfl (finish_runs harg9 M a0.acc a1.acc) ?_
  have D : Done x { M with a9 := outV M.a7 M.a8 (x.ma 0 (by omega) (x.q + 1)).2 (x.ma 1 (by omega) (x.q + 1)).2 } :=
    ⟨by rw [← f.h7, ← f.h8], f.h3, f.h4, f.h5, f.h6, f.h7, f.h8, f.h10, f.h11⟩
  iintro H
  iexists _
  isplitr [H]
  · ipureintro; exact D
  · iexact H

/-- The last block or two and the output block. -/
theorem tail_runs (i : grid0.Coords) (x : Ctx F) (hi : (i 2).val = x.q) (harg9 : R.m9.IsWhole) :
    Runs c (tailP i R.m4 R.m5 R.m7 R.m8 R.m9 harg9 R.m10 R.m11 R.m12 R.m13 R.m14 R.m15 (BitVec.ofNat 32 x.q) (rest2 (BitVec.ofNat 32 x.q)) x.sl)
      (At c R x (2 * (x.q / 2))) ⟨⟩ iprop(∃ M, ⌜Done x M⌝ ∗ held c R M) := by
  have hq : x.q < 32 := hi ▸ (i 2).isLt
  have hw : BitVec.ofNat 32 x.q = BitVec.ofNat 32 (i 2).val := by rw [hi]
  have c4 := cond4_iff i
  have c5 := cond5_iff i
  rw [hi] at c4 c5
  have w := word5 x.q hq
  refine Runs.of_exists fun M hM => ?_
  unfold tailP
  dsimp only
  by_cases h4 : k0_cond4 i = 1#1
  · have h5 : ¬ k0_cond5 i = 1#1 := fun h => by have := c4.1 h4; have := c5.1 h; omega
    have hodd := c4.1 h4
    obtain ⟨n, hn⟩ : ∃ n, n = 2 * (x.q / 2) := ⟨_, rfl⟩
    have hn1 : n + 1 = x.q := by omega
    have e1 : k0_off33 i = ![512 * (n % 32), 128 * (0 % 2)] := by
      refine Eq.trans ?_ (kw_eq n (by omega) _); rw [hn, ← w, hw]; rfl
    have e2 : k0_off34 i = ![512 * (n % 32), 128 * (1 % 2)] := by
      refine Eq.trans ?_ (kw_eq n (by omega) _); rw [hn, ← w, hw]; rfl
    have e3 : k0_off35 i = ![0, 0, 512 * (x.key n % 32)] := by
      refine Eq.trans ?_ (vw_eq _ (key_lt x hq n (by omega)))
      rw [← blockOf_eq x hq n (by omega), hn, ← w, hw]; rfl
    have e4 : k0_off36 i = ![0, 0, 512 * (n % 32)] := by
      refine Eq.trans ?_ (vw_eq n (by omega)); rw [hn, ← w, hw]; rfl
    rw [dif_pos h4]
    rw [← hn] at hM
    rw [w, ← hn, blockOf_eq x hq n (by omega)]
    refine Runs.bind (score_runs _ _ _ _ _ _ _ _) ?_
    refine Runs.bind (score_runs _ _ _ _ _ _ _ _) ?_
    refine Runs.bind (acc_runs _ _ _ _ _ _ _ _) ?_
    have i1 := step_inv (b' := 1) (hb' := by omega) (by omega) hM (h1 := k0_off33_inb i h4) (h2 := k0_off34_inb i h4) e1 e2
      (va := vBlock M.a5 (k0_off35 i) (k0_off35_inb i h4)) (by
        have : ∀ (o : Fin 3 → ℕ) (h), o = ![0, 0, 512 * (x.key n % 32)] → vBlock M.a5 o h = x.val n := by
          intro o h ho; subst ho; rw [hM.fix.h5]; rfl
        exact this _ _ e3) (rfl : x.bias n = x.bias n)
    refine Runs.bind (acc_runs _ _ _ _ _ _ _ _) ?_
    have A := acc2_ac i1.s0 i1.s1 i1.a0 i1.a1 (va := vBlock M.a5 (k0_off36 i) (k0_off36_inb i h4)) (by
        have : ∀ (o : Fin 3 → ℕ) (h), o = ![0, 0, 512 * (n % 32)] → vBlock M.a5 o h = x.val (n + 1) := by
          intro o h ho; subst ho; rw [hM.fix.h5]; rfl
        exact this _ _ e4) (rfl : x.bias (n + 1) = x.bias (n + 1))
    have ea : ∀ (s : ℕ) (hs : s < 2) (M : Mem F), Ac x s hs (n + 1 + 1) M → Ac x s hs (x.q + 1) M := by intro s hs M; rw [hn1]; exact id
    refine Runs.bind (done_of harg9 (accM_fix (accM_fix i1.fix _ _ _ _ _ _) _ _ _ _ _ _) (ea _ _ _ A.1) (ea _ _ _ A.2)) ?_
    rw [dif_neg h5]
    exact Runs.pure _ _
  · have hev : x.q % 2 = 0 := by have := mt c4.2 h4; omega
    have h5 : k0_cond5 i = 1#1 := c5.2 hev
    have hn : 2 * (x.q / 2) = x.q := by omega
    rw [hn] at hM w
    have e3 : k0_off37 i = ![0, 0, 512 * (x.key x.q % 32)] := by
      refine Eq.trans ?_ (vw_eq _ (key_lt x hq x.q hq))
      rw [← blockOf_eq x hq x.q hq]
      rw [show blockOf (BitVec.ofNat 32 x.q) (BitVec.ofNat 32 x.q) = blockOf (BitVec.ofNat 32 x.q) (rest2 (BitVec.ofNat 32 x.q)) by rw [w]]
      rw [hw]; rfl
    rw [dif_neg h4, dif_pos h5]
    rw [w, blockOf_eq x hq x.q hq]
    refine Runs.bind (acc_runs _ _ _ _ _ _ _ _) ?_
    have A := acc2_ac hM.s0 hM.s1 hM.a0 hM.a1 (va := vBlock M.a5 (k0_off37 i) (k0_off37_inb i h5)) (by
        have : ∀ (o : Fin 3 → ℕ) (h), o = ![0, 0, 512 * (x.key x.q % 32)] → vBlock M.a5 o h = x.val x.q := by
          intro o h ho; subst ho; rw [hM.fix.h5]; rfl
        exact this _ _ e3) (rfl : x.bias x.q = x.bias x.q)
    refine Runs.bind (done_of harg9 (accM_fix (accM_fix hM.fix _ _ _ _ _ _) _ _ _ _ _ _) A.1 A.2) ?_
    exact Runs.pure _ _

/-- The data of a point. -/
def ctxOf (M : Mem F) (q : ℕ) : Ctx F := ⟨headM M, slV M.a6, q⟩

/-- The whole body at one point. -/
theorem body_runs (i : grid0.Coords) (harg9 : R.m9.IsWhole) (harg10 : R.m10.IsWhole) (harg11 : R.m11.IsWhole) (M : Mem F)
    (h : (i 2).val ≠ 0 → M.a11 = k0_pay3 (slV M.a6) ∧ Cols M.a10) :
    Runs c (bodyP i R.m3 R.m4 R.m5 R.m6 R.m7 R.m8 R.m9 harg9 R.m10 harg10 R.m11 harg11 R.m12 R.m13 R.m14 R.m15) (held c R M) ⟨⟩
      iprop(∃ M', ⌜Done (ctxOf M (i 2).val) M'⌝ ∗ held c R M') := by
  unfold bodyP
  refine Runs.bind (head_runs i harg10 harg11 M h) ?_
  refine Runs.bind (pairs_runs i (ctxOf M (i 2).val) rfl) ?_
  exact tail_runs i (ctxOf M (i 2).val) rfl harg9

end Cert.KernelIdeal.Steps
end
-- ==== Proof.Launch.lean ====
module

public import proofs.«01_k».proof.Proof.Point
public import proofs.«01_k».proof.Proof.Gen.KernelIdeal.Frame
public import Idealize.ShloMosaic.Lib.Claim

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-! ## The memory of one point -/

open Idealize.ShloMosaic.Pipeline (Dat Cfg Window BodyObligation cellOf)

attribute [local irreducible] getS getB getM getA scoreV maskV colMax newM newAcc ptV vAug vBlock biasV Rect.overlay k0_pay2 k0_pay3 k0_pay4 k0_pay444 k0_pay449 k0_pay450

variable (m : (ℓ : Loc nD τ sig) → Buf (Elt F) ℓ) (ρ : Dev nD → PrngReg)

/-! ## The block of a point -/

/-- A memory holding the given windows, the buffers a point overwrites at zero. -/
def memOf (k3 : Vec F S512x256 .bf16) (k4 : Vec F S16384x256 .bf16) (k5 : Vec F S1x256x16384 .bf16) (k6 : Vec F S1x1x128 .f32)
    (k7 : Vec F S4x128 .f32) (k8 : Vec F S1x256 .f32) : Mem F :=
  ⟨k3, k4, k5, k6, k7, k8, fun _ => FloatOps.ofBits .bf16 0#16, fun _ => FloatOps.ofBits .bf16 0#16, fun _ => FloatOps.ofBits .bf16 0#16,
    fun _ => FloatOps.ofBits .f32 0#32, fun _ => FloatOps.ofBits .f32 0#32, fun _ => FloatOps.ofBits .f32 0#32, fun _ => FloatOps.ofBits .f32 0#32⟩

/-- The output block of a point, from the windows' blocks. -/
def outOf (M : Mem F) (q : ℕ) : FVec F S512x256 .bf16 :=
  outV M.a7 M.a8 ((ctxOf M q).ma 0 (by omega) (q + 1)).2 ((ctxOf M q).ma 1 (by omega) (q + 1)).2

/-- The running maxima and accumulators read only the windows. -/
theorem ma_memOf (M : Mem F) (q s : ℕ) (hs : s < 2) (n : ℕ) :
    (ctxOf M q).ma s hs n = (ctxOf (memOf M.a3 M.a4 M.a5 M.a6 M.a7 M.a8) q).ma s hs n := by
  induction n with
  | zero => rfl
  | succ n ih =>
    have hb : (ctxOf M q).blk n s hs = (ctxOf (memOf M.a3 M.a4 M.a5 M.a6 M.a7 M.a8) q).blk n s hs := by cases n <;> rfl
    have hv : (ctxOf M q).val n = (ctxOf (memOf M.a3 M.a4 M.a5 M.a6 M.a7 M.a8) q).val n := by cases n <;> rfl
    have hi : (ctxOf M q).bias n = (ctxOf (memOf M.a3 M.a4 M.a5 M.a6 M.a7 M.a8) q).bias n := by cases n <;> rfl
    show (_, _) = (_, _)
    rw [ih, hb, hv, hi]

theorem outOf_memOf (M : Mem F) (q : ℕ) : outOf M q = outOf (memOf M.a3 M.a4 M.a5 M.a6 M.a7 M.a8) q := by
  unfold outOf
  rw [ma_memOf M q 0, ma_memOf M q 1]
  rfl

/-- What point `t` leaves in the output window. -/
def outAt (c : Dev nD) (t : Fin cfg0.N) : FVec F S512x256 .bf16 :=
  outOf (memOf (iblk m c 0 t) (iblk m c 1 t) (iblk m c 2 t) (iblk m c 3 t) (iblk m c 4 t) (iblk m c 5 t)) (grid0.coords t 2).val

/-! ## The proof data -/

abbrev ms0_0 (t : Fin cfg0.N) : Memref sig .tc .vmem S512x256 .bf16 := win0_0.stage (cfg0.slots t 0)
abbrev ms0_1 (t : Fin cfg0.N) : Memref sig .tc .vmem S16384x256 .bf16 := win0_1.stage (cfg0.slots t 1)
abbrev ms0_2 (t : Fin cfg0.N) : Memref sig .tc .vmem S1x256x16384 .bf16 := win0_2.stage (cfg0.slots t 2)
abbrev ms0_3 (t : Fin cfg0.N) : Memref sig .tc .vmem S1x1x128 .f32 := win0_3.stage (cfg0.slots t 3)
abbrev ms0_4 (t : Fin cfg0.N) : Memref sig .tc .vmem S4x128 .f32 := win0_4.stage (cfg0.slots t 4)
abbrev ms0_5 (t : Fin cfg0.N) : Memref sig .tc .vmem S1x256 .f32 := win0_5.stage (cfg0.slots t 5)
abbrev ms0_6 (t : Fin cfg0.N) : Memref sig .tc .vmem S512x256 .bf16 := win0_6.stage (cfg0.slots t 6)
abbrev scM0_0 : Memref sig .tc .vmem S2x512x256 .bf16 := Memref.whole cc0_scratch0
abbrev scM0_1 : Memref sig .tc .vmem S512x128 .bf16 := Memref.whole cc0_scratch1
abbrev scM0_2 : Memref sig .tc .vmem S2x2x512x512 .f32 := Memref.whole cc0_scratch2
abbrev scM0_3 : Memref sig .tc .vmem S2x2x1x512 .f32 := Memref.whole cc0_scratch3
abbrev scM0_4 : Memref sig .tc .vmem S2x1x512 .f32 := Memref.whole cc0_scratch4
abbrev scM0_5 : Memref sig .tc .vmem S2x272x512 .f32 := Memref.whole cc0_scratch5

/-- The scratch buffers at some contents, the constant columns in place where `P` says so. -/
def scr (c : Dev nD) (P : Vec F S2x512x256 .bf16 → Vec F S512x128 .bf16 → Prop) : sProp 𝕄 :=
  iprop(∃ s0, ∃ s1, ∃ s2, ∃ s3, ∃ s4, ∃ s5, ⌜P s0 s1⌝ ∗ owns (c : Thread nD τ) scM0_0 fullShare s0 ∗ owns (c : Thread nD τ) scM0_1 fullShare s1 ∗ owns (c : Thread nD τ) scM0_2 fullShare s2
    ∗ owns (c : Thread nD τ) scM0_3 fullShare s3 ∗ owns (c : Thread nD τ) scM0_4 fullShare s4 ∗ owns (c : Thread nD τ) scM0_5 fullShare s5)

/-- Between two points of one head the constant columns are in place, the slope's columns those of that head. -/
def colsAt (c : Dev nD) (t : Fin (cfg0.N + 1)) (s0 : Vec F S2x512x256 .bf16) (s1 : Vec F S512x128 .bf16) : Prop :=
  ∀ h : t.val % 32 ≠ 0, s1 = k0_pay3 (slV (iblk m c 3 ⟨t.val - 1, by have := t.isLt; have : t.val ≠ 0 := fun e => h (by rw [e]); omega⟩)) ∧ Cols s0

/-- The proof data: arrays as found, each input left in place, the output block of every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := iprop(scr c (colsAt m c t) ∗ (∃ r, prngReg c r))
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The slope block does not move within a head. -/
theorem slope_prev (c : Dev nD) (t : Fin cfg0.N) (h : t.val % 32 ≠ 0) :
    iblk m c 3 ⟨t.val - 1, Nat.lt_of_le_of_lt (Nat.sub_le _ _) t.isLt⟩ = iblk m c 3 t := by
  have hf : (cfg0.win 3).fetch t = false := by
    rcases hb : (cfg0.win 3).fetch t with _ | _
    · rfl
    · exact absurd ((fetch0_3 t).mp hb) h
  have e := (dats m 0 c).before_unfetched_in 3 rfl t hf (fun _ => rfl) (iblk m c 3 t)
  rw [before0_3] at e
  refine Eq.trans ?_ e.symm
  unfold Dat.kept
  rw [after0_3]
  rfl

/-! ## The body at every point -/

/-- The run's invariant with the scratch buffers owned at some contents. -/
theorem PhiA0_eq (c : Dev nD) :
    (Pipeline.ΦA spec0 c : sProp 𝕄)
      = iprop(((∃ d, owns (c : Thread nD τ) scM0_0 fullShare d) ∗ (∃ d, owns (c : Thread nD τ) scM0_1 fullShare d) ∗ (∃ d, owns (c : Thread nD τ) scM0_2 fullShare d)
        ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

theorem phi_in (c : Dev nD) : (Pipeline.ΦA spec0 c : sProp 𝕄) ⊢ (dats m 0 c).Φ 0 := by
  rw [show (dats m 0 c).Φ 0 = iprop(scr c (colsAt m c 0) ∗ (∃ r, prngReg c r)) from rfl, PhiA0_eq]
  unfold scr
  iintro ⟨⟨⟨%s0, H0⟩, ⟨%s1, H1⟩, ⟨%s2, H2⟩, ⟨%s3, H3⟩, ⟨%s4, H4⟩, ⟨%s5, H5⟩⟩, Hg⟩
  isplitr [Hg]
  · iexists s0; iexists s1; iexists s2; iexists s3; iexists s4; iexists s5
    isplitr [H0 H1 H2 H3 H4 H5]
    · ipureintro; exact fun h => absurd rfl h
    isplitl [H0]; · iexact H0
    isplitl [H1]; · iexact H1
    isplitl [H2]; · iexact H2
    isplitl [H3]; · iexact H3
    isplitl [H4]; · iexact H4
    iexact H5
  · iexact Hg

theorem phi_out (c : Dev nD) : (dats m 0 c).Φ (Fin.last cfg0.N) ⊢ (Pipeline.ΦA spec0 c : sProp 𝕄) := by
  rw [show (dats m 0 c).Φ (Fin.last cfg0.N) = iprop(scr c (colsAt m c (Fin.last cfg0.N)) ∗ (∃ r, prngReg c r)) from rfl, PhiA0_eq]
  unfold scr
  iintro ⟨⟨%s0, %s1, %s2, %s3, %s4, %s5, %hP, H0, H1, H2, H3, H4, H5⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  · iexact Hg

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

theorem coords2 (t : Fin cfg0.N) : (grid0.coords t 2).val = t.val % 32 := by
  have e : (grid0.coords t 2).val = t.val / 1 % 32 := Pipeline.Grid.coords_val t 2 (by decide) rfl
  rw [e, Nat.div_one]

theorem qFull_cols (q : FVec F S512x256 .bf16) : Cols (qFull q) := fun s r k => qAt_ge q s r k

/-- The windows and buffers of point `t`. -/
def refsAt (t : Fin cfg0.N) : Refs :=
  ⟨ms0_0 t, ms0_1 t, ms0_2 t, ms0_3 t, ms0_4 t, ms0_5 t, ms0_6 t, scM0_0, scM0_1, scM0_2, scM0_3, scM0_4, scM0_5⟩

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6,
    show (dats m 0 c).Φ t.castSucc = iprop(scr c (colsAt m c t.castSucc) ∗ (∃ r, prngReg c r)) from rfl,
    show (dats m 0 c).Φ t.succ = iprop(scr c (colsAt m c t.succ) ∗ (∃ r, prngReg c r)) from rfl, body_eq]
  unfold scr
  iintro ⟨⟨⟨%s0, %s1, %s2, %s3, %s4, %s5, %hP, S0, S1, S2, S3, S4, S5⟩, Hg⟩, Ho, ⟨%d0, H0⟩, ⟨%d1, H1⟩, ⟨%d2, H2⟩, ⟨%d3, H3⟩, ⟨%d4, H4⟩, ⟨%d5, H5⟩, ⟨%d6, H6⟩⟩
  have hpre : ((grid0.coords t) 2).val ≠ 0 → s1 = k0_pay3 (slV (iblk m c 3 t)) ∧ Cols s0 := fun h => by
    rw [coords2] at h
    obtain ⟨h1, h2⟩ := hP h
    exact ⟨h1.trans (congrArg (fun z => k0_pay3 (slV z)) (slope_prev m c t h)), h2⟩
  iapply (body_runs (c := c) (R := refsAt t) (grid0.coords t) (hstage0_6 ((cfg0.slots t 6).cast nbuf0_6)) (Memref.isWhole_whole _) (Memref.isWhole_whole _)
    (⟨iblk m c 0 t, iblk m c 1 t, iblk m c 2 t, iblk m c 3 t, iblk m c 4 t, iblk m c 5 t, (dats m 0 c).before 6 t d6, s0, s1, s2, s3, s4, s5⟩ : Mem F) hpre Set.univ _)
  unfold held refsAt
  isplitr [Hg Ho]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    iexact S5
  iintro ⟨%M', %D, H0, H1, H2, H3, H4, H5, H6, S0, S1, S2, S3, S4, S5⟩
  obtain ⟨e9, e3, e4, e5, e6, e7, e8, e10, e11⟩ := D
  have eo : M'.a9 = outAt m c t := e9.trans (outOf_memOf (⟨iblk m c 0 t, iblk m c 1 t, iblk m c 2 t, iblk m c 3 t, iblk m c 4 t, iblk m c 5 t, (dats m 0 c).before 6 t d6, s0, s1, s2, s3, s4, s5⟩ : Mem F) (grid0.coords t 2).val)
  rw [e3, e4, e5, e6, e7, e8, eo, e10, e11]
  isplitr [Ho H0 H1 H2 H3 H4 H5 H6]
  · isplitr [Hg]
    · iexists _; iexists _; iexists _; iexists _; iexists _; iexists _
      isplitr [S0 S1 S2 S3 S4 S5]
      rotate_left
      · isplitl [S0]; · iexact S0
        isplitl [S1]; · iexact S1
        isplitl [S2]; · iexact S2
        isplitl [S3]; · iexact S3
        isplitl [S4]; · iexact S4
        iexact S5
      · ipureintro
        exact fun _ => ⟨rfl, qFull_cols _⟩
    · iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) :
    defs₀ (F := F) .tc cfg0.body (cfg0.bodyArgs t (cfg0.slots t)) = bodyAt0 t := by
  unfold defs₀; rw [Defs.onTc_tc]

/-- The output window is stored at every point. -/
theorem live6 (t : Fin cfg0.N) : cfg0.idle 6 (cfg0.grid.coords t) = false := by
  show (!(k0_cond4 (grid0.coords t) == 1#1) && !(k0_cond5 (grid0.coords t) == 1#1)) = false
  rcases Nat.mod_two_eq_zero_or_one ((grid0.coords t) 2).val with h | h
  · rw [(cond5_iff _).mpr h, show ((1#1 : BitVec 1) == 1#1) = true from rfl, Bool.not_true, Bool.and_false]
  · rw [(cond4_iff _).mpr h, show ((1#1 : BitVec 1) == 1#1) = true from rfl, Bool.not_true, Bool.false_and]

set_option maxHeartbeats 1000000 in
theorem body_obligation (c : Dev nD) : BodyObligation (dats (F := F) m 0 c) (defs₀ (F := F)) Variants.none () Set.univ := fun t => by
  rw [bigSep_W0, bigSep_W0, defs₀_row, live6]
  exact triple_restated (sound_body m c t) rfl .rfl fun _ => .rfl

/-! ## The run -/

set_option backward.isDefEq.respectTransparency.types false in
/-- Every run of the program ends with each array as the proof data says and every counter at zero. -/
theorem run_main : θ_run defs (onTc (τ := τ) (main (F := F))) (s₀ m ρ) (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := phi_in m) (hout := phi_out m)

/-- The arguments end unchanged and the counters at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The same with the result array at the pipeline's final contents. -/
theorem run_value : θ_run defs (onTc (τ := τ) (main (F := F))) ⟨m, fun _ => 0, ρ⟩ (fun r => ∀ c : Dev nD,
      r.2.mem ((c.tc : Thread nD τ).loc main_v16) = (dats m 0 c).arrAt 6 cfg0.N) :=
  (θ_run defs _ _).mono (fun _ h c => (h.1 c).1 6) (run_main m ρ)

end Cert.KernelIdeal.Steps
end
-- ==== Proof.RefRun.lean ====
module

public import proofs.«01_k».proof.Defs
public import proofs.«01_k».proof.Proof.Gen.ReferenceIdeal
public import Idealize.ShloMosaic.Lib.StableHlo.Run
public import Idealize.ShloMosaic.Lib.Quiescent
public import Idealize.ShloMosaic.Lib.Claim

@[expose] public section

set_option maxRecDepth 65536
set_option synthInstance.maxSize 4096

noncomputable section

/-! The run of the reference: its operations in four stretches, every buffer at their fold. -/

namespace Cert.ReferenceIdeal.Steps

open Idealize.ShloMosaic Idealize.ShloMosaic.TcCoe Idealize.ShloMosaic.StableHlo Idealize.ShloMosaic.Tactic Idealize.SL.Sem
open Cert.ReferenceIdeal Cert.ReferenceIdeal.Gen

variable {F : FTy → Type} [FloatOps F] [Named F]

/-- The masked scores and the value rows. -/
abbrev opsScores : List (HloOp τ sig (Elt F)) :=
  [ nullary main_cst (fun i => FloatOps.ofBits .f32 (lit0 (S8.rowMajor i))),
    reshape main_arg0 main_v0 (rfl : (.f32 : EltTy) = .f32) shapeCasts_S2x16384x2048_S2x16384x8x2x128,
    unary main_v0 main_v1 ((transpose S2x8x2x16384x128 [0, 2, 3, 1, 4] · transposes_S2x16384x8x2x128_S2x8x2x16384x128_0_2_3_1_4) : (⟨S2x16384x8x2x128, .f32⟩ : BufTy).Contents (Elt F) → (⟨S2x8x2x16384x128, .f32⟩ : BufTy).Contents (Elt F)),
    nullary main_cst_0 (constant S_ .f32 0x43000000#32),
    unary main_cst_0 main_v2 (Host.sqrt : (⟨S_, .f32⟩ : BufTy).Contents (Elt F) → (⟨S_, .f32⟩ : BufTy).Contents (Elt F)),
    unary main_v2 main_v3 (broadcastInDim S2x8x2x16384x128 ![] bcast_S_S2x8x2x16384x128 : (⟨S_, .f32⟩ : BufTy).Contents (Elt F) → (⟨S2x8x2x16384x128, .f32⟩ : BufTy).Contents (Elt F)),
    binary main_v1 main_v3 main_v4 (Host.divf : (⟨S2x8x2x16384x128, .f32⟩ : BufTy).Contents (Elt F) → (⟨S2x8x2x16384x128, .f32⟩ : BufTy).Contents (Elt F) → (⟨S2x8x2x16384x128, .f32⟩ : BufTy).Contents (Elt F)),
    unary main_arg1 main_v5 ((extractStridedSlice S2x16384x2048 ![0, 0, 0] · slices_S2x16384x4096_S2x16384x2048_0_0_0) : (⟨S2x16384x4096, .f32⟩ : BufTy).Contents (Elt F) → (⟨S2x16384x2048, .f32⟩ : BufTy).Contents (Elt F)),
    reshape main_v5 main_v6 (rfl : (.f32 : EltTy) = .f32) shapeCasts_S2x16384x2048_S2x16384x8x2x128,
    unary main_v6 main_v7 ((transpose S2x8x2x16384x128 [0, 2, 3, 1, 4] · transposes_S2x16384x8x2x128_S2x8x2x16384x128_0_2_3_1_4) : (⟨S2x16384x8x2x128, .f32⟩ : BufTy).Contents (Elt F) → (⟨S2x8x2x16384x128, .f32⟩ : BufTy).Contents (Elt F)),
    unary main_arg1 main_v8 ((extractStridedSlice S2x16384x2048 ![0, 0, 2048] · slices_S2x16384x4096_S2x16384x2048_0_0_2048) : (⟨S2x16384x4096, .f32⟩ : BufTy).Contents (Elt F) → (⟨S2x16384x2048, .f32⟩ : BufTy).Contents (Elt F)),
    reshape main_v8 main_v9 (rfl : (.f32 : EltTy) = .f32) shapeCasts_S2x16384x2048_S2x16384x8x256,
    unary main_v9 main_v10 ((transpose S2x8x16384x256 [0, 2, 1, 3] · transposes_S2x16384x8x256_S2x8x16384x256_0_2_1_3) : (⟨S2x16384x8x256, .f32⟩ : BufTy).Contents (Elt F) → (⟨S2x8x16384x256, .f32⟩ : BufTy).Contents (Elt F)),
    nullary main_v11 (iotaInDim S16384 32 0),
    unary main_v11 main_v12 (broadcastInDim S16384x1 ![0] bcast_S16384_S16384x1_0 : (⟨S16384, .i32⟩ : BufTy).Contents (Elt F) → (⟨S16384x1, .i32⟩ : BufTy).Contents (Elt F)),
    unary main_v11 main_v13 (broadcastInDim S1x16384 ![1] bcast_S16384_S1x16384_1 : (⟨S16384, .i32⟩ : BufTy).Contents (Elt F) → (⟨S1x16384, .i32⟩ : BufTy).Contents (Elt F)),
    unary main_v12 main_v14 (broadcastInDim S16384x16384 ![0, 1] bcast_S16384x1_S16384x16384_0_1 : (⟨S16384x1, .i32⟩ : BufTy).Contents (Elt F) → (⟨S16384x16384, .i32⟩ : BufTy).Contents (Elt F)),
    unary main_v13 main_v15 (broadcastInDim S16384x16384 ![0, 1] bcast_S1x16384_S16384x16384_0_1 : (⟨S1x16384, .i32⟩ : BufTy).Contents (Elt F) → (⟨S16384x16384, .i32⟩ : BufTy).Contents (Elt F)),
    binary main_v14 main_v15 main_v16 (subi : (⟨S16384x16384, .i32⟩ : BufTy).Contents (Elt F) → (⟨S16384x16384, .i32⟩ : BufTy).Contents (Elt F) → (⟨S16384x16384, .i32⟩ : BufTy).Contents (Elt F)),
    unary main_v16 main_v17 (sitofp .f32 : (⟨S16384x16384, .i32⟩ : BufTy).Contents (Elt F) → (⟨S16384x16384, .f32⟩ : BufTy).Contents (Elt F)),
    binary main_v4 main_v7 main_v18 ((fun l r => Host.dotGeneral dot_S2x8x2x16384x128_S2x8x2x16384x128_S2x8x2x16384x16384_4_4_3_3_012_012 none l r) : (⟨S2x8x2x16384x128, .f32⟩ : BufTy).Contents (Elt F) → (⟨S2x8x2x16384x128, .f32⟩ : BufTy).Contents (Elt F) → (⟨S2x8x2x16384x16384, .f32⟩ : BufTy).Contents (Elt F)),
    unary main_cst main_v19 (broadcastInDim S8x1x1x1 ![0] bcast_S8_S8x1x1x1_0 : (⟨S8, .f32⟩ : BufTy).Contents (Elt F) → (⟨S8x1x1x1, .f32⟩ : BufTy).Contents (Elt F)),
    unary main_v17 main_v20 (broadcastInDim S1x1x16384x16384 ![2, 3] bcast_S16384x16384_S1x1x16384x16384_2_3 : (⟨S16384x16384, .f32⟩ : BufTy).Contents (Elt F) → (⟨S1x1x16384x16384, .f32⟩ : BufTy).Contents (Elt F)),
    unary main_v19 main_v21 (broadcastInDim S8x1x16384x16384 ![0, 1, 2, 3] bcast_S8x1x1x1_S8x1x16384x16384_0_1_2_3 : (⟨S8x1x1x1, .f32⟩ : BufTy).Contents (Elt F) → (⟨S8x1x16384x16384, .f32⟩ : BufTy).Contents (Elt F)),
    unary main_v20 main_v22 (broadcastInDim S8x1x16384x16384 ![0, 1, 2, 3] bcast_S1x1x16384x16384_S8x1x16384x16384_0_1_2_3 : (⟨S1x1x16384x16384, .f32⟩ : BufTy).Contents (Elt F) → (⟨S8x1x16384x16384, .f32⟩ : BufTy).Contents (Elt F)),
    binary main_v21 main_v22 main_v23 (mulf : (⟨S8x1x16384x16384, .f32⟩ : BufTy).Contents (Elt F) → (⟨S8x1x16384x16384, .f32⟩ : BufTy).Contents (Elt F) → (⟨S8x1x16384x16384, .f32⟩ : BufTy).Contents (Elt F)),
    unary main_v23 main_v24 (broadcastInDim S1x8x1x16384x16384 ![1, 2, 3, 4] bcast_S8x1x16384x16384_S1x8x1x16384x16384_1_2_3_4 : (⟨S8x1x16384x16384, .f32⟩ : BufTy).Contents (Elt F) → (⟨S1x8x1x16384x16384, .f32⟩ : BufTy).Contents (Elt F)),
    unary main_v24 main_v25 (broadcastInDim S2x8x2x16384x16384 ![0, 1, 2, 3, 4] bcast_S1x8x1x16384x16384_S2x8x2x16384x16384_0_1_2_3_4 : (⟨S1x8x1x16384x16384, .f32⟩ : BufTy).Contents (Elt F) → (⟨S2x8x2x16384x16384, .f32⟩ : BufTy).Contents (Elt F)),
    binary main_v18 main_v25 main_v26 (subf : (⟨S2x8x2x16384x16384, .f32⟩ : BufTy).Contents (Elt F) → (⟨S2x8x2x16384x16384, .f32⟩ : BufTy).Contents (Elt F) → (⟨S2x8x2x16384x16384, .f32⟩ : BufTy).Contents (Elt F)),
    nullary main_cst_1 (constant S_ .f32 0x00000000#32),
    unary main_cst_1 main_v27 (broadcastInDim S16384x16384 ![] bcast_S_S16384x16384 : (⟨S_, .f32⟩ : BufTy).Contents (Elt F) → (⟨S16384x16384, .f32⟩ : BufTy).Contents (Elt F)),
    binary main_v17 main_v27 main_v28 (cmpf .oge : (⟨S16384x16384, .f32⟩ : BufTy).Contents (Elt F) → (⟨S16384x16384, .f32⟩ : BufTy).Contents (Elt F) → (⟨S16384x16384, .i1⟩ : BufTy).Contents (Elt F)),
    nullary main_cst_2 (constant S_ .f32 0xFF800000#32),
    unary main_cst_2 main_call0_v0 (id : (⟨S_, .f32⟩ : BufTy).Contents (Elt F) → (⟨S_, .f32⟩ : BufTy).Contents (Elt F)),
    unary main_v28 main_call0_v1 (broadcastInDim S2x8x2x16384x16384 ![3, 4] bcast_S16384x16384_S2x8x2x16384x16384_3_4 : (⟨S16384x16384, .i1⟩ : BufTy).Contents (Elt F) → (⟨S2x8x2x16384x16384, .i1⟩ : BufTy).Contents (Elt F)),
    unary main_call0_v0 main_call0_v2 (broadcastInDim S2x8x2x16384x16384 ![] bcast_S_S2x8x2x16384x16384 : (⟨S_, .f32⟩ : BufTy).Contents (Elt F) → (⟨S2x8x2x16384x16384, .f32⟩ : BufTy).Contents (Elt F)),
    ternary main_call0_v1 main_v26 main_call0_v2 main_v29 (select : (⟨S2x8x2x16384x16384, .i1⟩ : BufTy).Contents (Elt F) → (⟨S2x8x2x16384x16384, .f32⟩ : BufTy).Contents (Elt F) → (⟨S2x8x2x16384x16384, .f32⟩ : BufTy).Contents (Elt F) → (⟨S2x8x2x16384x16384, .f32⟩ : BufTy).Contents (Elt F)) ]

/-- The softmax and its product with the values. -/
abbrev opsSoft : List (HloOp τ sig (Elt F)) :=
  [ nullary main_cst_3 (constant S_ .f32 0xFF800000#32),
    binary main_v29 main_cst_3 main_v30 ((fun x v => Host.reduce FloatOps.maximumf x v reducesTo_S2x8x2x16384x16384_S2x8x2x16384_d4 h_S_) : (⟨S2x8x2x16384x16384, .f32⟩ : BufTy).Contents (Elt F) → (⟨S_, .f32⟩ : BufTy).Contents (Elt F) → (⟨S2x8x2x16384, .f32⟩ : BufTy).Contents (Elt F)),
    unary main_v30 main_v31 (broadcastInDim S2x8x2x16384x1 ![0, 1, 2, 3] bcast_S2x8x2x16384_S2x8x2x16384x1_0_1_2_3 : (⟨S2x8x2x16384, .f32⟩ : BufTy).Contents (Elt F) → (⟨S2x8x2x16384x1, .f32⟩ : BufTy).Contents (Elt F)),
    unary main_v31 main_v32 (broadcastInDim S2x8x2x16384x16384 ![0, 1, 2, 3, 4] bcast_S2x8x2x16384x1_S2x8x2x16384x16384_0_1_2_3_4 : (⟨S2x8x2x16384x1, .f32⟩ : BufTy).Contents (Elt F) → (⟨S2x8x2x16384x16384, .f32⟩ : BufTy).Contents (Elt F)),
    binary main_v29 main_v32 main_v33 (subf : (⟨S2x8x2x16384x16384, .f32⟩ : BufTy).Contents (Elt F) → (⟨S2x8x2x16384x16384, .f32⟩ : BufTy).Contents (Elt F) → (⟨S2x8x2x16384x16384, .f32⟩ : BufTy).Contents (Elt F)),
    unary main_v33 main_v34 (Host.exp : (⟨S2x8x2x16384x16384, .f32⟩ : BufTy).Contents (Elt F) → (⟨S2x8x2x16384x16384, .f32⟩ : BufTy).Contents (Elt F)),
    binary main_v34 main_v10 main_v35 ((fun l r => Host.dotGeneral dot_S2x8x2x16384x16384_S2x8x16384x256_S2x8x2x16384x256_4_2_23_3_01_01 none l r) : (⟨S2x8x2x16384x16384, .f32⟩ : BufTy).Contents (Elt F) → (⟨S2x8x16384x256, .f32⟩ : BufTy).Contents (Elt F) → (⟨S2x8x2x16384x256, .f32⟩ : BufTy).Contents (Elt F)),
    nullary main_cst_4 (constant S_ .f32 0x00000000#32),
    binary main_v34 main_cst_4 main_v36 ((fun x v => Host.reduceAdd x v reducesTo_S2x8x2x16384x16384_S2x8x2x16384_d4 h_S_) : (⟨S2x8x2x16384x16384, .f32⟩ : BufTy).Contents (Elt F) → (⟨S_, .f32⟩ : BufTy).Contents (Elt F) → (⟨S2x8x2x16384, .f32⟩ : BufTy).Contents (Elt F)),
    unary main_v36 main_v37 (broadcastInDim S2x8x2x16384x1 ![0, 1, 2, 3] bcast_S2x8x2x16384_S2x8x2x16384x1_0_1_2_3 : (⟨S2x8x2x16384, .f32⟩ : BufTy).Contents (Elt F) → (⟨S2x8x2x16384x1, .f32⟩ : BufTy).Contents (Elt F)),
    unary main_v37 main_v38 (broadcastInDim S2x8x2x16384x256 ![0, 1, 2, 3, 4] bcast_S2x8x2x16384x1_S2x8x2x16384x256_0_1_2_3_4 : (⟨S2x8x2x16384x1, .f32⟩ : BufTy).Contents (Elt F) → (⟨S2x8x2x16384x256, .f32⟩ : BufTy).Contents (Elt F)),
    binary main_v35 main_v38 main_v39 (Host.divf : (⟨S2x8x2x16384x256, .f32⟩ : BufTy).Contents (Elt F) → (⟨S2x8x2x16384x256, .f32⟩ : BufTy).Contents (Elt F) → (⟨S2x8x2x16384x256, .f32⟩ : BufTy).Contents (Elt F)) ]

/-- The scalar of the difference. -/
abbrev opsLam : List (HloOp τ sig (Elt F)) :=
  [ unary main_arg2 main_v40 ((extractStridedSlice S1x128 ![0, 0] · slices_S4x128_S1x128_0_0) : (⟨S4x128, .f32⟩ : BufTy).Contents (Elt F) → (⟨S1x128, .f32⟩ : BufTy).Contents (Elt F)),
    reshape main_v40 main_v41 (rfl : (.f32 : EltTy) = .f32) shapeCasts_S1x128_S128,
    unary main_arg2 main_v42 ((extractStridedSlice S1x128 ![1, 0] · slices_S4x128_S1x128_1_0) : (⟨S4x128, .f32⟩ : BufTy).Contents (Elt F) → (⟨S1x128, .f32⟩ : BufTy).Contents (Elt F)),
    reshape main_v42 main_v43 (rfl : (.f32 : EltTy) = .f32) shapeCasts_S1x128_S128,
    binary main_v41 main_v43 main_v44 (mulf : (⟨S128, .f32⟩ : BufTy).Contents (Elt F) → (⟨S128, .f32⟩ : BufTy).Contents (Elt F) → (⟨S128, .f32⟩ : BufTy).Contents (Elt F)),
    nullary main_cst_5 (constant S_ .f32 0x00000000#32),
    binary main_v44 main_cst_5 main_v45 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    unary main_v45 main_v46 (Host.exp : (⟨S_, .f32⟩ : BufTy).Contents (Elt F) → (⟨S_, .f32⟩ : BufTy).Contents (Elt F)),
    unary main_arg2 main_v47 ((extractStridedSlice S1x128 ![2, 0] · slices_S4x128_S1x128_2_0) : (⟨S4x128, .f32⟩ : BufTy).Contents (Elt F) → (⟨S1x128, .f32⟩ : BufTy).Contents (Elt F)),
    reshape main_v47 main_v48 (rfl : (.f32 : EltTy) = .f32) shapeCasts_S1x128_S128,
    unary main_arg2 main_v49 ((extractStridedSlice S1x128 ![3, 0] · slices_S4x128_S1x128_3_0) : (⟨S4x128, .f32⟩ : BufTy).Contents (Elt F) → (⟨S1x128, .f32⟩ : BufTy).Contents (Elt F)),
    reshape main_v49 main_v50 (rfl : (.f32 : EltTy) = .f32) shapeCasts_S1x128_S128,
    binary main_v48 main_v50 main_v51 (mulf : (⟨S128, .f32⟩ : BufTy).Contents (Elt F) → (⟨S128, .f32⟩ : BufTy).Contents (Elt F) → (⟨S128, .f32⟩ : BufTy).Contents (Elt F)),
    nullary main_cst_6 (constant S_ .f32 0x00000000#32),
    binary main_v51 main_cst_6 main_v52 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    unary main_v52 main_v53 (Host.exp : (⟨S_, .f32⟩ : BufTy).Contents (Elt F) → (⟨S_, .f32⟩ : BufTy).Contents (Elt F)),
    binary main_v46 main_v53 main_v54 (subf : (⟨S_, .f32⟩ : BufTy).Contents (Elt F) → (⟨S_, .f32⟩ : BufTy).Contents (Elt F) → (⟨S_, .f32⟩ : BufTy).Contents (Elt F)),
    nullary main_cst_7 (constant S_ .f32 0x3EB60549#32),
    binary main_v54 main_cst_7 main_v55 (addf : (⟨S_, .f32⟩ : BufTy).Contents (Elt F) → (⟨S_, .f32⟩ : BufTy).Contents (Elt F) → (⟨S_, .f32⟩ : BufTy).Contents (Elt F)) ]

/-- The difference, its normalisation and the result. -/
abbrev opsNorm : List (HloOp τ sig (Elt F)) :=
  [ unary main_v39 main_v56 ((extractStridedSlice S2x8x1x16384x256 ![0, 0, 0, 0, 0] · slices_S2x8x2x16384x256_S2x8x1x16384x256_0_0_0_0_0) : (⟨S2x8x2x16384x256, .f32⟩ : BufTy).Contents (Elt F) → (⟨S2x8x1x16384x256, .f32⟩ : BufTy).Contents (Elt F)),
    reshape main_v56 main_v57 (rfl : (.f32 : EltTy) = .f32) shapeCasts_S2x8x1x16384x256_S2x8x16384x256,
    unary main_v39 main_v58 ((extractStridedSlice S2x8x1x16384x256 ![0, 0, 1, 0, 0] · slices_S2x8x2x16384x256_S2x8x1x16384x256_0_0_1_0_0) : (⟨S2x8x2x16384x256, .f32⟩ : BufTy).Contents (Elt F) → (⟨S2x8x1x16384x256, .f32⟩ : BufTy).Contents (Elt F)),
    reshape main_v58 main_v59 (rfl : (.f32 : EltTy) = .f32) shapeCasts_S2x8x1x16384x256_S2x8x16384x256,
    unary main_v55 main_v60 (broadcastInDim S2x8x16384x256 ![] bcast_S_S2x8x16384x256 : (⟨S_, .f32⟩ : BufTy).Contents (Elt F) → (⟨S2x8x16384x256, .f32⟩ : BufTy).Contents (Elt F)),
    binary main_v60 main_v59 main_v61 (mulf : (⟨S2x8x16384x256, .f32⟩ : BufTy).Contents (Elt F) → (⟨S2x8x16384x256, .f32⟩ : BufTy).Contents (Elt F) → (⟨S2x8x16384x256, .f32⟩ : BufTy).Contents (Elt F)),
    binary main_v57 main_v61 main_v62 (subf : (⟨S2x8x16384x256, .f32⟩ : BufTy).Contents (Elt F) → (⟨S2x8x16384x256, .f32⟩ : BufTy).Contents (Elt F) → (⟨S2x8x16384x256, .f32⟩ : BufTy).Contents (Elt F)),
    binary main_v62 main_v62 main_v63 (mulf : (⟨S2x8x16384x256, .f32⟩ : BufTy).Contents (Elt F) → (⟨S2x8x16384x256, .f32⟩ : BufTy).Contents (Elt F) → (⟨S2x8x16384x256, .f32⟩ : BufTy).Contents (Elt F)),
    nullary main_cst_8 (constant S_ .f32 0x00000000#32),
    binary main_v63 main_cst_8 main_v64 ((fun x v => Host.reduceAdd x v reducesTo_S2x8x16384x256_S2x8x16384_d3 h_S_) : (⟨S2x8x16384x256, .f32⟩ : BufTy).Contents (Elt F) → (⟨S_, .f32⟩ : BufTy).Contents (Elt F) → (⟨S2x8x16384, .f32⟩ : BufTy).Contents (Elt F)),
    unary main_v64 main_v65 (broadcastInDim S2x8x16384x1 ![0, 1, 2] bcast_S2x8x16384_S2x8x16384x1_0_1_2 : (⟨S2x8x16384, .f32⟩ : BufTy).Contents (Elt F) → (⟨S2x8x16384x1, .f32⟩ : BufTy).Contents (Elt F)),
    nullary main_cst_9 (constant S_ .f32 0x43800000#32),
    unary main_cst_9 main_v66 (broadcastInDim S2x8x16384x1 ![] bcast_S_S2x8x16384x1 : (⟨S_, .f32⟩ : BufTy).Contents (Elt F) → (⟨S2x8x16384x1, .f32⟩ : BufTy).Contents (Elt F)),
    binary main_v65 main_v66 main_v67 (Host.divf : (⟨S2x8x16384x1, .f32⟩ : BufTy).Contents (Elt F) → (⟨S2x8x16384x1, .f32⟩ : BufTy).Contents (Elt F) → (⟨S2x8x16384x1, .f32⟩ : BufTy).Contents (Elt F)),
    nullary main_cst_10 (constant S_ .f32 0x358637BD#32),
    unary main_cst_10 main_v68 (broadcastInDim S2x8x16384x1 ![] bcast_S_S2x8x16384x1 : (⟨S_, .f32⟩ : BufTy).Contents (Elt F) → (⟨S2x8x16384x1, .f32⟩ : BufTy).Contents (Elt F)),
    binary main_v67 main_v68 main_v69 (addf : (⟨S2x8x16384x1, .f32⟩ : BufTy).Contents (Elt F) → (⟨S2x8x16384x1, .f32⟩ : BufTy).Contents (Elt F) → (⟨S2x8x16384x1, .f32⟩ : BufTy).Contents (Elt F)),
    unary main_v69 main_v70 (Host.rsqrt : (⟨S2x8x16384x1, .f32⟩ : BufTy).Contents (Elt F) → (⟨S2x8x16384x1, .f32⟩ : BufTy).Contents (Elt F)),
    unary main_v70 main_v71 (broadcastInDim S2x8x16384x256 ![0, 1, 2, 3] bcast_S2x8x16384x1_S2x8x16384x256_0_1_2_3 : (⟨S2x8x16384x1, .f32⟩ : BufTy).Contents (Elt F) → (⟨S2x8x16384x256, .f32⟩ : BufTy).Contents (Elt F)),
    binary main_v62 main_v71 main_v72 (mulf : (⟨S2x8x16384x256, .f32⟩ : BufTy).Contents (Elt F) → (⟨S2x8x16384x256, .f32⟩ : BufTy).Contents (Elt F) → (⟨S2x8x16384x256, .f32⟩ : BufTy).Contents (Elt F)),
    reshape main_arg3 main_v73 (rfl : (.f32 : EltTy) = .f32) shapeCasts_S2048_S8x1x256,
    unary main_v73 main_v74 (broadcastInDim S1x8x1x256 ![1, 2, 3] bcast_S8x1x256_S1x8x1x256_1_2_3 : (⟨S8x1x256, .f32⟩ : BufTy).Contents (Elt F) → (⟨S1x8x1x256, .f32⟩ : BufTy).Contents (Elt F)),
    unary main_v74 main_v75 (broadcastInDim S2x8x16384x256 ![0, 1, 2, 3] bcast_S1x8x1x256_S2x8x16384x256_0_1_2_3 : (⟨S1x8x1x256, .f32⟩ : BufTy).Contents (Elt F) → (⟨S2x8x16384x256, .f32⟩ : BufTy).Contents (Elt F)),
    binary main_v72 main_v75 main_v76 (mulf : (⟨S2x8x16384x256, .f32⟩ : BufTy).Contents (Elt F) → (⟨S2x8x16384x256, .f32⟩ : BufTy).Contents (Elt F) → (⟨S2x8x16384x256, .f32⟩ : BufTy).Contents (Elt F)),
    nullary main_cst_11 (constant S_ .f32 0x3F24FD5C#32),
    unary main_cst_11 main_v77 (broadcastInDim S2x8x16384x256 ![] bcast_S_S2x8x16384x256 : (⟨S_, .f32⟩ : BufTy).Contents (Elt F) → (⟨S2x8x16384x256, .f32⟩ : BufTy).Contents (Elt F)),
    binary main_v76 main_v77 main_v78 (mulf : (⟨S2x8x16384x256, .f32⟩ : BufTy).Contents (Elt F) → (⟨S2x8x16384x256, .f32⟩ : BufTy).Contents (Elt F) → (⟨S2x8x16384x256, .f32⟩ : BufTy).Contents (Elt F)),
    unary main_v78 main_v79 ((transpose S2x16384x8x256 [0, 2, 1, 3] · transposes_S2x8x16384x256_S2x16384x8x256_0_2_1_3) : (⟨S2x8x16384x256, .f32⟩ : BufTy).Contents (Elt F) → (⟨S2x16384x8x256, .f32⟩ : BufTy).Contents (Elt F)),
    reshape main_v79 main_v80 (rfl : (.f32 : EltTy) = .f32) shapeCasts_S2x16384x8x256_S32768x2048,
    unary main_v80 main_v81 ((truncf .bf16 · bitsLt_bf16_f32) : (⟨S32768x2048, .f32⟩ : BufTy).Contents (Elt F) → (⟨S32768x2048, .bf16⟩ : BufTy).Contents (Elt F)) ]

abbrev wrScores : List (Ref sig .tc) := [main_cst, main_v0, main_v1, main_cst_0, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_cst_1, main_v27, main_v28, main_cst_2, main_call0_v0, main_call0_v1, main_call0_v2, main_v29]

theorem opsScores_writes : (opsScores : List (HloOp τ sig (Elt F))).Forall fun op => op.writes ⊆ (wrScores.map (Proc.devRef (τ := τ) .tc)).toFinset :=
  forall_writes_sub_of_map rfl

theorem opsScores_fresh : (opsScores : List (HloOp τ sig (Elt F))).Forall fun op => op.fresh = ∅ := forall_fresh_of_map rfl

theorem opsScores_sub : (opsScores : List (HloOp τ sig (Elt F))).Forall fun op => op.bufs ⊆ tcRefs τ sig :=
  ⟨nullary_bufs_sub .., reshape_bufs_sub .., unary_bufs_sub .., nullary_bufs_sub .., unary_bufs_sub .., unary_bufs_sub .., binary_bufs_sub .., unary_bufs_sub .., reshape_bufs_sub .., unary_bufs_sub .., unary_bufs_sub .., reshape_bufs_sub .., unary_bufs_sub .., nullary_bufs_sub .., unary_bufs_sub .., unary_bufs_sub .., unary_bufs_sub .., unary_bufs_sub .., binary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., unary_bufs_sub .., unary_bufs_sub .., ternary_bufs_sub ..⟩

abbrev wrSoft : List (Ref sig .tc) := [main_cst_3, main_v30, main_v31, main_v32, main_v33, main_v34, main_v35, main_cst_4, main_v36, main_v37, main_v38, main_v39]

theorem opsSoft_writes : (opsSoft : List (HloOp τ sig (Elt F))).Forall fun op => op.writes ⊆ (wrSoft.map (Proc.devRef (τ := τ) .tc)).toFinset :=
  forall_writes_sub_of_map rfl

theorem opsSoft_fresh : (opsSoft : List (HloOp τ sig (Elt F))).Forall fun op => op.fresh = ∅ := forall_fresh_of_map rfl

theorem opsSoft_sub : (opsSoft : List (HloOp τ sig (Elt F))).Forall fun op => op.bufs ⊆ tcRefs τ sig :=
  ⟨nullary_bufs_sub .., binary_bufs_sub .., unary_bufs_sub .., unary_bufs_sub .., binary_bufs_sub .., unary_bufs_sub .., binary_bufs_sub .., nullary_bufs_sub .., binary_bufs_sub .., unary_bufs_sub .., unary_bufs_sub .., binary_bufs_sub ..⟩

abbrev wrLam : List (Ref sig .tc) := [main_v40, main_v41, main_v42, main_v43, main_v44, main_cst_5, main_v45, main_v46, main_v47, main_v48, main_v49, main_v50, main_v51, main_cst_6, main_v52, main_v53, main_v54, main_cst_7, main_v55]

theorem opsLam_writes : (opsLam : List (HloOp τ sig (Elt F))).Forall fun op => op.writes ⊆ (wrLam.map (Proc.devRef (τ := τ) .tc)).toFinset :=
  forall_writes_sub_of_map rfl

theorem opsLam_fresh : (opsLam : List (HloOp τ sig (Elt F))).Forall fun op => op.fresh = ∅ := forall_fresh_of_map rfl

theorem opsLam_sub : (opsLam : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., unary_bufs_sub .., reshape_bufs_sub .., unary_bufs_sub .., reshape_bufs_sub .., binary_bufs_sub .., nullary_bufs_sub .., binary_bufs_sub .., unary_bufs_sub .., binary_bufs_sub .., nullary_bufs_sub .., binary_bufs_sub ..⟩

abbrev wrNorm : List (Ref sig .tc) := [main_v56, main_v57, main_v58, main_v59, main_v60, main_v61, main_v62, main_v63, main_cst_8, main_v64, main_v65, main_cst_9, main_v66, main_v67, main_cst_10, main_v68, main_v69, main_v70, main_v71, main_v72, main_v73, main_v74, main_v75, main_v76, main_cst_11, main_v77, main_v78, main_v79, main_v80, main_v81]

theorem opsNorm_writes : (opsNorm : List (HloOp τ sig (Elt F))).Forall fun op => op.writes ⊆ (wrNorm.map (Proc.devRef (τ := τ) .tc)).toFinset :=
  forall_writes_sub_of_map rfl

theorem opsNorm_fresh : (opsNorm : List (HloOp τ sig (Elt F))).Forall fun op => op.fresh = ∅ := forall_fresh_of_map rfl

theorem opsNorm_sub : (opsNorm : List (HloOp τ sig (Elt F))).Forall fun op => op.bufs ⊆ tcRefs τ sig :=
  ⟨unary_bufs_sub .., reshape_bufs_sub .., unary_bufs_sub .., reshape_bufs_sub .., unary_bufs_sub .., binary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., reshape_bufs_sub .., unary_bufs_sub .., unary_bufs_sub .., binary_bufs_sub .., nullary_bufs_sub .., unary_bufs_sub .., binary_bufs_sub .., unary_bufs_sub .., reshape_bufs_sub .., unary_bufs_sub ..⟩

/-- All of them, in order. -/
abbrev ops : List (HloOp τ sig (Elt F)) := opsScores ++ (opsSoft ++ (opsLam ++ opsNorm))

theorem main_eq (c : Dev nD) : main (F := F) c = seq ops := by
  chain_rfl

theorem forall_append {α : Type*} {p : α → Prop} {a b : List α} (ha : a.Forall p) (hb : b.Forall p) : (a ++ b).Forall p :=
  List.forall_iff_forall_mem.mpr fun x hx => (List.mem_append.mp hx).elim
    (List.forall_iff_forall_mem.mp ha x) (List.forall_iff_forall_mem.mp hb x)

theorem ops_sub : (ops : List (HloOp τ sig (Elt F))).Forall fun op => op.bufs ⊆ tcRefs τ sig :=
  forall_append opsScores_sub (forall_append opsSoft_sub (forall_append opsLam_sub opsNorm_sub))

theorem ops_fresh : (ops : List (HloOp τ sig (Elt F))).Forall fun op => op.fresh = ∅ :=
  forall_append opsScores_fresh (forall_append opsSoft_fresh (forall_append opsLam_fresh opsNorm_fresh))

theorem after_append' (a b : List (HloOp τ sig (Elt F))) (V : Valuation τ sig (Elt F)) : after (a ++ b) V = after b (after a V) := by
  induction a generalizing V with
  | nil => rfl
  | cons o a ih => exact ih _

/-- A buffer no stretch writes keeps its contents. -/
theorem after_kept (V : Valuation τ sig (Elt F)) (r : Ref sig .tc) (h1 : r ∉ wrScores) (h2 : r ∉ wrSoft) (h3 : r ∉ wrLam) (h4 : r ∉ wrNorm) :
    after ops V (Proc.devRef .tc r) = V (Proc.devRef .tc r) := by
  rw [after_append', after_append', after_append']
  rw [after_of_writes_sub _ _ opsNorm_writes h4, after_of_writes_sub _ _ opsLam_writes h3, after_of_writes_sub _ _ opsSoft_writes h2,
    after_of_writes_sub _ _ opsScores_writes h1]

/-- Every run of the reference ends with each buffer at the operations' fold over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq (by decide) (by decide) defs main (fun _ => ops) main_eq (fun _ => ops_sub) m ρ (fun _ => List.forall_iff_forall_mem.mp ops_fresh)

/-- The arguments end unchanged and every counter at zero. -/
theorem run_frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h c main_arg0).trans (after_kept _ main_arg0 (by decide) (by decide) (by decide) (by decide)),
      (h c main_arg1).trans (after_kept _ main_arg1 (by decide) (by decide) (by decide) (by decide)),
      (h c main_arg2).trans (after_kept _ main_arg2 (by decide) (by decide) (by decide) (by decide)),
      (h c main_arg3).trans (after_kept _ main_arg3 (by decide) (by decide) (by decide) (by decide))⟩,
    sem_eq_zero_of_no_sems (by decide) r.2⟩) (run_all m ρ)

end Cert.ReferenceIdeal.Steps
end
-- ==== Proof.Softmax.lean ====
module

public import Idealize.ShloMosaic.PureOps.Ideal

@[expose] public section

set_option maxRecDepth 65536

noncomputable section

namespace Cert.Soft

open Idealize.ShloMosaic

/-! ## Weighted means over the extended reals -/

/-- A sum times a nonnegative real is the sum of the products, infinite terms included. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The mean of `v` under the weights `w`. -/
def att {ι : Type*} [Fintype ι] (w : ι → ℝ) (v : ι → EReal) : EReal :=
  (∑ i, (w i : EReal) * v i) * (((∑ i, w i)⁻¹ : ℝ) : EReal)

/-- Scaling every weight changes no mean. -/
theorem att_scale {ι : Type*} [Fintype ι] (w : ι → ℝ) (v : ι → EReal) {c : ℝ} (hc : 0 < c) :
    att (fun i => w i * c) v = att w v := by
  unfold att
  have h1 : ∀ i, ((w i * c : ℝ) : EReal) * v i = ((w i : EReal) * v i) * (c : EReal) := fun i => by
    rw [EReal.coe_mul, mul_right_comm]
  rw [Finset.sum_congr rfl fun i _ => h1 i, ← sum_mul_coe _ _ hc.le, ← Finset.sum_mul, mul_assoc, ← EReal.coe_mul]
  congr 3
  rw [mul_inv, mul_comm, mul_assoc, inv_mul_cancel₀ hc.ne', mul_one]

/-! ## Masked scores -/

/-- The maximum of masked scores is a real number when one is let through. -/
theorem fold_real {ι : Type*} [Fintype ι] (x : ι → EReal) (p : ι → Prop) [DecidablePred p] (L : ι → ℝ)
    (hx : ∀ i, x i = if p i then (L i : EReal) else ⊥) (hp : ∃ i, p i) :
    ∃ M : ℝ, (Finset.univ : Finset ι).fold max ⊥ x = (M : EReal) := by
  obtain ⟨i, hi⟩ := hp
  have hs : (Finset.univ : Finset ι).fold max ⊥ x = (Finset.univ : Finset ι).sup x := rfl
  rw [hs]
  have h1 : (Finset.univ : Finset ι).sup x ≠ ⊤ := by
    refine ne_of_lt ((Finset.sup_lt_iff (by simp)).mpr fun k _ => ?_)
    rw [hx]; split
    · exact EReal.coe_lt_top _
    · simp
  have h2 : (Finset.univ : Finset ι).sup x ≠ ⊥ := by
    have : (L i : EReal) ≤ (Finset.univ : Finset ι).sup x := by
      have := Finset.le_sup (f := x) (Finset.mem_univ i); rwa [hx, if_pos hi] at this
    intro h; rw [h] at this; exact absurd this (by simp)
  exact ⟨_, (EReal.coe_toReal h1 h2).symm⟩

theorem exp_mask {p : Prop} [Decidable p] (L M : ℝ) :
    Ideal.exp ((if p then (L : EReal) else ⊥) - (M : EReal)) = ((if p then Real.exp (L - M) else 0 : ℝ) : EReal) := by
  split
  · rw [← EReal.coe_sub]; rfl
  · rw [EReal.bot_sub]; simp

theorem exp2_mask {p : Prop} [Decidable p] (L M : ℝ) :
    Ideal.exp2 ((if p then (L : EReal) else ⊥) - (M : EReal)) = ((if p then (2 : ℝ) ^ (L - M) else 0 : ℝ) : EReal) := by
  split
  · rw [← EReal.coe_sub]; rfl
  · rw [EReal.bot_sub]; simp

/-- A softmax's product with the values, divided by the weights' sum, is the mean under the exponentials. -/
theorem soft_mean {ι : Type*} [Fintype ι] (x : ι → EReal) (p : ι → Prop) [DecidablePred p] (L : ι → ℝ)
    (hx : ∀ i, x i = if p i then (L i : EReal) else ⊥) (hp : ∃ i, p i) (v : ι → EReal) (M : EReal)
    (hM : M = (Finset.univ : Finset ι).fold max ⊥ x) :
    Ideal.div (∑ i, Ideal.exp (x i - M) * v i) (0 + ∑ i, Ideal.exp (x i - M)) = att (fun i => if p i then Real.exp (L i) else 0) v := by
  obtain ⟨μ, hμ⟩ := fold_real x p L hx hp
  rw [hμ] at hM; subst hM
  have he : ∀ i, Ideal.exp (x i - (μ : EReal)) = (((if p i then Real.exp (L i) else 0) * Real.exp (-μ) : ℝ) : EReal) := fun i => by
    rw [hx, exp_mask]; congr 1; split
    · rw [← Real.exp_add]; rfl
    · simp
  simp only [he, zero_add]
  rw [← coe_sum, Ideal.div_coe, one_div]
  · exact att_scale (fun i => if p i then Real.exp (L i) else 0) v (Real.exp_pos _)
  · obtain ⟨i, hi⟩ := hp
    refine ne_of_gt (Finset.sum_pos' (fun k _ => ?_) ⟨i, Finset.mem_univ _, ?_⟩)
    · split <;> positivity
    · rw [if_pos hi]; positivity

/-! ## The running softmax -/

/-- The weight of a score against a running maximum. -/
def wt {ι : Type*} (p : ℕ → ι → Prop) [∀ t, DecidablePred (p t)] (L : ℕ → ι → ℝ) (b : ℕ → ℝ) (μ : ℝ) (t : ℕ) (i : ι) : ℝ :=
  if p t i then (2 : ℝ) ^ (L t i - (μ - b t)) else 0

theorem wt_nonneg {ι : Type*} (p : ℕ → ι → Prop) [∀ t, DecidablePred (p t)] (L : ℕ → ι → ℝ) (b : ℕ → ℝ) (μ : ℝ) (t : ℕ) (i : ι) :
    0 ≤ wt p L b μ t i := by unfold wt; split <;> positivity

theorem wt_scale {ι : Type*} (p : ℕ → ι → Prop) [∀ t, DecidablePred (p t)] (L : ℕ → ι → ℝ) (b : ℕ → ℝ) (μ μ' : ℝ) (t : ℕ) (i : ι) :
    wt p L b μ' t i = wt p L b μ t i * (2 : ℝ) ^ (μ - μ') := by
  unfold wt; split
  · rw [← Real.rpow_add (by norm_num)]; congr 1; ring
  · simp

/-- After every step the running maximum is real and the accumulator is the sum of the values under the weights
    against it. -/
theorem running {ι D : Type*} [Fintype ι] (N : ℕ) (m : ℕ → EReal) (acc : ℕ → D → EReal) (x : ℕ → ι → EReal)
    (p : ℕ → ι → Prop) [∀ t, DecidablePred (p t)] (L : ℕ → ι → ℝ) (b : ℕ → ℝ) (u : ℕ → D → ι → EReal)
    (hp : ∀ t, ∃ i, p t i) (hm0 : m 0 = ⊥) (ha0 : ∀ d, acc 0 d = 0)
    (hx : ∀ t < N, ∀ i, x t i = if p t i then (L t i : EReal) else ⊥)
    (hm : ∀ t < N, m (t + 1) = max (m t) ((Finset.univ : Finset ι).fold max ⊥ (x t) + (b t : EReal)))
    (ha : ∀ t < N, ∀ d, acc (t + 1) d = acc t d * Ideal.exp2 (m t - m (t + 1))
      + (0 + ∑ i, u t d i * Ideal.exp2 (x t i - (m (t + 1) - (b t : EReal))))) :
    ∀ n < N, ∃ μ : ℝ, m (n + 1) = (μ : EReal)
      ∧ ∀ d, acc (n + 1) d = ∑ t ∈ Finset.range (n + 1), ∑ i, (wt p L b μ t i : EReal) * u t d i := by
  have step : ∀ t < N, ∀ μ : ℝ, m (t + 1) = (μ : EReal) → ∀ d,
      ∑ i, u t d i * Ideal.exp2 (x t i - (m (t + 1) - (b t : EReal))) = ∑ i, (wt p L b μ t i : EReal) * u t d i := by
    intro t ht μ hμ d
    refine Finset.sum_congr rfl fun i _ => ?_
    rw [hμ, hx t ht, ← EReal.coe_sub, exp2_mask, mul_comm]; rfl
  intro n
  induction n with
  | zero =>
    intro h0
    obtain ⟨M, hM⟩ := fold_real (x 0) (p 0) (L 0) (hx 0 h0) (hp 0)
    have e : m (0 + 1) = ((M + b 0 : ℝ) : EReal) := by
      rw [hm 0 h0, hm0, hM, EReal.coe_add]; exact max_eq_right bot_le
    refine ⟨_, e, fun d => ?_⟩
    rw [ha 0 h0, ha0, zero_mul, zero_add, zero_add, step 0 h0 _ e, Finset.sum_range_one]
  | succ n ih =>
    intro hn
    obtain ⟨μ, hμ, hA⟩ := ih (by omega)
    obtain ⟨M, hM⟩ := fold_real (x (n + 1)) (p (n + 1)) (L (n + 1)) (hx (n + 1) hn) (hp (n + 1))
    have e : m (n + 1 + 1) = ((max μ (M + b (n + 1)) : ℝ) : EReal) := by
      rw [hm (n + 1) hn, hμ, hM, ← EReal.coe_add]
      exact ((EReal.coe_strictMono.monotone).map_max).symm
    refine ⟨_, e, fun d => ?_⟩
    rw [ha (n + 1) hn, hA d, zero_add, step (n + 1) hn _ e, Finset.sum_range_succ _ (n + 1)]
    congr 1
    rw [hμ, e, ← EReal.coe_sub]
    show _ * (((2 : ℝ) ^ (μ - max μ (M + b (n + 1))) : ℝ) : EReal) = _
    rw [sum_mul_coe _ _ (by positivity)]
    refine Finset.sum_congr rfl fun t _ => ?_
    rw [sum_mul_coe _ _ (by positivity)]
    refine Finset.sum_congr rfl fun i _ => ?_
    rw [wt_scale p L b μ (max μ (M + b (n + 1))), EReal.coe_mul, mul_right_comm]

/-! ## Blocks of keys -/

/-- The key block of each step: the diagonal one first. -/
def keyOf (q : ℕ) : ℕ → ℕ
  | 0 => q
  | n + 1 => n

/-- A key of a step. -/
def keyIdx (q t : ℕ) (i : Fin 512) : Fin 16384 := ⟨512 * (keyOf q t % 32) + i.val, by have := i.isLt; omega⟩

/-- The sum over the steps' blocks is the sum over all keys, where the later keys contribute nothing. -/
theorem sum_blocks {M : Type*} [AddCommMonoid M] (q : ℕ) (hq : q < 32) (f : Fin 16384 → M)
    (hf : ∀ k : Fin 16384, 512 * (q + 1) ≤ k.val → f k = 0) :
    ∑ t ∈ Finset.range (q + 1), ∑ i : Fin 512, f (keyIdx q t i) = ∑ k, f k := by
  set g : ℕ → M := fun b => ∑ i : Fin 512, f ⟨512 * (b % 32) + i.val, by have := i.isLt; omega⟩ with hg
  have e1 : ∑ t ∈ Finset.range (q + 1), ∑ i : Fin 512, f (keyIdx q t i) = ∑ t ∈ Finset.range (q + 1), g t := by
    rw [Finset.sum_range_succ', Finset.sum_range_succ]; rfl
  have e2 : ∑ t ∈ Finset.range (q + 1), g t = ∑ t ∈ Finset.range 32, g t := by
    refine Finset.sum_subset (fun a ha => by simp at ha ⊢; omega) fun b hb hb' => ?_
    simp only [Finset.mem_range] at hb hb'
    refine Finset.sum_eq_zero fun i _ => hf _ ?_
    show 512 * (q + 1) ≤ 512 * (b % 32) + i.val
    omega
  rw [e1, e2, Finset.sum_range, ← Equiv.sum_comp (finProdFinEquiv (m := 32) (n := 512)) f, Fintype.sum_prod_type]
  refine Finset.sum_congr rfl fun b _ => Finset.sum_congr rfl fun i _ => congrArg f (Fin.ext ?_)
  show 512 * (b.val % 32) + i.val = i.val + 512 * b.val
  omega

/-- The accumulator over the ones' row's reciprocal is the mean under the weights, each key's weight being its real
    weight times one factor. -/
theorem mean_of_blocks (q : ℕ) (hq : q < 32) (w : ℕ → Fin 512 → ℝ) (W : Fin 16384 → ℝ) (v : Fin 16384 → EReal) {c : ℝ} (hc : 0 < c)
    (hw : ∀ t ≤ q, ∀ i, w t i = W (keyIdx q t i) * c) (hW : ∀ k : Fin 16384, 512 * (q + 1) ≤ k.val → W k = 0)
    (hpos : 0 < ∑ k, W k) :
    (∑ t ∈ Finset.range (q + 1), ∑ i, (w t i : EReal) * v (keyIdx q t i))
      * Ideal.div 1 (∑ t ∈ Finset.range (q + 1), ∑ i, (w t i : EReal) * 1) = att W v := by
  have h1 : ∑ t ∈ Finset.range (q + 1), ∑ i, (w t i : EReal) * v (keyIdx q t i) = ∑ k, ((W k * c : ℝ) : EReal) * v k := by
    rw [← sum_blocks q hq (fun k => ((W k * c : ℝ) : EReal) * v k) (fun k hk => by rw [hW k hk]; simp)]
    refine Finset.sum_congr rfl fun t ht => Finset.sum_congr rfl fun i _ => ?_
    rw [hw t (by simp at ht; omega)]
  have h2 : ∑ t ∈ Finset.range (q + 1), ∑ i, (w t i : EReal) * 1 = ((∑ k, W k * c : ℝ) : EReal) := by
    rw [coe_sum, ← sum_blocks q hq (fun k => ((W k * c : ℝ) : EReal)) (fun k hk => by rw [hW k hk]; simp)]
    refine Finset.sum_congr rfl fun t ht => Finset.sum_congr rfl fun i _ => ?_
    rw [hw t (by simp at ht; omega), mul_one]
  rw [h1, h2, Ideal.div_coe, one_mul, one_div]
  · exact att_scale W v hc
  · rw [← Finset.sum_mul]; positivity

end Cert.Soft
end
-- ==== Proof.Consts.lean ====
module

public import Idealize.ShloMosaic.PureOps.Ideal
public import Idealize.ShloMosaic.PureOps.Ideal.Laws

@[expose] public section

noncomputable section

namespace Cert.Soft

open Idealize.ShloMosaic

/-! ## What the constants' words denote -/

theorem bits_neg_inf : Ideal.ofBits .f32 0xFF800000#32 = ⊥ := by
  simp [Ideal.ofBits, Ideal.ieee, -EReal.coe_mul]
theorem bits_one : Ideal.ofBits .f32 0x3F800000#32 = 1 := by
  simp [Ideal.ofBits, Ideal.ieee, -EReal.coe_mul]; norm_num
theorem bits_one_bf16 : Ideal.ofBits .bf16 0x3F80#16 = 1 := by
  simp [Ideal.ofBits, Ideal.ieee, -EReal.coe_mul]; norm_num
theorem bits_inf : Ideal.ofBits .f32 0x7F800000#32 = ⊤ := by
  simp [Ideal.ofBits, Ideal.ieee, -EReal.coe_mul]
theorem bits_two : Ideal.ofBits .f32 0x40000000#32 = ((2 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num

/-- A word whose exponent is not all ones denotes a real number. -/
theorem bits_real (b : BitVec 32) (h : (b.extractLsb' 23 8).toNat ≠ 255) : ∃ r : ℝ, Ideal.ofBits .f32 b = (r : EReal) := by
  simp only [Ideal.ofBits, Ideal.ieee]
  split
  · next h' => exact absurd (by simpa using h') h
  · split
    · exact ⟨_, rfl⟩
    · exact ⟨_, rfl⟩

/-! ## The difference of the two maps and its normalisation -/

/-- The factor of the second map, from the four rows it is computed from. -/
def lamOf (a : Fin 4 → Fin 128 → EReal) : EReal :=
  Ideal.exp (∑ k, a 0 k * a 1 k) - Ideal.exp (∑ k, a 2 k * a 3 k) + Ideal.ofBits .f32 0x3EB60549#32

/-- The two maps' difference, over the root of its mean square, times the gain and the last factor. -/
def tail (o₀ o₁ : Fin 256 → EReal) (lam g : EReal) (d : Fin 256) : EReal :=
  (o₀ d - lam * o₁ d)
    * Ideal.rsqrt (Ideal.div (∑ k, (o₀ k - lam * o₁ k) * (o₀ k - lam * o₁ k)) (Ideal.ofBits .f32 0x43800000#32) + Ideal.ofBits .f32 0x358637BD#32)
    * g * Ideal.ofBits .f32 0x3F24FD5C#32

end Cert.Soft
end
-- ==== Proof.RefVal.lean ====
module

public import proofs.«01_k».proof.Proof.RefRun
public import proofs.«01_k».proof.Proof.Softmax
public import proofs.«01_k».proof.Proof.Consts
public import Idealize.ShloMosaic.Lib.Pointwise

@[expose] public section

set_option maxRecDepth 65536
set_option synthInstance.maxSize 4096

noncomputable section

namespace Cert.ReferenceIdeal.Steps

open Idealize.ShloMosaic Idealize.ShloMosaic.TcCoe Idealize.ShloMosaic.StableHlo Idealize.ShloMosaic.Tactic Idealize.SL.Sem
open Cert.ReferenceIdeal Cert.ReferenceIdeal.Gen

/-! ## The reference's stretches at an index, over the extended reals -/

/-- The result from the two maps' means, the factor and the gain. -/
theorem norm_ref (V : Valuation τ sig (Elt Ideal)) (O : FVec Ideal S2x8x2x16384x256 .f32) (lam : FVec Ideal S_ .f32) (G : FVec Ideal S2048 .f32)
    (hO : V (Proc.devRef .tc main_v39) = O) (hl : V (Proc.devRef .tc main_v55) = lam) (hG : V (Proc.devRef .tc main_arg3) = G)
    (r : Fin 32768) (c : Fin 2048) :
    (show FVec Ideal S32768x2048 .bf16 from after opsNorm V (Proc.devRef .tc main_v81)) (ix2 r c)
      = Soft.tail (fun k => O (ix5 ⟨r.val / 16384, by omega⟩ ⟨c.val / 256, by omega⟩ 0 ⟨r.val % 16384, by omega⟩ k))
        (fun k => O (ix5 ⟨r.val / 16384, by omega⟩ ⟨c.val / 256, by omega⟩ 1 ⟨r.val % 16384, by omega⟩ k)) (lam ix0) (G (ix1 ⟨c.val / 256 * 256 + c.val % 256, by omega⟩))
        ⟨c.val % 256, by omega⟩ := by
  dsimp only
  after_results_simp
  rw [hO, hl, hG]
  pointwise [Soft.tail]

/-- The factor from its four rows. -/
theorem lam_ref (V : Valuation τ sig (Elt Ideal)) (A : FVec Ideal S4x128 .f32) (hA : V (Proc.devRef .tc main_arg2) = A) :
    (show FVec Ideal S_ .f32 from after opsLam V (Proc.devRef .tc main_v55)) ix0 = Soft.lamOf (fun r k => A (ix2 r k)) := by
  dsimp only
  after_results_simp
  rw [hA]
  pointwise [Soft.lamOf]

/-- A map's mean from its scores. -/
theorem soft_ref (V : Valuation τ sig (Elt Ideal)) (X : FVec Ideal S2x8x2x16384x16384 .f32) (U : FVec Ideal S2x8x16384x256 .f32)
    (hX : V (Proc.devRef .tc main_v29) = X) (hU : V (Proc.devRef .tc main_v10) = U) (b : Fin 2) (h : Fin 8) (m : Fin 2) (s : Fin 16384) (d : Fin 256) :
    (show FVec Ideal S2x8x2x16384x256 .f32 from after opsSoft V (Proc.devRef .tc main_v39)) (ix5 b h m s d)
      = Ideal.div (∑ k : Fin 16384, Ideal.exp (X (ix5 b h m s k) - (Finset.univ : Finset (Fin 16384)).fold max ⊥ fun k => X (ix5 b h m s k)) * U (ix4 b h k d))
        (0 + ∑ k : Fin 16384, Ideal.exp (X (ix5 b h m s k) - (Finset.univ : Finset (Fin 16384)).fold max ⊥ fun k => X (ix5 b h m s k))) := by
  dsimp only
  after_results_simp
  rw [hX, hU]
  pointwise
  rw [Soft.bits_neg_inf]

/-- The value rows. -/
theorem vals_ref (V : Valuation τ sig (Elt Ideal)) (B : FVec Ideal S2x16384x4096 .f32) (hB : V (Proc.devRef .tc main_arg1) = B)
    (b : Fin 2) (h : Fin 8) (k : Fin 16384) (d : Fin 256) :
    (show FVec Ideal S2x8x16384x256 .f32 from after opsScores V (Proc.devRef .tc main_v10)) (ix4 b h k d)
      = B (ix3 b k ⟨2048 + (h.val * 256 + d.val), by omega⟩) := by
  dsimp only
  after_results_simp
  rw [hB]
  pointwise

theorem word_small (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem sqrt_128 : Ideal.sqrt ((128 : ℝ) : EReal) = ((Real.sqrt 128 : ℝ) : EReal) := by
  rw [Ideal.sqrt_coe, if_neg (by norm_num)]

theorem dist_at (s k : Fin 16384) :
    (FloatOps.sitofp .f32 (IntOp.subi (BitVec.ofNat 32 s.val) (BitVec.ofNat 32 k.val)) : Ideal .f32) = (((s.val : ℝ) - k.val : ℝ) : EReal) := by
  have e : (IntOp.subi (BitVec.ofNat 32 s.val) (BitVec.ofNat 32 k.val)).toInt = (s.val : ℤ) - k.val := by
    show (BitVec.ofNat 32 s.val - BitVec.ofNat 32 k.val).toInt = _
    rw [BitVec.toInt_sub, word_small _ (by omega), word_small _ (by omega)]
    have := s.isLt; have := k.isLt
    simp only [Int.bmod]
    split <;> omega
  show (((IntOp.subi (BitVec.ofNat 32 s.val) (BitVec.ofNat 32 k.val)).toInt : ℝ) : EReal) = _
  rw [e]; push_cast; rfl

/-- A score: the product of the query and key over the root of 128, less the slope times their distance. -/
def score (A B : Fin 2 → Fin 16384 → Fin 2048 → ℝ) (sl : Fin 8 → ℝ) (b : Fin 2) (h : Fin 8) (m : Fin 2) (s k : Fin 16384) : ℝ :=
  ∑ c : Fin 128, A b s ⟨h.val * 256 + m.val * 128 + c.val, by omega⟩ * (1 / Real.sqrt 128) * B b k ⟨h.val * 256 + m.val * 128 + c.val, by omega⟩
    - sl h * ((s.val : ℝ) - k.val)

/-- The masked scores. -/
theorem scores_ref (V : Valuation τ sig (Elt Ideal)) (A : FVec Ideal S2x16384x2048 .f32) (B : FVec Ideal S2x16384x4096 .f32)
    (hA : V (Proc.devRef .tc main_arg0) = A) (hB : V (Proc.devRef .tc main_arg1) = B)
    (A' B' : Fin 2 → Fin 16384 → Fin 2048 → ℝ) (sl : Fin 8 → ℝ) (hA' : ∀ b s c, A (ix3 b s c) = (A' b s c : EReal))
    (hB' : ∀ b s (c : Fin 2048), B (ix3 b s ⟨c.val, by omega⟩) = (B' b s c : EReal))
    (hsl : ∀ h, Ideal.ofBits .f32 (lit0 (S8.rowMajor (ix1 h))) = (sl h : EReal))
    (b : Fin 2) (h : Fin 8) (m : Fin 2) (s k : Fin 16384) :
    (show FVec Ideal S2x8x2x16384x16384 .f32 from after opsScores V (Proc.devRef .tc main_v29)) (ix5 b h m s k)
      = if k.val ≤ s.val then (score A' B' sl b h m s k : EReal) else ⊥ := by
  dsimp only
  after_results_simp
  rw [hA, hB]
  pointwise
  rw [dist_at, hsl, Soft.bits_128, sqrt_128]
  refine if_congr ?_ ?_ Soft.bits_neg_inf
  · rw [EReal.coe_nonneg, sub_nonneg, Nat.cast_le]
  · unfold score
    have e : ((∑ c : Fin 128, A' b s ⟨h.val * 256 + m.val * 128 + c.val, by omega⟩ * (1 / Real.sqrt 128) * B' b k ⟨h.val * 256 + m.val * 128 + c.val, by omega⟩
        - sl h * ((s.val : ℝ) - k.val) : ℝ) : EReal)
        = (∑ c : Fin 128, ((A' b s ⟨h.val * 256 + m.val * 128 + c.val, by omega⟩ * (1 / Real.sqrt 128) * B' b k ⟨h.val * 256 + m.val * 128 + c.val, by omega⟩ : ℝ) : EReal))
          - (sl h : EReal) * (((s.val : ℝ) - k.val : ℝ) : EReal) := by
      rw [EReal.coe_sub, Soft.coe_sum, EReal.coe_mul (sl h)]
    refine Eq.trans (congrArg (· - _) (Finset.sum_congr rfl fun c _ => ?_)) e.symm
    rw [Ideal.div_coe (by positivity), hA', EReal.coe_mul, EReal.coe_mul]
    exact congrArg (_ * ·) (hB' b k ⟨h.val * 256 + m.val * 128 + c.val, by omega⟩)

end Cert.ReferenceIdeal.Steps
end
-- ==== Proof.RefTotal.lean ====
module

public import proofs.«01_k».proof.Proof.RefVal
public import proofs.«01_k».proof.Proof.Softmax
public import proofs.«01_k».proof.Proof.Consts
public import Idealize.ShloMosaic.Lib.Pointwise

@[expose] public section

set_option maxRecDepth 65536
set_option synthInstance.maxSize 4096

noncomputable section

namespace Cert.ReferenceIdeal.Steps

open Idealize.ShloMosaic Idealize.ShloMosaic.TcCoe Idealize.ShloMosaic.StableHlo Idealize.ShloMosaic.Tactic Idealize.SL.Sem
open Cert.ReferenceIdeal Cert.ReferenceIdeal.Gen

theorem tail_congr {o₀ o₁ o₀' o₁' : Fin 256 → EReal} {l g l' g' : EReal} (h₀ : ∀ k, o₀ k = o₀' k) (h₁ : ∀ k, o₁ k = o₁' k) (hl : l = l') (hg : g = g') (d : Fin 256) :
    Soft.tail o₀ o₁ l g d = Soft.tail o₀' o₁' l' g' d := by
  obtain rfl := funext h₀; obtain rfl := funext h₁; subst hl; subst hg; rfl

/-- A map's mean of the values under the causal weights. -/
def meanAt (A B : Fin 2 → Fin 16384 → Fin 2048 → ℝ) (sl : Fin 8 → ℝ) (W : Fin 2 → Fin 16384 → Fin 4096 → EReal) (b : Fin 2) (h : Fin 8) (m : Fin 2) (s : Fin 16384) (d : Fin 256) : EReal :=
  Soft.att (fun k : Fin 16384 => if k.val ≤ s.val then Real.exp (score A B sl b h m s k) else 0) (fun k => W b k ⟨2048 + (h.val * 256 + d.val), by omega⟩)

/-- An entry of the result. -/
def resultAt (A B : Fin 2 → Fin 16384 → Fin 2048 → ℝ) (sl : Fin 8 → ℝ) (W : Fin 2 → Fin 16384 → Fin 4096 → EReal) (P : Fin 4 → Fin 128 → EReal) (g : Fin 2048 → EReal)
    (b : Fin 2) (h : Fin 8) (s : Fin 16384) (d : Fin 256) : EReal :=
  Soft.tail (meanAt A B sl W b h 0 s) (meanAt A B sl W b h 1 s) (Soft.lamOf P) (g ⟨h.val * 256 + d.val, by omega⟩) d

theorem mean_of (X : FVec Ideal S2x8x2x16384x16384 .f32) (U : FVec Ideal S2x8x16384x256 .f32) (b : Fin 2) (h : Fin 8) (m : Fin 2) (s : Fin 16384) (d : Fin 256)
    (A B : Fin 2 → Fin 16384 → Fin 2048 → ℝ) (sl : Fin 8 → ℝ) (W : Fin 2 → Fin 16384 → Fin 4096 → EReal)
    (hX : ∀ k, X (ix5 b h m s k) = if k.val ≤ s.val then (score A B sl b h m s k : EReal) else ⊥)
    (hU : ∀ k, U (ix4 b h k d) = W b k ⟨2048 + (h.val * 256 + d.val), by omega⟩) :
    Ideal.div (∑ k : Fin 16384, Ideal.exp (X (ix5 b h m s k) - (Finset.univ : Finset (Fin 16384)).fold max ⊥ fun k => X (ix5 b h m s k)) * U (ix4 b h k d))
        (0 + ∑ k : Fin 16384, Ideal.exp (X (ix5 b h m s k) - (Finset.univ : Finset (Fin 16384)).fold max ⊥ fun k => X (ix5 b h m s k)))
      = meanAt A B sl W b h m s d := by
  unfold meanAt
  rw [← Soft.soft_mean (fun k => X (ix5 b h m s k)) (fun k => k.val ≤ s.val) (score A B sl b h m s) hX ⟨s, le_refl _⟩ _ _ rfl]
  exact congrArg (Ideal.div · _) (Finset.sum_congr rfl fun k _ => congrArg (_ * ·) (hU k))

/-- The two maps' means as the reference leaves them. -/
theorem mean_ref (V : Valuation τ sig (Elt Ideal)) (A : FVec Ideal S2x16384x2048 .f32) (B : FVec Ideal S2x16384x4096 .f32)
    (hA : V (Proc.devRef .tc main_arg0) = A) (hB : V (Proc.devRef .tc main_arg1) = B)
    (A' B' : Fin 2 → Fin 16384 → Fin 2048 → ℝ) (sl : Fin 8 → ℝ) (hA' : ∀ b s c, A (ix3 b s c) = (A' b s c : EReal))
    (hB' : ∀ b s (c : Fin 2048), B (ix3 b s ⟨c.val, by omega⟩) = (B' b s c : EReal))
    (hsl : ∀ h, Ideal.ofBits .f32 (lit0 (S8.rowMajor (ix1 h))) = (sl h : EReal))
    (b : Fin 2) (h : Fin 8) (m : Fin 2) (s : Fin 16384) (d : Fin 256) :
    (show FVec Ideal S2x8x2x16384x256 .f32 from after opsSoft (after opsScores V) (Proc.devRef .tc main_v39)) (ix5 b h m s d)
      = meanAt A' B' sl (fun b s c => B (ix3 b s c)) b h m s d := by
  refine (soft_ref (after opsScores V) _ _ rfl rfl b h m s d).trans ?_
  have ev := fun k => vals_ref V B hB b h k d
  have ex := fun k => scores_ref V A B hA hB A' B' sl hA' hB' hsl b h m s k
  dsimp only at ev ex ⊢
  generalize after opsScores V (Proc.devRef .tc main_v29) = X at ex ⊢
  generalize after opsScores V (Proc.devRef .tc main_v10) = U at ev ⊢
  exact mean_of X U b h m s d A' B' sl (fun b s c => B (ix3 b s c)) ex ev

/-- The reference's result at an index. -/
theorem total_ref (V : Valuation τ sig (Elt Ideal)) (A : FVec Ideal S2x16384x2048 .f32) (B : FVec Ideal S2x16384x4096 .f32) (P : FVec Ideal S4x128 .f32) (G : FVec Ideal S2048 .f32)
    (hA : V (Proc.devRef .tc main_arg0) = A) (hB : V (Proc.devRef .tc main_arg1) = B) (hP : V (Proc.devRef .tc main_arg2) = P) (hG : V (Proc.devRef .tc main_arg3) = G)
    (A' B' : Fin 2 → Fin 16384 → Fin 2048 → ℝ) (sl : Fin 8 → ℝ) (hA' : ∀ b s c, A (ix3 b s c) = (A' b s c : EReal))
    (hB' : ∀ b s (c : Fin 2048), B (ix3 b s ⟨c.val, by omega⟩) = (B' b s c : EReal))
    (hsl : ∀ h, Ideal.ofBits .f32 (lit0 (S8.rowMajor (ix1 h))) = (sl h : EReal))
    (r : Fin 32768) (c : Fin 2048) :
    (show FVec Ideal S32768x2048 .bf16 from after ops V (Proc.devRef .tc main_v81)) (ix2 r c)
      = resultAt A' B' sl (fun b s c => B (ix3 b s c)) (fun r k => P (ix2 r k)) (fun c => G (ix1 c))
        ⟨r.val / 16384, by omega⟩ ⟨c.val / 256, by omega⟩ ⟨r.val % 16384, by omega⟩ ⟨c.val % 256, by omega⟩ := by
  have e39 : after opsLam (after opsSoft (after opsScores V)) (Proc.devRef .tc main_v39) = after opsSoft (after opsScores V) (Proc.devRef .tc main_v39) :=
    after_of_writes_sub _ _ opsLam_writes (by decide)
  have eP : after opsSoft (after opsScores V) (Proc.devRef .tc main_arg2) = P :=
    (after_of_writes_sub _ _ opsSoft_writes (by decide)).trans ((after_of_writes_sub _ _ opsScores_writes (by decide)).trans hP)
  have eG : after opsLam (after opsSoft (after opsScores V)) (Proc.devRef .tc main_arg3) = G :=
    (after_of_writes_sub _ _ opsLam_writes (by decide)).trans ((after_of_writes_sub _ _ opsSoft_writes (by decide)).trans
      ((after_of_writes_sub _ _ opsScores_writes (by decide)).trans hG))
  have e81 : after ops V (Proc.devRef .tc main_v81) = after opsNorm (after opsLam (after opsSoft (after opsScores V))) (Proc.devRef .tc main_v81) := by
    rw [after_append', after_append', after_append']
  refine (congrFun e81 (ix2 r c)).trans ((norm_ref _ _ _ G e39 rfl eG r c).trans ?_)
  exact tail_congr (fun k => mean_ref V A B hA hB A' B' sl hA' hB' hsl _ _ 0 _ k) (fun k => mean_ref V A B hA hB A' B' sl hA' hB' hsl _ _ 1 _ k)
    (lam_ref _ P eP) rfl _

end Cert.ReferenceIdeal.Steps
end
-- ==== Proof.EvalK.lean ====
module

public import proofs.«01_k».proof.Proof.Point
public import proofs.«01_k».proof.Proof.Softmax
public import proofs.«01_k».proof.Proof.Consts
public import Idealize.ShloMosaic.Lib.Pointwise

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

/-! ## The steps at an index, over the extended reals -/

theorem toInt_small (n : ℕ) (h : n < 2 ^ 31) : (BitVec.ofNat 32 n).toInt = (n : ℤ) := by
  have e : (BitVec.ofNat 32 n).toNat = n := by rw [BitVec.toNat_ofNat]; exact Nat.mod_eq_of_lt (by omega)
  rw [BitVec.toInt_eq_toNat_of_lt (by rw [e]; omega), e]

theorem select_cmp {α : Type} (p : CmpIPredicate) (x y : BitVec 32) (P : Prop) [Decidable P] (h : IntOp.cmpi p x y = 1#1 ↔ P) (a b : α) :
    Scalar.select (IntOp.cmpi p x y) a b = if P then a else b := by
  unfold Scalar.select
  by_cases hp : P
  · exact (if_pos (h.2 hp)).trans (if_pos hp).symm
  · exact (if_neg (fun e => hp (h.1 e))).trans (if_neg hp).symm

theorem cmp_sle (m n : ℕ) (hm : m < 2 ^ 31) (hn : n < 2 ^ 31) :
    IntOp.cmpi .sle (BitVec.ofNat 32 m) (BitVec.ofNat 32 n) = 1#1 ↔ m ≤ n := by
  rw [IntOp.cmpi_sle, toInt_small m hm, toInt_small n hn]; exact Int.ofNat_le

theorem cmp_slt (m n : ℕ) (hm : m < 2 ^ 31) (hn : n < 2 ^ 31) :
    IntOp.cmpi .slt (BitVec.ofNat 32 m) (BitVec.ofNat 32 n) = 1#1 ↔ m < n := by
  rw [IntOp.cmpi_slt, toInt_small m hm, toInt_small n hn]; exact Int.ofNat_lt

theorem cmp_eq (m n : ℕ) (hm : m < 2 ^ 31) (hn : n < 2 ^ 31) :
    IntOp.cmpi .eq (BitVec.ofNat 32 m) (BitVec.ofNat 32 n) = 1#1 ↔ m = n := by
  rw [IntOp.cmpi_eq]
  constructor
  · intro h
    have := congrArg BitVec.toInt h
    rw [toInt_small m hm, toInt_small n hn] at this; exact_mod_cast this
  · rintro rfl; rfl

theorem maskV_at (st : FVec Ideal S512x512 .f32) (i j : Fin 512) :
    maskV st (ix2 i j) = if i.val ≤ j.val then st (ix2 i j) else ⊥ := by
  pointwise [maskV]
  rw [select_cmp _ _ _ (i.val ≤ j.val) (cmp_sle _ _ (by omega) (by omega)), Soft.bits_neg_inf]

theorem colMax_at (st : FVec Ideal S512x512 .f32) (j : Fin 512) :
    colMax st (ix2 0 j) = (Finset.univ : Finset (Fin 512)).fold max ⊥ (fun i => st (ix2 i j)) := by
  pointwise [colMax]
  rw [Soft.bits_neg_inf]

theorem biasV_at (sl : FVec Ideal S1x1 .f32) (kj qi : BitVec 32) :
    biasV sl kj qi (ix2 0 0) = sl (ix2 0 0) * ((((kj - qi) * 512#32).toInt : ℝ) : EReal) := by
  pointwise [biasV]
  rfl

theorem newM_at (mo bm : FVec Ideal S1x512 .f32) (bias : FVec Ideal S1x1 .f32) (j : Fin 512) :
    newM mo bm bias (ix2 0 j) = max (mo (ix2 0 j)) (bm (ix2 0 j) + bias (ix2 0 0)) := by
  pointwise [newM]

theorem ptV_at (st : FVec Ideal S512x512 .f32) (mn : FVec Ideal S1x512 .f32) (bias : FVec Ideal S1x1 .f32) (i j : Fin 512) :
    ptV st mn bias (ix2 i j) = Ideal.exp2 (st (ix2 i j) - (mn (ix2 0 j) - bias (ix2 0 0))) := by
  pointwise [ptV]
  rfl

theorem newAcc_at (ac : FVec Ideal S272x512 .f32) (mo mn : FVec Ideal S1x512 .f32) (va : FVec Ideal S272x512 .bf16)
    (pt : FVec Ideal S512x512 .f32) (d : Fin 272) (j : Fin 512) :
    newAcc ac mo mn va pt (ix2 d j) = ac (ix2 d j) * Ideal.exp2 (mo (ix2 0 j) - mn (ix2 0 j))
      + (0 + ∑ i : Fin 512, va (ix2 d i) * pt (ix2 i j)) := by
  pointwise [newAcc]
  rfl

theorem vAug_at (v : FVec Ideal S1x256x512 .bf16) (d : Fin 272) (i : Fin 512) :
    vAug v (ix2 d i) = if h : d.val < 256 then v (ix3 0 ⟨d.val, h⟩ i) else 1 := by
  pointwise [vAug]

theorem scoreV_at (k kp : FVec Ideal S512x128 .bf16) (q : FVec Ideal S1x512x256 .bf16) (i j : Fin 512) :
    scoreV k kp q (ix2 i j) = ∑ c : Fin 128, k (ix2 i c) * q (ix3 0 j ⟨c.val, by omega⟩)
      + ∑ c : Fin 128, kp (ix2 i c) * q (ix3 0 j ⟨128 + c.val, by omega⟩) := by
  pointwise [scoreV]

theorem pay4_at (r : Fin 512) (k : Fin 128) : (k0_pay4 : FVec Ideal S1x512x128 .bf16) (ix3 0 r k) = if k.val < 3 then 1 else 0 := by
  pointwise [k0_pay4]
  exact select_cmp _ _ _ (k.val < 3) (cmp_slt _ _ (by omega) (by omega)) _ _

/-- The position columns: the row number times the slope in the first, and nothing else over the reals. -/
theorem pay3_at (sl : FVec Ideal S1x1 .f32) (σ : ℝ) (hs : sl (ix2 0 0) = (σ : EReal)) (r : Fin 512) (k : Fin 128) :
    k0_pay3 sl (ix2 r k) = if k.val = 0 then ((r.val * σ : ℝ) : EReal) else 0 := by
  pointwise [k0_pay3]
  have e : (FloatOps.sitofp .f32 (BitVec.ofNat 32 r.val) : Ideal .f32) * sl (ix2 0 0) = ((r.val * σ : ℝ) : EReal) := by
    rw [hs, EReal.coe_mul]
    congr 1
    show (((BitVec.ofNat 32 r.val).toInt : ℝ) : EReal) = _
    rw [toInt_small _ (by omega), Int.cast_natCast]
  have z : ((r.val * σ : ℝ) : EReal) - ((r.val * σ : ℝ) : EReal) = 0 := by rw [← EReal.coe_sub, sub_self]; rfl
  rw [e, z, sub_zero]
  rw [select_cmp _ _ _ (k.val = 0) (cmp_eq _ _ (by omega) (by omega))]
  refine if_congr Iff.rfl rfl ?_
  rw [Scalar.select, Scalar.select]
  split <;> [rfl; (split <;> rfl)]

theorem slV_at (a : FVec Ideal S1x1x128 .f32) : slV a (ix2 0 0) = a (ix3 0 0 0) * (((Real.log 2)⁻¹ : ℝ) : EReal) := by
  unfold slV
  pointwise [k0_pay445]
  rw [IdealRules.named_const.ideal_named_scalar _ _ _ _ rfl]
  congr 2
  funext x
  match x with
  | ⟨0, _⟩ => exact Fin.ext ((ValueKit.rect_emb_unit_val _ _ _ _ _).trans rfl)
  | ⟨1, _⟩ => exact Fin.ext ((ValueKit.rect_emb_unit_val _ _ _ _ _).trans rfl)
  | ⟨2, _⟩ => exact Fin.ext ((ValueKit.rect_emb_unit_val _ _ _ _ _).trans rfl)

/-! ## The blocks at an index -/

theorem kB_at (K : FVec Ideal S16384x256 .bf16) (n s : ℕ) (hs : s < 2) (i : Fin 512) (c : Fin 128) :
    kB K n s (ix2 i c) = K (ix2 ⟨512 * (n % 32) + i.val, by omega⟩ ⟨128 * s + c.val, by omega⟩) := by
  unfold kB
  congr 1
  funext x
  match x with
  | ⟨0, _⟩ => exact Fin.ext (ValueKit.rect_emb_unit_val _ _ _ _ _)
  | ⟨1, _⟩ => exact Fin.ext ((ValueKit.rect_emb_unit_val _ _ _ _ _).trans (by show 128 * (s % 2) + c.val = 128 * s + c.val; omega))

theorem pB_at (P : FVec Ideal S512x128 .bf16) (i : Fin 512) (c : Fin 128) : pB P (ix2 i c) = P (ix2 i c) := by
  unfold pB
  congr 1
  funext x
  match x with
  | ⟨0, _⟩ => exact Fin.ext ((ValueKit.rect_emb_unit_val _ _ _ _ _).trans (Nat.zero_add _))
  | ⟨1, _⟩ => exact Fin.ext ((ValueKit.rect_emb_unit_val _ _ _ _ _).trans (Nat.zero_add _))

theorem qB_at (Q : FVec Ideal S2x512x256 .bf16) (s : ℕ) (hs : s < 2) (j : Fin 512) (c : Fin 256) :
    qB Q s hs (ix3 0 j c) = Q (mk3 (⟨s, hs⟩ : Fin 2) j c) := by
  unfold qB
  congr 1
  funext x
  match x with
  | ⟨0, _⟩ => exact Fin.ext ((ValueKit.rect_emb_unit_val _ _ _ _ _).trans rfl)
  | ⟨1, _⟩ => exact Fin.ext ((ValueKit.rect_emb_unit_val _ _ _ _ _).trans (Nat.zero_add _))
  | ⟨2, _⟩ => exact Fin.ext ((ValueKit.rect_emb_unit_val _ _ _ _ _).trans (Nat.zero_add _))

theorem vBlock_at (V : FVec Ideal S1x256x16384 .bf16) (n : ℕ) (d : Fin 272) (i : Fin 512) :
    vBlock V ![0, 0, 512 * (n % 32)] (inbV n) (ix2 d i)
      = if h : d.val < 256 then V (ix3 0 ⟨d.val, h⟩ ⟨512 * (n % 32) + i.val, by omega⟩) else 1 := by
  unfold vBlock
  rw [vAug_at]
  split
  · congr 1
    funext x
    match x with
    | ⟨0, _⟩ => exact Fin.ext ((ValueKit.rect_emb_unit_val _ _ _ _ _).trans rfl)
    | ⟨1, _⟩ => exact Fin.ext ((ValueKit.rect_emb_unit_val _ _ _ _ _).trans (Nat.zero_add _))
    | ⟨2, _⟩ => exact Fin.ext (ValueKit.rect_emb_unit_val _ _ _ _ _)
  · rfl

theorem getM_start (s : ℕ) (hs : s < 2) (j : Fin 512) : getM (k0_pay450 : FVec Ideal S2x1x512 .f32) s hs (ix2 0 j) = ⊥ := by
  unfold getM
  pointwise [k0_pay450]
  exact Soft.bits_neg_inf

theorem getA_start (s : ℕ) (hs : s < 2) (d : Fin 272) (j : Fin 512) : getA (k0_pay449 : FVec Ideal S2x272x512 .f32) s hs (ix2 d j) = 0 := by
  unfold getA
  pointwise [k0_pay449]

/-! ## The scores -/

/-- The score of key `k` and query `j` of map `s`, with the key's place in its block. -/
theorem sc_at (M : Mem Ideal) (q n s : ℕ) (hs : s < 2) (σ : ℝ) (hσ : slV (F := Ideal) M.a6 (ix2 0 0) = (σ : EReal))
    (Q : Fin 512 → Fin 256 → ℝ) (K : Fin 16384 → Fin 256 → ℝ) (hQ : ∀ j c, M.a3 (ix2 j c) = (Q j c : EReal))
    (hK : ∀ k c, M.a4 (ix2 k c) = (K k c : EReal)) (i j : Fin 512) :
    (ctxOf M q).sc n s hs (ix2 i j)
      = ((∑ c : Fin 128, K ⟨512 * (n % 32) + i.val, by omega⟩ ⟨128 * s + c.val, by omega⟩ * Q j ⟨128 * s + c.val, by omega⟩ + i.val * σ : ℝ) : EReal) := by
  show scoreV (kB (F := Ideal) M.a4 n s) (pB (k0_pay3 (F := Ideal) (slV (F := Ideal) M.a6))) (qB (qFull (F := Ideal) M.a3) s hs) (ix2 i j) = _
  rw [scoreV_at, EReal.coe_add, Soft.coe_sum]
  congr 1
  · refine Finset.sum_congr rfl fun c _ => ?_
    rw [kB_at M.a4 n s hs, qB_at, hK, EReal.coe_mul]
    congr 1
    exact (qAt_lt (F := Ideal) M.a3 ⟨s, hs⟩ j ⟨c.val, by omega⟩ c.isLt).trans (hQ _ _)
  · have hterm : ∀ c : Fin 128, pB (k0_pay3 (F := Ideal) (slV (F := Ideal) M.a6)) (ix2 i c) * qB (qFull (F := Ideal) M.a3) s hs (ix3 0 j ⟨128 + c.val, by omega⟩)
        = if c = 0 then ((i.val * σ : ℝ) : EReal) else 0 := by
      intro c
      rw [pB_at, pay3_at _ σ hσ, qB_at]
      by_cases hc : c = 0
      · subst hc
        rw [if_pos rfl, if_pos (by rfl)]
        have : qFull (F := Ideal) M.a3 (mk3 (⟨s, hs⟩ : Fin 2) j ⟨128 + (0 : Fin 128).val, by omega⟩) = 1 :=
          (qAt_ge (F := Ideal) M.a3 ⟨s, hs⟩ j 0).trans ((pay4_at j 0).trans (if_pos (by decide)))
        rw [this, mul_one]
      · rw [if_neg hc, if_neg (show ¬ c.val = 0 from fun h => hc (Fin.ext h)), zero_mul]
    rw [Finset.sum_congr rfl fun c _ => hterm c, Finset.sum_ite_eq' Finset.univ (0 : Fin 128), if_pos (Finset.mem_univ _)]

/-! ## The bias -/

theorem block_diff (k q : Fin 32) : ((BitVec.ofNat 32 k.val - BitVec.ofNat 32 q.val) * 512#32).toInt = ((k.val : ℤ) - q.val) * 512 := by
  revert k q; decide

theorem bias_at (M : Mem Ideal) (q t : ℕ) (hq : q < 32) (ht : t ≤ q) (σ : ℝ) (hσ : slV (F := Ideal) M.a6 (ix2 0 0) = (σ : EReal)) :
    (ctxOf M q).bias t (ix2 0 0) = ((σ * (((Soft.keyOf q t : ℝ) - q) * 512) : ℝ) : EReal) := by
  have hk : Soft.keyOf q t < 32 := by cases t <;> simp only [Soft.keyOf] <;> omega
  have e : (ctxOf M q).key t = Soft.keyOf q t := by cases t <;> rfl
  show biasV (F := Ideal) (slV (F := Ideal) M.a6) (BitVec.ofNat 32 ((ctxOf M q).key t)) (BitVec.ofNat 32 q) (ix2 0 0) = _
  rw [biasV_at, hσ, e, block_diff ⟨_, hk⟩ ⟨q, hq⟩, EReal.coe_mul]
  push_cast
  rfl

/-! ## The accumulators at the end of the loop -/

/-- The exponent of key `k` and query `j`: their product, and the slope times their distance within the query block. -/
def lg (Q : Fin 512 → Fin 256 → ℝ) (K : Fin 16384 → Fin 256 → ℝ) (σ : ℝ) (q s : ℕ) (hs : s < 2) (j : Fin 512) (k : Fin 16384) : ℝ :=
  ∑ c : Fin 128, K k ⟨128 * s + c.val, by omega⟩ * Q j ⟨128 * s + c.val, by omega⟩ + σ * ((k.val : ℝ) - 512 * q)

/-- The keys a step lets through. -/
def pass (j : Fin 512) (t : ℕ) (i : Fin 512) : Prop := t = 0 → i.val ≤ j.val

instance (j : Fin 512) (t : ℕ) : DecidablePred (pass j t) := fun i => by unfold pass; infer_instance

/-- After the loop the accumulator's rows are the values' sums under weights, each the power of two of its exponent
    times one factor, zero after the query. -/
theorem acc_at (M : Mem Ideal) (q s : ℕ) (hq : q < 32) (hs : s < 2) (σ : ℝ) (hσ : slV (F := Ideal) M.a6 (ix2 0 0) = (σ : EReal))
    (Q : Fin 512 → Fin 256 → ℝ) (K : Fin 16384 → Fin 256 → ℝ) (hQ : ∀ j c, M.a3 (ix2 j c) = (Q j c : EReal))
    (hK : ∀ k c, M.a4 (ix2 k c) = (K k c : EReal)) (j : Fin 512) :
    ∃ (w : ℕ → Fin 512 → ℝ) (c : ℝ), 0 < c
      ∧ (∀ t ≤ q, ∀ i, w t i = (if (Soft.keyIdx q t i).val ≤ 512 * q + j.val then (2 : ℝ) ^ lg Q K σ q s hs j (Soft.keyIdx q t i) else 0) * c)
      ∧ ∀ d : Fin 272, ((ctxOf M q).ma s hs (q + 1)).2 (ix2 d j) = ∑ t ∈ Finset.range (q + 1), ∑ i, (w t i : EReal)
          * (if h : d.val < 256 then M.a5 (ix3 0 ⟨d.val, h⟩ (Soft.keyIdx q t i)) else 1) := by
  let x := ctxOf M q
  let b : ℕ → ℝ := fun t => σ * (((Soft.keyOf q t : ℝ) - q) * 512)
  let L : ℕ → Fin 512 → ℝ := fun t i => ∑ c : Fin 128, K (Soft.keyIdx q t i) ⟨128 * s + c.val, by omega⟩ * Q j ⟨128 * s + c.val, by omega⟩ + i.val * σ
  obtain ⟨μ, -, hA⟩ := Soft.running (q + 1) (fun t => (x.ma s hs t).1 (ix2 0 j)) (fun t (d : Fin 272) => (x.ma s hs t).2 (ix2 d j))
    (fun t i => x.blk t s hs (ix2 i j)) (pass j) L b (fun t d i => x.val t (ix2 d i))
    (fun t => ⟨j, fun _ => le_rfl⟩) (getM_start s hs j) (fun d => getA_start s hs d j)
    (fun t ht i => by
      cases t with
      | zero =>
        refine (maskV_at _ i j).trans (if_congr ⟨fun h _ => h, fun h => h rfl⟩ ?_ rfl)
        exact sc_at M q q s hs σ hσ Q K hQ hK i j
      | succ n =>
        refine Eq.trans ?_ (if_pos (fun h => absurd h (Nat.succ_ne_zero n))).symm
        exact sc_at M q n s hs σ hσ Q K hQ hK i j)
    (fun t ht => by
      refine (newM_at _ _ _ j).trans ?_
      rw [colMax_at, bias_at M q t hq (by omega) σ hσ])
    (fun t ht d => by
      refine (newAcc_at _ _ _ _ _ d j).trans ?_
      refine congrArg₂ (· + ·) rfl (congrArg (0 + ·) (Finset.sum_congr rfl fun i _ => congrArg (_ * ·) ?_))
      refine (ptV_at _ _ _ i j).trans ?_
      rw [bias_at M q t hq (by omega) σ hσ]
      rfl) q (by omega)
  refine ⟨Soft.wt (pass j) L b μ, (2 : ℝ) ^ (-μ), by positivity, fun t ht i => ?_, fun d => ?_⟩
  · have hp : pass j t i ↔ (Soft.keyIdx q t i).val ≤ 512 * q + j.val := by
      unfold pass Soft.keyIdx
      cases t with
      | zero =>
        simp only [Soft.keyOf]
        exact ⟨fun h => by have := h trivial; omega, fun h _ => by omega⟩
      | succ n => simp only [Soft.keyOf]; constructor <;> intro h <;> omega
    unfold Soft.wt
    rw [if_congr hp rfl rfl]
    split
    · rw [← Real.rpow_add (by norm_num)]
      congr 1
      have hk : Soft.keyOf q t < 32 := by cases t <;> simp only [Soft.keyOf] <;> omega
      have e : ((Soft.keyIdx q t i).val : ℝ) = 512 * Soft.keyOf q t + i.val := by
        show ((512 * (Soft.keyOf q t % 32) + i.val : ℕ) : ℝ) = _
        rw [Nat.mod_eq_of_lt hk]; push_cast; rfl
      show L t i - (μ - b t) = lg Q K σ q s hs j (Soft.keyIdx q t i) + -μ
      unfold lg
      rw [e]
      show _ + i.val * σ - (μ - σ * (((Soft.keyOf q t : ℝ) - q) * 512)) = _
      ring
    · simp
  · refine (hA d).trans (Finset.sum_congr rfl fun t _ => Finset.sum_congr rfl fun i _ => congrArg (_ * ·) ?_)
    have e : x.key t = Soft.keyOf q t := by cases t <;> rfl
    show vBlock (F := Ideal) M.a5 ![0, 0, 512 * (x.key t % 32)] (inbV _) (ix2 d i) = _
    rw [vBlock_at]
    split
    · rename_i h
      congr 2
    · rfl

end Cert.KernelIdeal.Steps
end
-- ==== Proof.OutK.lean ====
module

public import proofs.«01_k».proof.Proof.EvalK
public import proofs.«01_k».proof.Proof.Launch
public import proofs.«01_k».proof.Proof.Softmax
public import proofs.«01_k».proof.Proof.Consts
public import Idealize.ShloMosaic.Lib.Pointwise

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

/-! ## The output block at an index -/

theorem diff_at (lam : FVec Ideal S4x128 .f32) (a : FVec Ideal S1x256x512 .f32) (l : FVec Ideal S1x1x512 .f32)
    (b : FVec Ideal S1x256x512 .f32) (l' : FVec Ideal S1x1x512 .f32) (d : Fin 256) (j : Fin 512) :
    k0_pay444 lam a l b l' (ix2 d j) = a (ix3 0 d j) * Ideal.div 1 (l (ix3 0 0 j))
      - Soft.lamOf (fun r k => lam (ix2 r k)) * (b (ix3 0 d j) * Ideal.div 1 (l' (ix3 0 0 j))) := by
  pointwise [k0_pay444, Soft.lamOf]

theorem norm_at (v : FVec Ideal S256x512 .f32) (g : FVec Ideal S1x256 .f32) (j : Fin 512) (d : Fin 256) :
    k0_pay2 v g (ix2 j d) = v (ix2 d j)
      * Ideal.rsqrt (Ideal.div (∑ k : Fin 256, v (ix2 k j) * v (ix2 k j)) (Ideal.ofBits .f32 0x43800000#32) + Ideal.ofBits .f32 0x358637BD#32)
      * g (ix2 0 d) * Ideal.ofBits .f32 0x3F24FD5C#32 := by
  pointwise [k0_pay2]

theorem outV_at (lam : FVec Ideal S4x128 .f32) (g : FVec Ideal S1x256 .f32) (A B : FVec Ideal S272x512 .f32) (j : Fin 512) (d : Fin 256) :
    outV lam g A B (ix2 j d) = Soft.tail (fun k => A (ix2 ⟨k.val, by omega⟩ j) * Ideal.div 1 (A (ix2 256 j)))
      (fun k => B (ix2 ⟨k.val, by omega⟩ j) * Ideal.div 1 (B (ix2 256 j))) (Soft.lamOf (fun r k => lam (ix2 r k))) (g (ix2 0 d)) d := by
  unfold outV
  rw [norm_at]
  simp only [diff_at]
  rfl

/-- The weights of a query over the keys up to it. -/
def causal (g : ℕ) (l : Fin 16384 → ℝ) (k : Fin 16384) : ℝ := if k.val ≤ g then Real.exp (l k) else 0

theorem causal_pos (g : ℕ) (l : Fin 16384 → ℝ) : 0 < ∑ k, causal g l k := by
  refine Finset.sum_pos' (fun k _ => ?_) ⟨0, Finset.mem_univ _, ?_⟩
  · unfold causal; split <;> positivity
  · unfold causal; rw [if_pos (show (0 : Fin 16384).val ≤ g from Nat.zero_le _)]; positivity

/-- One map's accumulator over its ones' row: the values' mean under the exponentials of any scores that differ from the
    kernel's exponents by one number. -/
theorem map_at (M : Mem Ideal) (q s : ℕ) (hq : q < 32) (hs : s < 2) (σ : ℝ) (hσ : slV (F := Ideal) M.a6 (ix2 0 0) = (σ : EReal))
    (Q : Fin 512 → Fin 256 → ℝ) (K : Fin 16384 → Fin 256 → ℝ) (hQ : ∀ j c, M.a3 (ix2 j c) = (Q j c : EReal))
    (hK : ∀ k c, M.a4 (ix2 k c) = (K k c : EReal)) (j : Fin 512) (l : Fin 16384 → ℝ) (e : ℝ)
    (hl : ∀ k, lg Q K σ q s hs j k * Real.log 2 = l k + e) (d : Fin 256) :
    ((ctxOf M q).ma s hs (q + 1)).2 (ix2 ⟨d.val, by omega⟩ j) * Ideal.div 1 (((ctxOf M q).ma s hs (q + 1)).2 (ix2 256 j))
      = Soft.att (causal (512 * q + j.val) l) (fun k => M.a5 (ix3 0 d k)) := by
  obtain ⟨w, c, hc, hw, hA⟩ := acc_at M q s hq hs σ hσ Q K hQ hK j
  have h1 := hA ⟨d.val, by omega⟩
  have h2 := hA 256
  have h1' : ((ctxOf M q).ma s hs (q + 1)).2 (ix2 ⟨d.val, by omega⟩ j)
      = ∑ t ∈ Finset.range (q + 1), ∑ i, (w t i : EReal) * M.a5 (ix3 0 d (Soft.keyIdx q t i)) := by
    rw [h1]; exact Finset.sum_congr rfl fun t _ => Finset.sum_congr rfl fun i _ => congrArg (_ * ·) (dif_pos d.isLt)
  have h2' : ((ctxOf M q).ma s hs (q + 1)).2 (ix2 256 j) = ∑ t ∈ Finset.range (q + 1), ∑ i, (w t i : EReal) * 1 := by
    rw [h2]; exact Finset.sum_congr rfl fun t _ => Finset.sum_congr rfl fun i _ => congrArg (_ * ·) (dif_neg (by decide))
  rw [h1', h2']
  refine Soft.mean_of_blocks q hq w (causal (512 * q + j.val) l) (fun k => M.a5 (ix3 0 d k)) (c := Real.exp e * c) (by positivity) (fun t ht i => ?_)
    (fun k hk => if_neg (by omega)) (causal_pos _ _)
  rw [hw t ht i, ← mul_assoc]
  congr 1
  unfold causal
  split
  · rw [← Real.exp_add, ← hl, mul_comm, Real.exp_mul, Real.exp_log (by norm_num)]
  · rw [zero_mul]

/-- The output block of a query block. -/
theorem out_at (M : Mem Ideal) (q : ℕ) (hq : q < 32) (σ : ℝ) (hσ : slV (F := Ideal) M.a6 (ix2 0 0) = (σ : EReal))
    (Q : Fin 512 → Fin 256 → ℝ) (K : Fin 16384 → Fin 256 → ℝ) (hQ : ∀ j c, M.a3 (ix2 j c) = (Q j c : EReal))
    (hK : ∀ k c, M.a4 (ix2 k c) = (K k c : EReal)) (j : Fin 512) (l₀ l₁ : Fin 16384 → ℝ) (e : ℝ)
    (h₀ : ∀ k, lg Q K σ q 0 (by omega) j k * Real.log 2 = l₀ k + e) (h₁ : ∀ k, lg Q K σ q 1 (by omega) j k * Real.log 2 = l₁ k + e) (d : Fin 256) :
    outOf M q (ix2 j d) = Soft.tail (fun c => Soft.att (causal (512 * q + j.val) l₀) (fun k => M.a5 (ix3 0 c k)))
      (fun c => Soft.att (causal (512 * q + j.val) l₁) (fun k => M.a5 (ix3 0 c k))) (Soft.lamOf (fun r k => M.a7 (ix2 r k))) (M.a8 (ix2 0 d)) d := by
  unfold outOf
  rw [outV_at]
  congr 1
  · funext c; exact map_at M q 0 hq (by omega) σ hσ Q K hQ hK j l₀ e h₀ c
  · funext c; exact map_at M q 1 hq (by omega) σ hσ Q K hQ hK j l₁ e h₁ c

end Cert.KernelIdeal.Steps
end
-- ==== Proof.Windows.lean ====
module

public import proofs.«01_k».proof.Proof.OutK
public import proofs.«01_k».proof.Proof.Softmax
public import proofs.«01_k».proof.Proof.Consts
public import Idealize.ShloMosaic.Lib.Pointwise

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable (m : (ℓ : Loc nD τ sig) → Buf (Elt Ideal) ℓ)

/-! ## The arrays the region finds, at an index -/

/-- The factor on the queries. -/
def qScale : ℝ := 1 / (Real.sqrt 128 * Real.log 2)

theorem scale_at : Ideal.div 1 (Ideal.sqrt ((128 : ℝ) : EReal) * Ideal.log ((2 : ℝ) : EReal)) = ((qScale : ℝ) : EReal) := by
  have hl : 0 < Real.log 2 := Real.log_pos (by norm_num)
  have e1 : Ideal.sqrt ((128 : ℝ) : EReal) = ((Real.sqrt 128 : ℝ) : EReal) := by rw [Ideal.sqrt_coe, if_neg (by norm_num)]
  have e2 : Ideal.log ((2 : ℝ) : EReal) = ((Real.log 2 : ℝ) : EReal) := by rw [Ideal.log_coe, if_neg (by norm_num)]
  rw [e1, e2, ← EReal.coe_mul, Ideal.div_coe (by positivity), one_mul]
  rfl

/-- The packed queries and keys. -/
theorem qk_at (c : Dev nD) (r : Fin 32768) (n : Fin 4096) :
    (show FVec Ideal S32768x4096 .bf16 from V m c main_v9) (ix2 r n)
      = if h : n.val < 2048 then (show FVec Ideal S2x16384x2048 .f32 from m ((c : Thread nD τ).loc main_arg0)) (ix3 ⟨r.val / 16384, by omega⟩ ⟨r.val % 16384, by omega⟩ ⟨n.val, h⟩) * ((qScale : ℝ) : EReal)
        else (show FVec Ideal S2x16384x4096 .f32 from m ((c : Thread nD τ).loc main_arg1)) (ix3 ⟨r.val / 16384, by omega⟩ ⟨r.val % 16384, by omega⟩ ⟨n.val - 2048, by omega⟩) := by
  dsimp only
  unfold V
  after_results_simp
  pointwise
  by_cases h : n.val < 2048
  · rw [dif_pos h, dif_pos h]
    after_results_simp
    pointwise
    rw [Soft.bits_128, Soft.bits_two]
    exact congrArg (fun z : EReal => (show EReal from m (c, Proc.tc.devRef main_arg0) (ix3 ⟨r.val / 16384, by omega⟩ ⟨r.val % 16384, by omega⟩ ⟨n.val, h⟩)) * z) scale_at
  · rw [dif_neg h, dif_neg h]
    after_results_simp
    pointwise

/-- The values, channels first. -/
theorem vt_at (c : Dev nD) (b : Fin 2) (n : Fin 2048) (k : Fin 16384) :
    (show FVec Ideal S2x2048x16384 .bf16 from V m c main_v12) (ix3 b n k)
      = (show FVec Ideal S2x16384x4096 .f32 from m ((c : Thread nD τ).loc main_arg1)) (ix3 b k ⟨2048 + n.val, by omega⟩) := by
  dsimp only
  unfold V
  after_results_simp
  pointwise

/-- The gain. -/
theorem gain_at (c : Dev nD) (n : Fin 2048) :
    (show FVec Ideal S1x2048 .f32 from V m c main_v13) (ix2 0 n) = (show FVec Ideal S2048 .f32 from m ((c : Thread nD τ).loc main_arg3)) (ix1 n) := by
  dsimp only
  unfold V
  after_results_simp
  pointwise

/-- The slopes. -/
theorem slope_at (c : Dev nD) (h : Fin 8) (l : Fin 128) :
    (show FVec Ideal S8x1x128 .f32 from V m c main_v15) (ix3 h 0 l) = Ideal.ofBits .f32 (lit0 (S8.rowMajor (ix1 h))) := by
  dsimp only
  unfold V
  after_results_simp
  pointwise

/-! ## The blocks' places -/

theorem coord0 (t : Fin cfg0.N) : (grid0.coords t 0).val = t.val / 256 := by
  have e : (grid0.coords t 0).val = t.val / 256 % 2 := Pipeline.Grid.coords_val t 0 (by decide) rfl
  have ht : t.val < 512 := t.isLt
  omega
theorem coord1 (t : Fin cfg0.N) : (grid0.coords t 1).val = t.val / 32 % 8 := Pipeline.Grid.coords_val t 1 (by decide) rfl

theorem e0 : ∀ t : Fin cfg0.N, win0_0.index t = ![t.val / 256 * 32 + t.val % 32, t.val / 32 % 8] := (by decide +kernel : ∀ t : Fin grid0.N, _)
theorem e1 : ∀ t : Fin cfg0.N, win0_1.index t = ![t.val / 256, 8 + t.val / 32 % 8] := (by decide +kernel : ∀ t : Fin grid0.N, _)
theorem e2 : ∀ t : Fin cfg0.N, win0_2.index t = ![t.val / 256, t.val / 32 % 8, 0] := (by decide +kernel : ∀ t : Fin grid0.N, _)
theorem e3 : ∀ t : Fin cfg0.N, win0_3.index t = ![t.val / 32 % 8, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, t.val / 32 % 8] := (by decide +kernel : ∀ t : Fin grid0.N, _)
theorem e6 : ∀ t : Fin cfg0.N, win0_6.index t = ![t.val / 256 * 32 + t.val % 32, t.val / 32 % 8] := (by decide +kernel : ∀ t : Fin grid0.N, _)

/-! ## The windows' blocks, at an index -/

theorem blk0 (c : Dev nD) (t : Fin cfg0.N) (j : Fin 512) (k : Fin 256) (h1 : 512 * (t.val / 256 * 32 + t.val % 32) + j.val < 32768) (h2 : 256 * (t.val / 32 % 8) + k.val < 4096) :
    (show FVec Ideal S512x256 .bf16 from iblk m c 0 t) (ix2 j k)
      = (show FVec Ideal S32768x4096 .bf16 from V m c main_v9) (ix2 ⟨512 * (t.val / 256 * 32 + t.val % 32) + j.val, h1⟩ ⟨256 * (t.val / 32 % 8) + k.val, h2⟩) := by
  dsimp only
  blk_simp [iblk]
  blk_ext [e0]

theorem blk1 (c : Dev nD) (t : Fin cfg0.N) (r : Fin 16384) (k : Fin 256) (h1 : 16384 * (t.val / 256) + r.val < 32768) (h2 : 256 * (8 + t.val / 32 % 8) + k.val < 4096) :
    (show FVec Ideal S16384x256 .bf16 from iblk m c 1 t) (ix2 r k)
      = (show FVec Ideal S32768x4096 .bf16 from V m c main_v9) (ix2 ⟨16384 * (t.val / 256) + r.val, h1⟩ ⟨256 * (8 + t.val / 32 % 8) + k.val, h2⟩) := by
  dsimp only
  blk_simp [iblk]
  blk_ext [e1]

theorem blk2 (c : Dev nD) (t : Fin cfg0.N) (d : Fin 256) (k : Fin 16384) (h1 : t.val / 256 < 2) (h2 : 256 * (t.val / 32 % 8) + d.val < 2048) :
    (show FVec Ideal S1x256x16384 .bf16 from iblk m c 2 t) (ix3 0 d k)
      = (show FVec Ideal S2x2048x16384 .bf16 from V m c main_v12) (ix3 ⟨t.val / 256, h1⟩ ⟨256 * (t.val / 32 % 8) + d.val, h2⟩ k) := by
  dsimp only
  blk_simp [iblk]
  blk_ext [e2]

theorem blk3 (c : Dev nD) (t : Fin cfg0.N) (h1 : t.val / 32 % 8 < 8) :
    (show FVec Ideal S1x1x128 .f32 from iblk m c 3 t) (ix3 0 0 0)
      = (show FVec Ideal S8x1x128 .f32 from V m c main_v15) (ix3 ⟨t.val / 32 % 8, h1⟩ 0 0) := by
  dsimp only
  blk_simp [iblk]
  blk_ext [e3]

theorem blk4 (c : Dev nD) (t : Fin cfg0.N) (r : Fin 4) (k : Fin 128) :
    (show FVec Ideal S4x128 .f32 from iblk m c 4 t) (ix2 r k) = (show FVec Ideal S4x128 .f32 from m ((c : Thread nD τ).loc main_arg2)) (ix2 r k) := by
  rw [← V_main_arg2 m c]
  dsimp only
  blk_simp [iblk]
  blk_ext [e4]

theorem blk5 (c : Dev nD) (t : Fin cfg0.N) (d : Fin 256) (h : 256 * (t.val / 32 % 8) + d.val < 2048) :
    (show FVec Ideal S1x256 .f32 from iblk m c 5 t) (ix2 0 d)
      = (show FVec Ideal S1x2048 .f32 from V m c main_v13) (ix2 0 ⟨256 * (t.val / 32 % 8) + d.val, h⟩) := by
  dsimp only
  blk_simp [iblk]
  blk_ext [e5]

end Cert.KernelIdeal.Steps
end
-- ==== Proof.KerTotal.lean ====
module

public import proofs.«01_k».proof.Proof.Windows
public import proofs.«01_k».proof.Proof.RefTotal
public import proofs.«01_k».proof.Proof.Softmax
public import proofs.«01_k».proof.Proof.Consts
public import Idealize.ShloMosaic.Lib.Pointwise

@[expose] public section

set_option maxRecDepth 65536
set_option synthInstance.maxSize 4096

noncomputable section

namespace Cert.KernelIdeal.Steps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Cert.ReferenceIdeal.Steps (score meanAt resultAt tail_congr)

variable (m : (ℓ : Loc nD τ sig) → Buf (Elt Ideal) ℓ)

/-! ## The result array of the kernel, at an index -/

/-- A point's exponents are the scores, up to a term of the query alone. -/
theorem lg_score (A B : Fin 2 → Fin 16384 → Fin 2048 → ℝ) (sl : Fin 8 → ℝ) (b : Fin 2) (h : Fin 8) (s : ℕ) (hs : s < 2) (q : ℕ) (hq : q < 32) (j : Fin 512) (k : Fin 16384) :
    lg (fun j c => A b ⟨512 * q + j.val, by omega⟩ ⟨h.val * 256 + c.val, by omega⟩ * qScale) (fun k c => B b k ⟨h.val * 256 + c.val, by omega⟩)
        (sl h * (Real.log 2)⁻¹) q s hs j k * Real.log 2
      = score A B sl b h ⟨s, hs⟩ ⟨512 * q + j.val, by omega⟩ k + sl h * j.val := by
  have hl : Real.log 2 ≠ 0 := (Real.log_pos (by norm_num)).ne'
  unfold lg score qScale
  rw [add_mul, Finset.sum_mul]
  have e : sl h * (Real.log 2)⁻¹ * ((k.val : ℝ) - 512 * q) * Real.log 2 = sl h * ((k.val : ℝ) - 512 * q) := by field_simp
  rw [e]
  have e2 : ∀ c : Fin 128, B b k ⟨h.val * 256 + (128 * s + c.val), by omega⟩ * (A b ⟨512 * q + j.val, by omega⟩ ⟨h.val * 256 + (128 * s + c.val), by omega⟩ * (1 / (Real.sqrt 128 * Real.log 2))) * Real.log 2
      = A b ⟨512 * q + j.val, by omega⟩ ⟨h.val * 256 + s * 128 + c.val, by omega⟩ * (1 / Real.sqrt 128) * B b k ⟨h.val * 256 + s * 128 + c.val, by omega⟩ := fun c => by
    have ei : (⟨h.val * 256 + (128 * s + c.val), by omega⟩ : Fin 2048) = ⟨h.val * 256 + s * 128 + c.val, by omega⟩ := Fin.ext (by dsimp only; omega)
    rw [ei]; field_simp
  rw [Finset.sum_congr rfl fun c _ => e2 c]
  push_cast
  ring

theorem at3 {α β γ δ : Type*} (f : α → β → γ → δ) {a a' : α} {b b' : β} {c c' : γ} (ha : a = a') (hb : b = b') (hc : c = c') : f a b c = f a' b' c' := by
  subst ha; subst hb; subst hc; rfl

/-- What point `t` leaves in the output window, at an index. -/
theorem point_at (c : Dev nD) (A' B' : Fin 2 → Fin 16384 → Fin 2048 → ℝ) (sl : Fin 8 → ℝ)
    (hA' : ∀ b s n, (show FVec Ideal S2x16384x2048 .f32 from m ((c : Thread nD τ).loc main_arg0)) (ix3 b s n) = (A' b s n : EReal))
    (hB' : ∀ b s (n : Fin 2048), (show FVec Ideal S2x16384x4096 .f32 from m ((c : Thread nD τ).loc main_arg1)) (ix3 b s ⟨n.val, by omega⟩) = (B' b s n : EReal))
    (hsl : ∀ h, Ideal.ofBits .f32 (lit0 (S8.rowMajor (ix1 h))) = (sl h : EReal))
    (t : Fin cfg0.N) (b : Fin 2) (h : Fin 8) (q : ℕ) (hq : q < 32) (hb : b.val = t.val / 256) (hh : h.val = t.val / 32 % 8) (hqt : q = t.val % 32) (j : Fin 512) (d : Fin 256) :
    (show FVec Ideal S512x256 .bf16 from outAt m c t) (ix2 j d)
      = resultAt A' B' sl (fun b s n => (show FVec Ideal S2x16384x4096 .f32 from m ((c : Thread nD τ).loc main_arg1)) (ix3 b s n))
        (fun r k => (show FVec Ideal S4x128 .f32 from m ((c : Thread nD τ).loc main_arg2)) (ix2 r k))
        (fun n => (show FVec Ideal S2048 .f32 from m ((c : Thread nD τ).loc main_arg3)) (ix1 n)) b h ⟨512 * q + j.val, by omega⟩ d := by
  have hbl := b.isLt
  have hhl := h.isLt
  have hv : ∀ (n : Fin 256) (k : Fin 16384), (show FVec Ideal S1x256x16384 .bf16 from iblk m c 2 t) (ix3 0 n k)
      = (show FVec Ideal S2x16384x4096 .f32 from m ((c : Thread nD τ).loc main_arg1)) (ix3 b k ⟨2048 + (h.val * 256 + n.val), by omega⟩) := fun n k => by
    refine (blk2 m c t n k (by omega) (by omega)).trans ((vt_at m c _ _ k).trans ?_)
    have ei : (⟨t.val / 256, by omega⟩ : Fin 2) = b := Fin.ext hb.symm
    have ej : (⟨2048 + (256 * (t.val / 32 % 8) + n.val), by omega⟩ : Fin 4096) = ⟨2048 + (h.val * 256 + n.val), by omega⟩ := Fin.ext (by dsimp only; omega)
    exact congrArg₂ (fun i l => (show FVec Ideal S2x16384x4096 .f32 from m ((c : Thread nD τ).loc main_arg1)) (ix3 i k l)) ei ej
  have hQ : ∀ (i : Fin 512) (n : Fin 256), (show FVec Ideal S512x256 .bf16 from iblk m c 0 t) (ix2 i n)
      = ((A' b ⟨512 * q + i.val, by omega⟩ ⟨h.val * 256 + n.val, by omega⟩ * qScale : ℝ) : EReal) := fun i n => by
    refine (blk0 m c t i n (by omega) (by omega)).trans ((qk_at m c _ _).trans ?_)
    rw [dif_pos (show 256 * (t.val / 32 % 8) + n.val < 2048 by omega), EReal.coe_mul, ← hA']
    have ei : (⟨(512 * (t.val / 256 * 32 + t.val % 32) + i.val) / 16384, by omega⟩ : Fin 2) = b := Fin.ext (by dsimp only; omega)
    have ej : (⟨(512 * (t.val / 256 * 32 + t.val % 32) + i.val) % 16384, by omega⟩ : Fin 16384) = ⟨512 * q + i.val, by omega⟩ := Fin.ext (by dsimp only; omega)
    have ek : (⟨256 * (t.val / 32 % 8) + n.val, by omega⟩ : Fin 2048) = ⟨h.val * 256 + n.val, by omega⟩ := Fin.ext (by dsimp only; omega)
    exact congrArg (fun z : EReal => z * ((qScale : ℝ) : EReal)) (at3 (fun i j k => (show FVec Ideal S2x16384x2048 .f32 from m ((c : Thread nD τ).loc main_arg0)) (ix3 i j k)) ei ej ek)
  have hK : ∀ (k : Fin 16384) (n : Fin 256), (show FVec Ideal S16384x256 .bf16 from iblk m c 1 t) (ix2 k n)
      = (B' b k ⟨h.val * 256 + n.val, by omega⟩ : EReal) := fun k n => by
    refine (blk1 m c t k n (by omega) (by omega)).trans ((qk_at m c _ _).trans ?_)
    rw [dif_neg (show ¬ 256 * (8 + t.val / 32 % 8) + n.val < 2048 by omega), ← hB']
    have ei : (⟨(16384 * (t.val / 256) + k.val) / 16384, by omega⟩ : Fin 2) = b := Fin.ext (by dsimp only; omega)
    have ej : (⟨(16384 * (t.val / 256) + k.val) % 16384, by omega⟩ : Fin 16384) = k := Fin.ext (by dsimp only; omega)
    have ek : (⟨256 * (8 + t.val / 32 % 8) + n.val - 2048, by omega⟩ : Fin 4096) = ⟨h.val * 256 + n.val, by omega⟩ := Fin.ext (by dsimp only; omega)
    exact at3 (fun i j k => (show FVec Ideal S2x16384x4096 .f32 from m ((c : Thread nD τ).loc main_arg1)) (ix3 i j k)) ei ej ek
  have hσ : slV (F := Ideal) (iblk m c 3 t) (ix2 0 0) = ((sl h * (Real.log 2)⁻¹ : ℝ) : EReal) := by
    refine (slV_at (iblk m c 3 t)).trans ?_
    have ei : (⟨t.val / 32 % 8, by omega⟩ : Fin 8) = h := Fin.ext hh.symm
    rw [EReal.coe_mul, ← hsl, ← ei]
    exact congrArg (· * _) ((blk3 m c t (by omega)).trans (slope_at m c _ _))
  have hg : (show FVec Ideal S1x256 .f32 from iblk m c 5 t) (ix2 0 d)
      = (show FVec Ideal S2048 .f32 from m ((c : Thread nD τ).loc main_arg3)) (ix1 ⟨h.val * 256 + d.val, by omega⟩) := by
    refine (blk5 m c t d (by omega)).trans ((gain_at m c _).trans ?_)
    have ei : (⟨256 * (t.val / 32 % 8) + d.val, by omega⟩ : Fin 2048) = ⟨h.val * 256 + d.val, by omega⟩ := Fin.ext (by dsimp only; omega)
    rw [ei]
  have hq' : (grid0.coords t 2).val = q := (coords2 t).trans hqt.symm
  unfold outAt
  rw [hq']
  refine (out_at (memOf (iblk m c 0 t) (iblk m c 1 t) (iblk m c 2 t) (iblk m c 3 t) (iblk m c 4 t) (iblk m c 5 t)) q hq _ hσ _ _ hQ hK j
    _ _ _ (lg_score A' B' sl b h 0 (by omega) q hq j) (lg_score A' B' sl b h 1 (by omega) q hq j) d).trans ?_
  unfold resultAt
  refine tail_congr (fun n => ?_) (fun n => ?_) (congrArg Soft.lamOf (funext fun r => funext fun k => blk4 m c t r k)) hg d
  · exact congrArg (Soft.att _) (funext fun k => hv n k)
  · exact congrArg (Soft.att _) (funext fun k => hv n k)

/-- The kernel's result array. -/
theorem array_at (c : Dev nD) (A' B' : Fin 2 → Fin 16384 → Fin 2048 → ℝ) (sl : Fin 8 → ℝ)
    (hA' : ∀ b s n, (show FVec Ideal S2x16384x2048 .f32 from m ((c : Thread nD τ).loc main_arg0)) (ix3 b s n) = (A' b s n : EReal))
    (hB' : ∀ b s (n : Fin 2048), (show FVec Ideal S2x16384x4096 .f32 from m ((c : Thread nD τ).loc main_arg1)) (ix3 b s ⟨n.val, by omega⟩) = (B' b s n : EReal))
    (hsl : ∀ h, Ideal.ofBits .f32 (lit0 (S8.rowMajor (ix1 h))) = (sl h : EReal)) (v : FVec Ideal S32768x2048 .bf16)
    (hv : ∀ (r : Fin 32768) (n : Fin 2048), v (ix2 r n)
      = resultAt A' B' sl (fun b s n => (show FVec Ideal S2x16384x4096 .f32 from m ((c : Thread nD τ).loc main_arg1)) (ix3 b s n))
        (fun r k => (show FVec Ideal S4x128 .f32 from m ((c : Thread nD τ).loc main_arg2)) (ix2 r k))
        (fun n => (show FVec Ideal S2048 .f32 from m ((c : Thread nD τ).loc main_arg3)) (ix1 n))
        ⟨r.val / 16384, by omega⟩ ⟨n.val / 256, by omega⟩ ⟨r.val % 16384, by omega⟩ ⟨n.val % 256, by omega⟩) :
    (dats m 0 c).arrAt 6 cfg0.N = v := by
  refine (dats m 0 c).arrAt_eq_of_covers 6 v (by decide +kernel) fun t hf y => ?_
  blk_simp
  rw [after0_6]
  have ht : t.val < 512 := t.isLt
  have hy0 : (y 0).val < 512 := (y 0).isLt
  have hy1 : (y 1).val < 256 := (y 1).isLt
  have ey : y = ix2 (⟨(y 0).val, hy0⟩ : Fin 512) (⟨(y 1).val, hy1⟩ : Fin 256) := by
    funext a; fin_cases a <;> rfl
  have ez : (win0_6.blk t).view.emb y = ix2 (⟨512 * (t.val / 256 * 32 + t.val % 32) + (y 0).val, by omega⟩ : Fin 32768) (⟨256 * (t.val / 32 % 8) + (y 1).val, by omega⟩ : Fin 2048) := by
    blk_ext [e6]
  have p := point_at m c A' B' sl hA' hB' hsl t ⟨t.val / 256, by omega⟩ ⟨t.val / 32 % 8, by omega⟩ (t.val % 32) (by omega) rfl rfl rfl ⟨(y 0).val, hy0⟩ ⟨(y 1).val, hy1⟩
  refine ((congrArg (show FVec Ideal S512x256 .bf16 from outAt m c t) ey).trans p).trans (Eq.trans ?_ (congrArg v ez).symm)
  rw [hv]
  have i1 : (⟨(512 * (t.val / 256 * 32 + t.val % 32) + (y 0).val) / 16384, by omega⟩ : Fin 2) = ⟨t.val / 256, by omega⟩ := Fin.ext (by dsimp only; omega)
  have i2 : (⟨(256 * (t.val / 32 % 8) + (y 1).val) / 256, by omega⟩ : Fin 8) = ⟨t.val / 32 % 8, by omega⟩ := Fin.ext (by dsimp only; omega)
  have i3 : (⟨(512 * (t.val / 256 * 32 + t.val % 32) + (y 0).val) % 16384, by omega⟩ : Fin 16384) = ⟨512 * (t.val % 32) + (y 0).val, by omega⟩ := Fin.ext (by dsimp only; omega)
  have i4 : (⟨(256 * (t.val / 32 % 8) + (y 1).val) % 256, by omega⟩ : Fin 256) = ⟨(y 1).val, hy1⟩ := Fin.ext (by dsimp only; omega)
  rw [i1, i2, i3, i4]

end Cert.KernelIdeal.Steps
end
-- ==== Proof.Finite.lean ====
module

public import proofs.«01_k».proof.Pre_finite
public import proofs.«01_k».proof.Proof.Consts
public import Idealize.ShloMosaic.Lib.Pointwise

@[expose] public section

set_option maxRecDepth 65536

noncomputable section

/-! The precondition: every entry of the queries and of the keys is a real. -/

namespace Cert.Pre_finite

open Idealize.ShloMosaic

theorem facts : Facts where
  bcast_S_S2x16384x2048 := by decide
  reducesTo_S2x16384x2048_S_d0_1_2 := by decide
  h_S_ := by decide
  slices_S2x16384x4096_S2x16384x2048_0_0_0 := by decide

/-- A conjunction is one only if both sides are. -/
theorem and_one : ∀ u v : BitVec 1, IntOp.andi u v = 1#1 → u = 1#1 ∧ v = 1#1 := by decide

/-- A conjunction over a finite set is one only if each member is. -/
theorem fold_one {ι : Type*} (f : ι → BitVec 1) (s : Finset ι) (h : Finset.fold IntOp.andi (1#1) f s = 1#1) : ∀ i ∈ s, f i = 1#1 := by
  classical
  induction s using Finset.induction_on with
  | empty => intro i hi; cases hi
  | insert a s ha ih =>
    rw [Finset.fold_insert ha] at h
    obtain ⟨h1, h2⟩ := and_one _ _ h
    intro i hi
    rcases Finset.mem_insert.mp hi with e | hi
    · exact e ▸ h1
    · exact ih h2 i hi

/-- The same over a whole finite type. -/
theorem fold_univ_one {ι : Type*} [Fintype ι] (f : ι → BitVec 1) (h : Finset.fold IntOp.andi (1#1) f Finset.univ = 1#1) (i : ι) : f i = 1#1 :=
  fold_one f _ h i (Finset.mem_univ _)

/-- A proposition whose truth word is one holds. -/
theorem of_word {p : Prop} (d : Decidable p) (h : BitVec.ofBool (@decide p d) = 1#1) : p := by
  by_contra hn
  rw [decide_eq_false hn] at h
  exact absurd h (by decide)

/-- Below infinity in absolute value is real. -/
theorem real_of_lt (x : EReal) (h : max x (-x) < Ideal.ofBits .f32 0x7F800000#32) : ∃ r : ℝ, x = (r : EReal) := by
  rw [Soft.bits_inf] at h
  induction x with
  | bot => simp at h
  | top => simp at h
  | coe r => exact ⟨r, rfl⟩

variable [Facts]

/-- What the precondition says: the queries and the keys are real. -/
theorem real_entries (a0 : FVec Ideal S2x16384x2048 .f32) (a1 : FVec Ideal S2x16384x4096 .f32) (a2 : FVec Ideal S4x128 .f32) (a3 : FVec Ideal S2048 .f32)
    (h : fn (F := Ideal) a0 a1 a2 a3 = fun _ => 1#1) :
    (∀ b s n, ∃ r : ℝ, a0 (ix3 b s n) = (r : EReal)) ∧ ∀ b s (n : Fin 2048), ∃ r : ℝ, a1 (ix3 b s ⟨n.val, by omega⟩) = (r : EReal) := by
  have h0 := congrFun h ix0
  unfold fn at h0
  pointwise at h0
  obtain ⟨h1, h2⟩ := and_one _ _ h0
  have e1 := fold_univ_one _ h1
  have e2 := fold_univ_one _ h2
  clear h h0 h1 h2
  exact ⟨fun b s n => real_of_lt _ (of_word _ (e1 (b, s, n))), fun b s n => real_of_lt _ (of_word _ (e2 (b, s, n)))⟩

end Cert.Pre_finite
end
-- ==== Proof.Claims.lean ====
module

public import proofs.«01_k».proof.Defs
public import proofs.«01_k».proof.Proof.Gen.Kernel
public import proofs.«01_k».proof.Proof.Gen.KernelIdeal
public import proofs.«01_k».proof.Proof.Launch
public import proofs.«01_k».proof.Proof.RefRun
public import proofs.«01_k».proof.Proof.RefTotal
public import proofs.«01_k».proof.Proof.KerTotal
public import proofs.«01_k».proof.Proof.Finite

@[expose] public section

set_option maxRecDepth 65536
set_option synthInstance.maxSize 4096

noncomputable section

namespace Cert.Proof

open Idealize.ShloMosaic Idealize.ShloMosaic.TcCoe Idealize.ShloMosaic.Tactic Idealize.SL.Sem

/-- A named constant at the words of the machine is the constant it stands for. -/
@[instance_reducible] def namedBits : Named Bits := ⟨fun _ _ _ b => FloatOps.ofBits _ b⟩

/-- The frame of the idealization's text at machine words. -/
def FrameBits : Prop :=
  letI : Named Bits := namedBits
  ∀ (m : (ℓ : Loc Cert.KernelIdeal.nD Cert.KernelIdeal.τ Cert.KernelIdeal.sig) → Buf (Elt Bits) ℓ) (g : Dev Cert.KernelIdeal.nD → PrngReg), Cert.Pre_Kernel m →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem frameBits : FrameBits := fun m ρ _ =>
  letI : Named Bits := namedBits
  Cert.KernelIdeal.Steps.run_frame (F := Bits) m ρ

/-- The kernel's text is the idealization's with the names read as their constants. -/
theorem frame_text : FrameBits = Cert.quiescent_Kernel := by
  chain_rfl

theorem frame_kernel : Cert.quiescent_Kernel := frame_text.mp frameBits

theorem frame_kernelIdeal : Cert.quiescent_KernelIdeal := fun m ρ _ => Cert.KernelIdeal.Steps.run_frame (F := Ideal) m ρ

theorem frame_reference : Cert.quiescent_ReferenceIdeal := fun m ρ _ => Cert.ReferenceIdeal.Steps.run_frame (F := Ideal) m ρ

/-- The one name denotes the reciprocal of the natural logarithm of two. -/
theorem preserves : Cert.preserves_Kernel_KernelIdeal :=
  IdealRules.named_const.statement Cert.KernelIdeal.κ "log2e" .f32 0x3FB8AA3B#32 (((Real.log 2)⁻¹ : ℝ) : EReal) rfl

/-! ## The value -/

instance : Cert.Pre_finite.Facts := Cert.Pre_finite.facts

theorem frame_kernelIdeal_finite : Cert.quiescent_KernelIdeal_pre_finite := fun m ρ _ => Cert.KernelIdeal.Steps.run_frame (F := Ideal) m ρ

theorem frame_reference_finite : Cert.quiescent_ReferenceIdeal_pre_finite := fun m ρ _ => Cert.ReferenceIdeal.Steps.run_frame (F := Ideal) m ρ

/-- The slopes of the two programs are the same eight reals. -/
theorem slopes : ∃ sl : Fin 8 → ℝ, ∀ h, Ideal.ofBits .f32 (Cert.KernelIdeal.lit0 (Cert.KernelIdeal.S8.rowMajor (ix1 h))) = (sl h : EReal) := by
  have e : ∀ h : Fin 8, ((Cert.KernelIdeal.lit0 (Cert.KernelIdeal.S8.rowMajor (ix1 h))).extractLsb' 23 8).toNat ≠ 255 := by decide
  choose sl hsl using fun h => Soft.bits_real _ (e h)
  exact ⟨sl, hsl⟩

theorem slopes_same (h : Fin 8) : Cert.ReferenceIdeal.lit0 (Cert.ReferenceIdeal.S8.rowMajor (ix1 h)) = Cert.KernelIdeal.lit0 (Cert.KernelIdeal.S8.rowMajor (ix1 h)) := rfl

/-- On finite queries and keys the kernel and the reference end with equal results. -/
theorem algebraic : Cert.algebraic_KernelIdeal_ReferenceIdeal_pre_finite := by
  intro m g m' g' hpre hargs
  obtain ⟨sl, hsl⟩ := slopes
  refine ⟨fun c => (Cert.KernelIdeal.Steps.dats m 0 c).arrAt 6 Cert.KernelIdeal.cfg0.N, ?_, ?_⟩
  · exact (θ_run Cert.KernelIdeal.defs _ _).mono (fun r h c => ⟨h.1 c, h.2.1 c⟩) (θ_run_and (Cert.KernelIdeal.Steps.run_value m g) (Cert.KernelIdeal.Steps.run_frame m g))
  · refine (θ_run Cert.ReferenceIdeal.defs _ _).mono (fun r h c => ⟨?_, h.2.1 c⟩) (θ_run_and (Cert.ReferenceIdeal.Steps.run_all m' g') (Cert.ReferenceIdeal.Steps.run_frame m' g'))
    obtain ⟨hq, hk⟩ := Cert.Pre_finite.real_entries _ _ _ _ (hpre c)
    choose A' hA' using hq
    choose B' hB' using hk
    obtain ⟨h0, h1, h2, h3⟩ := hargs c
    refine (h.1 c Cert.ReferenceIdeal.main_v81).trans (Cert.KernelIdeal.Steps.array_at m c A' B' sl hA' hB' hsl _ fun r n => ?_).symm
    exact Cert.ReferenceIdeal.Steps.total_ref (StableHlo.launchContents m' c) _ _ _ _ h0 h1 h2 h3 A' B' sl hA' hB' (fun h => (congrArg _ (slopes_same h)).trans (hsl h)) r n

end Cert.Proof
end
-- ==== Proof.InpRun.lean ====
module

public import proofs.«01_k».proof.Proof.Gen.Kernel5Ideal.Frame
public import proofs.«01_k».proof.Proof.Gen.Kernel5Ideal.Skeleton

@[expose] public section

set_option maxRecDepth 16384

noncomputable section

namespace Cert.Kernel5Ideal.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first column step of a row block: the condition under which the body normalizes its rows. -/
abbrev first (i : grid0.Coords) : Prop := k0_cond1 i = 1#1

theorem first_iff : ∀ t : Fin cfg0.N, first (grid0.coords t) ↔ t.val % 3 = 0 :=
  (fun t => by
    have ht : t.val < 96 := Nat.lt_of_lt_of_eq t.isLt N_0
    have e1 : (grid0.coords t 1).val = t.val / 1 % 3 := Pipeline.Grid.coords_val t 1 (by decide) rfl
    simp only [first, k0_cond1, e1]
    word_cmp
   : ∀ t : Fin grid0.N, first (grid0.coords t) ↔ t.val % 3 = 0)

set_option maxHeartbeats 2680000 in
/-- What the body leaves at the first column step, as pieces: the projection's window, the gates' window and the
    normalized rows, with the proof that the body runs to them and leaves its inputs as they were. -/
def runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : first i)
    (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) :
    Σ' (L7 : List (View.Piece (Elt F) S1024x2048 .bf16)) (L8 : List (View.Piece (Elt F) S1024x128 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc0_norm_mod_matmul i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0_norm_mod_matmul_eq_skeleton]; unfold cc0_norm_mod_matmul_skel
    simp only [k0_part35_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    iexists _; iexact H9

set_option maxHeartbeats 1000000 in
/-- What the body leaves at a later column step: the projection's window as pieces, everything else as it was. -/
def runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : ¬first i)
    (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) (xo : Vec F S1024x128 .f32) (xh : Vec F S1024x2048 .bf16) :
    { L7 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo ∗ owns (c : Thread nD τ) arg11 fullShare xh
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ owns (c : Thread nD τ) arg10 fullShare xo ∗ owns (c : Thread nD τ) arg11 fullShare xh) -∗ K ⟨⟩))
          ⊢ wp frame (wpE (defs₀ (F := F)) Variants.none c none) E (cc0_norm_mod_matmul i arg2 harg2 arg3 harg3 arg4 harg4 arg5 harg5 arg6 harg6 arg7 harg7 arg8 harg8 arg9 harg9 arg10 harg10 arg11 harg11) K } := by
  refine ⟨?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]
    · iexists _; isplitr; · ipureintro; exact harg10.read_unread _
      iexact H8
    iexists _; isplitr; · ipureintro; exact harg11.read_unread _
    iexact H9

end Cert.Kernel5Ideal.Inp
end
-- ==== Proof.InpFrame.lean ====
module

public import Idealize.ShloMosaic.Lib.Claim
public import proofs.«01_k».proof.Proof.Gen.Kernel5Ideal.Frame
public import proofs.«01_k».proof.Proof.Gen.Kernel5Ideal.Skeleton
public import proofs.«01_k».proof.Proof.InpRun

@[expose] public section

set_option maxRecDepth 16384

noncomputable section

namespace Cert.Kernel5Ideal.Inp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of each output and the scratch, through which their contents are stated. -/
abbrev VO7 : View sig .tc .vmem S1024x2048 .bf16 := (Memref.whole cc0_stg7_0 : Memref sig .tc .vmem S1024x2048 .bf16).view
abbrev VO8 : View sig .tc .vmem S1024x128 .f32 := (Memref.whole cc0_stg8_0 : Memref sig .tc .vmem S1024x128 .f32).view
abbrev scM : Memref sig .tc .vmem S1024x2048 .bf16 := Memref.whole cc0_scratch0
abbrev VS : View sig .tc .vmem S1024x2048 .bf16 := scM.view

/-- Each window's current staging memref at a point, and its wholeness. -/
abbrev ms0 (t : Fin cfg0.N) : Memref sig .tc .vmem S1024x2048 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x2048 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x2048 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x2048x2048 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x2048 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S2048x128 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x2048 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S1024x128 .f32 := win0_8.stage (cfg0.slots t 8)
abbrev hs8 (t : Fin cfg0.N) : (ms8 t).IsWhole := hstage0_8 ((cfg0.slots t 8).cast nbuf0_8)

/-- Before the first point the scratch holds anything. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

theorem cover7A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : first i) (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) (y : S1024x2048.Idx) : ∃ pc ∈ (runA c i arg2 harg2 arg3 harg3 arg4 harg4 arg5 harg5 arg6 harg6 arg7 harg7 arg8 harg8 arg9 harg9 arg10 harg10 arg11 harg11 hc0 x0 x1 x2 x3 x4 x5 x6).1, y ∈ pc.1.set :=
  View.cover_of_tiledL (runA c i arg2 harg2 arg3 harg3 arg4 harg4 arg5 harg5 arg6 harg6 arg7 harg7 arg8 harg8 arg9 harg9 arg10 harg10 arg11 harg11 hc0 x0 x1 x2 x3 x4 x5 x6).1 S1024x2048.size (by sl_kernel_rfl) y
theorem cover8A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : first i) (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) (y : S1024x128.Idx) : ∃ pc ∈ (runA c i arg2 harg2 arg3 harg3 arg4 harg4 arg5 harg5 arg6 harg6 arg7 harg7 arg8 harg8 arg9 harg9 arg10 harg10 arg11 harg11 hc0 x0 x1 x2 x3 x4 x5 x6).2.1, y ∈ pc.1.set :=
  View.cover_of_tiledL (runA c i arg2 harg2 arg3 harg3 arg4 harg4 arg5 harg5 arg6 harg6 arg7 harg7 arg8 harg8 arg9 harg9 arg10 harg10 arg11 harg11 hc0 x0 x1 x2 x3 x4 x5 x6).2.1 S1024x128.size (by sl_kernel_rfl) y
theorem coverSA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : first i) (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) (y : S1024x2048.Idx) : ∃ pc ∈ (runA c i arg2 harg2 arg3 harg3 arg4 harg4 arg5 harg5 arg6 harg6 arg7 harg7 arg8 harg8 arg9 harg9 arg10 harg10 arg11 harg11 hc0 x0 x1 x2 x3 x4 x5 x6).2.2.1, y ∈ pc.1.set :=
  View.cover_of_tiledL (runA c i arg2 harg2 arg3 harg3 arg4 harg4 arg5 harg5 arg6 harg6 arg7 harg7 arg8 harg8 arg9 harg9 arg10 harg10 arg11 harg11 hc0 x0 x1 x2 x3 x4 x5 x6).2.2.1 S16x2048.size (by sl_kernel_rfl) y
theorem cover7B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : ¬first i) (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) (xo : Vec F S1024x128 .f32) (xh : Vec F S1024x2048 .bf16) (y : S1024x2048.Idx) : ∃ pc ∈ (runB c i arg2 harg2 arg3 harg3 arg4 harg4 arg5 harg5 arg6 harg6 arg7 harg7 arg8 harg8 arg9 harg9 arg10 harg10 arg11 harg11 hc0 x0 x1 x2 x3 x4 x5 x6 xo xh).1, y ∈ pc.1.set :=
  View.cover_of_tiledL (runB c i arg2 harg2 arg3 harg3 arg4 harg4 arg5 harg5 arg6 harg6 arg7 harg7 arg8 harg8 arg9 harg9 arg10 harg10 arg11 harg11 hc0 x0 x1 x2 x3 x4 x5 x6 xo xh).1 S1024x2048.size (by sl_kernel_rfl) y

/-- What the body leaves at the first column step: in the projection's window, the gates' window, the scratch. -/
def out7A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : first i) (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) : Vec F S1024x2048 .bf16 := VO7.read (Elt F) (VO7.writes (Elt F) VO7.junk (runA c i arg2 harg2 arg3 harg3 arg4 harg4 arg5 harg5 arg6 harg6 arg7 harg7 arg8 harg8 arg9 harg9 arg10 harg10 arg11 harg11 hc0 x0 x1 x2 x3 x4 x5 x6).1)
def out8A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : first i) (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) : Vec F S1024x128 .f32 := VO8.read (Elt F) (VO8.writes (Elt F) VO8.junk (runA c i arg2 harg2 arg3 harg3 arg4 harg4 arg5 harg5 arg6 harg6 arg7 harg7 arg8 harg8 arg9 harg9 arg10 harg10 arg11 harg11 hc0 x0 x1 x2 x3 x4 x5 x6).2.1)
def soutA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : first i) (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) : Vec F S1024x2048 .bf16 := VS.read (Elt F) (VS.writes (Elt F) VS.junk (runA c i arg2 harg2 arg3 harg3 arg4 harg4 arg5 harg5 arg6 harg6 arg7 harg7 arg8 harg8 arg9 harg9 arg10 harg10 arg11 harg11 hc0 x0 x1 x2 x3 x4 x5 x6).2.2.1)
/-- and at a later one in the projection's window. -/
def out7B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole) (hc0 : ¬first i) (x0 : Vec F S1024x2048 .f32) (x1 : Vec F S1x2048 .f32) (x2 : Vec F S1x1x2048 .f32) (x3 : Vec F S1x1x2048 .f32) (x4 : Vec F S1x2048x2048 .bf16) (x5 : Vec F S1x2048 .f32) (x6 : Vec F S2048x128 .bf16) (xo : Vec F S1024x128 .f32) (xh : Vec F S1024x2048 .bf16) : Vec F S1024x2048 .bf16 := VO7.read (Elt F) (VO7.writes (Elt F) VO7.junk (runB c i arg2 harg2 arg3 harg3 arg4 harg4 arg5 harg5 arg6 harg6 arg7 harg7 arg8 harg8 arg9 harg9 arg10 harg10 arg11 harg11 hc0 x0 x1 x2 x3 x4 x5 x6 xo xh).1)

/-- What a row block's first step leaves: the gates' window and the normalized rows, which the later steps keep. -/
def kept (c : Dev nD) (t : Fin cfg0.N) (h : t.val % 3 = 0) : Vec F S1024x128 .f32 × Vec F S1024x2048 .bf16 :=
  (out8A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((first_iff t).mpr h) (iblk m c 0 t) (iblk m c 1 t) (iblk m c 2 t) (iblk m c 3 t) (X0_4 m c t) (iblk m c 5 t) (iblk m c 6 t),
   soutA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((first_iff t).mpr h) (iblk m c 0 t) (iblk m c 1 t) (iblk m c 2 t) (iblk m c 3 t) (X0_4 m c t) (iblk m c 5 t) (iblk m c 6 t))

/-- The first point of a point's row block. -/
def base (n : ℕ) (hn : n < cfg0.N) : Fin cfg0.N := ⟨n / 3 * 3, lt_of_le_of_lt (Nat.div_mul_le_self n 3) hn⟩
theorem base_mod (n : ℕ) (hn : n < cfg0.N) : (base n hn).val % 3 = 0 := Nat.mul_mod_left _ _
theorem base_of (t : Fin cfg0.N) (h : t.val % 3 = 0) : base t.val t.isLt = t := Fin.ext (by show t.val / 3 * 3 = t.val; omega)
theorem base_pred (t : Fin cfg0.N) (h : ¬t.val % 3 = 0) (h') : base (t.val - 1) h' = base t.val t.isLt := Fin.ext (by show (t.val - 1) / 3 * 3 = t.val / 3 * 3; omega)

/-- The gates' window and the scratch after the body at position `n`. -/
def held (c : Dev nD) (n : ℕ) (hn : n < cfg0.N) : Vec F S1024x128 .f32 × Vec F S1024x2048 .bf16 := kept m c (base n hn) (base_mod n hn)

theorem held_pred (c : Dev nD) (t : Fin cfg0.N) (h : ¬t.val % 3 = 0) (h') : held m c (t.val - 1) h' = held m c t.val t.isLt := by
  unfold held; simp only [base_pred t h h']

theorem held_first (c : Dev nD) (t : Fin cfg0.N) (h : t.val % 3 = 0) : held m c t.val t.isLt = kept m c t h := by
  unfold held; simp only [base_of t h]

/-- The projection's window after the body at a point. -/
def proj (c : Dev nD) (t : Fin cfg0.N) : Vec F S1024x2048 .bf16 :=
  if h : t.val % 3 = 0 then out7A c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) ((first_iff t).mpr h) (iblk m c 0 t) (iblk m c 1 t) (iblk m c 2 t) (iblk m c 3 t) (X0_4 m c t) (iblk m c 5 t) (iblk m c 6 t)
  else out7B c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM (Memref.isWhole_whole _) (fun h' => h ((first_iff t).mp h')) (iblk m c 0 t) (iblk m c 1 t) (iblk m c 2 t) (iblk m c 3 t) (X0_4 m c t) (iblk m c 5 t) (iblk m c 6 t) (held m c t.val t.isLt).1 (held m c t.val t.isLt).2

/-- The invariant before position `n`: the scratch at what the point before left. -/
def Phi (c : Dev nD) : (n : ℕ) → n ≤ cfg0.N → sProp 𝕄
  | 0, _ => Pipeline.ΦA spec0 c
  | n + 1, hn => iprop(iprop(owns (c : Thread nD τ) scM fullShare (held m c n hn).2) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scM fullShare (held m c n hn).2) ∗ (∃ r, prngReg c r)) := rfl

theorem Phi_pos (c : Dev nD) (n : ℕ) (h : n ≤ cfg0.N) (hz : n ≠ 0) :
    Phi m c n h = iprop(iprop(owns (c : Thread nD τ) scM fullShare (held m c (n - 1) (by omega)).2) ∗ (∃ r, prngReg c r)) := by
  cases n with
  | zero => exact absurd rfl hz
  | succ n => rfl

/-- The pipeline's data on a core. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => X0_4 m c t
    | ⟨5, _⟩ => iblk m c 5 t
    | ⟨6, _⟩ => iblk m c 6 t
    | ⟨7, _⟩ => proj m c t
    | ⟨8, _⟩ => (held m c t.val t.isLt).1
  Φ t := Phi m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = X0_4 m c t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = proj m c t := by dsimp only [dats]
theorem after8 (c : Dev nD) (t : Fin cfg0.N) : (dats m 0 c).after 8 t = (held m c t.val t.isLt).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = X0_4 m c t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
/-- The gates' window is stored at a row block's first step and left alone at the others. -/
theorem live8 (t : Fin cfg0.N) (h : t.val % 3 = 0) : cfg0.idle 8 (cfg0.grid.coords t) = false := by
  show (!(k0_cond1 (grid0.coords t) == 1#1)) = false
  rw [show k0_cond1 (grid0.coords t) = 1#1 from (first_iff t).mpr h]; rfl
theorem idle8 (t : Fin cfg0.N) (h : ¬t.val % 3 = 0) : cfg0.idle 8 (cfg0.grid.coords t) = true := by
  show (!(k0_cond1 (grid0.coords t) == 1#1)) = true
  rw [beq_eq_false_iff_ne.mpr fun h' => h ((first_iff t).mp h')]; rfl
theorem noflush8 (t : Fin cfg0.N) (h : ¬t.val % 3 = 2) : (cfg0.win 8).flush t = false :=
  Bool.eq_false_iff.mpr fun h' => by have := (flush0_8 _).mp h'; omega

theorem before8_step (c : Dev nD) (t t' : Fin cfg0.N) (ht : t.val = t'.val + 1) (h : ¬t'.val % 3 = 2) (d) :
    (dats m 0 c).before 8 t d = (dats m 0 c).left 8 t' d := by
  rw [Dat.before_of_pos _ 8 t (by omega) ((cfg0.win 8).fetch_out rfl t)]
  rw [show (⟨t.val - 1, Nat.lt_of_le_of_lt (Nat.sub_le _ _) t.isLt⟩ : Fin cfg0.N) = t' from Fin.ext (by show t.val - 1 = t'.val; omega)]
  rw [noflush8 t' h, if_neg Bool.false_ne_true]

theorem left8_first (c : Dev nD) (t : Fin cfg0.N) (h : t.val % 3 = 0) (d) :
    (dats m 0 c).left 8 t d = (held m c t.val t.isLt).1 := by
  unfold Dat.left; rw [live8 t h]
  show (dats m 0 c).kept 8 t d = _
  unfold Dat.kept; rw [after8]; rfl

/-- At a later step the gates' buffer holds what the row block's first step left. -/
theorem before8 (c : Dev nD) (t : Fin cfg0.N) (h0 : ¬t.val % 3 = 0) (d) :
    (dats m 0 c).before 8 t d = (held m c t.val t.isLt).1 := by
  have hN : t.val < 96 := lt_of_lt_of_eq t.isLt (show cfg0.N = 96 from N_0)
  have hp : t.val - 1 < cfg0.N := lt_of_le_of_lt (Nat.sub_le _ _) t.isLt
  rw [before8_step m c t ⟨t.val - 1, hp⟩ (by show t.val = t.val - 1 + 1; omega) (by show ¬(t.val - 1) % 3 = 2; omega)]
  by_cases h1 : t.val % 3 = 1
  · rw [left8_first m c _ (by show (t.val - 1) % 3 = 0; omega)]
    exact congrArg Prod.fst (held_pred m c t h0 hp)
  · have hq : t.val - 2 < cfg0.N := lt_of_le_of_lt (Nat.sub_le _ _) t.isLt
    unfold Dat.left
    rw [idle8 _ (by show ¬(t.val - 1) % 3 = 0; omega)]
    dsimp only
    rw [before8_step m c ⟨t.val - 1, hp⟩ ⟨t.val - 2, hq⟩ (by show t.val - 1 = t.val - 2 + 1; omega) (by show ¬(t.val - 2) % 3 = 2; omega),
      left8_first m c _ (by show (t.val - 2) % 3 = 0; omega)]
    exact congrArg Prod.fst ((held_pred m c ⟨t.val - 1, hp⟩ (by show ¬(t.val - 1) % 3 = 0; omega) hq).trans (held_pred m c t h0 hp))

/-- What the body is called with at a point, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t) ∗ owns (c : Thread nD τ) (ms1 t) fullShare ((dats m 0 c).after 1 t) ∗ owns (c : Thread nD τ) (ms2 t) fullShare ((dats m 0 c).after 2 t) ∗ owns (c : Thread nD τ) (ms3 t) fullShare ((dats m 0 c).after 3 t) ∗ owns (c : Thread nD τ) (ms4 t) fullShare ((dats m 0 c).after 4 t) ∗ owns (c : Thread nD τ) (ms5 t) fullShare ((dats m 0 c).after 5 t) ∗ owns (c : Thread nD τ) (ms6 t) fullShare ((dats m 0 c).after 6 t) ∗ owns (c : Thread nD τ) (ms7 t) fullShare ((dats m 0 c).after 7 t) ∗ owns (c : Thread nD τ) (ms8 t) fullShare ((dats m 0 c).after 8 t))

set_option maxHeartbeats 12000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).owesAt () t.succ = (dats m 0 c).owesAt () t.castSucc from rfl,
    after0, after1, after2, after3, after4, after5, after6, after7, after8]
  rw [show (dats m 0 c).Φ t.succ = Phi m c (t.val + 1) t.isLt from rfl, Phi_succ]
  by_cases h0 : t.val % 3 = 0
  · by_cases hz : t.val = 0
    · rw [Phi_castSucc m c t, Phi_zero m c _ _ hz, PhiA_eq]
      rw [held_first m c t h0, show proj m c t = _ from dif_pos h0]
      unfold kept out7A out8A soutA; (try dsimp only)
      iintro ⟨⟨H9, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ ((first_iff t).mpr h0) (iblk m c 0 t) (iblk m c 1 t) (iblk m c 2 t) (iblk m c 3 t) (X0_4 m c t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexact H9
      iintro ⟨H0, H1, H2, H3, H4, H5, H6, ⟨%e7, H7⟩, ⟨%e8, H8⟩, ⟨%e9, H9⟩⟩
      isplitl [H9 Hg]
      · isplitl [H9]
        · unfold owns; iexists _; isplitr
          swap; · iexact H9
          ipureintro; exact View.read_writes_of_cover _ _ _ _ _ (coverSA c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover7A c _ _ _ _ _ _ _ _ _ _ _ _ _ _ _ _ _ _ _ _ _ _ _ _ _ _ _ _ _)
      unfold owns; iexists _; isplitr
      swap; · iexact H8
      ipureintro; exact View.read_writes_of_cover _ _ _ _ _ (cover8A c _ _ _ _ _ _ _ _ _ _ _ _ _ _ _ _ _ _ _ _ _ _ _ _ _ _ _ _ _)
    · rw [Phi_castSucc m c t, Phi_pos m c _ _ hz]
      rw [held_first m c t h0, show proj m c t = _ from dif_pos h0]
      unfold kept out7A out8A soutA; (try dsimp only)
      iintro ⟨⟨H9, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((runA c (grid0.coords t) _ _ _ _ _ _ _ _ _ _ _ _ _ _ _ _ _ _ _ _ ((first_iff t).mpr h0) (iblk m c 0 t) (iblk m c 1 t) (iblk m c 2 t) (iblk m c 3 t) (X0_4 m c t) (iblk m c 5 t) (iblk m c 6 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      iintro ⟨H0, H1, H2, H3, H4, H5, H6, ⟨%e7, H7⟩, ⟨%e8, H8⟩, ⟨%e9, H9⟩⟩
      isplitl [H9 Hg]
      · isplitl [H9]
        · unfold owns; iexists _; isplitr
          swap; · iexact H9
          ipureintro; exact View.read_writes_of_cover _ _ _ _ _ (coverSA c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover7A c _ _ _ _ _ _ _ _ _ _ _ _ _ _ _ _ _ _ _ _ _ _ _ _ _ _ _ _ _)
      unfold owns; iexists _; isplitr
      swap; · iexact H8
      ipureintro; exact View.read_writes_of_cover _ _ _ _ _ (cover8A c _ _ _ _ _ _ _ _ _ _ _ _ _ _ _ _ _ _ _ _ _ _ _ _ _ _ _ _ _)
  · have hz : t.val ≠ 0 := fun h => h0 (by rw [h])
    rw [Phi_castSucc m c t, Phi_pos m c _ _ hz, held_pred m c t h0]
    rw [show proj m c t = _ from dif_neg h0]
    simp only [before8 m c t h0]
    unfold out7B; (try dsimp only)
    iintro ⟨⟨H9, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((runB c (grid0.coords t) _ _ _ _ _ _ _ _ _ _ _ _ _ _ _ _ _ _ _ _ (fun h => h0 ((first_iff t).mp h)) (iblk m c 0 t) (iblk m c 1 t) (iblk m c 2 t) (iblk m c 3 t) (X0_4 m c t) (iblk m c 5 t) (iblk m c 6 t) _ _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    iintro ⟨H0, H1, H2, H3, H4, H5, H6, ⟨%e7, H7⟩, H8, H9⟩
    isplitl [H9 Hg]
    · isplitl [H9]
      · iexact H9
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_of_cover _ _ _ _ _ (cover7B c _ _ _ _ _ _ _ _ _ _ _ _ _ _ _ _ _ _ _ _ _ _ _ _ _ _ _ _ _ _ _)
    iexact H8

theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's obligation, at every point. -/
theorem body_obligation (c : Dev nD) : BodyObligation (dats (F := F) m 0 c) (defs₀ (F := F)) Variants.none () Set.univ := fun t => by
  rw [bigSep_W0, bigSep_W0, defs₀_row]
  by_cases h0 : t.val % 3 = 0
  · rw [live8 t h0]
    exact triple_restated (sound_body m c t) rfl .rfl fun _ => .rfl
  · rw [idle8 t h0]
    by_cases h2 : t.val % 3 = 2
    · rw [show (cfg0.win 8).flush t = true from (flush0_8 t).mpr (by omega)]
      exact triple_restated (sound_body m c t) rfl .rfl fun _ => .rfl
    · rw [noflush8 t h2]
      refine triple_restated (sound_body m c t) rfl .rfl fun _ => ?_
      unfold bodyPost
      rw [after8]
      iintro ⟨HP, Ho, H0, H1, H2, H3, H4, H5, H6, H7, H8⟩
      isplitl [HP]; · iexact HP
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists (dats m 0 c).after 8 t
      rw [before8 m c t h0]
      iexact H8

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have ht : (Fin.last cfg0.N).val ≠ 0 := by rw [Fin.val_last]; have : cfg0.N = 96 := N_0; omega
  rw [show (dats m 0 c).Φ (Fin.last cfg0.N) = Phi m c (Fin.last cfg0.N).val (Nat.le_of_lt_succ (Fin.last cfg0.N).isLt) from rfl, Phi_pos m c _ _ ht, PhiA_eq]
  iintro ⟨H9, Hg⟩
  isplitl [H9]
  · iexists _; iexact H9
  iexact Hg

set_option backward.isDefEq.respectTransparency.types false in
/-- The launch, with every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any value type. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel5Ideal.Inp
end
-- ==== Proof.MlpSpec.lean ====
module

public import Idealize.ShloMosaic.PureOps.Ideal

@[expose] public section

noncomputable section

/-! The feed-forward layer of one row, over the extended reals: the row normalized, scaled and shifted; its products with the
first weights, cut at zero and squared; their products with the second weights, scaled and added to the row; the sum
normalized again. -/

namespace Cert.Mlp

open Idealize.ShloMosaic

/-- The reciprocal root of a row's mean square, a small constant added. -/
def inv (f : Fin 2048 → EReal) : EReal :=
  Ideal.rsqrt (Ideal.div (∑ k, f k * f k) (Ideal.ofBits .f32 1157627904#32) + Ideal.ofBits .f32 897988541#32)

/-- The normalized row, scaled and shifted. -/
def hid (x g sc sh : Fin 2048 → EReal) (k : Fin 2048) : EReal := x k * inv x * (g k * (1 + sc k)) + sh k

/-- One entry of the inner row: a product cut at zero and squared. -/
def act (h w : Fin 2048 → EReal) : EReal := max (∑ k, h k * w k) 0 * max (∑ k, h k * w k) 0

/-- The row with the scaled feed-forward row added. -/
def res (x g sc sh gate : Fin 2048 → EReal) (wu : Fin 2048 → Fin 8192 → EReal) (wd : Fin 8192 → Fin 2048 → EReal) (d : Fin 2048) : EReal :=
  x d + gate d * ∑ f, act (hid x g sc sh) (fun k => wu k f) * wd f d

/-- The sum normalized. -/
def out (r gf : Fin 2048 → EReal) (d : Fin 2048) : EReal := r d * inv r * gf d

end Cert.Mlp
end
-- ==== Proof.InpOut.lean ====
module

public import proofs.«01_k».proof.Proof.InpFrame
public import proofs.«01_k».proof.Proof.MlpSpec
public import Idealize.ShloMosaic.Lib.Pipeline.ValueKit
public import Idealize.ShloMosaic.Lib.Pointwise

@[expose] public section

set_option maxRecDepth 65536
set_option synthInstance.maxSize 4096

noncomputable section

/-! What the body of the projection before a mixer leaves, as functions of the blocks it reads. -/

namespace Cert.Kernel5Ideal.Inp

open Idealize.ShloMosaic Idealize.ShloMosaic.TcCoe Idealize.ShloMosaic.StableHlo Idealize.ShloMosaic.Tactic Idealize.SL.Sem
open Cert.Kernel5Ideal Cert.Kernel5Ideal.Gen

/-- The normalized rows of a block. -/
def hT (x : Vec Ideal S1024x2048 .f32) (g : Vec Ideal S1x2048 .f32) (sc sh : Vec Ideal S1x1x2048 .f32) : Vec Ideal S1024x2048 .bf16 := fun y =>
  Cert.Mlp.hid (fun k => x (ix2 (y 0) k)) (fun k => g (ix2 0 k)) (fun k => sc (ix3 0 0 k)) (fun k => sh (ix3 0 0 k)) (y 1)

theorem chunk_at (g : Vec Ideal S1x2048 .f32) (sc sh : Vec Ideal S1x1x2048 .f32) (x : Vec Ideal S16x2048 .f32) (r : Fin 16) (d : Fin 2048) :
    k0_pay9 (F := Ideal) (k0_pay3 g sc) (k0_pay4 sh) x (ix2 r d)
      = Cert.Mlp.hid (fun k => x (ix2 r k)) (fun k => g (ix2 0 k)) (fun k => sc (ix3 0 0 k)) (fun k => sh (ix3 0 0 k)) d := by
  pointwise [k0_pay9, k0_pay3, k0_pay4, Cert.Mlp.hid, Cert.Mlp.inv]

theorem piece (x : Vec Ideal S1024x2048 .f32) (g : Vec Ideal S1x2048 .f32) (sc sh : Vec Ideal S1x1x2048 .f32) (o : ℕ) (inb) (z : S16x2048.Idx) (y : S1024x2048.Idx)
    (h0 : (y 0).val = o + (z 0).val) (h1 : (y 1).val = (z 1).val) :
    k0_pay9 (F := Ideal) (k0_pay3 g sc) (k0_pay4 sh) (View.ld x (Rect.unit (s := S1024x2048) ![o, 0] S16x2048.size inb)) z = hT x g sc sh y := by
  obtain ⟨r, d, rfl⟩ : ∃ r d, z = ix2 r d := ⟨z 0, z 1, by funext a; match a with | 0 => rfl | 1 => rfl⟩
  rw [chunk_at]
  have e (k : Fin 2048) : View.ld x (Rect.unit (s := S1024x2048) ![o, 0] S16x2048.size inb) (ix2 r k) = x (ix2 (y 0) k) :=
    View.ld_unit_apply_of _ _ _ _ _ _ fun a => by
      match a with
      | 0 => exact h0
      | 1 => show k.val = 0 + k.val; omega
  have e1 : d = y 1 := Fin.ext h1.symm
  unfold hT
  simp only [e]
  rw [e1]

theorem pieceE (x : Vec Ideal S1024x2048 .f32) (g : Vec Ideal S1x2048 .f32) (sc sh : Vec Ideal S1x1x2048 .f32) (o : ℕ) (inb) (z : S16x2048.Idx) :
    k0_pay9 (F := Ideal)
        (k0_pay3 (View.ld g (Rect.unit ![0, 0] ![1, 2048] inb_S1x2048_S1x2048_0_0))
          (View.ld sc (Rect.unit ![0, 0, 0] ![1, 1, 2048] inb_S1x1x2048_S1x1x2048_0_0_0)))
        (k0_pay4 (View.ld sh (Rect.unit ![0, 0, 0] ![1, 1, 2048] inb_S1x1x2048_S1x1x2048_0_0_0)))
        (View.ld x (Rect.unit (s := S1024x2048) ![o, 0] S16x2048.size inb)) z
      = hT x g sc sh ((Rect.unit (s := S1024x2048) ![o, 0] S16x2048.size inb).emb z) := by
  simp (disch := decide) only [View.ld_unit_lit']
  refine piece x g sc sh o inb z _ ?_ ?_
  · show o + 1 * (z 0).val = _
    omega
  · show 0 + 1 * (z 1).val = _
    omega

/-- The rows below `a` hold the normalized rows. -/
def FineA (x : Vec Ideal S1024x2048 .f32) (g : Vec Ideal S1x2048 .f32) (sc sh : Vec Ideal S1x1x2048 .f32) (a : ℕ) (L : List (View.Piece (Elt Ideal) S1024x2048 .bf16)) : Prop :=
  ∀ y : S1024x2048.Idx, (y 0).val < a → View.canon L y = hT x g sc sh y

theorem FineA.base (x : Vec Ideal S1024x2048 .f32) (g : Vec Ideal S1x2048 .f32) (sc sh : Vec Ideal S1x1x2048 .f32) (L : List (View.Piece (Elt Ideal) S1024x2048 .bf16)) : FineA x g sc sh 0 L :=
  fun y h => absurd h (Nat.not_lt_zero _)

theorem FineA.step {x : Vec Ideal S1024x2048 .f32} {g : Vec Ideal S1x2048 .f32} {sc sh : Vec Ideal S1x1x2048 .f32} {L : List (View.Piece (Elt Ideal) S1024x2048 .bf16)} (a : ℕ) (ia) (h : FineA x g sc sh a L) :
    FineA x g sc sh (a + 16) (⟨Rect.unit (s := S1024x2048) ![a, 0] S16x2048.size ia,
      k0_pay9 (F := Ideal) (k0_pay3 g sc) (k0_pay4 sh) (View.ld x (Rect.unit (s := S1024x2048) ![a, 0] S16x2048.size ia))⟩ :: L) := by
  intro y hy
  by_cases hm : y ∈ (Rect.unit (s := S1024x2048) ![a, 0] S16x2048.size ia).set
  · obtain ⟨z, rfl⟩ := (Rect.unit (s := S1024x2048) ![a, 0] S16x2048.size ia).exists_idx_of_mem hm
    rw [show (Rect.unit (s := S1024x2048) ![a, 0] S16x2048.size ia).idx z = (Rect.unit (s := S1024x2048) ![a, 0] S16x2048.size ia).emb z from rfl, View.canon_cons_emb]
    refine piece x g sc sh a ia z _ ?_ ?_
    · show a + 1 * (z 0).val = _
      omega
    · show 0 + 1 * (z 1).val = _
      omega
  · refine Eq.trans (View.canon_cons_of_not_mem _ L fun hm' => hm hm') (h y ?_)
    by_contra hlt
    refine hm (Rect.mem_set_unit.mpr fun k => ?_)
    match k with
    | 0 => exact ⟨not_lt.mp hlt, hy⟩
    | 1 =>
      have h2 : (y 1).val < 2048 := (y 1).isLt
      have h3 : (0 : ℕ) ≤ (y 1).val ∧ (y 1).val < 0 + 2048 := by omega
      exact h3

theorem FineA.read {κ : Kind} {sp : Space} (v : View sig κ sp S1024x2048 .bf16) {x : Vec Ideal S1024x2048 .f32} {g : Vec Ideal S1x2048 .f32} {sc sh : Vec Ideal S1x1x2048 .f32} {L : List (View.Piece (Elt Ideal) S1024x2048 .bf16)} (ib)
    (h : FineA x g sc sh 1024 L) : v.readCov L (Rect.unit (s := S1024x2048) ![0, 0] S1024x2048.size ib).toLoadRect = hT x g sc sh := by
  rw [View.readCov_eq_canon']
  funext y
  have e : (Rect.unit (s := S1024x2048) ![0, 0] S1024x2048.size ib).toLoadRect.idx y = y := by
    funext k
    match k with
    | 0 => exact Fin.ext (show 0 + 1 * (y 0).val = (y 0).val by omega)
    | 1 => exact Fin.ext (show 0 + 1 * (y 1).val = (y 1).val by omega)
  exact (congrArg (View.canon L) e).trans (h y (y 0).isLt)

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x2048x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S1024x2048 .bf16) (harg9 : arg9.IsWhole) (arg10 : Memref sig .tc .vmem S1024x128 .f32) (harg10 : arg10.IsWhole) (arg11 : Memref sig .tc .vmem S1024x2048 .bf16) (harg11 : arg11.IsWhole)
    (x0 : Vec Ideal S1024x2048 .f32) (x1 : Vec Ideal S1x2048 .f32) (x2 : Vec Ideal S1x1x2048 .f32) (x3 : Vec Ideal S1x1x2048 .f32) (x4 : Vec Ideal S1x2048x2048 .bf16) (x5 : Vec Ideal S1x2048 .f32) (x6 : Vec Ideal S2048x128 .bf16)

theorem soutA_val (hc0 : first i) :
    soutA (F := Ideal) c i arg2 harg2 arg3 harg3 arg4 harg4 arg5 harg5 arg6 harg6 arg7 harg7 arg8 harg8 arg9 harg9 arg10 harg10 arg11 harg11 hc0 x0 x1 x2 x3 x4 x5 x6 = hT x0 x1 x2 x3 := by
  have hcov := fun y => coverSA (F := Ideal) c i arg2 harg2 arg3 harg3 arg4 harg4 arg5 harg5 arg6 harg6 arg7 harg7 arg8 harg8 arg9 harg9 arg10 harg10 arg11 harg11 hc0 x0 x1 x2 x3 x4 x5 x6 y
  funext y
  unfold soutA
  rw [View.read_writes_junk_eq_canon]
  refine View.canon_apply_of_pieces (hT x0 x1 x2 x3) _ ?_ y (hcov y)
  clear hcov
  unfold runA
  dsimp only
  frame_open
  simp only [View.readAt_eq_ld, Memref.IsWhole.read_unread, List.forall_mem_cons]
  iterate 64 refine ⟨fun z => pieceE _ _ _ _ _ _ z, ?_⟩
  intro p hp
  exact absurd hp List.not_mem_nil

/-- Reading the scratch back after its 64 stores. -/
theorem out7A_val (hc0 : first i) :
    out7A (F := Ideal) c i arg2 harg2 arg3 harg3 arg4 harg4 arg5 harg5 arg6 harg6 arg7 harg7 arg8 harg8 arg9 harg9 arg10 harg10 arg11 harg11 hc0 x0 x1 x2 x3 x4 x5 x6 = k0_pay2 (hT x0 x1 x2 x3) x4 x5 := by
  unfold out7A runA
  frame_out
  refine congrArg (fun h => k0_pay2 (F := Ideal) h x4 x5) ?_
  refine FineA.read (arg11.view) _ ?_
  refine FineA.step 1008 _ ?_
  refine FineA.step 992 _ ?_
  refine FineA.step 976 _ ?_
  refine FineA.step 960 _ ?_
  refine FineA.step 944 _ ?_
  refine FineA.step 928 _ ?_
  refine FineA.step 912 _ ?_
  refine FineA.step 896 _ ?_
  refine FineA.step 880 _ ?_
  refine FineA.step 864 _ ?_
  refine FineA.step 848 _ ?_
  refine FineA.step 832 _ ?_
  refine FineA.step 816 _ ?_
  refine FineA.step 800 _ ?_
  refine FineA.step 784 _ ?_
  refine FineA.step 768 _ ?_
  refine FineA.step 752 _ ?_
  refine FineA.step 736 _ ?_
  refine FineA.step 720 _ ?_
  refine FineA.step 704 _ ?_
  refine FineA.step 688 _ ?_
  refine FineA.step 672 _ ?_
  refine FineA.step 656 _ ?_
  refine FineA.step 640 _ ?_
  refine FineA.step 624 _ ?_
  refine FineA.step 608 _ ?_
  refine FineA.step 592 _ ?_
  refine FineA.step 576 _ ?_
  refine FineA.step 560 _ ?_
  refine FineA.step 544 _ ?_
  refine FineA.step 528 _ ?_
  refine FineA.step 512 _ ?_
  refine FineA.step 496 _ ?_
  refine FineA.step 480 _ ?_
  refine FineA.step 464 _ ?_
  refine FineA.step 448 _ ?_
  refine FineA.step 432 _ ?_
  refine FineA.step 416 _ ?_
  refine FineA.step 400 _ ?_
  refine FineA.step 384 _ ?_
  refine FineA.step 368 _ ?_
  refine FineA.step 352 _ ?_
  refine FineA.step 336 _ ?_
  refine FineA.step 320 _ ?_
  refine FineA.step 304 _ ?_
  refine FineA.step 288 _ ?_
  refine FineA.step 272 _ ?_
  refine FineA.step 256 _ ?_
  refine FineA.step 240 _ ?_
  refine FineA.step 224 _ ?_
  refine FineA.step 208 _ ?_
  refine FineA.step 192 _ ?_
  refine FineA.step 176 _ ?_
  refine FineA.step 160 _ ?_
  refine FineA.step 144 _ ?_
  refine FineA.step 128 _ ?_
  refine FineA.step 112 _ ?_
  refine FineA.step 96 _ ?_
  refine FineA.step 80 _ ?_
  refine FineA.step 64 _ ?_
  refine FineA.step 48 _ ?_
  refine FineA.step 32 _ ?_
  refine FineA.step 16 _ ?_
  refine FineA.step 0 _ ?_
  exact FineA.base _ _ _ _ _

theorem out8A_val (hc0 : first i) :
    out8A (F := Ideal) c i arg2 harg2 arg3 harg3 arg4 harg4 arg5 harg5 arg6 harg6 arg7 harg7 arg8 harg8 arg9 harg9 arg10 harg10 arg11 harg11 hc0 x0 x1 x2 x3 x4 x5 x6 = k0_pay1 (hT x0 x1 x2 x3) x6 := by
  unfold out8A runA
  frame_out
  refine congrArg (fun h => k0_pay1 (F := Ideal) h x6) ?_
  refine FineA.read (arg11.view) _ ?_
  refine FineA.step 1008 _ ?_
  refine FineA.step 992 _ ?_
  refine FineA.step 976 _ ?_
  refine FineA.step 960 _ ?_
  refine FineA.step 944 _ ?_
  refine FineA.step 928 _ ?_
  refine FineA.step 912 _ ?_
  refine FineA.step 896 _ ?_
  refine FineA.step 880 _ ?_
  refine FineA.step 864 _ ?_
  refine FineA.step 848 _ ?_
  refine FineA.step 832 _ ?_
  refine FineA.step 816 _ ?_
  refine FineA.step 800 _ ?_
  refine FineA.step 784 _ ?_
  refine FineA.step 768 _ ?_
  refine FineA.step 752 _ ?_
  refine FineA.step 736 _ ?_
  refine FineA.step 720 _ ?_
  refine FineA.step 704 _ ?_
  refine FineA.step 688 _ ?_
  refine FineA.step 672 _ ?_
  refine FineA.step 656 _ ?_
  refine FineA.step 640 _ ?_
  refine FineA.step 624 _ ?_
  refine FineA.step 608 _ ?_
  refine FineA.step 592 _ ?_
  refine FineA.step 576 _ ?_
  refine FineA.step 560 _ ?_
  refine FineA.step 544 _ ?_
  refine FineA.step 528 _ ?_
  refine FineA.step 512 _ ?_
  refine FineA.step 496 _ ?_
  refine FineA.step 480 _ ?_
  refine FineA.step 464 _ ?_
  refine FineA.step 448 _ ?_
  refine FineA.step 432 _ ?_
  refine FineA.step 416 _ ?_
  refine FineA.step 400 _ ?_
  refine FineA.step 384 _ ?_
  refine FineA.step 368 _ ?_
  refine FineA.step 352 _ ?_
  refine FineA.step 336 _ ?_
  refine FineA.step 320 _ ?_
  refine FineA.step 304 _ ?_
  refine FineA.step 288 _ ?_
  refine FineA.step 272 _ ?_
  refine FineA.step 256 _ ?_
  refine FineA.step 240 _ ?_
  refine FineA.step 224 _ ?_
  refine FineA.step 208 _ ?_
  refine FineA.step 192 _ ?_
  refine FineA.step 176 _ ?_
  refine FineA.step 160 _ ?_
  refine FineA.step 144 _ ?_
  refine FineA.step 128 _ ?_
  refine FineA.step 112 _ ?_
  refine FineA.step 96 _ ?_
  refine FineA.step 80 _ ?_
  refine FineA.step 64 _ ?_
  refine FineA.step 48 _ ?_
  refine FineA.step 32 _ ?_
  refine FineA.step 16 _ ?_
  refine FineA.step 0 _ ?_
  exact FineA.base _ _ _ _ _

theorem out7B_val (hc0 : ¬first i) (xo : Vec Ideal S1024x128 .f32) (xh : Vec Ideal S1024x2048 .bf16) :
    out7B (F := Ideal) c i arg2 harg2 arg3 harg3 arg4 harg4 arg5 harg5 arg6 harg6 arg7 harg7 arg8 harg8 arg9 harg9 arg10 harg10 arg11 harg11 hc0 x0 x1 x2 x3 x4 x5 x6 xo xh = k0_pay2 xh x4 x5 := by
  unfold out7B runB
  frame_out

end Cert.Kernel5Ideal.Inp
end
-- ==== Proof.InpWin.lean ====
module

public import proofs.«01_k».proof.Proof.InpOut
public import Idealize.ShloMosaic.Lib.Pointwise
public import Idealize.ShloMosaic.Lib.Routing.OpsOne
public import Idealize.ShloMosaic.Lib.Routing.OpsPair
public import Idealize.ShloMosaic.Lib.Routing.OpsSet

@[expose] public section

set_option maxRecDepth 65536
set_option synthInstance.maxSize 4096

noncomputable section

namespace Cert.Kernel5Ideal.Inp

open Idealize.ShloMosaic Idealize.ShloMosaic.TcCoe Idealize.ShloMosaic.StableHlo Idealize.ShloMosaic.Tactic Idealize.SL.Sem
open Cert.Kernel5Ideal Cert.Kernel5Ideal.Gen

variable (m : (ℓ : Loc nD τ sig) → Buf (Elt Ideal) ℓ)

/-! ## The arrays the region finds, at an index -/

theorem v11_at (c : Dev nD) (r : Fin 32768) (k : Fin 2048) :
    (show FVec Ideal S32768x2048 .f32 from V m c main_v11) (ix2 r k)
      = (show FVec Ideal S2x16384x2048 .f32 from m ((c : Thread nD τ).loc main_arg0)) (ix3 ⟨r.val / 16384, by omega⟩ ⟨r.val % 16384, by omega⟩ k) := by
  dsimp only
  unfold V
  after_results_simp
  pointwise

theorem v14_at (c : Dev nD) (k : Fin 2048) :
    (show FVec Ideal S1x2048 .f32 from V m c main_v14) (ix2 0 k)
      = (show FVec Ideal S2x2x2048 .f32 from m ((c : Thread nD τ).loc main_arg1)) (ix3 0 0 k) := by
  dsimp only
  unfold V
  after_results_simp
  pointwise

theorem v15_at (c : Dev nD) (b : Fin 2) (k : Fin 2048) :
    (show FVec Ideal S2x1x2048 .f32 from V m c main_v15) (ix3 b 0 k)
      = (show FVec Ideal S2x2048 .f32 from m ((c : Thread nD τ).loc main_arg3)) (ix2 b k) := by
  dsimp only
  unfold V
  after_results_simp
  pointwise

theorem v16_at (c : Dev nD) (b : Fin 2) (k : Fin 2048) :
    (show FVec Ideal S2x1x2048 .f32 from V m c main_v16) (ix3 b 0 k)
      = (show FVec Ideal S2x2048 .f32 from m ((c : Thread nD τ).loc main_arg2)) (ix2 b k) := by
  dsimp only
  unfold V
  after_results_simp
  pointwise

theorem v0_at (c : Dev nD) (k : Fin 2048) (j : Fin 6160) :
    (show FVec Ideal S1x2048x6160 .bf16 from V m c main_v0) (ix3 0 k j)
      = (show FVec Ideal S1x2048x6160 .f32 from m ((c : Thread nD τ).loc main_arg4)) (ix3 0 k j) := by
  dsimp only
  unfold V
  after_results_simp
  pointwise

/-- The factor of a column of the projection: the keys are scaled, the rest is not. -/
def colScale (j : ℕ) : EReal := if j < 1024 then 1 else if j < 2048 then Ideal.ofBits .f32 0x3DB504F3#32 else 1

theorem v5_at (c : Dev nD) (j : Fin 6144) :
    (show FVec Ideal S1x6144 .f32 from V m c main_v5) (ix2 0 j) = colScale j.val := by
  dsimp only
  unfold V
  after_results_simp
  dsimp only [Matrix.cons_val]
  pointwise [colScale]
  by_cases h : j.val < 1024
  · rw [dif_pos h, if_pos h]
    after_results_simp
    pointwise
  · rw [dif_neg h, if_neg h]
    by_cases h' : j.val < 2048
    · rw [dif_pos (by omega), if_pos h']
      after_results_simp
      pointwise
    · rw [dif_neg (by omega), if_neg h']
      after_results_simp
      pointwise

/-! ## The gate weights, padded to a full tile of lanes -/

theorem lands (idx : IVec S1 32) (hidx : idx (ix1 (0 : Fin 1)) = 0#32) (k' : Fin 2048) (e' : Fin 16) (k : Fin 2048) (e : Fin 128) :
    scatter_S2048x128_S1_S2048x16_01_n_1_0.resultIdx? (ix2 k' e') idx = some (ix2 k e) ↔ k' = k ∧ e'.val = e.val := by
  generalize hd : scatter_S2048x128_S1_S2048x16_01_n_1_0 = d
  have hiw : d.insertedWindowDims = [] := by rw [← hd]; rfl
  have huw : d.updateWindowDims = [0, 1] := by rw [← hd]; rfl
  have hsd : d.scatterDimsToOperandDims = [1] := by rw [← hd]; rfl
  have hm : (1 : Fin 2) ∈ d.scatterDimsToOperandDims := by rw [hsd]; exact List.mem_singleton.2 rfl
  have hwin0 : d.window (ix2 k' e') 0 = k'.val := by rw [← hd]; rfl
  have hwin1 : d.window (ix2 k' e') 1 = e'.val := by rw [← hd]; rfl
  have hstart0 : d.start (ix2 k' e') idx 0 = 0 := by
    unfold ScatterDims.start
    rw [dif_neg fun h => by rw [hsd] at h; exact absurd (List.mem_singleton.1 h) (by decide : (0 : Fin 2) ≠ 1)]
  have hstart1 : d.start (ix2 k' e') idx 1 = 0 := by
    unfold ScatterDims.start
    rw [dif_pos hm]
    have hsi : d.siIdx (ix2 k' e') ⟨d.scatterDimsToOperandDims.idxOf 1, List.idxOf_lt_length_iff.2 hm⟩ = ix1 (0 : Fin 1) := by
      funext b'
      match b' with
      | ⟨0, _⟩ => exact Subsingleton.elim (α := Fin 1) _ _
    rw [hsi, hidx]
    rfl
  refine (Routing.resultIdx?_ix2 (R := 2048) (C := 128) d (ix2 k' e') idx k e).trans ?_
  show d.start (ix2 k' e') idx 0 + (d.window (ix2 k' e') 0 : Int) = (k.val : Int) ∧ d.start (ix2 k' e') idx 1 + (d.window (ix2 k' e') 1 : Int) = (e.val : Int) ↔ _
  rw [Fin.ext_iff, hstart0, hwin0, hstart1, hwin1]
  omega

theorem scatter_at {α : Type} (x0 : S2048x128.Idx → α) (idx : IVec S1 32) (hidx : idx (ix1 (0 : Fin 1)) = 0#32) (upd : S2048x16.Idx → α) (k : Fin 2048) (e : Fin 128) :
    Host.scatter scatter_S2048x128_S1_S2048x16_01_n_1_0 (fun _ b => b) x0 idx upd (ix2 k e)
      = if h : e.val < 16 then upd (ix2 k ⟨e.val, h⟩) else x0 (ix2 k e) := by
  have eu (j : S2048x16.Idx) : j = ix2 (j 0) (j 1) := by
    funext a
    match a with
    | 0 => rfl
    | 1 => rfl
  have l (j : S2048x16.Idx) (hj : scatter_S2048x128_S1_S2048x16_01_n_1_0.resultIdx? j idx = some (ix2 k e)) : j 0 = k ∧ (j 1).val = e.val :=
    (lands idx hidx (j 0) (j 1) k e).1 ((congrArg (fun z => scatter_S2048x128_S1_S2048x16_01_n_1_0.resultIdx? z idx) (eu j).symm).trans hj)
  by_cases h : e.val < 16
  · rw [dif_pos h]
    refine Routing.scatter_set_hit _ x0 idx upd _ _ (fun j hj => ?_) (ix2 k ⟨e.val, h⟩) ((lands idx hidx k ⟨e.val, h⟩ k e).2 ⟨rfl, rfl⟩)
    obtain ⟨h0, h1⟩ := l j hj
    rw [eu j, h0, show j 1 = ⟨e.val, h⟩ from Fin.ext h1]
    rfl
  · rw [dif_neg h]
    refine Routing.scatter_set_miss _ x0 idx upd _ fun j hj => h ?_
    have h1 := (l j hj).2
    have h2 : (j 1).val < 16 := (j 1).isLt
    omega

theorem v10_at (c : Dev nD) (k : Fin 2048) (e : Fin 128) :
    (show FVec Ideal S2048x128 .bf16 from V m c main_v10) (ix2 k e)
      = if h : e.val < 16 then (show FVec Ideal S1x2048x6160 .f32 from m ((c : Thread nD τ).loc main_arg4)) (ix3 0 k ⟨6144 + e.val, by omega⟩) else 0 := by
  dsimp only
  unfold V
  after_results_simp
  refine (scatter_at _ _ ?_ _ k e).trans ?_
  · pointwise
  · by_cases h : e.val < 16
    · rw [dif_pos h, dif_pos h]
      pointwise
    · rw [dif_neg h, dif_neg h]
      pointwise

end Cert.Kernel5Ideal.Inp
end
-- ==== Proof.InpBlk.lean ====
module

public import proofs.«01_k».proof.Proof.InpOut
public import Idealize.ShloMosaic.Lib.Pointwise
public import Idealize.ShloMosaic.Lib.Routing.OpsOne
public import Idealize.ShloMosaic.Lib.Routing.OpsPair
public import Idealize.ShloMosaic.Lib.Routing.OpsSet

@[expose] public section

set_option maxRecDepth 65536
set_option synthInstance.maxSize 4096

noncomputable section

namespace Cert.Kernel5Ideal.Inp

open Idealize.ShloMosaic Idealize.ShloMosaic.TcCoe Idealize.ShloMosaic.StableHlo Idealize.ShloMosaic.Tactic Idealize.SL.Sem
open Cert.Kernel5Ideal Cert.Kernel5Ideal.Gen

variable (m : (ℓ : Loc nD τ sig) → Buf (Elt Ideal) ℓ)

theorem e0 : ∀ t : Fin cfg0.N, win0_0.index t = ![t.val / 3, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val / 48, 0, 0] := (by decide +kernel : ∀ t : Fin grid0.N, _)
theorem e3 : ∀ t : Fin cfg0.N, win0_3.index t = ![t.val / 48, 0, 0] := (by decide +kernel : ∀ t : Fin grid0.N, _)
theorem e4 : ∀ t : Fin cfg0.N, win0_4.index t = ![0, 0, t.val % 3] := (by decide +kernel : ∀ t : Fin grid0.N, _)
theorem e5 : ∀ t : Fin cfg0.N, win0_5.index t = ![0, t.val % 3] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val / 3, t.val % 3] := (by decide +kernel : ∀ t : Fin grid0.N, _)
theorem e8 : ∀ t : Fin cfg0.N, win0_8.index t = ![t.val / 3, 0] := (by decide +kernel : ∀ t : Fin grid0.N, _)

/-! ## The windows' blocks, at an index -/

theorem blk0 (c : Dev nD) (t : Fin cfg0.N) (r : Fin 1024) (k : Fin 2048) (h : 1024 * (t.val / 3) + r.val < 32768) :
    (show FVec Ideal S1024x2048 .f32 from iblk m c 0 t) (ix2 r k)
      = (show FVec Ideal S32768x2048 .f32 from V m c main_v11) (ix2 ⟨1024 * (t.val / 3) + r.val, h⟩ k) := by
  dsimp only
  blk_simp [iblk]
  blk_ext [e0]

theorem blk1 (c : Dev nD) (t : Fin cfg0.N) (k : Fin 2048) :
    (show FVec Ideal S1x2048 .f32 from iblk m c 1 t) (ix2 0 k) = (show FVec Ideal S1x2048 .f32 from V m c main_v14) (ix2 0 k) := by
  dsimp only
  blk_simp [iblk]
  blk_ext [e1]

theorem blk2 (c : Dev nD) (t : Fin cfg0.N) (k : Fin 2048) (h : t.val / 48 < 2) :
    (show FVec Ideal S1x1x2048 .f32 from iblk m c 2 t) (ix3 0 0 k) = (show FVec Ideal S2x1x2048 .f32 from V m c main_v15) (ix3 ⟨t.val / 48, h⟩ 0 k) := by
  dsimp only
  blk_simp [iblk]
  blk_ext [e2]

theorem blk3 (c : Dev nD) (t : Fin cfg0.N) (k : Fin 2048) (h : t.val / 48 < 2) :
    (show FVec Ideal S1x1x2048 .f32 from iblk m c 3 t) (ix3 0 0 k) = (show FVec Ideal S2x1x2048 .f32 from V m c main_v16) (ix3 ⟨t.val / 48, h⟩ 0 k) := by
  dsimp only
  blk_simp [iblk]
  blk_ext [e3]

theorem blk4 (c : Dev nD) (t : Fin cfg0.N) (k x : Fin 2048) (h : 2048 * (t.val % 3) + x.val < 6160) :
    (show FVec Ideal S1x2048x2048 .bf16 from X0_4 m c t) (ix3 0 k x) = (show FVec Ideal S1x2048x6160 .bf16 from V m c main_v0) (ix3 0 k ⟨2048 * (t.val % 3) + x.val, h⟩) := by
  dsimp only
  unfold X0_4 Pipeline.Window.fill
  rw [dif_pos (moved0_4 t _)]
  blk_simp [iblk]
  blk_ext [e4]

theorem blk5 (c : Dev nD) (t : Fin cfg0.N) (x : Fin 2048) (h : 2048 * (t.val % 3) + x.val < 6144) :
    (show FVec Ideal S1x2048 .f32 from iblk m c 5 t) (ix2 0 x) = (show FVec Ideal S1x6144 .f32 from V m c main_v5) (ix2 0 ⟨2048 * (t.val % 3) + x.val, h⟩) := by
  dsimp only
  blk_simp [iblk]
  blk_ext [e5]

theorem blk6 (c : Dev nD) (t : Fin cfg0.N) (k : Fin 2048) (e : Fin 128) :
    (show FVec Ideal S2048x128 .bf16 from iblk m c 6 t) (ix2 k e) = (show FVec Ideal S2048x128 .bf16 from V m c main_v10) (ix2 k e) := by
  dsimp only
  blk_simp [iblk]
  blk_ext [e6]

end Cert.Kernel5Ideal.Inp
end
-- ==== Proof.InpTotal.lean ====
module

public import proofs.«01_k».proof.Proof.InpWin
public import proofs.«01_k».proof.Proof.InpBlk
public import Idealize.ShloMosaic.Lib.Pointwise

@[expose] public section

set_option maxRecDepth 65536
set_option synthInstance.maxSize 4096

noncomputable section

namespace Cert.Kernel5Ideal.Inp

open Idealize.ShloMosaic Idealize.ShloMosaic.TcCoe Idealize.ShloMosaic.StableHlo Idealize.ShloMosaic.Tactic Idealize.SL.Sem
open Cert.Kernel5Ideal Cert.Kernel5Ideal.Gen

variable (m : (ℓ : Loc nD τ sig) → Buf (Elt Ideal) ℓ)

/-! ## The arguments, by row -/

def aX (c : Dev nD) (R : Fin 32768) (k : Fin 2048) : EReal :=
  (show FVec Ideal S2x16384x2048 .f32 from m ((c : Thread nD τ).loc main_arg0)) (ix3 ⟨R.val / 16384, by omega⟩ ⟨R.val % 16384, by omega⟩ k)
def aG (c : Dev nD) (k : Fin 2048) : EReal := (show FVec Ideal S2x2x2048 .f32 from m ((c : Thread nD τ).loc main_arg1)) (ix3 0 0 k)
def aSH (c : Dev nD) (R : Fin 32768) (k : Fin 2048) : EReal :=
  (show FVec Ideal S2x2048 .f32 from m ((c : Thread nD τ).loc main_arg2)) (ix2 ⟨R.val / 16384, by omega⟩ k)
def aSC (c : Dev nD) (R : Fin 32768) (k : Fin 2048) : EReal :=
  (show FVec Ideal S2x2048 .f32 from m ((c : Thread nD τ).loc main_arg3)) (ix2 ⟨R.val / 16384, by omega⟩ k)
def aW (c : Dev nD) (k : Fin 2048) (j : Fin 6160) : EReal := (show FVec Ideal S1x2048x6160 .f32 from m ((c : Thread nD τ).loc main_arg4)) (ix3 0 k j)

def rowH (c : Dev nD) (R : Fin 32768) : Fin 2048 → EReal := Cert.Mlp.hid (aX m c R) (aG m c) (aSC m c R) (aSH m c R)

def rowOf (q : ℕ) (r : Fin 1024) : Fin 32768 := ⟨(1024 * q + r.val) % 32768, Nat.mod_lt _ (by decide)⟩

def Hblk (c : Dev nD) (q : ℕ) : Vec Ideal S1024x2048 .bf16 := fun y => rowH m c (rowOf q (y 0)) (y 1)

theorem row_lt (t : Fin cfg0.N) (r : Fin 1024) : 1024 * (t.val / 3) + r.val < 32768 := by
  have ht : t.val < 96 := t.isLt
  omega

theorem rowOf_eq (t : Fin cfg0.N) (r : Fin 1024) (h : 1024 * (t.val / 3) + r.val < 32768) : rowOf (t.val / 3) r = ⟨1024 * (t.val / 3) + r.val, h⟩ :=
  Fin.ext (Nat.mod_eq_of_lt h)

theorem batch_lt (t : Fin cfg0.N) : t.val / 48 < 2 := by
  have ht : t.val < 96 := t.isLt
  omega

theorem batch_eq (t : Fin cfg0.N) (r : Fin 1024) (h) : (⟨(rowOf (t.val / 3) r).val / 16384, h⟩ : Fin 2) = ⟨t.val / 48, batch_lt t⟩ := by
  have ht : t.val < 96 := t.isLt
  refine Fin.ext ?_
  show (1024 * (t.val / 3) + r.val) % 32768 / 16384 = t.val / 48
  omega

theorem col_lt (t : Fin cfg0.N) (d : Fin 2048) : 2048 * (t.val % 3) + d.val < 6144 := by omega

theorem b0 (c : Dev nD) (t : Fin cfg0.N) (r : Fin 1024) (k : Fin 2048) :
    (show FVec Ideal S1024x2048 .f32 from iblk m c 0 t) (ix2 r k) = aX m c (rowOf (t.val / 3) r) k := by
  rw [rowOf_eq t r (row_lt t r)]
  exact (blk0 m c t r k (row_lt t r)).trans (v11_at m c _ k)

theorem b1 (c : Dev nD) (t : Fin cfg0.N) (k : Fin 2048) : (show FVec Ideal S1x2048 .f32 from iblk m c 1 t) (ix2 0 k) = aG m c k :=
  (blk1 m c t k).trans (v14_at m c k)

theorem b2 (c : Dev nD) (t : Fin cfg0.N) (r : Fin 1024) (k : Fin 2048) :
    (show FVec Ideal S1x1x2048 .f32 from iblk m c 2 t) (ix3 0 0 k) = aSC m c (rowOf (t.val / 3) r) k := by
  unfold aSC
  rw [batch_eq t r]
  exact (blk2 m c t k (batch_lt t)).trans (v15_at m c _ k)

theorem b3 (c : Dev nD) (t : Fin cfg0.N) (r : Fin 1024) (k : Fin 2048) :
    (show FVec Ideal S1x1x2048 .f32 from iblk m c 3 t) (ix3 0 0 k) = aSH m c (rowOf (t.val / 3) r) k := by
  unfold aSH
  rw [batch_eq t r]
  exact (blk3 m c t k (batch_lt t)).trans (v16_at m c _ k)

theorem b4 (c : Dev nD) (t : Fin cfg0.N) (k d : Fin 2048) (h) :
    (show FVec Ideal S1x2048x2048 .bf16 from X0_4 m c t) (ix3 0 k d) = aW m c k ⟨2048 * (t.val % 3) + d.val, h⟩ :=
  (blk4 m c t k d h).trans (v0_at m c k _)

theorem b5 (c : Dev nD) (t : Fin cfg0.N) (d : Fin 2048) :
    (show FVec Ideal S1x2048 .f32 from iblk m c 5 t) (ix2 0 d) = colScale (2048 * (t.val % 3) + d.val) :=
  (blk5 m c t d (col_lt t d)).trans (v5_at m c _)

theorem b6 (c : Dev nD) (t : Fin cfg0.N) (k : Fin 2048) (e : Fin 128) :
    (show FVec Ideal S2048x128 .bf16 from iblk m c 6 t) (ix2 k e) = if h : e.val < 16 then aW m c k ⟨6144 + e.val, by omega⟩ else 0 :=
  (blk6 m c t k e).trans (v10_at m c k e)

/-! ## One point -/

theorem hid_congr {x x' g g' sc sc' sh sh' : Fin 2048 → EReal} (hx : ∀ k, x k = x' k) (hg : ∀ k, g k = g' k) (hsc : ∀ k, sc k = sc' k) (hsh : ∀ k, sh k = sh' k) (k : Fin 2048) :
    Cert.Mlp.hid x g sc sh k = Cert.Mlp.hid x' g' sc' sh' k := by
  rw [funext hx, funext hg, funext hsc, funext hsh]

theorem h_blk (c : Dev nD) (t : Fin cfg0.N) : hT (iblk m c 0 t) (iblk m c 1 t) (iblk m c 2 t) (iblk m c 3 t) = Hblk m c (t.val / 3) := by
  funext y
  exact hid_congr (fun k => b0 m c t (y 0) k) (fun k => b1 m c t k) (fun k => b2 m c t (y 0) k) (fun k => b3 m c t (y 0) k) (y 1)

theorem pay2_at (h : Vec Ideal S1024x2048 .bf16) (w : Vec Ideal S1x2048x2048 .bf16) (s : Vec Ideal S1x2048 .f32) (r : Fin 1024) (d : Fin 2048) :
    k0_pay2 (F := Ideal) h w s (ix2 r d) = (∑ k : Fin 2048, h (ix2 r k) * w (ix3 0 k d)) * s (ix2 0 d) := by
  pointwise [k0_pay2]

theorem pay1_at (h : Vec Ideal S1024x2048 .bf16) (w : Vec Ideal S2048x128 .bf16) (r : Fin 1024) (e : Fin 128) :
    k0_pay1 (F := Ideal) h w (ix2 r e) = ∑ k : Fin 2048, h (ix2 r k) * w (ix2 k e) := by
  pointwise [k0_pay1]

theorem scratch (c : Dev nD) (t : Fin cfg0.N) : (held (F := Ideal) m c t.val t.isLt).2 = Hblk m c (t.val / 3) := by
  unfold held kept
  dsimp only
  refine (soutA_val ..).trans ((h_blk m c _).trans ?_)
  show Hblk m c (t.val / 3 * 3 / 3) = _
  rw [Nat.mul_div_cancel _ (by decide)]

theorem proj_val (c : Dev nD) (t : Fin cfg0.N) : proj (F := Ideal) m c t = k0_pay2 (Hblk m c (t.val / 3)) (X0_4 m c t) (iblk m c 5 t) := by
  unfold proj
  by_cases h : t.val % 3 = 0
  · rw [dif_pos h]
    refine (out7A_val ..).trans ?_
    rw [h_blk]
  · rw [dif_neg h]
    refine (out7B_val ..).trans ?_
    rw [scratch]

theorem gates_val (c : Dev nD) (t : Fin cfg0.N) :
    (held (F := Ideal) m c t.val t.isLt).1 = k0_pay1 (Hblk m c (t.val / 3)) (iblk m c 6 (base t.val t.isLt)) := by
  unfold held kept
  dsimp only
  refine (out8A_val ..).trans ?_
  rw [h_blk]
  show k0_pay1 (Hblk m c (t.val / 3 * 3 / 3)) _ = _
  rw [Nat.mul_div_cancel _ (by decide)]

/-! ## The results -/

/-- The projection: a row's products with the columns of the weights, the keys' columns scaled. -/
def goalP (c : Dev nD) : Vec Ideal S32768x6144 .bf16 := fun y =>
  (∑ k : Fin 2048, rowH m c (y 0) k * aW m c k ⟨(y 1).val, by have h : (y 1).val < 6144 := (y 1).isLt; omega⟩) * colScale (y 1).val

/-- The gates: a row's products with the last sixteen columns, then zeros. -/
def goalG (c : Dev nD) : Vec Ideal S32768x128 .f32 := fun y =>
  ∑ k : Fin 2048, rowH m c (y 0) k * (if h : (y 1).val < 16 then aW m c k ⟨6144 + (y 1).val, by omega⟩ else 0)

theorem proj_at (c : Dev nD) (t : Fin cfg0.N) (r : Fin 1024) (d : Fin 2048) :
    proj (F := Ideal) m c t (ix2 r d) = goalP m c (ix2 (rowOf (t.val / 3) r) ⟨2048 * (t.val % 3) + d.val, col_lt t d⟩) := by
  rw [proj_val]
  refine (pay2_at _ _ _ r d).trans ?_
  refine congrArg₂ (fun p q : EReal => p * q) (Finset.sum_congr rfl fun k _ => ?_) (b5 m c t d)
  exact congrArg (fun z : EReal => rowH m c (rowOf (t.val / 3) r) k * z) (b4 m c t k d _)

theorem gates_at (c : Dev nD) (t : Fin cfg0.N) (r : Fin 1024) (e : Fin 128) :
    (held (F := Ideal) m c t.val t.isLt).1 (ix2 r e) = goalG m c (ix2 (rowOf (t.val / 3) r) e) := by
  rw [gates_val]
  refine (pay1_at _ _ r e).trans (Finset.sum_congr rfl fun k _ => ?_)
  exact congrArg (fun z : EReal => rowH m c (rowOf (t.val / 3) r) k * z) (b6 m c _ k e)

theorem arrP (c : Dev nD) : (dats m 0 c).arrAt 7 cfg0.N = goalP m c := by
  refine (dats m 0 c).arrAt_eq_of_covers 7 (goalP m c) (by decide +kernel) fun t hf y => ?_
  blk_simp
  rw [after7]
  have hy0 : (y 0).val < 1024 := (y 0).isLt
  have hy1 : (y 1).val < 2048 := (y 1).isLt
  have ey : y = ix2 (⟨(y 0).val, hy0⟩ : Fin 1024) (⟨(y 1).val, hy1⟩ : Fin 2048) := by
    funext a; fin_cases a <;> rfl
  have hr := row_lt t ⟨(y 0).val, hy0⟩
  have hd := col_lt t ⟨(y 1).val, hy1⟩
  have ez : (win0_7.blk t).view.emb y = ix2 (⟨1024 * (t.val / 3) + (y 0).val, hr⟩ : Fin 32768) (⟨2048 * (t.val % 3) + (y 1).val, hd⟩ : Fin 6144) := by
    blk_ext [e7]
  refine ((congrArg (show FVec Ideal S1024x2048 .bf16 from proj m c t) ey).trans (proj_at m c t ⟨(y 0).val, hy0⟩ ⟨(y 1).val, hy1⟩)).trans (Eq.trans ?_ (congrArg (goalP m c) ez).symm)
  rw [rowOf_eq t ⟨(y 0).val, hy0⟩ hr]

theorem arrG (c : Dev nD) : (dats m 0 c).arrAt 8 cfg0.N = goalG m c := by
  refine (dats m 0 c).arrAt_eq_of_covers 8 (goalG m c) (by decide +kernel) fun t hf y => ?_
  blk_simp
  rw [after8]
  have hy0 : (y 0).val < 1024 := (y 0).isLt
  have hy1 : (y 1).val < 128 := (y 1).isLt
  have ey : y = ix2 (⟨(y 0).val, hy0⟩ : Fin 1024) (⟨(y 1).val, hy1⟩ : Fin 128) := by
    funext a; fin_cases a <;> rfl
  have hr := row_lt t ⟨(y 0).val, hy0⟩
  have ez : (win0_8.blk t).view.emb y = ix2 (⟨1024 * (t.val / 3) + (y 0).val, hr⟩ : Fin 32768) (⟨(y 1).val, hy1⟩ : Fin 128) := by
    blk_ext [e8]
  refine ((congrArg (show FVec Ideal S1024x128 .f32 from (held m c t.val t.isLt).1) ey).trans (gates_at m c t ⟨(y 0).val, hy0⟩ ⟨(y 1).val, hy1⟩)).trans (Eq.trans ?_ (congrArg (goalG m c) ez).symm)
  rw [rowOf_eq t ⟨(y 0).val, hy0⟩ hr]

end Cert.Kernel5Ideal.Inp
end
-- ==== Proof.InpRef.lean ====
module

public import proofs.«01_k».proof.Proof.Gen.Reference5Ideal.Run
public import proofs.«01_k».proof.Proof.MlpSpec
public import Idealize.ShloMosaic.Lib.Pointwise

@[expose] public section

set_option maxRecDepth 65536
set_option synthInstance.maxSize 4096

noncomputable section

namespace Cert.Reference5Ideal.Inp

open Idealize.ShloMosaic Idealize.ShloMosaic.TcCoe Idealize.ShloMosaic.StableHlo Idealize.ShloMosaic.Tactic Idealize.SL.Sem
open Cert.Reference5Ideal Cert.Reference5Ideal.Gen

/-! ## The reference's results in stretches, each read at an index -/

/-- Rows over their root mean squares. -/
def normedV (X : FVec Ideal S2x16384x2048 .f32) : FVec Ideal S2x16384x2048 .f32 :=
  mulf X (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf X X) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))

theorem normedV_at (X : FVec Ideal S2x16384x2048 .f32) (b : Fin 2) (s : Fin 16384) (d : Fin 2048) :
    normedV X (ix3 b s d) = X (ix3 b s d) * Cert.Mlp.inv (fun k => X (ix3 b s k)) := by
  pointwise [normedV, Cert.Mlp.inv]

/-- The normalized rows scaled and shifted. -/
def hidV (N : FVec Ideal S2x16384x2048 .f32) (G : FVec Ideal S2x2x2048 .f32) (SH SC : FVec Ideal S2x2048 .f32) : FVec Ideal S2x16384x2048 .f32 :=
  addf (mulf (mulf N (broadcastInDim S2x16384x2048 ![0, 1, 2] bcast_S1x1x2048_S2x16384x2048_0_1_2 (broadcastInDim S1x1x2048 ![2] bcast_S2048_S1x1x2048_2 (shapeCast _ (extractStridedSlice S1x1x2048 ![0, 0, 0] G slices_S2x2x2048_S1x1x2048_0_0_0) shapeCasts_S1x1x2048_S2048)))) (broadcastInDim S2x16384x2048 ![0, 1, 2] bcast_S2x1x2048_S2x16384x2048_0_1_2 (addf (broadcastInDim S2x1x2048 ![] bcast_S_S2x1x2048 (constant S_ .f32 0x3F800000#32)) (broadcastInDim S2x1x2048 ![0, 2] bcast_S2x2048_S2x1x2048_0_2 SC)))) (broadcastInDim S2x16384x2048 ![0, 1, 2] bcast_S2x1x2048_S2x16384x2048_0_1_2 (broadcastInDim S2x1x2048 ![0, 2] bcast_S2x2048_S2x1x2048_0_2 SH))

theorem hidV_at (N : FVec Ideal S2x16384x2048 .f32) (G : FVec Ideal S2x2x2048 .f32) (SH SC : FVec Ideal S2x2048 .f32) (b : Fin 2) (s : Fin 16384) (d : Fin 2048) :
    hidV N G SH SC (ix3 b s d) = N (ix3 b s d) * G (ix3 0 0 d) * (1 + SC (ix2 b d)) + SH (ix2 b d) := by
  pointwise [hidV]

theorem hid_at (X : FVec Ideal S2x16384x2048 .f32) (G : FVec Ideal S2x2x2048 .f32) (SH SC : FVec Ideal S2x2048 .f32) (b : Fin 2) (s : Fin 16384) (k : Fin 2048) :
    hidV (normedV X) G SH SC (ix3 b s k)
      = Cert.Mlp.hid (fun k => X (ix3 b s k)) (fun k => G (ix3 0 0 k)) (fun k => SC (ix2 b k)) (fun k => SH (ix2 b k)) k := by
  rw [hidV_at, normedV_at]
  exact congrArg (· + SH (ix2 b k)) (mul_assoc _ _ _)

/-- The rows' products with every column of the weights. -/
def dotV (H : FVec Ideal S2x16384x2048 .f32) (W : FVec Ideal S1x2048x6160 .f32) : FVec Ideal S2x16384x6160 .f32 :=
  Host.dotGeneral dot_S2x16384x2048_S2048x6160_S2x16384x6160_2_0_01_1_n_n none H (shapeCast _ W shapeCasts_S1x2048x6160_S2048x6160)

theorem dotV_at (H : FVec Ideal S2x16384x2048 .f32) (W : FVec Ideal S1x2048x6160 .f32) (b : Fin 2) (s : Fin 16384) (j : Fin 6160) :
    dotV H W (ix3 b s j) = ∑ k : Fin 2048, H (ix3 b s k) * W (ix3 0 k j) := by
  pointwise [dotV]

/-- The projection: the keys' columns scaled. -/
def projV (P : FVec Ideal S2x16384x6160 .f32) : FVec Ideal S32768x6144 .bf16 :=
  shapeCast _ (truncf .bf16 ((concatenate S2x16384x6144 2 [⟨S2x16384x1024, ((extractStridedSlice S2x16384x1024 ![0, 0, 0] P slices_S2x16384x6160_S2x16384x1024_0_0_0) : (⟨S2x16384x1024, .f32⟩ : BufTy).Contents (Elt Ideal))⟩, ⟨S2x16384x1024, ((mulf (extractStridedSlice S2x16384x1024 ![0, 0, 1024] P slices_S2x16384x6160_S2x16384x1024_0_0_1024) (broadcastInDim S2x16384x1024 ![] bcast_S_S2x16384x1024 (constant S_ .f32 0x3DB504F3#32))) : (⟨S2x16384x1024, .f32⟩ : BufTy).Contents (Elt Ideal))⟩, ⟨S2x16384x4096, ((extractStridedSlice S2x16384x4096 ![0, 0, 2048] P slices_S2x16384x6160_S2x16384x4096_0_0_2048) : (⟨S2x16384x4096, .f32⟩ : BufTy).Contents (Elt Ideal))⟩] concatenates_S2x16384x1024_S2x16384x1024_S2x16384x4096_S2x16384x6144_d2 : (⟨S2x16384x6144, .f32⟩ : BufTy).Contents (Elt Ideal))) bitsLt_bf16_f32) shapeCasts_S2x16384x6144_S32768x6144

/-- The factor of a column of the projection: the keys are scaled, the rest is not. -/
def colScale (j : ℕ) : EReal := if j < 1024 then 1 else if j < 2048 then Ideal.ofBits .f32 0x3DB504F3#32 else 1

theorem projV_at (P : FVec Ideal S2x16384x6160 .f32) (r : Fin 32768) (j : Fin 6144) :
    projV P (ix2 r j) = P (ix3 ⟨r.val / 16384, by omega⟩ ⟨r.val % 16384, by omega⟩ ⟨j.val, by omega⟩) * colScale j.val := by
  pointwise [projV, colScale]
  by_cases h : j.val < 1024
  · rw [dif_pos h, if_pos h, mul_one]
  · rw [dif_neg h, if_neg h]
    by_cases h' : j.val < 2048
    · rw [dif_pos (by omega), if_pos h']
      exact congrArg (fun z : Fin 6160 => P (ix3 _ _ z) * Ideal.ofBits .f32 0x3DB504F3#32) (Fin.ext (by show 1024 + (j.val - 1024) = j.val; omega))
    · rw [dif_neg (by omega), if_neg h', mul_one]
      exact congrArg (fun z : Fin 6160 => P (ix3 _ _ z)) (Fin.ext (by show 2048 + (j.val - 1024 - 1024) = j.val; omega))

/-- The gates: the last sixteen columns' products, padded with zeros to a full tile of lanes. -/
def gatesV (P : FVec Ideal S2x16384x6160 .f32) : FVec Ideal S32768x128 .f32 :=
  shapeCast _ (pad S2x16384x128 ![0, 0, 0] ![0, 0, 112] ![0, 0, 0] (extractStridedSlice S2x16384x16 ![0, 0, 6144] P slices_S2x16384x6160_S2x16384x16_0_0_6144) (sitofp .f32 (constantI S_ 32 0#32)) pads_S2x16384x16_S2x16384x128_000_000_01120 h_S_) shapeCasts_S2x16384x128_S32768x128

theorem zero_word : (FloatOps.sitofp (F := Ideal) .f32 (0#32) : EReal) = 0 := by
  show (((0#32 : BitVec 32).toInt : ℝ) : EReal) = 0
  rw [show (0#32 : BitVec 32).toInt = 0 from rfl, Int.cast_zero, EReal.coe_zero]

theorem pick {α : Type} {p q : Prop} [Decidable p] [Decidable q] (hpq : p ↔ q) (f : p → α) (g : q → α) (z z' : α) (hfg : ∀ hp hq, f hp = g hq) (hz : z = z') :
    dite p f (fun _ => z) = dite q g (fun _ => z') := by
  by_cases hq : q
  · rw [dif_pos (hpq.2 hq), dif_pos hq, hfg _ hq]
  · rw [dif_neg fun hp => hq (hpq.1 hp), dif_neg hq, hz]

theorem gatesV_at (P : FVec Ideal S2x16384x6160 .f32) (r : Fin 32768) (e : Fin 128) :
    gatesV P (ix2 r e) = if h : e.val < 16 then P (ix3 ⟨r.val / 16384, by omega⟩ ⟨r.val % 16384, by omega⟩ ⟨6144 + e.val, by omega⟩) else 0 := by
  pointwise [gatesV]
  refine pick (α := EReal) ⟨fun h => h.2.2, fun h => ⟨by omega, by omega, h⟩⟩ _ _ _ _ (fun hp hq => ?_) zero_word
  dsimp only

theorem res_eq (m : (ℓ : Loc nD τ sig) → Buf (Elt Ideal) ℓ) (c : Dev nD) :
    (show FVec Ideal S32768x6144 .bf16 from Value.res_main_v34 m c)
      = projV (dotV (hidV (normedV (m ((c.tc : Thread nD τ).loc main_arg0))) (m ((c.tc : Thread nD τ).loc main_arg1)) (m ((c.tc : Thread nD τ).loc main_arg2)) (m ((c.tc : Thread nD τ).loc main_arg3)))
          (m ((c.tc : Thread nD τ).loc main_arg4))) := by
  unfold Value.res_main_v34
  rfl

/-- The reference's run: its results as the projection and the gates of the modulated rows. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v34) = projV (dotV (hidV (normedV (m ((c.tc : Thread nD τ).loc main_arg0))) (m ((c.tc : Thread nD τ).loc main_arg1)) (m ((c.tc : Thread nD τ).loc main_arg2)) (m ((c.tc : Thread nD τ).loc main_arg3))) (m ((c.tc : Thread nD τ).loc main_arg4)))
      ∧ r.2.mem ((c.tc : Thread nD τ).loc main_v35) = gatesV (dotV (hidV (normedV (m ((c.tc : Thread nD τ).loc main_arg0))) (m ((c.tc : Thread nD τ).loc main_arg1)) (m ((c.tc : Thread nD τ).loc main_arg2)) (m ((c.tc : Thread nD τ).loc main_arg3))) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (res_eq m c), (h c).2.1.trans rfl, (h c).2.2⟩) (Value.run (F := Ideal) m ρ)

/-- The projection at an index, over the arguments. -/
theorem proj_total (X : FVec Ideal S2x16384x2048 .f32) (G : FVec Ideal S2x2x2048 .f32) (SH SC : FVec Ideal S2x2048 .f32) (W : FVec Ideal S1x2048x6160 .f32) (r : Fin 32768) (j : Fin 6144) :
    projV (dotV (hidV (normedV X) G SH SC) W) (ix2 r j)
      = (∑ k : Fin 2048, Cert.Mlp.hid (fun k => X (ix3 ⟨r.val / 16384, by omega⟩ ⟨r.val % 16384, by omega⟩ k)) (fun k => G (ix3 0 0 k)) (fun k => SC (ix2 ⟨r.val / 16384, by omega⟩ k)) (fun k => SH (ix2 ⟨r.val / 16384, by omega⟩ k)) k
          * W (ix3 0 k ⟨j.val, by omega⟩)) * colScale j.val := by
  rw [projV_at, dotV_at]
  refine congrArg (· * colScale j.val) (Finset.sum_congr rfl fun k _ => ?_)
  rw [hid_at]

/-- The gates at an index, over the arguments. -/
theorem gates_total (X : FVec Ideal S2x16384x2048 .f32) (G : FVec Ideal S2x2x2048 .f32) (SH SC : FVec Ideal S2x2048 .f32) (W : FVec Ideal S1x2048x6160 .f32) (r : Fin 32768) (e : Fin 128) :
    gatesV (dotV (hidV (normedV X) G SH SC) W) (ix2 r e)
      = ∑ k : Fin 2048, Cert.Mlp.hid (fun k => X (ix3 ⟨r.val / 16384, by omega⟩ ⟨r.val % 16384, by omega⟩ k)) (fun k => G (ix3 0 0 k)) (fun k => SC (ix2 ⟨r.val / 16384, by omega⟩ k)) (fun k => SH (ix2 ⟨r.val / 16384, by omega⟩ k)) k
          * (if h : e.val < 16 then W (ix3 0 k ⟨6144 + e.val, by omega⟩) else 0) := by
  rw [gatesV_at]
  by_cases h : e.val < 16
  · rw [dif_pos h, dotV_at]
    refine Finset.sum_congr rfl fun k _ => ?_
    rw [hid_at, dif_pos h]
  · rw [dif_neg h]
    refine (Finset.sum_eq_zero fun k _ => ?_).symm
    rw [dif_neg h, mul_zero]

end Cert.Reference5Ideal.Inp
end
-- ==== Proof.InpClaims.lean ====
module

public import proofs.«01_k».proof.Defs
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run
public import proofs.«01_k».proof.Proof.InpTotal
public import proofs.«01_k».proof.Proof.InpRef

@[expose] public section

set_option maxRecDepth 65536
set_option synthInstance.maxSize 4096

noncomputable section

namespace Cert.Proof

open Idealize.ShloMosaic Idealize.ShloMosaic.TcCoe Idealize.ShloMosaic.Tactic Idealize.SL.Sem

/-- The frame of the idealization's text at machine words. -/
def InpFrameBits : Prop :=
  ∀ (m : (ℓ : Loc Cert.Kernel5Ideal.nD Cert.Kernel5Ideal.τ Cert.Kernel5Ideal.sig) → Buf (Elt Bits) ℓ) (g : Dev Cert.Kernel5Ideal.nD → PrngReg), Cert.Pre_Kernel5 m →
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

theorem inpFrameBits : InpFrameBits := fun m ρ _ => Cert.Kernel5Ideal.Inp.frame (F := Bits) m ρ

/-- The kernel's text is the idealization's. -/
theorem inp_text : InpFrameBits = Cert.quiescent_Kernel5 := by
  chain_rfl

theorem inp_frame_kernel : Cert.quiescent_Kernel5 := inp_text.mp inpFrameBits

theorem inp_frame_kernelIdeal : Cert.quiescent_Kernel5Ideal := fun m ρ _ => Cert.Kernel5Ideal.Inp.frame (F := Ideal) m ρ

theorem inp_frame_reference : Cert.quiescent_Reference5Ideal := fun m ρ _ =>
  (θ_run Cert.Reference5Ideal.defs _ _).mono (fun r h => ⟨fun c => (h c).2.2, sem_eq_zero_of_no_sems (by decide) r.2⟩) (Cert.Reference5Ideal.Value.run (F := Ideal) m ρ)

theorem inp_preserves : Cert.preserves_Kernel5_Kernel5Ideal := trivial

/-- The kernel's run: its results as functions of its arguments. -/
theorem inp_run (m : (ℓ : Loc Cert.Kernel5Ideal.nD Cert.Kernel5Ideal.τ Cert.Kernel5Ideal.sig) → Buf (Elt Ideal) ℓ) (ρ : Dev Cert.Kernel5Ideal.nD → PrngReg) :
    θ_run Cert.Kernel5Ideal.defs (onTc (τ := Cert.Kernel5Ideal.τ) (Cert.Kernel5Ideal.main (F := Ideal))) ⟨m, fun _ => 0, ρ⟩ fun r => ∀ c : Dev Cert.Kernel5Ideal.nD,
      r.2.mem ((c.tc : Thread Cert.Kernel5Ideal.nD Cert.Kernel5Ideal.τ).loc Cert.Kernel5Ideal.main_v17_0) = Cert.Kernel5Ideal.Inp.goalP m c
      ∧ r.2.mem ((c.tc : Thread Cert.Kernel5Ideal.nD Cert.Kernel5Ideal.τ).loc Cert.Kernel5Ideal.main_v17_1) = Cert.Kernel5Ideal.Inp.goalG m c :=
  (θ_run Cert.Kernel5Ideal.defs _ _).mono (fun _ h c => ⟨((h c).1 7).trans (Cert.Kernel5Ideal.Inp.arrP m c), ((h c).1 8).trans (Cert.Kernel5Ideal.Inp.arrG m c)⟩)
    (Cert.Kernel5Ideal.Inp.run_main (F := Ideal) m ρ)

/-- The kernel and the reference end with equal results. -/
theorem inp_algebraic : Cert.algebraic_Kernel5Ideal_Reference5Ideal := by
  intro m g m' g' hpre hargs
  refine ⟨fun c => Cert.Kernel5Ideal.Inp.goalP m c, fun c => Cert.Kernel5Ideal.Inp.goalG m c, ?_, ?_⟩
  · exact (θ_run Cert.Kernel5Ideal.defs _ _).mono (fun r h c => ⟨(h.1 c).1, (h.1 c).2, h.2.1 c⟩)
      (θ_run_and (inp_run m g) (Cert.Kernel5Ideal.Inp.frame (F := Ideal) m g))
  · refine (θ_run Cert.Reference5Ideal.defs _ _).mono (fun r h c => ⟨?_, ?_, (h c).2.2⟩) (Cert.Reference5Ideal.Inp.run m' g')
    · obtain ⟨h0, h1, h2, h3, h4⟩ := hargs c
      refine (h c).1.trans ?_
      rw [h0, h1, h2, h3, h4]
      funext y
      obtain ⟨r, d, rfl⟩ : ∃ (r : Fin 32768) (d : Fin 6144), y = ix2 r d := ⟨y 0, y 1, by funext a; match a with | 0 => rfl | 1 => rfl⟩
      exact Cert.Reference5Ideal.Inp.proj_total _ _ _ _ _ r d
    · obtain ⟨h0, h1, h2, h3, h4⟩ := hargs c
      refine (h c).2.1.trans ?_
      rw [h0, h1, h2, h3, h4]
      funext y
      obtain ⟨r, d, rfl⟩ : ∃ (r : Fin 32768) (d : Fin 128), y = ix2 r d := ⟨y 0, y 1, by funext a; match a with | 0 => rfl | 1 => rfl⟩
      exact Cert.Reference5Ideal.Inp.gates_total _ _ _ _ _ r d

end Cert.Proof
end
-- ==== Proof.ResTotal.lean ====
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise

@[expose] public section

set_option maxRecDepth 65536
set_option synthInstance.maxSize 4096

noncomputable section

/-! The projection after a mixer, its gate and the residual sum. -/

namespace Cert.Kernel4Ideal.Res

open Idealize.ShloMosaic Idealize.ShloMosaic.TcCoe Idealize.ShloMosaic.StableHlo Idealize.ShloMosaic.Tactic Idealize.SL.Sem
open Cert.Kernel4Ideal Cert.Kernel4Ideal.Gen

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val / 32, 0, 0] := (by decide +kernel : ∀ t : Fin grid0.N, _)
theorem e4 : ∀ t : Fin cfg0.N, win0_4.index t = ![t.val, 0] := (by decide +kernel : ∀ t : Fin grid0.N, _)

theorem v0_at (c : Dev nD) (k d : Fin 2048) :
    (show FVec Ideal S1x2048x2048 .bf16 from V m c main_v0) (ix3 0 k d)
      = (show FVec Ideal S1x2048x2048 .f32 from m ((c : Thread nD τ).loc main_arg1)) (ix3 0 k d) := by
  dsimp only
  unfold V
  after_results_simp
  pointwise

theorem v1_at (c : Dev nD) (r : Fin 32768) (k : Fin 2048) :
    (show FVec Ideal S32768x2048 .f32 from V m c main_v1) (ix2 r k)
      = (show FVec Ideal S2x16384x2048 .f32 from m ((c : Thread nD τ).loc main_arg2)) (ix3 ⟨r.val / 16384, by omega⟩ ⟨r.val % 16384, by omega⟩ k) := by
  dsimp only
  unfold V
  after_results_simp
  pointwise

theorem v2_at (c : Dev nD) (b : Fin 2) (k : Fin 2048) :
    (show FVec Ideal S2x1x2048 .f32 from V m c main_v2) (ix3 b 0 k)
      = (show FVec Ideal S2x2048 .f32 from m ((c : Thread nD τ).loc main_arg3)) (ix2 b k) := by
  dsimp only
  unfold V
  after_results_simp
  pointwise

theorem blk0 (c : Dev nD) (t : Fin cfg0.N) (r : Fin 512) (k : Fin 2048) (h : 512 * t.val + r.val < 32768) :
    (show FVec Ideal S512x2048 .bf16 from iblk m c 0 t) (ix2 r k)
      = (show FVec Ideal S32768x2048 .bf16 from V m c main_arg0) (ix2 ⟨512 * t.val + r.val, h⟩ k) := by
  dsimp only
  blk_simp [iblk]
  blk_ext [e0]

theorem blk1 (c : Dev nD) (t : Fin cfg0.N) (k d : Fin 2048) :
    (show FVec Ideal S1x2048x2048 .bf16 from iblk m c 1 t) (ix3 0 k d) = (show FVec Ideal S1x2048x2048 .bf16 from V m c main_v0) (ix3 0 k d) := by
  dsimp only
  blk_simp [iblk]
  blk_ext [e1]

theorem blk2 (c : Dev nD) (t : Fin cfg0.N) (r : Fin 512) (k : Fin 2048) (h : 512 * t.val + r.val < 32768) :
    (show FVec Ideal S512x2048 .f32 from iblk m c 2 t) (ix2 r k)
      = (show FVec Ideal S32768x2048 .f32 from V m c main_v1) (ix2 ⟨512 * t.val + r.val, h⟩ k) := by
  dsimp only
  blk_simp [iblk]
  blk_ext [e2]

theorem blk3 (c : Dev nD) (t : Fin cfg0.N) (k : Fin 2048) (h : t.val / 32 < 2) :
    (show FVec Ideal S1x1x2048 .f32 from iblk m c 3 t) (ix3 0 0 k) = (show FVec Ideal S2x1x2048 .f32 from V m c main_v2) (ix3 ⟨t.val / 32, h⟩ 0 k) := by
  dsimp only
  blk_simp [iblk]
  blk_ext [e3]

/-- The result at an index, over the arguments. -/
def goal (c : Dev nD) : Vec Ideal S32768x2048 .f32 := fun y =>
  (show FVec Ideal S2x16384x2048 .f32 from m ((c : Thread nD τ).loc main_arg2)) (ix3 ⟨(y 0).val / 16384, by have h : (y 0).val < 32768 := (y 0).isLt; omega⟩ ⟨(y 0).val % 16384, by omega⟩ (y 1))
    + (show FVec Ideal S2x2048 .f32 from m ((c : Thread nD τ).loc main_arg3)) (ix2 ⟨(y 0).val / 16384, by have h : (y 0).val < 32768 := (y 0).isLt; omega⟩ (y 1))
      * ∑ k : Fin 2048, (show FVec Ideal S32768x2048 .bf16 from m ((c : Thread nD τ).loc main_arg0)) (ix2 (y 0) k)
          * (show FVec Ideal S1x2048x2048 .f32 from m ((c : Thread nD τ).loc main_arg1)) (ix3 0 k (y 1))

theorem pay_at (a : Vec Ideal S512x2048 .bf16) (w : Vec Ideal S1x2048x2048 .bf16) (x : Vec Ideal S512x2048 .f32) (g : Vec Ideal S1x1x2048 .f32) (r : Fin 512) (d : Fin 2048) :
    k0_pay1 (F := Ideal) a w x g (ix2 r d) = x (ix2 r d) + g (ix3 0 0 d) * ∑ k : Fin 2048, a (ix2 r k) * w (ix3 0 k d) := by
  pointwise [k0_pay1]

theorem out_val (x0 : Vec Ideal S512x2048 .bf16) (x1 : Vec Ideal S1x2048x2048 .bf16) (x2 : Vec Ideal S512x2048 .f32) (x3 : Vec Ideal S1x1x2048 .f32) :
    out0_4 (F := Ideal) x0 x1 x2 x3 = k0_pay1 x0 x1 x2 x3 := by
  unfold out0_4
  frame_out

theorem point_at (c : Dev nD) (t : Fin cfg0.N) (r : Fin 512) (d : Fin 2048) (h : 512 * t.val + r.val < 32768) :
    out0_4 (F := Ideal) (iblk m c 0 t) (iblk m c 1 t) (iblk m c 2 t) (iblk m c 3 t) (ix2 r d) = goal m c (ix2 ⟨512 * t.val + r.val, h⟩ d) := by
  have ht : t.val < 64 := t.isLt
  rw [out_val]
  refine (pay_at _ _ _ _ r d).trans ?_
  have eb : (⟨t.val / 32, by omega⟩ : Fin 2) = ⟨(512 * t.val + r.val) / 16384, by omega⟩ := Fin.ext (by show t.val / 32 = (512 * t.val + r.val) / 16384; omega)
  refine congrArg₂ (fun p q : EReal => p + q) ((blk2 m c t r d h).trans (v1_at m c _ d)) ?_
  refine congrArg₂ (fun p q : EReal => p * q) ?_ (Finset.sum_congr rfl fun k _ => ?_)
  · refine ((blk3 m c t d (by omega)).trans (v2_at m c _ d)).trans ?_
    rw [eb]
    rfl
  · refine congrArg₂ (fun p q : EReal => p * q) ((blk0 m c t r k h).trans ?_) ((blk1 m c t k d).trans (v0_at m c k d))
    rw [V_main_arg0]
    rfl

theorem arr (c : Dev nD) : (dats m 0 c).arrAt 4 cfg0.N = goal m c := by
  refine (dats m 0 c).arrAt_eq_of_covers 4 (goal m c) (by decide +kernel) fun t hf y => ?_
  blk_simp
  rw [after0_4]
  have ht : t.val < 64 := t.isLt
  have hy0 : (y 0).val < 512 := (y 0).isLt
  have hy1 : (y 1).val < 2048 := (y 1).isLt
  have ey : y = ix2 (⟨(y 0).val, hy0⟩ : Fin 512) (⟨(y 1).val, hy1⟩ : Fin 2048) := by
    funext a; fin_cases a <;> rfl
  have hr : 512 * t.val + (y 0).val < 32768 := by omega
  have ez : (win0_4.blk t).view.emb y = ix2 (⟨512 * t.val + (y 0).val, hr⟩ : Fin 32768) (⟨(y 1).val, hy1⟩ : Fin 2048) := by
    blk_ext [e4]
  exact ((congrArg (out0_4 (F := Ideal) (iblk m c 0 t) (iblk m c 1 t) (iblk m c 2 t) (iblk m c 3 t)) ey).trans (point_at m c t ⟨(y 0).val, hy0⟩ ⟨(y 1).val, hy1⟩ hr)).trans (congrArg (goal m c) ez).symm

end Cert.Kernel4Ideal.Res

namespace Cert.Reference4Ideal.Res

open Idealize.ShloMosaic Idealize.ShloMosaic.TcCoe Idealize.ShloMosaic.StableHlo Idealize.ShloMosaic.Tactic Idealize.SL.Sem
open Cert.Reference4Ideal Cert.Reference4Ideal.Gen

/-- The reference's result as a function of its arguments. -/
def resV (A : FVec Ideal S32768x2048 .bf16) (W : FVec Ideal S1x2048x2048 .f32) (X : FVec Ideal S2x16384x2048 .f32) (G : FVec Ideal S2x2048 .f32) : FVec Ideal S32768x2048 .f32 :=
  shapeCast _ (addf X (mulf (broadcastInDim S2x16384x2048 ![0, 1, 2] bcast_S2x1x2048_S2x16384x2048_0_1_2 (broadcastInDim S2x1x2048 ![0, 2] bcast_S2x2048_S2x1x2048_0_2 G)) (Host.dotGeneral dot_S2x16384x2048_S2048x2048_S2x16384x2048_2_0_01_1_n_n none (shapeCast _ (extf .f32 A bitsLt_bf16_f32) shapeCasts_S32768x2048_S2x16384x2048) (shapeCast _ W shapeCasts_S1x2048x2048_S2048x2048)))) shapeCasts_S2x16384x2048_S32768x2048

theorem resV_at (A : FVec Ideal S32768x2048 .bf16) (W : FVec Ideal S1x2048x2048 .f32) (X : FVec Ideal S2x16384x2048 .f32) (G : FVec Ideal S2x2048 .f32) (r : Fin 32768) (d : Fin 2048) :
    resV A W X G (ix2 r d) = X (ix3 ⟨r.val / 16384, by omega⟩ ⟨r.val % 16384, by omega⟩ d)
      + G (ix2 ⟨r.val / 16384, by omega⟩ d) * ∑ k : Fin 2048, A (ix2 r k) * W (ix3 0 k d) := by
  have e (k : Fin 2048) (h) : A (ix2 (⟨r.val / 16384 * 16384 + r.val % 16384, h⟩ : Fin 32768) k) = A (ix2 r k) := by
    rw [show (⟨r.val / 16384 * 16384 + r.val % 16384, h⟩ : Fin 32768) = r from Fin.ext (by show r.val / 16384 * 16384 + r.val % 16384 = r.val; omega)]
  pointwise [resV]

end Cert.Reference4Ideal.Res
end
-- ==== Proof.ResClaims.lean ====
module

public import proofs.«01_k».proof.Defs
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.ResTotal

@[expose] public section

set_option maxRecDepth 65536
set_option synthInstance.maxSize 4096

noncomputable section

namespace Cert.Proof

open Idealize.ShloMosaic Idealize.ShloMosaic.TcCoe Idealize.ShloMosaic.Tactic Idealize.SL.Sem

/-- The frame of the idealization's text at machine words. -/
def ResFrameBits : Prop :=
  ∀ (m : (ℓ : Loc Cert.Kernel4Ideal.nD Cert.Kernel4Ideal.τ Cert.Kernel4Ideal.sig) → Buf (Elt Bits) ℓ) (g : Dev Cert.Kernel4Ideal.nD → PrngReg), Cert.Pre_Kernel4 m →
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

theorem resFrameBits : ResFrameBits := fun m ρ _ => Cert.Kernel4Ideal.Gen.frame (F := Bits) m ρ

/-- The kernel's text is the idealization's. -/
theorem res_text : ResFrameBits = Cert.quiescent_Kernel4 := by
  chain_rfl

theorem res_frame_kernel : Cert.quiescent_Kernel4 := res_text.mp resFrameBits

theorem res_frame_kernelIdeal : Cert.quiescent_Kernel4Ideal := fun m ρ _ => Cert.Kernel4Ideal.Gen.frame (F := Ideal) m ρ

theorem res_frame_reference : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

theorem res_preserves : Cert.preserves_Kernel4_Kernel4Ideal := trivial

/-- The kernel and the reference end with equal results. -/
theorem res_algebraic : Cert.algebraic_Kernel4Ideal_Reference4Ideal := by
  intro m g m' g' hpre hargs
  refine ⟨fun c => Cert.Kernel4Ideal.Res.goal m c, ?_, ?_⟩
  · exact (θ_run Cert.Kernel4Ideal.defs _ _).mono (fun r h c => ⟨(h c).1.trans (Cert.Kernel4Ideal.Res.arr m c), (h c).2⟩) (Cert.Kernel4Ideal.Value.run_blocks m g)
  · refine (θ_run Cert.Reference4Ideal.defs _ _).mono (fun r h c => ⟨?_, (h c).2⟩) (Cert.Reference4Ideal.Value.run (F := Ideal) m' g')
    obtain ⟨h0, h1, h2, h3⟩ := hargs c
    refine (h c).1.trans ?_
    rw [h0, h1, h2, h3]
    funext y
    obtain ⟨r, d, rfl⟩ : ∃ (r : Fin 32768) (d : Fin 2048), y = ix2 r d := ⟨y 0, y 1, by funext a; match a with | 0 => rfl | 1 => rfl⟩
    exact Cert.Reference4Ideal.Res.resV_at _ _ _ _ r d

end Cert.Proof
end
-- ==== Proof.MlpRef.lean ====
module

public import proofs.«01_k».proof.Proof.Gen.Reference2Ideal.Run
public import proofs.«01_k».proof.Proof.MlpSpec
public import Idealize.ShloMosaic.Lib.Pointwise

@[expose] public section

set_option maxRecDepth 65536
set_option synthInstance.maxSize 4096

noncomputable section

namespace Cert.Reference2Ideal.Mlp

open Idealize.ShloMosaic Idealize.ShloMosaic.TcCoe Idealize.ShloMosaic.StableHlo Idealize.ShloMosaic.Tactic Idealize.SL.Sem
open Cert.Reference2Ideal Cert.Reference2Ideal.Gen

/-! ## The reference's result in four stretches, each read at an index -/

/-- Rows over their root mean squares. -/
def normedV (X : FVec Ideal S2x16384x2048 .f32) : FVec Ideal S2x16384x2048 .f32 :=
  mulf X (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf X X) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))

theorem normedV_at (X : FVec Ideal S2x16384x2048 .f32) (b : Fin 2) (s : Fin 16384) (d : Fin 2048) :
    normedV X (ix3 b s d) = X (ix3 b s d) * Cert.Mlp.inv (fun k => X (ix3 b s k)) := by
  pointwise [normedV, Cert.Mlp.inv]

/-- The normalized rows scaled and shifted. -/
def hidV (N : FVec Ideal S2x16384x2048 .f32) (G : FVec Ideal S2x2x2048 .f32) (SH SC : FVec Ideal S2x2048 .f32) : FVec Ideal S2x16384x2048 .f32 :=
  addf (mulf (mulf N (broadcastInDim S2x16384x2048 ![0, 1, 2] bcast_S1x1x2048_S2x16384x2048_0_1_2 (broadcastInDim S1x1x2048 ![2] bcast_S2048_S1x1x2048_2 (shapeCast _ (extractStridedSlice S1x1x2048 ![1, 1, 0] G slices_S2x2x2048_S1x1x2048_1_1_0) shapeCasts_S1x1x2048_S2048)))) (broadcastInDim S2x16384x2048 ![0, 1, 2] bcast_S2x1x2048_S2x16384x2048_0_1_2 (addf (broadcastInDim S2x1x2048 ![] bcast_S_S2x1x2048 (constant S_ .f32 0x3F800000#32)) (broadcastInDim S2x1x2048 ![0, 2] bcast_S2x2048_S2x1x2048_0_2 SC)))) (broadcastInDim S2x16384x2048 ![0, 1, 2] bcast_S2x1x2048_S2x16384x2048_0_1_2 (broadcastInDim S2x1x2048 ![0, 2] bcast_S2x2048_S2x1x2048_0_2 SH))

theorem hidV_at (N : FVec Ideal S2x16384x2048 .f32) (G : FVec Ideal S2x2x2048 .f32) (SH SC : FVec Ideal S2x2048 .f32) (b : Fin 2) (s : Fin 16384) (d : Fin 2048) :
    hidV N G SH SC (ix3 b s d) = N (ix3 b s d) * G (ix3 1 1 d) * (1 + SC (ix2 b d)) + SH (ix2 b d) := by
  pointwise [hidV]

/-- The inner rows: products cut at zero and squared. -/
def actV (H : FVec Ideal S2x16384x2048 .f32) (W : FVec Ideal S2x2048x8192 .f32) : FVec Ideal S2x16384x8192 .f32 :=
  mulf (maximumf (Host.dotGeneral dot_S2x16384x2048_S2048x8192_S2x16384x8192_2_0_01_1_n_n none H (shapeCast _ (extractStridedSlice S1x2048x8192 ![1, 0, 0] W slices_S2x2048x8192_S1x2048x8192_1_0_0) shapeCasts_S1x2048x8192_S2048x8192)) (broadcastInDim S2x16384x8192 ![] bcast_S_S2x16384x8192 (constant S_ .f32 0x00000000#32)))
    (maximumf (Host.dotGeneral dot_S2x16384x2048_S2048x8192_S2x16384x8192_2_0_01_1_n_n none H (shapeCast _ (extractStridedSlice S1x2048x8192 ![1, 0, 0] W slices_S2x2048x8192_S1x2048x8192_1_0_0) shapeCasts_S1x2048x8192_S2048x8192)) (broadcastInDim S2x16384x8192 ![] bcast_S_S2x16384x8192 (constant S_ .f32 0x00000000#32)))

theorem actV_at (H : FVec Ideal S2x16384x2048 .f32) (W : FVec Ideal S2x2048x8192 .f32) (b : Fin 2) (s : Fin 16384) (f : Fin 8192) :
    actV H W (ix3 b s f) = Cert.Mlp.act (fun k => H (ix3 b s k)) (fun k => W (ix3 1 k f)) := by
  pointwise [actV, Cert.Mlp.act]

/-- The rows with the scaled feed-forward rows added. -/
def resV (X : FVec Ideal S2x16384x2048 .f32) (GT : FVec Ideal S2x2048 .f32) (U : FVec Ideal S2x16384x8192 .f32) (W : FVec Ideal S2x8192x2048 .f32) : FVec Ideal S2x16384x2048 .f32 :=
  addf X (mulf (broadcastInDim S2x16384x2048 ![0, 1, 2] bcast_S2x1x2048_S2x16384x2048_0_1_2 (broadcastInDim S2x1x2048 ![0, 2] bcast_S2x2048_S2x1x2048_0_2 GT)) (Host.dotGeneral dot_S2x16384x8192_S8192x2048_S2x16384x2048_2_0_01_1_n_n none U (shapeCast _ (extractStridedSlice S1x8192x2048 ![1, 0, 0] W slices_S2x8192x2048_S1x8192x2048_1_0_0) shapeCasts_S1x8192x2048_S8192x2048)))

theorem resV_at (X : FVec Ideal S2x16384x2048 .f32) (GT : FVec Ideal S2x2048 .f32) (U : FVec Ideal S2x16384x8192 .f32) (W : FVec Ideal S2x8192x2048 .f32) (b : Fin 2) (s : Fin 16384) (d : Fin 2048) :
    resV X GT U W (ix3 b s d) = X (ix3 b s d) + GT (ix2 b d) * ∑ f : Fin 8192, U (ix3 b s f) * W (ix3 1 f d) := by
  pointwise [resV]

/-- The normalized sums times the last gain, as one array of rows. -/
def outV (N : FVec Ideal S2x16384x2048 .f32) (GF : FVec Ideal S2048 .f32) : FVec Ideal S32768x2048 .f32 :=
  shapeCast _ (mulf N (broadcastInDim S2x16384x2048 ![0, 1, 2] bcast_S1x1x2048_S2x16384x2048_0_1_2 (broadcastInDim S1x1x2048 ![2] bcast_S2048_S1x1x2048_2 GF))) shapeCasts_S2x16384x2048_S32768x2048

theorem outV_at (N : FVec Ideal S2x16384x2048 .f32) (GF : FVec Ideal S2048 .f32) (r : Fin 32768) (d : Fin 2048) :
    outV N GF (ix2 r d) = N (ix3 ⟨r.val / 16384, by omega⟩ ⟨r.val % 16384, by omega⟩ d) * GF (ix1 d) := by
  pointwise [outV]

theorem res_eq (m : (ℓ : Loc nD τ sig) → Buf (Elt Ideal) ℓ) (c : Dev nD) :
    (show FVec Ideal S32768x2048 .f32 from Value.res_main_v48 m c)
      = outV (normedV (resV (m ((c.tc : Thread nD τ).loc main_arg0)) (m ((c.tc : Thread nD τ).loc main_arg4))
          (actV (hidV (normedV (m ((c.tc : Thread nD τ).loc main_arg0))) (m ((c.tc : Thread nD τ).loc main_arg1)) (m ((c.tc : Thread nD τ).loc main_arg2)) (m ((c.tc : Thread nD τ).loc main_arg3)))
            (m ((c.tc : Thread nD τ).loc main_arg5)))
          (m ((c.tc : Thread nD τ).loc main_arg6)))) (m ((c.tc : Thread nD τ).loc main_arg7)) := by
  unfold Value.res_main_v48
  rfl

/-- The result at an index, over the arguments. -/
theorem total (X : FVec Ideal S2x16384x2048 .f32) (G : FVec Ideal S2x2x2048 .f32) (SH SC GT : FVec Ideal S2x2048 .f32) (WU : FVec Ideal S2x2048x8192 .f32)
    (WD : FVec Ideal S2x8192x2048 .f32) (GF : FVec Ideal S2048 .f32) (r : Fin 32768) (d : Fin 2048) :
    outV (normedV (resV X GT (actV (hidV (normedV X) G SH SC) WU) WD)) GF (ix2 r d)
      = Cert.Mlp.out (Cert.Mlp.res (fun k => X (ix3 ⟨r.val / 16384, by omega⟩ ⟨r.val % 16384, by omega⟩ k)) (fun k => G (ix3 1 1 k))
          (fun k => SC (ix2 ⟨r.val / 16384, by omega⟩ k)) (fun k => SH (ix2 ⟨r.val / 16384, by omega⟩ k)) (fun k => GT (ix2 ⟨r.val / 16384, by omega⟩ k))
          (fun k f => WU (ix3 1 k f)) (fun f k => WD (ix3 1 f k))) (fun k => GF (ix1 k)) d := by
  have h (b : Fin 2) (s : Fin 16384) : (fun k => hidV (normedV X) G SH SC (ix3 b s k))
      = Cert.Mlp.hid (fun k => X (ix3 b s k)) (fun k => G (ix3 1 1 k)) (fun k => SC (ix2 b k)) (fun k => SH (ix2 b k)) :=
    funext fun k => by rw [hidV_at, normedV_at]; exact congrArg (· + SH (ix2 b k)) (mul_assoc _ _ _)
  have e (b : Fin 2) (s : Fin 16384) : (fun k => resV X GT (actV (hidV (normedV X) G SH SC) WU) WD (ix3 b s k))
      = Cert.Mlp.res (fun k => X (ix3 b s k)) (fun k => G (ix3 1 1 k)) (fun k => SC (ix2 b k)) (fun k => SH (ix2 b k)) (fun k => GT (ix2 b k))
          (fun k f => WU (ix3 1 k f)) (fun f k => WD (ix3 1 f k)) :=
    funext fun k => by
      rw [resV_at]
      refine congrArg (fun z => X (ix3 b s k) + GT (ix2 b k) * z) (Finset.sum_congr rfl fun f _ => ?_)
      rw [actV_at, h]
  rw [outV_at, normedV_at, e]
  exact congrArg (fun z => z * _ * _) (congrFun (e _ _) d)

end Cert.Reference2Ideal.Mlp
end
-- ==== Proof.MlpA.lean ====
module

public import proofs.«01_k».proof.Proof.Gen.Kernel2Ideal.Frame
public import proofs.«01_k».proof.Proof.MlpSpec
public import Idealize.ShloMosaic.Lib.Pipeline.ValueKit

@[expose] public section

set_option maxRecDepth 65536
set_option synthInstance.maxSize 4096

noncomputable section

namespace Cert.Kernel2Ideal.Mlp

open Idealize.ShloMosaic Idealize.ShloMosaic.TcCoe Idealize.ShloMosaic.StableHlo Idealize.ShloMosaic.Tactic Idealize.SL.Sem
open Cert.Kernel2Ideal Cert.Kernel2Ideal.Gen

variable (m : (ℓ : Loc nD τ sig) → Buf (Elt Ideal) ℓ)

/-- The normalized rows of a block. -/
def hT (x : Vec Ideal S1024x2048 .f32) (g : Vec Ideal S1x2048 .f32) (sc sh : Vec Ideal S1x1x2048 .f32) : Vec Ideal S1024x2048 .bf16 := fun y =>
  Cert.Mlp.hid (fun k => x (ix2 (y 0) k)) (fun k => g (ix2 0 k)) (fun k => sc (ix3 0 0 k)) (fun k => sh (ix3 0 0 k)) (y 1)

theorem chunk_at (g : Vec Ideal S1x2048 .f32) (sc sh : Vec Ideal S1x1x2048 .f32) (x : Vec Ideal S16x2048 .f32) (r : Fin 16) (d : Fin 2048) :
    k0_pay10 (F := Ideal) (k0_pay4 g sc) (k0_pay5 sh) x (ix2 r d)
      = Cert.Mlp.hid (fun k => x (ix2 r k)) (fun k => g (ix2 0 k)) (fun k => sc (ix3 0 0 k)) (fun k => sh (ix3 0 0 k)) d := by
  pointwise [k0_pay10, k0_pay4, k0_pay5, Cert.Mlp.hid, Cert.Mlp.inv]

theorem piece (x : Vec Ideal S1024x2048 .f32) (g : Vec Ideal S1x2048 .f32) (sc sh : Vec Ideal S1x1x2048 .f32) (o : ℕ) (inb) (z : S16x2048.Idx) (y : S1024x2048.Idx)
    (h0 : (y 0).val = o + (z 0).val) (h1 : (y 1).val = (z 1).val) :
    k0_pay10 (F := Ideal) (k0_pay4 g sc) (k0_pay5 sh) (View.ld x (Rect.unit (s := S1024x2048) ![o, 0] S16x2048.size inb)) z = hT x g sc sh y := by
  obtain ⟨r, d, rfl⟩ : ∃ r d, z = ix2 r d := ⟨z 0, z 1, by funext a; match a with | 0 => rfl | 1 => rfl⟩
  rw [chunk_at]
  have e (k : Fin 2048) : View.ld x (Rect.unit (s := S1024x2048) ![o, 0] S16x2048.size inb) (ix2 r k) = x (ix2 (y 0) k) :=
    View.ld_unit_apply_of _ _ _ _ _ _ fun a => by
      match a with
      | 0 => exact h0
      | 1 => show k.val = 0 + k.val; omega
  have e1 : d = y 1 := Fin.ext h1.symm
  unfold hT
  simp only [e]
  rw [e1]

theorem pieceE (x : Vec Ideal S1024x2048 .f32) (g : Vec Ideal S1x2048 .f32) (sc sh : Vec Ideal S1x1x2048 .f32) (o : ℕ) (inb) (z : S16x2048.Idx) :
    k0_pay10 (F := Ideal)
        (k0_pay4 (View.ld g (Rect.unit ![0, 0] ![1, 2048] inb_S1x2048_S1x2048_0_0))
          (View.ld sc (Rect.unit ![0, 0, 0] ![1, 1, 2048] inb_S1x1x2048_S1x1x2048_0_0_0)))
        (k0_pay5 (View.ld sh (Rect.unit ![0, 0, 0] ![1, 1, 2048] inb_S1x1x2048_S1x1x2048_0_0_0)))
        (View.ld x (Rect.unit (s := S1024x2048) ![o, 0] S16x2048.size inb)) z
      = hT x g sc sh ((Rect.unit (s := S1024x2048) ![o, 0] S16x2048.size inb).emb z) := by
  simp (disch := decide) only [View.ld_unit_lit']
  refine piece x g sc sh o inb z _ ?_ ?_
  · show o + 1 * (z 0).val = _
    omega
  · show 0 + 1 * (z 1).val = _
    omega

theorem sout_val (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S1x1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048x1024 .bf16) (x6 : Vec Ideal S1x1024x2048 .bf16) (x7 : Vec Ideal S1x2048 .f32) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 x7
      = hT x0 x1 x2 x3 := by
  have hcov := fun y => scover0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 x7 y
  funext y
  unfold sout0_A_0
  rw [View.read_writes_junk_eq_canon]
  refine View.canon_apply_of_pieces (hT x0 x1 x2 x3) _ ?_ y (hcov y)
  clear hcov
  frame_open
  simp only [View.readAt_eq_ld, Memref.IsWhole.read_unread, List.forall_mem_cons]
  iterate 64 refine ⟨fun z => pieceE _ _ _ _ _ _ z, ?_⟩
  intro p hp
  exact absurd hp List.not_mem_nil

theorem sout_A (c : Dev nD) (t : Fin cfg0.N) (h0 : t.val % 8 = 0) (h1 : ¬ t.val % 8 = 7) :
    (outsAt0 (F := Ideal) m c t.val t.isLt).2 = hT (iblk m c 0 t) (iblk m c 1 t) (iblk m c 2 t) (iblk m c 3 t) := by
  rw [outsAt0_A m c t h0 h1]
  dsimp only
  rw [sout_val]

end Cert.Kernel2Ideal.Mlp
end
-- ==== Proof.MlpOut.lean ====
module

public import proofs.«01_k».proof.Proof.MlpA
public import Idealize.ShloMosaic.Lib.Pipeline.ReadBack

@[expose] public section

set_option maxRecDepth 65536
set_option synthInstance.maxSize 4096

noncomputable section

namespace Cert.Kernel2Ideal.Mlp

open Idealize.ShloMosaic Idealize.ShloMosaic.TcCoe Idealize.ShloMosaic.StableHlo Idealize.ShloMosaic.Tactic Idealize.SL.Sem
open Cert.Kernel2Ideal Cert.Kernel2Ideal.Gen

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S1x1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048x1024 .bf16) (x6 : Vec Ideal S1x1024x2048 .bf16) (x7 : Vec Ideal S1x2048 .f32) (xo8 : Vec Ideal S1024x2048 .f32) (xs0 : Vec Ideal S1024x2048 .bf16)

/-- The rows below `a` hold the normalized rows. -/
def FineA (x : Vec Ideal S1024x2048 .f32) (g : Vec Ideal S1x2048 .f32) (sc sh : Vec Ideal S1x1x2048 .f32) (a : ℕ) (L : List (View.Piece (Elt Ideal) S1024x2048 .bf16)) : Prop :=
  ∀ y : S1024x2048.Idx, (y 0).val < a → View.canon L y = hT x g sc sh y

theorem FineA.base (x : Vec Ideal S1024x2048 .f32) (g : Vec Ideal S1x2048 .f32) (sc sh : Vec Ideal S1x1x2048 .f32) (L : List (View.Piece (Elt Ideal) S1024x2048 .bf16)) : FineA x g sc sh 0 L :=
  fun y h => absurd h (Nat.not_lt_zero _)

theorem FineA.step {x : Vec Ideal S1024x2048 .f32} {g : Vec Ideal S1x2048 .f32} {sc sh : Vec Ideal S1x1x2048 .f32} {L : List (View.Piece (Elt Ideal) S1024x2048 .bf16)} (a : ℕ) (ia) (h : FineA x g sc sh a L) :
    FineA x g sc sh (a + 16) (⟨Rect.unit (s := S1024x2048) ![a, 0] S16x2048.size ia,
      k0_pay10 (F := Ideal) (k0_pay4 g sc) (k0_pay5 sh) (View.ld x (Rect.unit (s := S1024x2048) ![a, 0] S16x2048.size ia))⟩ :: L) := by
  intro y hy
  by_cases hm : y ∈ (Rect.unit (s := S1024x2048) ![a, 0] S16x2048.size ia).set
  · obtain ⟨z, rfl⟩ := (Rect.unit (s := S1024x2048) ![a, 0] S16x2048.size ia).exists_idx_of_mem hm
    rw [show (Rect.unit (s := S1024x2048) ![a, 0] S16x2048.size ia).idx z = (Rect.unit (s := S1024x2048) ![a, 0] S16x2048.size ia).emb z from rfl, View.canon_cons_emb]
    refine piece x g sc sh a ia z _ ?_ ?_
    · show a + 1 * (z 0).val = _
      omega
    · show 0 + 1 * (z 1).val = _
      omega
  · refine Eq.trans (View.canon_cons_of_not_mem _ L fun hm' => hm hm') (h y ?_)
    by_contra hlt
    refine hm (Rect.mem_set_unit.mpr fun k => ?_)
    match k with
    | 0 => exact ⟨not_lt.mp hlt, hy⟩
    | 1 =>
      have h2 : (y 1).val < 2048 := (y 1).isLt
      have h3 : (0 : ℕ) ≤ (y 1).val ∧ (y 1).val < 0 + 2048 := by omega
      exact h3

theorem FineA.read {κ : Kind} {sp : Space} (v : View sig κ sp S1024x2048 .bf16) {x : Vec Ideal S1024x2048 .f32} {g : Vec Ideal S1x2048 .f32} {sc sh : Vec Ideal S1x1x2048 .f32} {L : List (View.Piece (Elt Ideal) S1024x2048 .bf16)} (ib)
    (h : FineA x g sc sh 1024 L) : v.readCov L (Rect.unit (s := S1024x2048) ![0, 0] S1024x2048.size ib).toLoadRect = hT x g sc sh := by
  rw [View.readCov_eq_canon']
  funext y
  have e : (Rect.unit (s := S1024x2048) ![0, 0] S1024x2048.size ib).toLoadRect.idx y = y := by
    funext k
    match k with
    | 0 => exact Fin.ext (show 0 + 1 * (y 0).val = (y 0).val by omega)
    | 1 => exact Fin.ext (show 0 + 1 * (y 1).val = (y 1).val by omega)
  exact (congrArg (View.canon L) e).trans (h y (y 0).isLt)

theorem out_A_val (hc0 : cond0_0 i) (hc1 : ¬cond0_1 i) :
    out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 x7
      = k0_pay2 (hT x0 x1 x2 x3) x5 (k0_pay1 (F := Ideal)) x6 := by
  unfold out0_A_8
  frame_out
  refine congrArg (fun h => k0_pay2 (F := Ideal) h x5 (k0_pay1 (F := Ideal)) x6) ?_
  refine FineA.read (arg11.view) _ ?_
  refine FineA.step 1008 _ ?_
  refine FineA.step 992 _ ?_
  refine FineA.step 976 _ ?_
  refine FineA.step 960 _ ?_
  refine FineA.step 944 _ ?_
  refine FineA.step 928 _ ?_
  refine FineA.step 912 _ ?_
  refine FineA.step 896 _ ?_
  refine FineA.step 880 _ ?_
  refine FineA.step 864 _ ?_
  refine FineA.step 848 _ ?_
  refine FineA.step 832 _ ?_
  refine FineA.step 816 _ ?_
  refine FineA.step 800 _ ?_
  refine FineA.step 784 _ ?_
  refine FineA.step 768 _ ?_
  refine FineA.step 752 _ ?_
  refine FineA.step 736 _ ?_
  refine FineA.step 720 _ ?_
  refine FineA.step 704 _ ?_
  refine FineA.step 688 _ ?_
  refine FineA.step 672 _ ?_
  refine FineA.step 656 _ ?_
  refine FineA.step 640 _ ?_
  refine FineA.step 624 _ ?_
  refine FineA.step 608 _ ?_
  refine FineA.step 592 _ ?_
  refine FineA.step 576 _ ?_
  refine FineA.step 560 _ ?_
  refine FineA.step 544 _ ?_
  refine FineA.step 528 _ ?_
  refine FineA.step 512 _ ?_
  refine FineA.step 496 _ ?_
  refine FineA.step 480 _ ?_
  refine FineA.step 464 _ ?_
  refine FineA.step 448 _ ?_
  refine FineA.step 432 _ ?_
  refine FineA.step 416 _ ?_
  refine FineA.step 400 _ ?_
  refine FineA.step 384 _ ?_
  refine FineA.step 368 _ ?_
  refine FineA.step 352 _ ?_
  refine FineA.step 336 _ ?_
  refine FineA.step 320 _ ?_
  refine FineA.step 304 _ ?_
  refine FineA.step 288 _ ?_
  refine FineA.step 272 _ ?_
  refine FineA.step 256 _ ?_
  refine FineA.step 240 _ ?_
  refine FineA.step 224 _ ?_
  refine FineA.step 208 _ ?_
  refine FineA.step 192 _ ?_
  refine FineA.step 176 _ ?_
  refine FineA.step 160 _ ?_
  refine FineA.step 144 _ ?_
  refine FineA.step 128 _ ?_
  refine FineA.step 112 _ ?_
  refine FineA.step 96 _ ?_
  refine FineA.step 80 _ ?_
  refine FineA.step 64 _ ?_
  refine FineA.step 48 _ ?_
  refine FineA.step 32 _ ?_
  refine FineA.step 16 _ ?_
  refine FineA.step 0 _ ?_
  exact FineA.base _ _ _ _ _

theorem out_B_val (hc0 : ¬cond0_0 i) (hc1 : ¬cond0_1 i) :
    out0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0
      = k0_pay2 xs0 x5 xo8 x6 := by
  unfold out0_B_8
  frame_out

/-- A block's last step: the gated residual, normalized over its rows. -/
def fin (x : Vec Ideal S1024x2048 .f32) (gt : Vec Ideal S1x1x2048 .f32) (gf : Vec Ideal S1x2048 .f32) (R : Vec Ideal S1024x2048 .f32) : Vec Ideal S1024x2048 .f32 := fun y =>
  Cert.Mlp.out (fun k => x (ix2 (y 0) k) + gt (ix3 0 0 k) * R (ix2 (y 0) k)) (fun k => gf (ix2 0 k)) (y 1)

theorem skip {sig : RefSig} {κ : Kind} {sp : Space} (v : View sig κ sp S1024x2048 .f32) {a b : ℕ} (ia : ∀ k, (![a, 0] : Fin 2 → ℕ) k + (![16, 2048] : Fin 2 → ℕ) k ≤ S1024x2048.size k) (ib : ∀ k, (![b, 0] : Fin 2 → ℕ) k + (![16, 2048] : Fin 2 → ℕ) k ≤ S1024x2048.size k)
    (w : (Rect.unit (s := S1024x2048) ![a, 0] ![16, 2048] ia).shape.Idx → Elt Ideal .f32) (L : List (View.Piece (Elt Ideal) S1024x2048 .f32)) (h : a + 16 ≤ b) :
    v.readCov (⟨Rect.unit (s := S1024x2048) ![a, 0] ![16, 2048] ia, w⟩ :: L) (Rect.unit (s := S1024x2048) ![b, 0] ![16, 2048] ib).toLoadRect
      = v.readCov L (Rect.unit (s := S1024x2048) ![b, 0] ![16, 2048] ib).toLoadRect := by
  rw [View.readCov_eq_canon', View.readCov_eq_canon']
  funext j
  refine View.canon_cons_of_not_mem _ L fun hm => ?_
  have h2 := ((Rect.mem_set_unit.mp (show _ ∈ (Rect.unit (s := S1024x2048) ![a, 0] ![16, 2048] ia).set from hm)) 0).2
  have h3 : b + 1 * (j 0).val < a + 16 := h2
  omega

theorem chunkC_at (gt : Vec Ideal S1x1x2048 .f32) (gf : Vec Ideal S1x2048 .f32) (x o : Vec Ideal S16x2048 .f32) (r : Fin 16) (d : Fin 2048) :
    k0_pay130 (F := Ideal) (k0_pay116 gt) (k0_pay117 gf) (k0_pay118 gt x o) x o (ix2 r d)
      = Cert.Mlp.out (fun k => x (ix2 r k) + gt (ix3 0 0 k) * o (ix2 r k)) (fun k => gf (ix2 0 k)) d := by
  pointwise [k0_pay130, k0_pay116, k0_pay117, k0_pay118, Cert.Mlp.out, Cert.Mlp.inv]

theorem pieceC (x : Vec Ideal S1024x2048 .f32) (gt : Vec Ideal S1x1x2048 .f32) (gf : Vec Ideal S1x2048 .f32) (R : Vec Ideal S1024x2048 .f32) (a : ℕ) (inb) (z : S16x2048.Idx) :
    k0_pay130 (F := Ideal) (k0_pay116 gt) (k0_pay117 gf)
        (k0_pay118 gt (View.ld x (Rect.unit (s := S1024x2048) ![a, 0] S16x2048.size inb)) (View.ld R (Rect.unit (s := S1024x2048) ![a, 0] S16x2048.size inb)))
        (View.ld x (Rect.unit (s := S1024x2048) ![a, 0] S16x2048.size inb)) (View.ld R (Rect.unit (s := S1024x2048) ![a, 0] S16x2048.size inb)) z
      = fin x gt gf R ((Rect.unit (s := S1024x2048) ![a, 0] S16x2048.size inb).emb z) := by
  generalize hy : (Rect.unit (s := S1024x2048) ![a, 0] S16x2048.size inb).emb z = y
  have h0 : (y 0).val = a + (z 0).val := by
    rw [← hy]
    show a + 1 * (z 0).val = _
    omega
  have h1 : (y 1).val = (z 1).val := by
    rw [← hy]
    show 0 + 1 * (z 1).val = _
    omega
  obtain ⟨r, d, rfl⟩ : ∃ r d, z = ix2 r d := ⟨z 0, z 1, by funext a; match a with | 0 => rfl | 1 => rfl⟩
  rw [chunkC_at]
  have e (w : Vec Ideal S1024x2048 .f32) (k : Fin 2048) : View.ld w (Rect.unit (s := S1024x2048) ![a, 0] S16x2048.size inb) (ix2 r k) = w (ix2 (y 0) k) :=
    View.ld_unit_apply_of _ _ _ _ _ _ fun a => by
      match a with
      | 0 => exact h0
      | 1 => show k.val = 0 + k.val; omega
  have e1 : d = y 1 := Fin.ext h1.symm
  refine (congrArg (fun f => Cert.Mlp.out f (fun k => gf (ix2 0 k)) d) (funext fun k => ?_)).trans (congrArg (Cert.Mlp.out (fun k => x (ix2 (y 0) k) + gt (ix3 0 0 k) * R (ix2 (y 0) k)) (fun k => gf (ix2 0 k))) e1)
  exact congrArg₂ (fun p q => p + gt (ix3 0 0 k) * q) (e x k) (e R k)

/-- Loads of the rows from `a` on still see `R`. -/
def Good {κ : Kind} {sp : Space} (v : View sig κ sp S1024x2048 .f32) (R : Vec Ideal S1024x2048 .f32) (a : ℕ) (L : List (View.Piece (Elt Ideal) S1024x2048 .f32)) : Prop :=
  ∀ (b : ℕ) (ib), a ≤ b → v.readCov L (Rect.unit (s := S1024x2048) ![b, 0] S16x2048.size ib).toLoadRect = View.ld R (Rect.unit (s := S1024x2048) ![b, 0] S16x2048.size ib)

theorem good_zero {κ : Kind} {sp : Space} (v : View sig κ sp S1024x2048 .f32) (R : Vec Ideal S1024x2048 .f32) (inb) :
    Good v R 0 [⟨Rect.unit (s := S1024x2048) ![0, 0] S1024x2048.size inb, R⟩] := fun b ib _ =>
  View.readCov_fill v inb R [] _ (fun a => by match a with | 0 => rfl | 1 => rfl)

theorem good_mono {κ : Kind} {sp : Space} {v : View sig κ sp S1024x2048 .f32} {R : Vec Ideal S1024x2048 .f32} {a a' : ℕ} {L : List (View.Piece (Elt Ideal) S1024x2048 .f32)}
    (h : Good v R a L) (ha : a ≤ a') : Good v R a' L := fun b ib hb => h b ib (ha.trans hb)

theorem good_succ {κ : Kind} {sp : Space} {v : View sig κ sp S1024x2048 .f32} {R : Vec Ideal S1024x2048 .f32} {a : ℕ} {L : List (View.Piece (Elt Ideal) S1024x2048 .f32)}
    (h : Good v R a L) (ia) (w) : Good v R (a + 16) (⟨Rect.unit (s := S1024x2048) ![a, 0] S16x2048.size ia, w⟩ :: L) := fun b ib hb =>
  (skip v ia ib w L hb).trans (h b ib (by omega))

/-- The rows below `a` hold the block's last step, and loads of the rows from `a` on, before and after them, see `R`. -/
structure Inv {κ : Kind} {sp : Space} (v : View sig κ sp S1024x2048 .f32) (x : Vec Ideal S1024x2048 .f32) (gt : Vec Ideal S1x1x2048 .f32) (gf : Vec Ideal S1x2048 .f32)
    (R : Vec Ideal S1024x2048 .f32) (a : ℕ) (L L1 : List (View.Piece (Elt Ideal) S1024x2048 .f32)) : Prop where
  good : Good v R a L
  good1 : Good v R a L1
  fine : ∀ y : S1024x2048.Idx, (y 0).val < a → View.canon L y = fin x gt gf R y

section
variable {κ : Kind} {sp : Space} {v : View sig κ sp S1024x2048 .f32} {x : Vec Ideal S1024x2048 .f32} {gt : Vec Ideal S1x1x2048 .f32} {gf : Vec Ideal S1x2048 .f32}
    {R : Vec Ideal S1024x2048 .f32} {L L1 : List (View.Piece (Elt Ideal) S1024x2048 .f32)}

theorem Inv.base (inb) : Inv v x gt gf R 0 [⟨Rect.unit (s := S1024x2048) ![0, 0] S1024x2048.size inb, R⟩] [⟨Rect.unit (s := S1024x2048) ![0, 0] S1024x2048.size inb, R⟩] :=
  ⟨good_zero v R inb, good_zero v R inb, fun y h => absurd h (Nat.not_lt_zero _)⟩

theorem Inv.rebase {a : ℕ} (h : Inv v x gt gf R a L L1) : Inv v x gt gf R a L L := ⟨h.good, h.good, h.fine⟩

theorem Inv.step (a : ℕ) (ia) (h : Inv v x gt gf R a L L1) : Inv v x gt gf R (a + 16)
    (⟨Rect.unit (s := S1024x2048) ![a, 0] S16x2048.size ia,
      k0_pay130 (F := Ideal) (k0_pay116 gt) (k0_pay117 gf)
        (k0_pay118 gt (View.ld x (Rect.unit (s := S1024x2048) ![a, 0] S16x2048.size ia)) (v.readCov L1 (Rect.unit (s := S1024x2048) ![a, 0] S16x2048.size ia).toLoadRect))
        (View.ld x (Rect.unit (s := S1024x2048) ![a, 0] S16x2048.size ia)) (v.readCov L (Rect.unit (s := S1024x2048) ![a, 0] S16x2048.size ia).toLoadRect)⟩ :: L) L1 := by
  refine ⟨good_succ h.good ia _, good_mono h.good1 (by omega), fun y hy => ?_⟩
  rw [h.good a ia le_rfl, h.good1 a ia le_rfl]
  by_cases hm : y ∈ (Rect.unit (s := S1024x2048) ![a, 0] S16x2048.size ia).set
  · obtain ⟨z, rfl⟩ := (Rect.unit (s := S1024x2048) ![a, 0] S16x2048.size ia).exists_idx_of_mem hm
    rw [show (Rect.unit (s := S1024x2048) ![a, 0] S16x2048.size ia).idx z = (Rect.unit (s := S1024x2048) ![a, 0] S16x2048.size ia).emb z from rfl, View.canon_cons_emb]
    exact pieceC x gt gf R a ia z
  · refine Eq.trans (View.canon_cons_of_not_mem _ L fun hm' => hm hm') (h.fine y ?_)
    by_contra hlt
    refine hm (Rect.mem_set_unit.mpr fun k => ?_)
    match k with
    | 0 => exact ⟨not_lt.mp hlt, hy⟩
    | 1 =>
      have h2 : (y 1).val < 2048 := (y 1).isLt
      have h3 : (0 : ℕ) ≤ (y 1).val ∧ (y 1).val < 0 + 2048 := by omega
      exact h3

end

theorem out_C_val (hc0 : ¬cond0_0 i) (hc1 : cond0_1 i) :
    out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0
      = fin x0 x4 x7 (k0_pay2 xs0 x5 xo8 x6) := by
  funext y
  unfold out0_C_8
  rw [View.read_writes_junk_eq_canon]
  frame_open
  simp (disch := decide) only [View.readAt_eq_ld, Memref.IsWhole.read_unread, View.ld_unit_lit']
  refine Inv.fine (v := arg10.view) (x := x0) (gt := x4) (gf := x7) (a := 1008 + 16) (Inv.step 1008 _ ?_) y (y 0).isLt
  first
    | refine Inv.step 992 _ ?_
    | refine Inv.rebase (Inv.step 992 _ ?_)
  first
    | refine Inv.step 976 _ ?_
    | refine Inv.rebase (Inv.step 976 _ ?_)
  first
    | refine Inv.step 960 _ ?_
    | refine Inv.rebase (Inv.step 960 _ ?_)
  first
    | refine Inv.step 944 _ ?_
    | refine Inv.rebase (Inv.step 944 _ ?_)
  first
    | refine Inv.step 928 _ ?_
    | refine Inv.rebase (Inv.step 928 _ ?_)
  first
    | refine Inv.step 912 _ ?_
    | refine Inv.rebase (Inv.step 912 _ ?_)
  first
    | refine Inv.step 896 _ ?_
    | refine Inv.rebase (Inv.step 896 _ ?_)
  first
    | refine Inv.step 880 _ ?_
    | refine Inv.rebase (Inv.step 880 _ ?_)
  first
    | refine Inv.step 864 _ ?_
    | refine Inv.rebase (Inv.step 864 _ ?_)
  first
    | refine Inv.step 848 _ ?_
    | refine Inv.rebase (Inv.step 848 _ ?_)
  first
    | refine Inv.step 832 _ ?_
    | refine Inv.rebase (Inv.step 832 _ ?_)
  first
    | refine Inv.step 816 _ ?_
    | refine Inv.rebase (Inv.step 816 _ ?_)
  first
    | refine Inv.step 800 _ ?_
    | refine Inv.rebase (Inv.step 800 _ ?_)
  first
    | refine Inv.step 784 _ ?_
    | refine Inv.rebase (Inv.step 784 _ ?_)
  first
    | refine Inv.step 768 _ ?_
    | refine Inv.rebase (Inv.step 768 _ ?_)
  first
    | refine Inv.step 752 _ ?_
    | refine Inv.rebase (Inv.step 752 _ ?_)
  first
    | refine Inv.step 736 _ ?_
    | refine Inv.rebase (Inv.step 736 _ ?_)
  first
    | refine Inv.step 720 _ ?_
    | refine Inv.rebase (Inv.step 720 _ ?_)
  first
    | refine Inv.step 704 _ ?_
    | refine Inv.rebase (Inv.step 704 _ ?_)
  first
    | refine Inv.step 688 _ ?_
    | refine Inv.rebase (Inv.step 688 _ ?_)
  first
    | refine Inv.step 672 _ ?_
    | refine Inv.rebase (Inv.step 672 _ ?_)
  first
    | refine Inv.step 656 _ ?_
    | refine Inv.rebase (Inv.step 656 _ ?_)
  first
    | refine Inv.step 640 _ ?_
    | refine Inv.rebase (Inv.step 640 _ ?_)
  first
    | refine Inv.step 624 _ ?_
    | refine Inv.rebase (Inv.step 624 _ ?_)
  first
    | refine Inv.step 608 _ ?_
    | refine Inv.rebase (Inv.step 608 _ ?_)
  first
    | refine Inv.step 592 _ ?_
    | refine Inv.rebase (Inv.step 592 _ ?_)
  first
    | refine Inv.step 576 _ ?_
    | refine Inv.rebase (Inv.step 576 _ ?_)
  first
    | refine Inv.step 560 _ ?_
    | refine Inv.rebase (Inv.step 560 _ ?_)
  first
    | refine Inv.step 544 _ ?_
    | refine Inv.rebase (Inv.step 544 _ ?_)
  first
    | refine Inv.step 528 _ ?_
    | refine Inv.rebase (Inv.step 528 _ ?_)
  first
    | refine Inv.step 512 _ ?_
    | refine Inv.rebase (Inv.step 512 _ ?_)
  first
    | refine Inv.step 496 _ ?_
    | refine Inv.rebase (Inv.step 496 _ ?_)
  first
    | refine Inv.step 480 _ ?_
    | refine Inv.rebase (Inv.step 480 _ ?_)
  first
    | refine Inv.step 464 _ ?_
    | refine Inv.rebase (Inv.step 464 _ ?_)
  first
    | refine Inv.step 448 _ ?_
    | refine Inv.rebase (Inv.step 448 _ ?_)
  first
    | refine Inv.step 432 _ ?_
    | refine Inv.rebase (Inv.step 432 _ ?_)
  first
    | refine Inv.step 416 _ ?_
    | refine Inv.rebase (Inv.step 416 _ ?_)
  first
    | refine Inv.step 400 _ ?_
    | refine Inv.rebase (Inv.step 400 _ ?_)
  first
    | refine Inv.step 384 _ ?_
    | refine Inv.rebase (Inv.step 384 _ ?_)
  first
    | refine Inv.step 368 _ ?_
    | refine Inv.rebase (Inv.step 368 _ ?_)
  first
    | refine Inv.step 352 _ ?_
    | refine Inv.rebase (Inv.step 352 _ ?_)
  first
    | refine Inv.step 336 _ ?_
    | refine Inv.rebase (Inv.step 336 _ ?_)
  first
    | refine Inv.step 320 _ ?_
    | refine Inv.rebase (Inv.step 320 _ ?_)
  first
    | refine Inv.step 304 _ ?_
    | refine Inv.rebase (Inv.step 304 _ ?_)
  first
    | refine Inv.step 288 _ ?_
    | refine Inv.rebase (Inv.step 288 _ ?_)
  first
    | refine Inv.step 272 _ ?_
    | refine Inv.rebase (Inv.step 272 _ ?_)
  first
    | refine Inv.step 256 _ ?_
    | refine Inv.rebase (Inv.step 256 _ ?_)
  first
    | refine Inv.step 240 _ ?_
    | refine Inv.rebase (Inv.step 240 _ ?_)
  first
    | refine Inv.step 224 _ ?_
    | refine Inv.rebase (Inv.step 224 _ ?_)
  first
    | refine Inv.step 208 _ ?_
    | refine Inv.rebase (Inv.step 208 _ ?_)
  first
    | refine Inv.step 192 _ ?_
    | refine Inv.rebase (Inv.step 192 _ ?_)
  first
    | refine Inv.step 176 _ ?_
    | refine Inv.rebase (Inv.step 176 _ ?_)
  first
    | refine Inv.step 160 _ ?_
    | refine Inv.rebase (Inv.step 160 _ ?_)
  first
    | refine Inv.step 144 _ ?_
    | refine Inv.rebase (Inv.step 144 _ ?_)
  first
    | refine Inv.step 128 _ ?_
    | refine Inv.rebase (Inv.step 128 _ ?_)
  first
    | refine Inv.step 112 _ ?_
    | refine Inv.rebase (Inv.step 112 _ ?_)
  first
    | refine Inv.step 96 _ ?_
    | refine Inv.rebase (Inv.step 96 _ ?_)
  first
    | refine Inv.step 80 _ ?_
    | refine Inv.rebase (Inv.step 80 _ ?_)
  first
    | refine Inv.step 64 _ ?_
    | refine Inv.rebase (Inv.step 64 _ ?_)
  first
    | refine Inv.step 48 _ ?_
    | refine Inv.rebase (Inv.step 48 _ ?_)
  first
    | refine Inv.step 32 _ ?_
    | refine Inv.rebase (Inv.step 32 _ ?_)
  first
    | refine Inv.step 16 _ ?_
    | refine Inv.rebase (Inv.step 16 _ ?_)
  first
    | refine Inv.step 0 _ ?_
    | refine Inv.rebase (Inv.step 0 _ ?_)
  exact Inv.base _

end Cert.Kernel2Ideal.Mlp
end
-- ==== Proof.MlpWin.lean ====
module

public import proofs.«01_k».proof.Proof.MlpOut
public import Idealize.ShloMosaic.Lib.Pointwise

@[expose] public section

set_option maxRecDepth 65536
set_option synthInstance.maxSize 4096

noncomputable section

namespace Cert.Kernel2Ideal.Mlp

open Idealize.ShloMosaic Idealize.ShloMosaic.TcCoe Idealize.ShloMosaic.StableHlo Idealize.ShloMosaic.Tactic Idealize.SL.Sem
open Cert.Kernel2Ideal Cert.Kernel2Ideal.Gen

variable (m : (ℓ : Loc nD τ sig) → Buf (Elt Ideal) ℓ)

theorem e0 : ∀ t : Fin cfg0.N, win0_0.index t = ![t.val / 8, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val / 128, 0, 0] := (by decide +kernel : ∀ t : Fin grid0.N, _)
theorem e3 : ∀ t : Fin cfg0.N, win0_3.index t = ![t.val / 128, 0, 0] := (by decide +kernel : ∀ t : Fin grid0.N, _)
theorem e4 : ∀ t : Fin cfg0.N, win0_4.index t = ![t.val / 128, 0, 0] := (by decide +kernel : ∀ t : Fin grid0.N, _)
theorem e5 : ∀ t : Fin cfg0.N, win0_5.index t = ![1, 0, t.val % 8] := (by decide +kernel : ∀ t : Fin grid0.N, _)
theorem e6 : ∀ t : Fin cfg0.N, win0_6.index t = ![1, t.val % 8, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val / 8, 0] := (by decide +kernel : ∀ t : Fin grid0.N, _)

/-! ## The arrays the region finds, at an index -/

theorem v0_at (c : Dev nD) (r : Fin 32768) (k : Fin 2048) :
    (show FVec Ideal S32768x2048 .f32 from V m c main_v0) (ix2 r k)
      = (show FVec Ideal S2x16384x2048 .f32 from m ((c : Thread nD τ).loc main_arg0)) (ix3 ⟨r.val / 16384, by omega⟩ ⟨r.val % 16384, by omega⟩ k) := by
  dsimp only
  unfold V
  after_results_simp
  pointwise

theorem v3_at (c : Dev nD) (k : Fin 2048) :
    (show FVec Ideal S1x2048 .f32 from V m c main_v3) (ix2 0 k)
      = (show FVec Ideal S2x2x2048 .f32 from m ((c : Thread nD τ).loc main_arg1)) (ix3 1 1 k) := by
  dsimp only
  unfold V
  after_results_simp
  pointwise

theorem v4_at (c : Dev nD) (b : Fin 2) (k : Fin 2048) :
    (show FVec Ideal S2x1x2048 .f32 from V m c main_v4) (ix3 b 0 k)
      = (show FVec Ideal S2x2048 .f32 from m ((c : Thread nD τ).loc main_arg3)) (ix2 b k) := by
  dsimp only
  unfold V
  after_results_simp
  pointwise

theorem v5_at (c : Dev nD) (b : Fin 2) (k : Fin 2048) :
    (show FVec Ideal S2x1x2048 .f32 from V m c main_v5) (ix3 b 0 k)
      = (show FVec Ideal S2x2048 .f32 from m ((c : Thread nD τ).loc main_arg2)) (ix2 b k) := by
  dsimp only
  unfold V
  after_results_simp
  pointwise

theorem v6_at (c : Dev nD) (b : Fin 2) (k : Fin 2048) :
    (show FVec Ideal S2x1x2048 .f32 from V m c main_v6) (ix3 b 0 k)
      = (show FVec Ideal S2x2048 .f32 from m ((c : Thread nD τ).loc main_arg4)) (ix2 b k) := by
  dsimp only
  unfold V
  after_results_simp
  pointwise

theorem v7_at (c : Dev nD) (k : Fin 2048) (f : Fin 8192) :
    (show FVec Ideal S2x2048x8192 .bf16 from V m c main_v7) (ix3 1 k f)
      = (show FVec Ideal S2x2048x8192 .f32 from m ((c : Thread nD τ).loc main_arg5)) (ix3 1 k f) := by
  dsimp only
  unfold V
  after_results_simp
  pointwise

theorem v8_at (c : Dev nD) (f : Fin 8192) (k : Fin 2048) :
    (show FVec Ideal S2x8192x2048 .bf16 from V m c main_v8) (ix3 1 f k)
      = (show FVec Ideal S2x8192x2048 .f32 from m ((c : Thread nD τ).loc main_arg6)) (ix3 1 f k) := by
  dsimp only
  unfold V
  after_results_simp
  pointwise

theorem v9_at (c : Dev nD) (k : Fin 2048) :
    (show FVec Ideal S1x2048 .f32 from V m c main_v9) (ix2 0 k)
      = (show FVec Ideal S2048 .f32 from m ((c : Thread nD τ).loc main_arg7)) (ix1 k) := by
  dsimp only
  unfold V
  after_results_simp
  pointwise

/-! ## The windows' blocks, at an index -/

theorem blk0 (c : Dev nD) (t : Fin cfg0.N) (r : Fin 1024) (k : Fin 2048) (h : 1024 * (t.val / 8) + r.val < 32768) :
    (show FVec Ideal S1024x2048 .f32 from iblk m c 0 t) (ix2 r k)
      = (show FVec Ideal S32768x2048 .f32 from V m c main_v0) (ix2 ⟨1024 * (t.val / 8) + r.val, h⟩ k) := by
  dsimp only
  blk_simp [iblk]
  blk_ext [e0]

theorem blk1 (c : Dev nD) (t : Fin cfg0.N) (k : Fin 2048) :
    (show FVec Ideal S1x2048 .f32 from iblk m c 1 t) (ix2 0 k) = (show FVec Ideal S1x2048 .f32 from V m c main_v3) (ix2 0 k) := by
  dsimp only
  blk_simp [iblk]
  blk_ext [e1]

theorem blk2 (c : Dev nD) (t : Fin cfg0.N) (k : Fin 2048) (h : t.val / 128 < 2) :
    (show FVec Ideal S1x1x2048 .f32 from iblk m c 2 t) (ix3 0 0 k) = (show FVec Ideal S2x1x2048 .f32 from V m c main_v4) (ix3 ⟨t.val / 128, h⟩ 0 k) := by
  dsimp only
  blk_simp [iblk]
  blk_ext [e2]

theorem blk3 (c : Dev nD) (t : Fin cfg0.N) (k : Fin 2048) (h : t.val / 128 < 2) :
    (show FVec Ideal S1x1x2048 .f32 from iblk m c 3 t) (ix3 0 0 k) = (show FVec Ideal S2x1x2048 .f32 from V m c main_v5) (ix3 ⟨t.val / 128, h⟩ 0 k) := by
  dsimp only
  blk_simp [iblk]
  blk_ext [e3]

theorem blk4 (c : Dev nD) (t : Fin cfg0.N) (k : Fin 2048) (h : t.val / 128 < 2) :
    (show FVec Ideal S1x1x2048 .f32 from iblk m c 4 t) (ix3 0 0 k) = (show FVec Ideal S2x1x2048 .f32 from V m c main_v6) (ix3 ⟨t.val / 128, h⟩ 0 k) := by
  dsimp only
  blk_simp [iblk]
  blk_ext [e4]

theorem blk5 (c : Dev nD) (t : Fin cfg0.N) (k : Fin 2048) (x : Fin 1024) (h : 1024 * (t.val % 8) + x.val < 8192) :
    (show FVec Ideal S1x2048x1024 .bf16 from iblk m c 5 t) (ix3 0 k x) = (show FVec Ideal S2x2048x8192 .bf16 from V m c main_v7) (ix3 1 k ⟨1024 * (t.val % 8) + x.val, h⟩) := by
  dsimp only
  blk_simp [iblk]
  blk_ext [e5]

theorem blk6 (c : Dev nD) (t : Fin cfg0.N) (k : Fin 2048) (x : Fin 1024) (h : 1024 * (t.val % 8) + x.val < 8192) :
    (show FVec Ideal S1x1024x2048 .bf16 from iblk m c 6 t) (ix3 0 x k) = (show FVec Ideal S2x8192x2048 .bf16 from V m c main_v8) (ix3 1 ⟨1024 * (t.val % 8) + x.val, h⟩ k) := by
  dsimp only
  blk_simp [iblk]
  blk_ext [e6]

theorem blk7 (c : Dev nD) (t : Fin cfg0.N) (k : Fin 2048) :
    (show FVec Ideal S1x2048 .f32 from iblk m c 7 t) (ix2 0 k) = (show FVec Ideal S1x2048 .f32 from V m c main_v9) (ix2 0 k) := by
  dsimp only
  blk_simp [iblk]
  blk_ext [e7]

end Cert.Kernel2Ideal.Mlp
end
-- ==== Proof.MlpTotal.lean ====
module

public import proofs.«01_k».proof.Proof.MlpWin
public import Idealize.ShloMosaic.Lib.Pointwise

@[expose] public section

set_option maxRecDepth 65536
set_option synthInstance.maxSize 4096

noncomputable section

namespace Cert.Kernel2Ideal.Mlp

open Idealize.ShloMosaic Idealize.ShloMosaic.TcCoe Idealize.ShloMosaic.StableHlo Idealize.ShloMosaic.Tactic Idealize.SL.Sem
open Cert.Kernel2Ideal Cert.Kernel2Ideal.Gen

variable (m : (ℓ : Loc nD τ sig) → Buf (Elt Ideal) ℓ)

/-! ## The arguments, by row -/

def aX (c : Dev nD) (R : Fin 32768) (k : Fin 2048) : EReal :=
  (show FVec Ideal S2x16384x2048 .f32 from m ((c : Thread nD τ).loc main_arg0)) (ix3 ⟨R.val / 16384, by omega⟩ ⟨R.val % 16384, by omega⟩ k)
def aG (c : Dev nD) (k : Fin 2048) : EReal := (show FVec Ideal S2x2x2048 .f32 from m ((c : Thread nD τ).loc main_arg1)) (ix3 1 1 k)
def aSH (c : Dev nD) (R : Fin 32768) (k : Fin 2048) : EReal :=
  (show FVec Ideal S2x2048 .f32 from m ((c : Thread nD τ).loc main_arg2)) (ix2 ⟨R.val / 16384, by omega⟩ k)
def aSC (c : Dev nD) (R : Fin 32768) (k : Fin 2048) : EReal :=
  (show FVec Ideal S2x2048 .f32 from m ((c : Thread nD τ).loc main_arg3)) (ix2 ⟨R.val / 16384, by omega⟩ k)
def aGT (c : Dev nD) (R : Fin 32768) (k : Fin 2048) : EReal :=
  (show FVec Ideal S2x2048 .f32 from m ((c : Thread nD τ).loc main_arg4)) (ix2 ⟨R.val / 16384, by omega⟩ k)
def aWU (c : Dev nD) (k : Fin 2048) (f : Fin 8192) : EReal := (show FVec Ideal S2x2048x8192 .f32 from m ((c : Thread nD τ).loc main_arg5)) (ix3 1 k f)
def aWD (c : Dev nD) (f : Fin 8192) (k : Fin 2048) : EReal := (show FVec Ideal S2x8192x2048 .f32 from m ((c : Thread nD τ).loc main_arg6)) (ix3 1 f k)
def aGF (c : Dev nD) (k : Fin 2048) : EReal := (show FVec Ideal S2048 .f32 from m ((c : Thread nD τ).loc main_arg7)) (ix1 k)

def rowH (c : Dev nD) (R : Fin 32768) : Fin 2048 → EReal := Cert.Mlp.hid (aX m c R) (aG m c) (aSC m c R) (aSH m c R)

/-- What one block of 1024 hidden features adds to a row. -/
def part (c : Dev nD) (R : Fin 32768) (d : Fin 2048) (s : ℕ) : EReal :=
  ∑ x : Fin 1024, Cert.Mlp.act (rowH m c R) (fun k => aWU m c k ⟨(1024 * s + x.val) % 8192, Nat.mod_lt _ (by decide)⟩) * aWD m c ⟨(1024 * s + x.val) % 8192, Nat.mod_lt _ (by decide)⟩ d

def rowOf (q : ℕ) (r : Fin 1024) : Fin 32768 := ⟨(1024 * q + r.val) % 32768, Nat.mod_lt _ (by decide)⟩

def Hblk (c : Dev nD) (q : ℕ) : Vec Ideal S1024x2048 .bf16 := fun y => rowH m c (rowOf q (y 0)) (y 1)
def Oblk (c : Dev nD) (q j : ℕ) : Vec Ideal S1024x2048 .f32 := fun y => ∑ s ∈ Finset.range j, part m c (rowOf q (y 0)) (y 1) s

theorem rowOf_eq (t : Fin cfg0.N) (r : Fin 1024) (h : 1024 * (t.val / 8) + r.val < 32768) : rowOf (t.val / 8) r = ⟨1024 * (t.val / 8) + r.val, h⟩ :=
  Fin.ext (Nat.mod_eq_of_lt h)

theorem row_lt (t : Fin cfg0.N) (r : Fin 1024) : 1024 * (t.val / 8) + r.val < 32768 := by
  have ht : t.val < 256 := t.isLt
  omega

theorem b0 (c : Dev nD) (t : Fin cfg0.N) (r : Fin 1024) (k : Fin 2048) :
    (show FVec Ideal S1024x2048 .f32 from iblk m c 0 t) (ix2 r k) = aX m c (rowOf (t.val / 8) r) k := by
  rw [rowOf_eq t r (row_lt t r)]
  exact (blk0 m c t r k (row_lt t r)).trans (v0_at m c _ k)

theorem b1 (c : Dev nD) (t : Fin cfg0.N) (k : Fin 2048) : (show FVec Ideal S1x2048 .f32 from iblk m c 1 t) (ix2 0 k) = aG m c k :=
  (blk1 m c t k).trans (v3_at m c k)

theorem batch_lt (t : Fin cfg0.N) : t.val / 128 < 2 := by
  have ht : t.val < 256 := t.isLt
  omega

theorem batch_eq (t : Fin cfg0.N) (r : Fin 1024) (h) : (⟨(rowOf (t.val / 8) r).val / 16384, h⟩ : Fin 2) = ⟨t.val / 128, batch_lt t⟩ := by
  have ht : t.val < 256 := t.isLt
  refine Fin.ext ?_
  show (1024 * (t.val / 8) + r.val) % 32768 / 16384 = t.val / 128
  omega

theorem b2 (c : Dev nD) (t : Fin cfg0.N) (r : Fin 1024) (k : Fin 2048) :
    (show FVec Ideal S1x1x2048 .f32 from iblk m c 2 t) (ix3 0 0 k) = aSC m c (rowOf (t.val / 8) r) k := by
  unfold aSC
  rw [batch_eq t r]
  exact (blk2 m c t k (batch_lt t)).trans (v4_at m c _ k)

theorem b3 (c : Dev nD) (t : Fin cfg0.N) (r : Fin 1024) (k : Fin 2048) :
    (show FVec Ideal S1x1x2048 .f32 from iblk m c 3 t) (ix3 0 0 k) = aSH m c (rowOf (t.val / 8) r) k := by
  unfold aSH
  rw [batch_eq t r]
  exact (blk3 m c t k (batch_lt t)).trans (v5_at m c _ k)

theorem b4 (c : Dev nD) (t : Fin cfg0.N) (r : Fin 1024) (k : Fin 2048) :
    (show FVec Ideal S1x1x2048 .f32 from iblk m c 4 t) (ix3 0 0 k) = aGT m c (rowOf (t.val / 8) r) k := by
  unfold aGT
  rw [batch_eq t r]
  exact (blk4 m c t k (batch_lt t)).trans (v6_at m c _ k)

theorem feat_lt (t : Fin cfg0.N) (x : Fin 1024) : 1024 * (t.val % 8) + x.val < 8192 := by omega

theorem feat_eq (t : Fin cfg0.N) (x : Fin 1024) (h) : (⟨(1024 * (t.val % 8) + x.val) % 8192, h⟩ : Fin 8192) = ⟨1024 * (t.val % 8) + x.val, feat_lt t x⟩ :=
  Fin.ext (Nat.mod_eq_of_lt (feat_lt t x))

theorem b5 (c : Dev nD) (t : Fin cfg0.N) (k : Fin 2048) (x : Fin 1024) (h) :
    (show FVec Ideal S1x2048x1024 .bf16 from iblk m c 5 t) (ix3 0 k x) = aWU m c k ⟨(1024 * (t.val % 8) + x.val) % 8192, h⟩ := by
  rw [feat_eq t x]
  exact (blk5 m c t k x (feat_lt t x)).trans (v7_at m c k _)

theorem b6 (c : Dev nD) (t : Fin cfg0.N) (k : Fin 2048) (x : Fin 1024) (h) :
    (show FVec Ideal S1x1024x2048 .bf16 from iblk m c 6 t) (ix3 0 x k) = aWD m c ⟨(1024 * (t.val % 8) + x.val) % 8192, h⟩ k := by
  rw [feat_eq t x]
  exact (blk6 m c t k x (feat_lt t x)).trans (v8_at m c _ k)

theorem b7 (c : Dev nD) (t : Fin cfg0.N) (k : Fin 2048) : (show FVec Ideal S1x2048 .f32 from iblk m c 7 t) (ix2 0 k) = aGF m c k :=
  (blk7 m c t k).trans (v9_at m c k)

/-! ## One point -/

theorem hid_congr {x x' g g' sc sc' sh sh' : Fin 2048 → EReal} (hx : ∀ k, x k = x' k) (hg : ∀ k, g k = g' k) (hsc : ∀ k, sc k = sc' k) (hsh : ∀ k, sh k = sh' k) (k : Fin 2048) :
    Cert.Mlp.hid x g sc sh k = Cert.Mlp.hid x' g' sc' sh' k := by
  rw [funext hx, funext hg, funext hsc, funext hsh]

theorem out_congr {r r' gf gf' : Fin 2048 → EReal} (hr : ∀ k, r k = r' k) (hg : ∀ k, gf k = gf' k) (k : Fin 2048) : Cert.Mlp.out r gf k = Cert.Mlp.out r' gf' k := by
  rw [funext hr, funext hg]

theorem h_blk (c : Dev nD) (t : Fin cfg0.N) : hT (iblk m c 0 t) (iblk m c 1 t) (iblk m c 2 t) (iblk m c 3 t) = Hblk m c (t.val / 8) := by
  funext y
  exact hid_congr (fun k => b0 m c t (y 0) k) (fun k => b1 m c t k) (fun k => b2 m c t (y 0) k) (fun k => b3 m c t (y 0) k) (y 1)

theorem pay2_at (h : Vec Ideal S1024x2048 .bf16) (wu : Vec Ideal S1x2048x1024 .bf16) (o : Vec Ideal S1024x2048 .f32) (wd : Vec Ideal S1x1024x2048 .bf16) (r : Fin 1024) (d : Fin 2048) :
    k0_pay2 (F := Ideal) h wu o wd (ix2 r d) = o (ix2 r d) + ∑ x : Fin 1024, Cert.Mlp.act (fun k => h (ix2 r k)) (fun k => wu (ix3 0 k x)) * wd (ix3 0 x d) := by
  pointwise [k0_pay2, Cert.Mlp.act]

theorem zero_blk (c : Dev nD) (q : ℕ) : k0_pay1 (F := Ideal) = Oblk m c q 0 := by
  funext y
  obtain ⟨r, d, rfl⟩ : ∃ (r : Fin 1024) (d : Fin 2048), y = ix2 r d := ⟨y 0, y 1, by funext a; match a with | 0 => rfl | 1 => rfl⟩
  show k0_pay1 (F := Ideal) (ix2 r d) = ∑ s ∈ Finset.range 0, part m c (rowOf q r) d s
  rw [Finset.sum_range_zero]
  pointwise [k0_pay1]

theorem acc_blk (c : Dev nD) (t : Fin cfg0.N) :
    k0_pay2 (F := Ideal) (Hblk m c (t.val / 8)) (iblk m c 5 t) (Oblk m c (t.val / 8) (t.val % 8)) (iblk m c 6 t) = Oblk m c (t.val / 8) (t.val % 8 + 1) := by
  funext y
  obtain ⟨r, d, rfl⟩ : ∃ (r : Fin 1024) (d : Fin 2048), y = ix2 r d := ⟨y 0, y 1, by funext a; match a with | 0 => rfl | 1 => rfl⟩
  refine (pay2_at _ _ _ _ r d).trans ?_
  show (∑ s ∈ Finset.range (t.val % 8), part m c (rowOf (t.val / 8) r) d s) + _ = ∑ s ∈ Finset.range (t.val % 8 + 1), part m c (rowOf (t.val / 8) r) d s
  rw [Finset.sum_range_succ]
  refine congrArg (fun z : EReal => (∑ s ∈ Finset.range (t.val % 8), part m c (rowOf (t.val / 8) r) d s) + z) ?_
  refine Finset.sum_congr rfl fun x _ => ?_
  exact congrArg₂ (fun p q : EReal => p * q)
    (congrArg (Cert.Mlp.act (rowH m c (rowOf (t.val / 8) r))) (funext fun k => b5 m c t k x _)) (b6 m c t d x _)

/-! ## The points of a run -/

theorem scr (c : Dev nD) : ∀ (n : ℕ) (hn : n < cfg0.N), (outsAt0 (F := Ideal) m c n hn).2 = Hblk m c (n / 8)
  | 0, hn => (sout_A m c ⟨0, hn⟩ rfl (show ¬ 0 % 8 = 7 by decide)).trans (h_blk m c ⟨0, hn⟩)
  | n + 1, hn => by
    by_cases h0 : (n + 1) % 8 = 0
    · exact (sout_A m c ⟨n + 1, hn⟩ h0 (by show ¬ (n + 1) % 8 = 7; omega)).trans (h_blk m c ⟨n + 1, hn⟩)
    · have ih := scr c n (Nat.lt_of_succ_lt hn)
      rw [show (n + 1) / 8 = n / 8 by omega, ← ih]
      by_cases h1 : (n + 1) % 8 = 7
      · rw [outsAt0_C m c ⟨n + 1, hn⟩ h0 h1]
        rfl
      · rw [outsAt0_B m c ⟨n + 1, hn⟩ h0 h1]
        rfl

theorem acc (c : Dev nD) : ∀ (n : ℕ) (hn : n < cfg0.N), n % 8 ≠ 7 → (outsAt0 (F := Ideal) m c n hn).1 = Oblk m c (n / 8) (n % 8 + 1)
  | 0, hn, _ => by
    rw [outsAt0_A m c ⟨0, hn⟩ rfl (show ¬ 0 % 8 = 7 by decide)]
    dsimp only
    rw [out_A_val, h_blk, zero_blk m c 0]
    exact acc_blk m c ⟨0, hn⟩
  | n + 1, hn, h7 => by
    by_cases h0 : (n + 1) % 8 = 0
    · rw [outsAt0_A m c ⟨n + 1, hn⟩ h0 h7]
      dsimp only
      rw [out_A_val, h_blk, zero_blk m c ((n + 1) / 8)]
      have e := acc_blk m c ⟨n + 1, hn⟩
      dsimp only at e
      rw [h0] at e ⊢
      exact e
    · have ih := acc c n (Nat.lt_of_succ_lt hn) (by omega)
      rw [outsAt0_B m c ⟨n + 1, hn⟩ h0 h7]
      dsimp only
      rw [out_B_val]
      have hs := scr m c n (Nat.lt_of_succ_lt hn)
      have e := acc_blk m c ⟨n + 1, hn⟩
      dsimp only at e
      rw [show (n + 1) / 8 = n / 8 by omega, show (n + 1) % 8 = n % 8 + 1 by omega, ← ih, ← hs] at e
      rw [show (n + 1) / 8 = n / 8 by omega, show (n + 1) % 8 = n % 8 + 1 by omega]
      exact e

theorem last (c : Dev nD) (t : Fin cfg0.N) (h7 : t.val % 8 = 7) :
    (outsAt0 (F := Ideal) m c t.val t.isLt).1 = fin (iblk m c 0 t) (iblk m c 4 t) (iblk m c 7 t) (Oblk m c (t.val / 8) 8) := by
  have h0 : ¬ t.val % 8 = 0 := by omega
  have hp : t.val - 1 < cfg0.N := Nat.lt_of_le_of_lt (Nat.sub_le _ _) t.isLt
  have ih := acc m c (t.val - 1) hp (by omega)
  have hs := scr m c (t.val - 1) hp
  rw [show (t.val - 1) / 8 = t.val / 8 by omega] at ih hs
  rw [show (t.val - 1) % 8 + 1 = t.val % 8 by omega] at ih
  have e := acc_blk m c t
  rw [← ih, ← hs, show t.val % 8 + 1 = 8 by omega] at e
  rw [outsAt0_C m c t h0 h7]
  dsimp only
  rw [out_C_val]
  exact congrArg (fin (iblk m c 0 t) (iblk m c 4 t) (iblk m c 7 t)) e

/-! ## The result -/

/-- A row of the residual stream after the last layer, normalized. -/
def goal (c : Dev nD) : Vec Ideal S32768x2048 .f32 := fun y =>
  Cert.Mlp.out (Cert.Mlp.res (aX m c (y 0)) (aG m c) (aSC m c (y 0)) (aSH m c (y 0)) (aGT m c (y 0)) (aWU m c) (aWD m c)) (aGF m c) (y 1)

theorem parts (c : Dev nD) (R : Fin 32768) (d : Fin 2048) :
    (∑ s ∈ Finset.range 8, part m c R d s) = ∑ f : Fin 8192, Cert.Mlp.act (rowH m c R) (fun k => aWU m c k f) * aWD m c f d := by
  rw [← Fin.sum_mul_add_fin 8 1024 (fun f : Fin 8192 => Cert.Mlp.act (rowH m c R) (fun k => aWU m c k f) * aWD m c f d), ← Fin.sum_univ_eq_sum_range (fun s => part m c R d s) 8]
  refine Finset.sum_congr rfl fun s _ => Finset.sum_congr rfl fun x _ => ?_
  have e (h h') : (⟨(1024 * s.val + x.val) % 8192, h⟩ : Fin 8192) = ⟨s.val * 1024 + x.val, h'⟩ := Fin.ext (by show (1024 * s.val + x.val) % 8192 = s.val * 1024 + x.val; omega)
  rw [e _ (by omega)]

theorem last_at (c : Dev nD) (t : Fin cfg0.N) (h7 : t.val % 8 = 7) (r : Fin 1024) (d : Fin 2048) :
    (outsAt0 (F := Ideal) m c t.val t.isLt).1 (ix2 r d) = goal m c (ix2 (rowOf (t.val / 8) r) d) := by
  rw [last m c t h7]
  refine out_congr (fun k => ?_) (fun k => b7 m c t k) d
  have e := (parts m c (rowOf (t.val / 8) r) k)
  refine (congrArg₂ (fun p q : EReal => p + q) (b0 m c t r k) (congrArg₂ (fun p q : EReal => p * q) (b4 m c t r k) e)).trans rfl

theorem arr (c : Dev nD) : (dats m 0 c).arrAt 8 cfg0.N = goal m c := by
  refine (dats m 0 c).arrAt_eq_of_covers 8 (goal m c) (by decide +kernel) fun t hf y => ?_
  blk_simp
  rw [after0_8]
  have h7 : t.val % 8 = 7 := (flush0_8 t).mp hf
  have hy0 : (y 0).val < 1024 := (y 0).isLt
  have hy1 : (y 1).val < 2048 := (y 1).isLt
  have ey : y = ix2 (⟨(y 0).val, hy0⟩ : Fin 1024) (⟨(y 1).val, hy1⟩ : Fin 2048) := by
    funext a; fin_cases a <;> rfl
  have hr := row_lt t ⟨(y 0).val, hy0⟩
  have ez : (win0_8.blk t).view.emb y = ix2 (⟨1024 * (t.val / 8) + (y 0).val, hr⟩ : Fin 32768) (⟨(y 1).val, hy1⟩ : Fin 2048) := by
    blk_ext [e8]
  refine ((congrArg (show FVec Ideal S1024x2048 .f32 from (outsAt0 m c t.val t.isLt).1) ey).trans (last_at m c t h7 ⟨(y 0).val, hy0⟩ ⟨(y 1).val, hy1⟩)).trans (Eq.trans ?_ (congrArg (goal m c) ez).symm)
  rw [rowOf_eq t ⟨(y 0).val, hy0⟩ hr]

end Cert.Kernel2Ideal.Mlp
end
-- ==== Proof.MlpClaims.lean ====
module

public import proofs.«01_k».proof.Defs
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.MlpRef
public import proofs.«01_k».proof.Proof.MlpTotal

@[expose] public section

set_option maxRecDepth 65536
set_option synthInstance.maxSize 4096

noncomputable section

namespace Cert.Proof

open Idealize.ShloMosaic Idealize.ShloMosaic.TcCoe Idealize.ShloMosaic.Tactic Idealize.SL.Sem

/-- The frame of the idealization's text at machine words. -/
def MlpFrameBits : Prop :=
  ∀ (m : (ℓ : Loc Cert.Kernel2Ideal.nD Cert.Kernel2Ideal.τ Cert.Kernel2Ideal.sig) → Buf (Elt Bits) ℓ) (g : Dev Cert.Kernel2Ideal.nD → PrngReg), Cert.Pre_Kernel2 m →
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

theorem mlpFrameBits : MlpFrameBits := fun m ρ _ => Cert.Kernel2Ideal.Gen.frame (F := Bits) m ρ

/-- The kernel's text is the idealization's. -/
theorem mlp_text : MlpFrameBits = Cert.quiescent_Kernel2 := by
  chain_rfl

theorem mlp_frame_kernel : Cert.quiescent_Kernel2 := mlp_text.mp mlpFrameBits

theorem mlp_frame_kernelIdeal : Cert.quiescent_Kernel2Ideal := fun m ρ _ => Cert.Kernel2Ideal.Gen.frame (F := Ideal) m ρ

theorem mlp_frame_reference : Cert.quiescent_Reference2Ideal := fun m ρ _ =>
  (θ_run Cert.Reference2Ideal.defs _ _).mono (fun r h => ⟨fun c => (h c).2, sem_eq_zero_of_no_sems (by decide) r.2⟩) (Cert.Reference2Ideal.Value.run (F := Ideal) m ρ)

theorem mlp_preserves : Cert.preserves_Kernel2_Kernel2Ideal := trivial

/-- The kernel and the reference end with equal results. -/
theorem mlp_algebraic : Cert.algebraic_Kernel2Ideal_Reference2Ideal := by
  intro m g m' g' hpre hargs
  refine ⟨fun c => Cert.Kernel2Ideal.Mlp.goal m c, ?_, ?_⟩
  · exact (θ_run Cert.Kernel2Ideal.defs _ _).mono (fun r h c => ⟨(h c).1.trans (Cert.Kernel2Ideal.Mlp.arr m c), (h c).2⟩) (Cert.Kernel2Ideal.Value.run_blocks m g)
  · refine (θ_run Cert.Reference2Ideal.defs _ _).mono (fun r h c => ⟨?_, (h c).2⟩) (Cert.Reference2Ideal.Value.run (F := Ideal) m' g')
    obtain ⟨h0, h1, h2, h3, h4, h5, h6, h7⟩ := hargs c
    refine ((h c).1.trans (Cert.Reference2Ideal.Mlp.res_eq m' c)).trans ?_
    rw [h0, h1, h2, h3, h4, h5, h6, h7]
    funext y
    obtain ⟨r, d, rfl⟩ : ∃ (r : Fin 32768) (d : Fin 2048), y = ix2 r d := ⟨y 0, y 1, by funext a; match a with | 0 => rfl | 1 => rfl⟩
    exact Cert.Reference2Ideal.Mlp.total _ _ _ _ _ _ _ _ r d

end Cert.Proof
end
-- ==== Proof.FfnRef.lean ====
module

public import proofs.«01_k».proof.Proof.Gen.Reference3Ideal.Run
public import proofs.«01_k».proof.Proof.MlpSpec
public import Idealize.ShloMosaic.Lib.Pointwise

@[expose] public section

set_option maxRecDepth 65536
set_option synthInstance.maxSize 4096

noncomputable section

namespace Cert.Reference3Ideal.Mlp

open Idealize.ShloMosaic Idealize.ShloMosaic.TcCoe Idealize.ShloMosaic.StableHlo Idealize.ShloMosaic.Tactic Idealize.SL.Sem
open Cert.Reference3Ideal Cert.Reference3Ideal.Gen

/-! ## The reference's result in four stretches, each read at an index -/

/-- Rows over their root mean squares. -/
def normedV (X : FVec Ideal S2x16384x2048 .f32) : FVec Ideal S2x16384x2048 .f32 :=
  mulf X (broadcastInDim S2x16384x2048 ![0, 1, 2] bcast_S2x16384x1_S2x16384x2048_0_1_2 (Host.rsqrt (addf (Host.divf (broadcastInDim S2x16384x1 ![0, 1] bcast_S2x16384_S2x16384x1_0_1 (Host.reduceAdd (mulf X X) (constant S_ .f32 0x00000000#32) reducesTo_S2x16384x2048_S2x16384_d2 h_S_)) (broadcastInDim S2x16384x1 ![] bcast_S_S2x16384x1 (constant S_ .f32 0x45000000#32))) (broadcastInDim S2x16384x1 ![] bcast_S_S2x16384x1 (constant S_ .f32 0x358637BD#32)))))

theorem normedV_at (X : FVec Ideal S2x16384x2048 .f32) (b : Fin 2) (s : Fin 16384) (d : Fin 2048) :
    normedV X (ix3 b s d) = X (ix3 b s d) * Cert.Mlp.inv (fun k => X (ix3 b s k)) := by
  pointwise [normedV, Cert.Mlp.inv]

/-- The normalized rows scaled and shifted. -/
def hidV (N : FVec Ideal S2x16384x2048 .f32) (G : FVec Ideal S2x2x2048 .f32) (SH SC : FVec Ideal S2x2048 .f32) : FVec Ideal S2x16384x2048 .f32 :=
  addf (mulf (mulf N (broadcastInDim S2x16384x2048 ![0, 1, 2] bcast_S1x1x2048_S2x16384x2048_0_1_2 (broadcastInDim S1x1x2048 ![2] bcast_S2048_S1x1x2048_2 (shapeCast _ (extractStridedSlice S1x1x2048 ![0, 1, 0] G slices_S2x2x2048_S1x1x2048_0_1_0) shapeCasts_S1x1x2048_S2048)))) (broadcastInDim S2x16384x2048 ![0, 1, 2] bcast_S2x1x2048_S2x16384x2048_0_1_2 (addf (broadcastInDim S2x1x2048 ![] bcast_S_S2x1x2048 (constant S_ .f32 0x3F800000#32)) (broadcastInDim S2x1x2048 ![0, 2] bcast_S2x2048_S2x1x2048_0_2 SC)))) (broadcastInDim S2x16384x2048 ![0, 1, 2] bcast_S2x1x2048_S2x16384x2048_0_1_2 (broadcastInDim S2x1x2048 ![0, 2] bcast_S2x2048_S2x1x2048_0_2 SH))

theorem hidV_at (N : FVec Ideal S2x16384x2048 .f32) (G : FVec Ideal S2x2x2048 .f32) (SH SC : FVec Ideal S2x2048 .f32) (b : Fin 2) (s : Fin 16384) (d : Fin 2048) :
    hidV N G SH SC (ix3 b s d) = N (ix3 b s d) * G (ix3 0 1 d) * (1 + SC (ix2 b d)) + SH (ix2 b d) := by
  pointwise [hidV]

/-- The inner rows: products cut at zero and squared. -/
def actV (H : FVec Ideal S2x16384x2048 .f32) (W : FVec Ideal S2x2048x8192 .f32) : FVec Ideal S2x16384x8192 .f32 :=
  mulf (maximumf (Host.dotGeneral dot_S2x16384x2048_S2048x8192_S2x16384x8192_2_0_01_1_n_n none H (shapeCast _ (extractStridedSlice S1x2048x8192 ![0, 0, 0] W slices_S2x2048x8192_S1x2048x8192_0_0_0) shapeCasts_S1x2048x8192_S2048x8192)) (broadcastInDim S2x16384x8192 ![] bcast_S_S2x16384x8192 (constant S_ .f32 0x00000000#32)))
    (maximumf (Host.dotGeneral dot_S2x16384x2048_S2048x8192_S2x16384x8192_2_0_01_1_n_n none H (shapeCast _ (extractStridedSlice S1x2048x8192 ![0, 0, 0] W slices_S2x2048x8192_S1x2048x8192_0_0_0) shapeCasts_S1x2048x8192_S2048x8192)) (broadcastInDim S2x16384x8192 ![] bcast_S_S2x16384x8192 (constant S_ .f32 0x00000000#32)))

theorem actV_at (H : FVec Ideal S2x16384x2048 .f32) (W : FVec Ideal S2x2048x8192 .f32) (b : Fin 2) (s : Fin 16384) (f : Fin 8192) :
    actV H W (ix3 b s f) = Cert.Mlp.act (fun k => H (ix3 b s k)) (fun k => W (ix3 0 k f)) := by
  pointwise [actV, Cert.Mlp.act]

/-- The rows with the scaled feed-forward rows added. -/
def resV (X : FVec Ideal S2x16384x2048 .f32) (GT : FVec Ideal S2x2048 .f32) (U : FVec Ideal S2x16384x8192 .f32) (W : FVec Ideal S2x8192x2048 .f32) : FVec Ideal S2x16384x2048 .f32 :=
  addf X (mulf (broadcastInDim S2x16384x2048 ![0, 1, 2] bcast_S2x1x2048_S2x16384x2048_0_1_2 (broadcastInDim S2x1x2048 ![0, 2] bcast_S2x2048_S2x1x2048_0_2 GT)) (Host.dotGeneral dot_S2x16384x8192_S8192x2048_S2x16384x2048_2_0_01_1_n_n none U (shapeCast _ (extractStridedSlice S1x8192x2048 ![0, 0, 0] W slices_S2x8192x2048_S1x8192x2048_0_0_0) shapeCasts_S1x8192x2048_S8192x2048)))

theorem resV_at (X : FVec Ideal S2x16384x2048 .f32) (GT : FVec Ideal S2x2048 .f32) (U : FVec Ideal S2x16384x8192 .f32) (W : FVec Ideal S2x8192x2048 .f32) (b : Fin 2) (s : Fin 16384) (d : Fin 2048) :
    resV X GT U W (ix3 b s d) = X (ix3 b s d) + GT (ix2 b d) * ∑ f : Fin 8192, U (ix3 b s f) * W (ix3 0 f d) := by
  pointwise [resV]

/-- The sums as one array of rows. -/
def outV (N : FVec Ideal S2x16384x2048 .f32) : FVec Ideal S32768x2048 .f32 := shapeCast _ N shapeCasts_S2x16384x2048_S32768x2048

theorem outV_at (N : FVec Ideal S2x16384x2048 .f32) (r : Fin 32768) (d : Fin 2048) :
    outV N (ix2 r d) = N (ix3 ⟨r.val / 16384, by omega⟩ ⟨r.val % 16384, by omega⟩ d) := by
  pointwise [outV]

/-- The result over the arguments. -/
def resM (m : (ℓ : Loc nD τ sig) → Buf (Elt Ideal) ℓ) (c : Dev nD) : FVec Ideal S32768x2048 .f32 :=
  outV (resV (m ((c.tc : Thread nD τ).loc main_arg0)) (m ((c.tc : Thread nD τ).loc main_arg4))
    (actV (hidV (normedV (m ((c.tc : Thread nD τ).loc main_arg0))) (m ((c.tc : Thread nD τ).loc main_arg1)) (m ((c.tc : Thread nD τ).loc main_arg2)) (m ((c.tc : Thread nD τ).loc main_arg3)))
      (m ((c.tc : Thread nD τ).loc main_arg5)))
    (m ((c.tc : Thread nD τ).loc main_arg6)))

/-- The result at an index, over the arguments. -/
theorem total (X : FVec Ideal S2x16384x2048 .f32) (G : FVec Ideal S2x2x2048 .f32) (SH SC GT : FVec Ideal S2x2048 .f32) (WU : FVec Ideal S2x2048x8192 .f32)
    (WD : FVec Ideal S2x8192x2048 .f32) (r : Fin 32768) (d : Fin 2048) :
    outV (resV X GT (actV (hidV (normedV X) G SH SC) WU) WD) (ix2 r d)
      = Cert.Mlp.res (fun k => X (ix3 ⟨r.val / 16384, by omega⟩ ⟨r.val % 16384, by omega⟩ k)) (fun k => G (ix3 0 1 k))
          (fun k => SC (ix2 ⟨r.val / 16384, by omega⟩ k)) (fun k => SH (ix2 ⟨r.val / 16384, by omega⟩ k)) (fun k => GT (ix2 ⟨r.val / 16384, by omega⟩ k))
          (fun k f => WU (ix3 0 k f)) (fun f k => WD (ix3 0 f k)) d := by
  have h (b : Fin 2) (s : Fin 16384) : (fun k => hidV (normedV X) G SH SC (ix3 b s k))
      = Cert.Mlp.hid (fun k => X (ix3 b s k)) (fun k => G (ix3 0 1 k)) (fun k => SC (ix2 b k)) (fun k => SH (ix2 b k)) :=
    funext fun k => by rw [hidV_at, normedV_at]; exact congrArg (· + SH (ix2 b k)) (mul_assoc _ _ _)
  have e (b : Fin 2) (s : Fin 16384) : (fun k => resV X GT (actV (hidV (normedV X) G SH SC) WU) WD (ix3 b s k))
      = Cert.Mlp.res (fun k => X (ix3 b s k)) (fun k => G (ix3 0 1 k)) (fun k => SC (ix2 b k)) (fun k => SH (ix2 b k)) (fun k => GT (ix2 b k))
          (fun k f => WU (ix3 0 k f)) (fun f k => WD (ix3 0 f k)) :=
    funext fun k => by
      rw [resV_at]
      refine congrArg (fun z => X (ix3 b s k) + GT (ix2 b k) * z) (Finset.sum_congr rfl fun f _ => ?_)
      rw [actV_at, h]
  exact (outV_at _ r d).trans (congrFun (e _ _) d)

end Cert.Reference3Ideal.Mlp
end
-- ==== Proof.FfnA.lean ====
module

public import proofs.«01_k».proof.Proof.Gen.Kernel3Ideal.Frame
public import proofs.«01_k».proof.Proof.MlpSpec
public import Idealize.ShloMosaic.Lib.Pipeline.ValueKit

@[expose] public section

set_option maxRecDepth 65536
set_option synthInstance.maxSize 4096

noncomputable section

namespace Cert.Kernel3Ideal.Mlp

open Idealize.ShloMosaic Idealize.ShloMosaic.TcCoe Idealize.ShloMosaic.StableHlo Idealize.ShloMosaic.Tactic Idealize.SL.Sem
open Cert.Kernel3Ideal Cert.Kernel3Ideal.Gen

variable (m : (ℓ : Loc nD τ sig) → Buf (Elt Ideal) ℓ)

/-- The normalized rows of a block. -/
def hT (x : Vec Ideal S1024x2048 .f32) (g : Vec Ideal S1x2048 .f32) (sc sh : Vec Ideal S1x1x2048 .f32) : Vec Ideal S1024x2048 .bf16 := fun y =>
  Cert.Mlp.hid (fun k => x (ix2 (y 0) k)) (fun k => g (ix2 0 k)) (fun k => sc (ix3 0 0 k)) (fun k => sh (ix3 0 0 k)) (y 1)

theorem chunk_at (g : Vec Ideal S1x2048 .f32) (sc sh : Vec Ideal S1x1x2048 .f32) (x : Vec Ideal S16x2048 .f32) (r : Fin 16) (d : Fin 2048) :
    k0_pay9 (F := Ideal) (k0_pay3 g sc) (k0_pay4 sh) x (ix2 r d)
      = Cert.Mlp.hid (fun k => x (ix2 r k)) (fun k => g (ix2 0 k)) (fun k => sc (ix3 0 0 k)) (fun k => sh (ix3 0 0 k)) d := by
  pointwise [k0_pay9, k0_pay3, k0_pay4, Cert.Mlp.hid, Cert.Mlp.inv]

theorem piece (x : Vec Ideal S1024x2048 .f32) (g : Vec Ideal S1x2048 .f32) (sc sh : Vec Ideal S1x1x2048 .f32) (o : ℕ) (inb) (z : S16x2048.Idx) (y : S1024x2048.Idx)
    (h0 : (y 0).val = o + (z 0).val) (h1 : (y 1).val = (z 1).val) :
    k0_pay9 (F := Ideal) (k0_pay3 g sc) (k0_pay4 sh) (View.ld x (Rect.unit (s := S1024x2048) ![o, 0] S16x2048.size inb)) z = hT x g sc sh y := by
  obtain ⟨r, d, rfl⟩ : ∃ r d, z = ix2 r d := ⟨z 0, z 1, by funext a; match a with | 0 => rfl | 1 => rfl⟩
  rw [chunk_at]
  have e (k : Fin 2048) : View.ld x (Rect.unit (s := S1024x2048) ![o, 0] S16x2048.size inb) (ix2 r k) = x (ix2 (y 0) k) :=
    View.ld_unit_apply_of _ _ _ _ _ _ fun a => by
      match a with
      | 0 => exact h0
      | 1 => show k.val = 0 + k.val; omega
  have e1 : d = y 1 := Fin.ext h1.symm
  unfold hT
  simp only [e]
  rw [e1]

theorem pieceE (x : Vec Ideal S1024x2048 .f32) (g : Vec Ideal S1x2048 .f32) (sc sh : Vec Ideal S1x1x2048 .f32) (o : ℕ) (inb) (z : S16x2048.Idx) :
    k0_pay9 (F := Ideal)
        (k0_pay3 (View.ld g (Rect.unit ![0, 0] ![1, 2048] inb_S1x2048_S1x2048_0_0))
          (View.ld sc (Rect.unit ![0, 0, 0] ![1, 1, 2048] inb_S1x1x2048_S1x1x2048_0_0_0)))
        (k0_pay4 (View.ld sh (Rect.unit ![0, 0, 0] ![1, 1, 2048] inb_S1x1x2048_S1x1x2048_0_0_0)))
        (View.ld x (Rect.unit (s := S1024x2048) ![o, 0] S16x2048.size inb)) z
      = hT x g sc sh ((Rect.unit (s := S1024x2048) ![o, 0] S16x2048.size inb).emb z) := by
  simp (disch := decide) only [View.ld_unit_lit']
  refine piece x g sc sh o inb z _ ?_ ?_
  · show o + 1 * (z 0).val = _
    omega
  · show 0 + 1 * (z 1).val = _
    omega

theorem sout_val (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S1x1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole) (hc0 : cond0_0 i) (hc1 : ¬cond0_1 i)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048x1024 .bf16) (x6 : Vec Ideal S1x1024x2048 .bf16) (x7 : Vec Ideal S1x2048 .f32) :
    sout0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 x7
      = hT x0 x1 x2 x3 := by
  have hcov := fun y => scover0_A_0 (F := Ideal) c i arg2 harg2 arg3 harg3 arg4 harg4 arg5 harg5 arg6 harg6 arg7 harg7 arg8 harg8 arg9 harg9 arg10 harg10 arg11 harg11 hc0 hc1 x0 x1 x2 x3 x4 x5 x6 x7 y
  funext y
  unfold sout0_A_0
  rw [View.read_writes_junk_eq_canon]
  refine View.canon_apply_of_pieces (hT x0 x1 x2 x3) _ ?_ y (hcov y)
  clear hcov
  frame_open
  simp only [View.readAt_eq_ld, Memref.IsWhole.read_unread, List.forall_mem_cons]
  iterate 64 refine ⟨fun z => pieceE _ _ _ _ _ _ z, ?_⟩
  intro p hp
  exact absurd hp List.not_mem_nil

theorem sout_A (c : Dev nD) (t : Fin cfg0.N) (h0 : t.val % 8 = 0) (h1 : ¬ t.val % 8 = 7) :
    (outsAt0 (F := Ideal) m c t.val t.isLt).2 = hT (iblk m c 0 t) (iblk m c 1 t) (iblk m c 2 t) (iblk m c 3 t) := by
  rw [outsAt0_A m c t h0 h1]
  dsimp only
  rw [sout_val]

end Cert.Kernel3Ideal.Mlp
end
-- ==== Proof.FfnOut.lean ====
module

public import proofs.«01_k».proof.Proof.FfnA
public import Idealize.ShloMosaic.Lib.Pipeline.ReadBack

@[expose] public section

set_option maxRecDepth 65536
set_option synthInstance.maxSize 4096

noncomputable section

namespace Cert.Kernel3Ideal.Mlp

open Idealize.ShloMosaic Idealize.ShloMosaic.TcCoe Idealize.ShloMosaic.StableHlo Idealize.ShloMosaic.Tactic Idealize.SL.Sem
open Cert.Kernel3Ideal Cert.Kernel3Ideal.Gen

variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S1x2048x1024 .bf16) (harg7 : arg7.IsWhole) (arg8 : Memref sig .tc .vmem S1x1024x2048 .bf16) (harg8 : arg8.IsWhole) (arg9 : Memref sig .tc .vmem S1x2048 .f32) (harg9 : arg9.IsWhole) (arg10 : Memref sig .tc .vmem S1024x2048 .f32) (harg10 : arg10.IsWhole) (arg11 : Memref sig .tc .vmem S1024x2048 .bf16) (harg11 : arg11.IsWhole)
    (x0 : Vec Ideal S1024x2048 .f32) (x1 : Vec Ideal S1x2048 .f32) (x2 : Vec Ideal S1x1x2048 .f32) (x3 : Vec Ideal S1x1x2048 .f32) (x4 : Vec Ideal S1x1x2048 .f32) (x5 : Vec Ideal S1x2048x1024 .bf16) (x6 : Vec Ideal S1x1024x2048 .bf16) (x7 : Vec Ideal S1x2048 .f32) (xo8 : Vec Ideal S1024x2048 .f32) (xs0 : Vec Ideal S1024x2048 .bf16)

/-- The rows below `a` hold the normalized rows. -/
def FineA (x : Vec Ideal S1024x2048 .f32) (g : Vec Ideal S1x2048 .f32) (sc sh : Vec Ideal S1x1x2048 .f32) (a : ℕ) (L : List (View.Piece (Elt Ideal) S1024x2048 .bf16)) : Prop :=
  ∀ y : S1024x2048.Idx, (y 0).val < a → View.canon L y = hT x g sc sh y

theorem FineA.base (x : Vec Ideal S1024x2048 .f32) (g : Vec Ideal S1x2048 .f32) (sc sh : Vec Ideal S1x1x2048 .f32) (L : List (View.Piece (Elt Ideal) S1024x2048 .bf16)) : FineA x g sc sh 0 L :=
  fun y h => absurd h (Nat.not_lt_zero _)

theorem FineA.step {x : Vec Ideal S1024x2048 .f32} {g : Vec Ideal S1x2048 .f32} {sc sh : Vec Ideal S1x1x2048 .f32} {L : List (View.Piece (Elt Ideal) S1024x2048 .bf16)} (a : ℕ) (ia) (h : FineA x g sc sh a L) :
    FineA x g sc sh (a + 16) (⟨Rect.unit (s := S1024x2048) ![a, 0] S16x2048.size ia,
      k0_pay9 (F := Ideal) (k0_pay3 g sc) (k0_pay4 sh) (View.ld x (Rect.unit (s := S1024x2048) ![a, 0] S16x2048.size ia))⟩ :: L) := by
  intro y hy
  by_cases hm : y ∈ (Rect.unit (s := S1024x2048) ![a, 0] S16x2048.size ia).set
  · obtain ⟨z, rfl⟩ := (Rect.unit (s := S1024x2048) ![a, 0] S16x2048.size ia).exists_idx_of_mem hm
    rw [show (Rect.unit (s := S1024x2048) ![a, 0] S16x2048.size ia).idx z = (Rect.unit (s := S1024x2048) ![a, 0] S16x2048.size ia).emb z from rfl, View.canon_cons_emb]
    refine piece x g sc sh a ia z _ ?_ ?_
    · show a + 1 * (z 0).val = _
      omega
    · show 0 + 1 * (z 1).val = _
      omega
  · refine Eq.trans (View.canon_cons_of_not_mem _ L fun hm' => hm hm') (h y ?_)
    by_contra hlt
    refine hm (Rect.mem_set_unit.mpr fun k => ?_)
    match k with
    | 0 => exact ⟨not_lt.mp hlt, hy⟩
    | 1 =>
      have h2 : (y 1).val < 2048 := (y 1).isLt
      have h3 : (0 : ℕ) ≤ (y 1).val ∧ (y 1).val < 0 + 2048 := by omega
      exact h3

theorem FineA.read {κ : Kind} {sp : Space} (v : View sig κ sp S1024x2048 .bf16) {x : Vec Ideal S1024x2048 .f32} {g : Vec Ideal S1x2048 .f32} {sc sh : Vec Ideal S1x1x2048 .f32} {L : List (View.Piece (Elt Ideal) S1024x2048 .bf16)} (ib)
    (h : FineA x g sc sh 1024 L) : v.readCov L (Rect.unit (s := S1024x2048) ![0, 0] S1024x2048.size ib).toLoadRect = hT x g sc sh := by
  rw [View.readCov_eq_canon']
  funext y
  have e : (Rect.unit (s := S1024x2048) ![0, 0] S1024x2048.size ib).toLoadRect.idx y = y := by
    funext k
    match k with
    | 0 => exact Fin.ext (show 0 + 1 * (y 0).val = (y 0).val by omega)
    | 1 => exact Fin.ext (show 0 + 1 * (y 1).val = (y 1).val by omega)
  exact (congrArg (View.canon L) e).trans (h y (y 0).isLt)

theorem out_A_val (hc0 : cond0_0 i) (hc1 : ¬cond0_1 i) :
    out0_A_8 (F := Ideal) c i arg2 harg2 arg3 harg3 arg4 harg4 arg5 harg5 arg6 harg6 arg7 harg7 arg8 harg8 arg9 harg9 arg10 harg10 arg11 harg11 hc0 hc1 x0 x1 x2 x3 x4 x5 x6 x7
      = k0_pay2 (hT x0 x1 x2 x3) x5 (k0_pay1 (F := Ideal)) x6 := by
  unfold out0_A_8
  frame_out
  refine congrArg (fun h => k0_pay2 (F := Ideal) h x5 (k0_pay1 (F := Ideal)) x6) ?_
  refine FineA.read (arg11.view) _ ?_
  refine FineA.step 1008 _ ?_
  refine FineA.step 992 _ ?_
  refine FineA.step 976 _ ?_
  refine FineA.step 960 _ ?_
  refine FineA.step 944 _ ?_
  refine FineA.step 928 _ ?_
  refine FineA.step 912 _ ?_
  refine FineA.step 896 _ ?_
  refine FineA.step 880 _ ?_
  refine FineA.step 864 _ ?_
  refine FineA.step 848 _ ?_
  refine FineA.step 832 _ ?_
  refine FineA.step 816 _ ?_
  refine FineA.step 800 _ ?_
  refine FineA.step 784 _ ?_
  refine FineA.step 768 _ ?_
  refine FineA.step 752 _ ?_
  refine FineA.step 736 _ ?_
  refine FineA.step 720 _ ?_
  refine FineA.step 704 _ ?_
  refine FineA.step 688 _ ?_
  refine FineA.step 672 _ ?_
  refine FineA.step 656 _ ?_
  refine FineA.step 640 _ ?_
  refine FineA.step 624 _ ?_
  refine FineA.step 608 _ ?_
  refine FineA.step 592 _ ?_
  refine FineA.step 576 _ ?_
  refine FineA.step 560 _ ?_
  refine FineA.step 544 _ ?_
  refine FineA.step 528 _ ?_
  refine FineA.step 512 _ ?_
  refine FineA.step 496 _ ?_
  refine FineA.step 480 _ ?_
  refine FineA.step 464 _ ?_
  refine FineA.step 448 _ ?_
  refine FineA.step 432 _ ?_
  refine FineA.step 416 _ ?_
  refine FineA.step 400 _ ?_
  refine FineA.step 384 _ ?_
  refine FineA.step 368 _ ?_
  refine FineA.step 352 _ ?_
  refine FineA.step 336 _ ?_
  refine FineA.step 320 _ ?_
  refine FineA.step 304 _ ?_
  refine FineA.step 288 _ ?_
  refine FineA.step 272 _ ?_
  refine FineA.step 256 _ ?_
  refine FineA.step 240 _ ?_
  refine FineA.step 224 _ ?_
  refine FineA.step 208 _ ?_
  refine FineA.step 192 _ ?_
  refine FineA.step 176 _ ?_
  refine FineA.step 160 _ ?_
  refine FineA.step 144 _ ?_
  refine FineA.step 128 _ ?_
  refine FineA.step 112 _ ?_
  refine FineA.step 96 _ ?_
  refine FineA.step 80 _ ?_
  refine FineA.step 64 _ ?_
  refine FineA.step 48 _ ?_
  refine FineA.step 32 _ ?_
  refine FineA.step 16 _ ?_
  refine FineA.step 0 _ ?_
  exact FineA.base _ _ _ _ _

theorem out_B_val (hc0 : ¬cond0_0 i) (hc1 : ¬cond0_1 i) :
    out0_B_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0
      = k0_pay2 xs0 x5 xo8 x6 := by
  unfold out0_B_8
  frame_out

/-- A block's last step: the gated residual. -/
def fin (x : Vec Ideal S1024x2048 .f32) (gt : Vec Ideal S1x1x2048 .f32) (R : Vec Ideal S1024x2048 .f32) : Vec Ideal S1024x2048 .f32 := fun y =>
  x y + gt (ix3 0 0 (y 1)) * R y

theorem skip {sig : RefSig} {κ : Kind} {sp : Space} (v : View sig κ sp S1024x2048 .f32) {a b : ℕ} (ia : ∀ k, (![a, 0] : Fin 2 → ℕ) k + (![16, 2048] : Fin 2 → ℕ) k ≤ S1024x2048.size k) (ib : ∀ k, (![b, 0] : Fin 2 → ℕ) k + (![16, 2048] : Fin 2 → ℕ) k ≤ S1024x2048.size k)
    (w : (Rect.unit (s := S1024x2048) ![a, 0] ![16, 2048] ia).shape.Idx → Elt Ideal .f32) (L : List (View.Piece (Elt Ideal) S1024x2048 .f32)) (h : a + 16 ≤ b) :
    v.readCov (⟨Rect.unit (s := S1024x2048) ![a, 0] ![16, 2048] ia, w⟩ :: L) (Rect.unit (s := S1024x2048) ![b, 0] ![16, 2048] ib).toLoadRect
      = v.readCov L (Rect.unit (s := S1024x2048) ![b, 0] ![16, 2048] ib).toLoadRect := by
  rw [View.readCov_eq_canon', View.readCov_eq_canon']
  funext j
  refine View.canon_cons_of_not_mem _ L fun hm => ?_
  have h2 := ((Rect.mem_set_unit.mp (show _ ∈ (Rect.unit (s := S1024x2048) ![a, 0] ![16, 2048] ia).set from hm)) 0).2
  have h3 : b + 1 * (j 0).val < a + 16 := h2
  omega

theorem chunkC_at (gt : Vec Ideal S1x1x2048 .f32) (x o : Vec Ideal S16x2048 .f32) (r : Fin 16) (d : Fin 2048) :
    k0_pay116 (F := Ideal) gt x o (ix2 r d) = x (ix2 r d) + gt (ix3 0 0 d) * o (ix2 r d) := by
  pointwise [k0_pay116, k0_pay115]

theorem pieceC (x : Vec Ideal S1024x2048 .f32) (gt : Vec Ideal S1x1x2048 .f32) (R : Vec Ideal S1024x2048 .f32) (a : ℕ) (inb) (z : S16x2048.Idx) :
    k0_pay116 (F := Ideal) gt (View.ld x (Rect.unit (s := S1024x2048) ![a, 0] S16x2048.size inb)) (View.ld R (Rect.unit (s := S1024x2048) ![a, 0] S16x2048.size inb)) z
      = fin x gt R ((Rect.unit (s := S1024x2048) ![a, 0] S16x2048.size inb).emb z) := by
  generalize hy : (Rect.unit (s := S1024x2048) ![a, 0] S16x2048.size inb).emb z = y
  have h0 : (y 0).val = a + (z 0).val := by
    rw [← hy]
    show a + 1 * (z 0).val = _
    omega
  have h1 : (y 1).val = (z 1).val := by
    rw [← hy]
    show 0 + 1 * (z 1).val = _
    omega
  obtain ⟨r, d, rfl⟩ : ∃ r d, z = ix2 r d := ⟨z 0, z 1, by funext a; match a with | 0 => rfl | 1 => rfl⟩
  rw [chunkC_at]
  have e (w : Vec Ideal S1024x2048 .f32) : View.ld w (Rect.unit (s := S1024x2048) ![a, 0] S16x2048.size inb) (ix2 r d) = w y :=
    View.ld_unit_apply_of _ _ _ _ _ _ fun a => by
      match a with
      | 0 => exact h0
      | 1 => exact h1.trans (Nat.zero_add _).symm
  have e1 : d = y 1 := Fin.ext h1.symm
  rw [e, e]
  unfold fin
  rw [← e1]

/-- Loads of the rows from `a` on still see `R`. -/
def Good {κ : Kind} {sp : Space} (v : View sig κ sp S1024x2048 .f32) (R : Vec Ideal S1024x2048 .f32) (a : ℕ) (L : List (View.Piece (Elt Ideal) S1024x2048 .f32)) : Prop :=
  ∀ (b : ℕ) (ib), a ≤ b → v.readCov L (Rect.unit (s := S1024x2048) ![b, 0] S16x2048.size ib).toLoadRect = View.ld R (Rect.unit (s := S1024x2048) ![b, 0] S16x2048.size ib)

theorem good_zero {κ : Kind} {sp : Space} (v : View sig κ sp S1024x2048 .f32) (R : Vec Ideal S1024x2048 .f32) (inb) :
    Good v R 0 [⟨Rect.unit (s := S1024x2048) ![0, 0] S1024x2048.size inb, R⟩] := fun b ib _ =>
  View.readCov_fill v inb R [] _ (fun a => by match a with | 0 => rfl | 1 => rfl)

theorem good_mono {κ : Kind} {sp : Space} {v : View sig κ sp S1024x2048 .f32} {R : Vec Ideal S1024x2048 .f32} {a a' : ℕ} {L : List (View.Piece (Elt Ideal) S1024x2048 .f32)}
    (h : Good v R a L) (ha : a ≤ a') : Good v R a' L := fun b ib hb => h b ib (ha.trans hb)

theorem good_succ {κ : Kind} {sp : Space} {v : View sig κ sp S1024x2048 .f32} {R : Vec Ideal S1024x2048 .f32} {a : ℕ} {L : List (View.Piece (Elt Ideal) S1024x2048 .f32)}
    (h : Good v R a L) (ia) (w) : Good v R (a + 16) (⟨Rect.unit (s := S1024x2048) ![a, 0] S16x2048.size ia, w⟩ :: L) := fun b ib hb =>
  (skip v ia ib w L hb).trans (h b ib (by omega))

/-- The rows below `a` hold the block's last step, and loads of the rows from `a` on, before and after them, see `R`. -/
structure Inv {κ : Kind} {sp : Space} (v : View sig κ sp S1024x2048 .f32) (x : Vec Ideal S1024x2048 .f32) (gt : Vec Ideal S1x1x2048 .f32)
    (R : Vec Ideal S1024x2048 .f32) (a : ℕ) (L L1 : List (View.Piece (Elt Ideal) S1024x2048 .f32)) : Prop where
  good : Good v R a L
  good1 : Good v R a L1
  fine : ∀ y : S1024x2048.Idx, (y 0).val < a → View.canon L y = fin x gt R y

section
variable {κ : Kind} {sp : Space} {v : View sig κ sp S1024x2048 .f32} {x : Vec Ideal S1024x2048 .f32} {gt : Vec Ideal S1x1x2048 .f32}
    {R : Vec Ideal S1024x2048 .f32} {L L1 : List (View.Piece (Elt Ideal) S1024x2048 .f32)}

theorem Inv.base (inb) : Inv v x gt R 0 [⟨Rect.unit (s := S1024x2048) ![0, 0] S1024x2048.size inb, R⟩] [⟨Rect.unit (s := S1024x2048) ![0, 0] S1024x2048.size inb, R⟩] :=
  ⟨good_zero v R inb, good_zero v R inb, fun y h => absurd h (Nat.not_lt_zero _)⟩

theorem Inv.rebase {a : ℕ} (h : Inv v x gt R a L L1) : Inv v x gt R a L L := ⟨h.good, h.good, h.fine⟩

theorem Inv.step (a : ℕ) (ia) (h : Inv v x gt R a L L1) : Inv v x gt R (a + 16)
    (⟨Rect.unit (s := S1024x2048) ![a, 0] S16x2048.size ia,
      k0_pay116 (F := Ideal) gt (View.ld x (Rect.unit (s := S1024x2048) ![a, 0] S16x2048.size ia)) (v.readCov L1 (Rect.unit (s := S1024x2048) ![a, 0] S16x2048.size ia).toLoadRect)⟩ :: L) L1 := by
  refine ⟨good_succ h.good ia _, good_mono h.good1 (by omega), fun y hy => ?_⟩
  rw [h.good1 a ia le_rfl]
  by_cases hm : y ∈ (Rect.unit (s := S1024x2048) ![a, 0] S16x2048.size ia).set
  · obtain ⟨z, rfl⟩ := (Rect.unit (s := S1024x2048) ![a, 0] S16x2048.size ia).exists_idx_of_mem hm
    rw [show (Rect.unit (s := S1024x2048) ![a, 0] S16x2048.size ia).idx z = (Rect.unit (s := S1024x2048) ![a, 0] S16x2048.size ia).emb z from rfl, View.canon_cons_emb]
    exact pieceC x gt R a ia z
  · refine Eq.trans (View.canon_cons_of_not_mem _ L fun hm' => hm hm') (h.fine y ?_)
    by_contra hlt
    refine hm (Rect.mem_set_unit.mpr fun k => ?_)
    match k with
    | 0 => exact ⟨not_lt.mp hlt, hy⟩
    | 1 =>
      have h2 : (y 1).val < 2048 := (y 1).isLt
      have h3 : (0 : ℕ) ≤ (y 1).val ∧ (y 1).val < 0 + 2048 := by omega
      exact h3

end

theorem out_C_val (hc0 : ¬cond0_0 i) (hc1 : cond0_1 i) :
    out0_C_8 (F := Ideal) c i arg2 harg2 arg3 harg3 arg4 harg4 arg5 harg5 arg6 harg6 arg7 harg7 arg8 harg8 arg9 harg9 arg10 harg10 arg11 harg11 hc0 hc1 x0 x1 x2 x3 x4 x5 x6 x7 xo8 xs0
      = fin x0 x4 (k0_pay2 xs0 x5 xo8 x6) := by
  funext y
  unfold out0_C_8
  rw [View.read_writes_junk_eq_canon]
  frame_open
  simp (disch := decide) only [View.readAt_eq_ld, Memref.IsWhole.read_unread, View.ld_unit_lit']
  refine Inv.fine (v := arg10.view) (x := x0) (gt := x4) (a := 1008 + 16) (Inv.step 1008 _ ?_) y (y 0).isLt
  first
    | refine Inv.step 992 _ ?_
    | refine Inv.rebase (Inv.step 992 _ ?_)
  first
    | refine Inv.step 976 _ ?_
    | refine Inv.rebase (Inv.step 976 _ ?_)
  first
    | refine Inv.step 960 _ ?_
    | refine Inv.rebase (Inv.step 960 _ ?_)
  first
    | refine Inv.step 944 _ ?_
    | refine Inv.rebase (Inv.step 944 _ ?_)
  first
    | refine Inv.step 928 _ ?_
    | refine Inv.rebase (Inv.step 928 _ ?_)
  first
    | refine Inv.step 912 _ ?_
    | refine Inv.rebase (Inv.step 912 _ ?_)
  first
    | refine Inv.step 896 _ ?_
    | refine Inv.rebase (Inv.step 896 _ ?_)
  first
    | refine Inv.step 880 _ ?_
    | refine Inv.rebase (Inv.step 880 _ ?_)
  first
    | refine Inv.step 864 _ ?_
    | refine Inv.rebase (Inv.step 864 _ ?_)
  first
    | refine Inv.step 848 _ ?_
    | refine Inv.rebase (Inv.step 848 _ ?_)
  first
    | refine Inv.step 832 _ ?_
    | refine Inv.rebase (Inv.step 832 _ ?_)
  first
    | refine Inv.step 816 _ ?_
    | refine Inv.rebase (Inv.step 816 _ ?_)
  first
    | refine Inv.step 800 _ ?_
    | refine Inv.rebase (Inv.step 800 _ ?_)
  first
    | refine Inv.step 784 _ ?_
    | refine Inv.rebase (Inv.step 784 _ ?_)
  first
    | refine Inv.step 768 _ ?_
    | refine Inv.rebase (Inv.step 768 _ ?_)
  first
    | refine Inv.step 752 _ ?_
    | refine Inv.rebase (Inv.step 752 _ ?_)
  first
    | refine Inv.step 736 _ ?_
    | refine Inv.rebase (Inv.step 736 _ ?_)
  first
    | refine Inv.step 720 _ ?_
    | refine Inv.rebase (Inv.step 720 _ ?_)
  first
    | refine Inv.step 704 _ ?_
    | refine Inv.rebase (Inv.step 704 _ ?_)
  first
    | refine Inv.step 688 _ ?_
    | refine Inv.rebase (Inv.step 688 _ ?_)
  first
    | refine Inv.step 672 _ ?_
    | refine Inv.rebase (Inv.step 672 _ ?_)
  first
    | refine Inv.step 656 _ ?_
    | refine Inv.rebase (Inv.step 656 _ ?_)
  first
    | refine Inv.step 640 _ ?_
    | refine Inv.rebase (Inv.step 640 _ ?_)
  first
    | refine Inv.step 624 _ ?_
    | refine Inv.rebase (Inv.step 624 _ ?_)
  first
    | refine Inv.step 608 _ ?_
    | refine Inv.rebase (Inv.step 608 _ ?_)
  first
    | refine Inv.step 592 _ ?_
    | refine Inv.rebase (Inv.step 592 _ ?_)
  first
    | refine Inv.step 576 _ ?_
    | refine Inv.rebase (Inv.step 576 _ ?_)
  first
    | refine Inv.step 560 _ ?_
    | refine Inv.rebase (Inv.step 560 _ ?_)
  first
    | refine Inv.step 544 _ ?_
    | refine Inv.rebase (Inv.step 544 _ ?_)
  first
    | refine Inv.step 528 _ ?_
    | refine Inv.rebase (Inv.step 528 _ ?_)
  first
    | refine Inv.step 512 _ ?_
    | refine Inv.rebase (Inv.step 512 _ ?_)
  first
    | refine Inv.step 496 _ ?_
    | refine Inv.rebase (Inv.step 496 _ ?_)
  first
    | refine Inv.step 480 _ ?_
    | refine Inv.rebase (Inv.step 480 _ ?_)
  first
    | refine Inv.step 464 _ ?_
    | refine Inv.rebase (Inv.step 464 _ ?_)
  first
    | refine Inv.step 448 _ ?_
    | refine Inv.rebase (Inv.step 448 _ ?_)
  first
    | refine Inv.step 432 _ ?_
    | refine Inv.rebase (Inv.step 432 _ ?_)
  first
    | refine Inv.step 416 _ ?_
    | refine Inv.rebase (Inv.step 416 _ ?_)
  first
    | refine Inv.step 400 _ ?_
    | refine Inv.rebase (Inv.step 400 _ ?_)
  first
    | refine Inv.step 384 _ ?_
    | refine Inv.rebase (Inv.step 384 _ ?_)
  first
    | refine Inv.step 368 _ ?_
    | refine Inv.rebase (Inv.step 368 _ ?_)
  first
    | refine Inv.step 352 _ ?_
    | refine Inv.rebase (Inv.step 352 _ ?_)
  first
    | refine Inv.step 336 _ ?_
    | refine Inv.rebase (Inv.step 336 _ ?_)
  first
    | refine Inv.step 320 _ ?_
    | refine Inv.rebase (Inv.step 320 _ ?_)
  first
    | refine Inv.step 304 _ ?_
    | refine Inv.rebase (Inv.step 304 _ ?_)
  first
    | refine Inv.step 288 _ ?_
    | refine Inv.rebase (Inv.step 288 _ ?_)
  first
    | refine Inv.step 272 _ ?_
    | refine Inv.rebase (Inv.step 272 _ ?_)
  first
    | refine Inv.step 256 _ ?_
    | refine Inv.rebase (Inv.step 256 _ ?_)
  first
    | refine Inv.step 240 _ ?_
    | refine Inv.rebase (Inv.step 240 _ ?_)
  first
    | refine Inv.step 224 _ ?_
    | refine Inv.rebase (Inv.step 224 _ ?_)
  first
    | refine Inv.step 208 _ ?_
    | refine Inv.rebase (Inv.step 208 _ ?_)
  first
    | refine Inv.step 192 _ ?_
    | refine Inv.rebase (Inv.step 192 _ ?_)
  first
    | refine Inv.step 176 _ ?_
    | refine Inv.rebase (Inv.step 176 _ ?_)
  first
    | refine Inv.step 160 _ ?_
    | refine Inv.rebase (Inv.step 160 _ ?_)
  first
    | refine Inv.step 144 _ ?_
    | refine Inv.rebase (Inv.step 144 _ ?_)
  first
    | refine Inv.step 128 _ ?_
    | refine Inv.rebase (Inv.step 128 _ ?_)
  first
    | refine Inv.step 112 _ ?_
    | refine Inv.rebase (Inv.step 112 _ ?_)
  first
    | refine Inv.step 96 _ ?_
    | refine Inv.rebase (Inv.step 96 _ ?_)
  first
    | refine Inv.step 80 _ ?_
    | refine Inv.rebase (Inv.step 80 _ ?_)
  first
    | refine Inv.step 64 _ ?_
    | refine Inv.rebase (Inv.step 64 _ ?_)
  first
    | refine Inv.step 48 _ ?_
    | refine Inv.rebase (Inv.step 48 _ ?_)
  first
    | refine Inv.step 32 _ ?_
    | refine Inv.rebase (Inv.step 32 _ ?_)
  first
    | refine Inv.step 16 _ ?_
    | refine Inv.rebase (Inv.step 16 _ ?_)
  first
    | refine Inv.step 0 _ ?_
    | refine Inv.rebase (Inv.step 0 _ ?_)
  exact Inv.base _

end Cert.Kernel3Ideal.Mlp
end
-- ==== Proof.FfnWin.lean ====
module

public import proofs.«01_k».proof.Proof.FfnOut
public import Idealize.ShloMosaic.Lib.Pointwise

@[expose] public section

set_option maxRecDepth 65536
set_option synthInstance.maxSize 4096

noncomputable section

namespace Cert.Kernel3Ideal.Mlp

open Idealize.ShloMosaic Idealize.ShloMosaic.TcCoe Idealize.ShloMosaic.StableHlo Idealize.ShloMosaic.Tactic Idealize.SL.Sem
open Cert.Kernel3Ideal Cert.Kernel3Ideal.Gen

variable (m : (ℓ : Loc nD τ sig) → Buf (Elt Ideal) ℓ)

theorem e0 : ∀ t : Fin cfg0.N, win0_0.index t = ![t.val / 8, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![t.val / 128, 0, 0] := (by decide +kernel : ∀ t : Fin grid0.N, _)
theorem e3 : ∀ t : Fin cfg0.N, win0_3.index t = ![t.val / 128, 0, 0] := (by decide +kernel : ∀ t : Fin grid0.N, _)
theorem e4 : ∀ t : Fin cfg0.N, win0_4.index t = ![t.val / 128, 0, 0] := (by decide +kernel : ∀ t : Fin grid0.N, _)
theorem e5 : ∀ t : Fin cfg0.N, win0_5.index t = ![0, 0, t.val % 8] := (by decide +kernel : ∀ t : Fin grid0.N, _)
theorem e6 : ∀ t : Fin cfg0.N, win0_6.index t = ![0, t.val % 8, 0] := (by decide +kernel : ∀ t : Fin grid0.N, _)
theorem e8 : ∀ t : Fin cfg0.N, win0_8.index t = ![t.val / 8, 0] := (by decide +kernel : ∀ t : Fin grid0.N, _)

/-! ## The arrays the region finds, at an index -/

theorem v0_at (c : Dev nD) (r : Fin 32768) (k : Fin 2048) :
    (show FVec Ideal S32768x2048 .f32 from V m c main_v0) (ix2 r k)
      = (show FVec Ideal S2x16384x2048 .f32 from m ((c : Thread nD τ).loc main_arg0)) (ix3 ⟨r.val / 16384, by omega⟩ ⟨r.val % 16384, by omega⟩ k) := by
  dsimp only
  unfold V
  after_results_simp
  pointwise

theorem v3_at (c : Dev nD) (k : Fin 2048) :
    (show FVec Ideal S1x2048 .f32 from V m c main_v3) (ix2 0 k)
      = (show FVec Ideal S2x2x2048 .f32 from m ((c : Thread nD τ).loc main_arg1)) (ix3 0 1 k) := by
  dsimp only
  unfold V
  after_results_simp
  pointwise

theorem v4_at (c : Dev nD) (b : Fin 2) (k : Fin 2048) :
    (show FVec Ideal S2x1x2048 .f32 from V m c main_v4) (ix3 b 0 k)
      = (show FVec Ideal S2x2048 .f32 from m ((c : Thread nD τ).loc main_arg3)) (ix2 b k) := by
  dsimp only
  unfold V
  after_results_simp
  pointwise

theorem v5_at (c : Dev nD) (b : Fin 2) (k : Fin 2048) :
    (show FVec Ideal S2x1x2048 .f32 from V m c main_v5) (ix3 b 0 k)
      = (show FVec Ideal S2x2048 .f32 from m ((c : Thread nD τ).loc main_arg2)) (ix2 b k) := by
  dsimp only
  unfold V
  after_results_simp
  pointwise

theorem v6_at (c : Dev nD) (b : Fin 2) (k : Fin 2048) :
    (show FVec Ideal S2x1x2048 .f32 from V m c main_v6) (ix3 b 0 k)
      = (show FVec Ideal S2x2048 .f32 from m ((c : Thread nD τ).loc main_arg4)) (ix2 b k) := by
  dsimp only
  unfold V
  after_results_simp
  pointwise

theorem v7_at (c : Dev nD) (k : Fin 2048) (f : Fin 8192) :
    (show FVec Ideal S2x2048x8192 .bf16 from V m c main_v7) (ix3 0 k f)
      = (show FVec Ideal S2x2048x8192 .f32 from m ((c : Thread nD τ).loc main_arg5)) (ix3 0 k f) := by
  dsimp only
  unfold V
  after_results_simp
  pointwise

theorem v8_at (c : Dev nD) (f : Fin 8192) (k : Fin 2048) :
    (show FVec Ideal S2x8192x2048 .bf16 from V m c main_v8) (ix3 0 f k)
      = (show FVec Ideal S2x8192x2048 .f32 from m ((c : Thread nD τ).loc main_arg6)) (ix3 0 f k) := by
  dsimp only
  unfold V
  after_results_simp
  pointwise

/-! ## The windows' blocks, at an index -/

theorem blk0 (c : Dev nD) (t : Fin cfg0.N) (r : Fin 1024) (k : Fin 2048) (h : 1024 * (t.val / 8) + r.val < 32768) :
    (show FVec Ideal S1024x2048 .f32 from iblk m c 0 t) (ix2 r k)
      = (show FVec Ideal S32768x2048 .f32 from V m c main_v0) (ix2 ⟨1024 * (t.val / 8) + r.val, h⟩ k) := by
  dsimp only
  blk_simp [iblk]
  blk_ext [e0]

theorem blk1 (c : Dev nD) (t : Fin cfg0.N) (k : Fin 2048) :
    (show FVec Ideal S1x2048 .f32 from iblk m c 1 t) (ix2 0 k) = (show FVec Ideal S1x2048 .f32 from V m c main_v3) (ix2 0 k) := by
  dsimp only
  blk_simp [iblk]
  blk_ext [e1]

theorem blk2 (c : Dev nD) (t : Fin cfg0.N) (k : Fin 2048) (h : t.val / 128 < 2) :
    (show FVec Ideal S1x1x2048 .f32 from iblk m c 2 t) (ix3 0 0 k) = (show FVec Ideal S2x1x2048 .f32 from V m c main_v4) (ix3 ⟨t.val / 128, h⟩ 0 k) := by
  dsimp only
  blk_simp [iblk]
  blk_ext [e2]

theorem blk3 (c : Dev nD) (t : Fin cfg0.N) (k : Fin 2048) (h : t.val / 128 < 2) :
    (show FVec Ideal S1x1x2048 .f32 from iblk m c 3 t) (ix3 0 0 k) = (show FVec Ideal S2x1x2048 .f32 from V m c main_v5) (ix3 ⟨t.val / 128, h⟩ 0 k) := by
  dsimp only
  blk_simp [iblk]
  blk_ext [e3]

theorem blk4 (c : Dev nD) (t : Fin cfg0.N) (k : Fin 2048) (h : t.val / 128 < 2) :
    (show FVec Ideal S1x1x2048 .f32 from iblk m c 4 t) (ix3 0 0 k) = (show FVec Ideal S2x1x2048 .f32 from V m c main_v6) (ix3 ⟨t.val / 128, h⟩ 0 k) := by
  dsimp only
  blk_simp [iblk]
  blk_ext [e4]

theorem blk5 (c : Dev nD) (t : Fin cfg0.N) (k : Fin 2048) (x : Fin 1024) (h : 1024 * (t.val % 8) + x.val < 8192) :
    (show FVec Ideal S1x2048x1024 .bf16 from iblk m c 5 t) (ix3 0 k x) = (show FVec Ideal S2x2048x8192 .bf16 from V m c main_v7) (ix3 0 k ⟨1024 * (t.val % 8) + x.val, h⟩) := by
  dsimp only
  blk_simp [iblk]
  blk_ext [e5]

theorem blk6 (c : Dev nD) (t : Fin cfg0.N) (k : Fin 2048) (x : Fin 1024) (h : 1024 * (t.val % 8) + x.val < 8192) :
    (show FVec Ideal S1x1024x2048 .bf16 from iblk m c 6 t) (ix3 0 x k) = (show FVec Ideal S2x8192x2048 .bf16 from V m c main_v8) (ix3 0 ⟨1024 * (t.val % 8) + x.val, h⟩ k) := by
  dsimp only
  blk_simp [iblk]
  blk_ext [e6]

end Cert.Kernel3Ideal.Mlp
end
-- ==== Proof.FfnTotal.lean ====
module

public import proofs.«01_k».proof.Proof.FfnWin
public import Idealize.ShloMosaic.Lib.Pointwise

@[expose] public section

set_option maxRecDepth 65536
set_option synthInstance.maxSize 4096

noncomputable section

namespace Cert.Kernel3Ideal.Mlp

open Idealize.ShloMosaic Idealize.ShloMosaic.TcCoe Idealize.ShloMosaic.StableHlo Idealize.ShloMosaic.Tactic Idealize.SL.Sem
open Cert.Kernel3Ideal Cert.Kernel3Ideal.Gen

variable (m : (ℓ : Loc nD τ sig) → Buf (Elt Ideal) ℓ)

/-! ## The arguments, by row -/

def aX (c : Dev nD) (R : Fin 32768) (k : Fin 2048) : EReal :=
  (show FVec Ideal S2x16384x2048 .f32 from m ((c : Thread nD τ).loc main_arg0)) (ix3 ⟨R.val / 16384, by omega⟩ ⟨R.val % 16384, by omega⟩ k)
def aG (c : Dev nD) (k : Fin 2048) : EReal := (show FVec Ideal S2x2x2048 .f32 from m ((c : Thread nD τ).loc main_arg1)) (ix3 0 1 k)
def aSH (c : Dev nD) (R : Fin 32768) (k : Fin 2048) : EReal :=
  (show FVec Ideal S2x2048 .f32 from m ((c : Thread nD τ).loc main_arg2)) (ix2 ⟨R.val / 16384, by omega⟩ k)
def aSC (c : Dev nD) (R : Fin 32768) (k : Fin 2048) : EReal :=
  (show FVec Ideal S2x2048 .f32 from m ((c : Thread nD τ).loc main_arg3)) (ix2 ⟨R.val / 16384, by omega⟩ k)
def aGT (c : Dev nD) (R : Fin 32768) (k : Fin 2048) : EReal :=
  (show FVec Ideal S2x2048 .f32 from m ((c : Thread nD τ).loc main_arg4)) (ix2 ⟨R.val / 16384, by omega⟩ k)
def aWU (c : Dev nD) (k : Fin 2048) (f : Fin 8192) : EReal := (show FVec Ideal S2x2048x8192 .f32 from m ((c : Thread nD τ).loc main_arg5)) (ix3 0 k f)
def aWD (c : Dev nD) (f : Fin 8192) (k : Fin 2048) : EReal := (show FVec Ideal S2x8192x2048 .f32 from m ((c : Thread nD τ).loc main_arg6)) (ix3 0 f k)

def rowH (c : Dev nD) (R : Fin 32768) : Fin 2048 → EReal := Cert.Mlp.hid (aX m c R) (aG m c) (aSC m c R) (aSH m c R)

/-- What one block of 1024 hidden features adds to a row. -/
def part (c : Dev nD) (R : Fin 32768) (d : Fin 2048) (s : ℕ) : EReal :=
  ∑ x : Fin 1024, Cert.Mlp.act (rowH m c R) (fun k => aWU m c k ⟨(1024 * s + x.val) % 8192, Nat.mod_lt _ (by decide)⟩) * aWD m c ⟨(1024 * s + x.val) % 8192, Nat.mod_lt _ (by decide)⟩ d

def rowOf (q : ℕ) (r : Fin 1024) : Fin 32768 := ⟨(1024 * q + r.val) % 32768, Nat.mod_lt _ (by decide)⟩

def Hblk (c : Dev nD) (q : ℕ) : Vec Ideal S1024x2048 .bf16 := fun y => rowH m c (rowOf q (y 0)) (y 1)
def Oblk (c : Dev nD) (q j : ℕ) : Vec Ideal S1024x2048 .f32 := fun y => ∑ s ∈ Finset.range j, part m c (rowOf q (y 0)) (y 1) s

theorem rowOf_eq (t : Fin cfg0.N) (r : Fin 1024) (h : 1024 * (t.val / 8) + r.val < 32768) : rowOf (t.val / 8) r = ⟨1024 * (t.val / 8) + r.val, h⟩ :=
  Fin.ext (Nat.mod_eq_of_lt h)

theorem row_lt (t : Fin cfg0.N) (r : Fin 1024) : 1024 * (t.val / 8) + r.val < 32768 := by
  have ht : t.val < 256 := t.isLt
  omega

theorem b0 (c : Dev nD) (t : Fin cfg0.N) (r : Fin 1024) (k : Fin 2048) :
    (show FVec Ideal S1024x2048 .f32 from iblk m c 0 t) (ix2 r k) = aX m c (rowOf (t.val / 8) r) k := by
  rw [rowOf_eq t r (row_lt t r)]
  exact (blk0 m c t r k (row_lt t r)).trans (v0_at m c _ k)

theorem b1 (c : Dev nD) (t : Fin cfg0.N) (k : Fin 2048) : (show FVec Ideal S1x2048 .f32 from iblk m c 1 t) (ix2 0 k) = aG m c k :=
  (blk1 m c t k).trans (v3_at m c k)

theorem batch_lt (t : Fin cfg0.N) : t.val / 128 < 2 := by
  have ht : t.val < 256 := t.isLt
  omega

theorem batch_eq (t : Fin cfg0.N) (r : Fin 1024) (h) : (⟨(rowOf (t.val / 8) r).val / 16384, h⟩ : Fin 2) = ⟨t.val / 128, batch_lt t⟩ := by
  have ht : t.val < 256 := t.isLt
  refine Fin.ext ?_
  show (1024 * (t.val / 8) + r.val) % 32768 / 16384 = t.val / 128
  omega

theorem b2 (c : Dev nD) (t : Fin cfg0.N) (r : Fin 1024) (k : Fin 2048) :
    (show FVec Ideal S1x1x2048 .f32 from iblk m c 2 t) (ix3 0 0 k) = aSC m c (rowOf (t.val / 8) r) k := by
  unfold aSC
  rw [batch_eq t r]
  exact (blk2 m c t k (batch_lt t)).trans (v4_at m c _ k)

theorem b3 (c : Dev nD) (t : Fin cfg0.N) (r : Fin 1024) (k : Fin 2048) :
    (show FVec Ideal S1x1x2048 .f32 from iblk m c 3 t) (ix3 0 0 k) = aSH m c (rowOf (t.val / 8) r) k := by
  unfold aSH
  rw [batch_eq t r]
  exact (blk3 m c t k (batch_lt t)).trans (v5_at m c _ k)

theorem b4 (c : Dev nD) (t : Fin cfg0.N) (r : Fin 1024) (k : Fin 2048) :
    (show FVec Ideal S1x1x2048 .f32 from iblk m c 4 t) (ix3 0 0 k) = aGT m c (rowOf (t.val / 8) r) k := by
  unfold aGT
  rw [batch_eq t r]
  exact (blk4 m c t k (batch_lt t)).trans (v6_at m c _ k)

theorem feat_lt (t : Fin cfg0.N) (x : Fin 1024) : 1024 * (t.val % 8) + x.val < 8192 := by omega

theorem feat_eq (t : Fin cfg0.N) (x : Fin 1024) (h) : (⟨(1024 * (t.val % 8) + x.val) % 8192, h⟩ : Fin 8192) = ⟨1024 * (t.val % 8) + x.val, feat_lt t x⟩ :=
  Fin.ext (Nat.mod_eq_of_lt (feat_lt t x))

theorem b5 (c : Dev nD) (t : Fin cfg0.N) (k : Fin 2048) (x : Fin 1024) (h) :
    (show FVec Ideal S1x2048x1024 .bf16 from iblk m c 5 t) (ix3 0 k x) = aWU m c k ⟨(1024 * (t.val % 8) + x.val) % 8192, h⟩ := by
  rw [feat_eq t x]
  exact (blk5 m c t k x (feat_lt t x)).trans (v7_at m c k _)

theorem b6 (c : Dev nD) (t : Fin cfg0.N) (k : Fin 2048) (x : Fin 1024) (h) :
    (show FVec Ideal S1x1024x2048 .bf16 from iblk m c 6 t) (ix3 0 x k) = aWD m c ⟨(1024 * (t.val % 8) + x.val) % 8192, h⟩ k := by
  rw [feat_eq t x]
  exact (blk6 m c t k x (feat_lt t x)).trans (v8_at m c _ k)

/-! ## One point -/

theorem hid_congr {x x' g g' sc sc' sh sh' : Fin 2048 → EReal} (hx : ∀ k, x k = x' k) (hg : ∀ k, g k = g' k) (hsc : ∀ k, sc k = sc' k) (hsh : ∀ k, sh k = sh' k) (k : Fin 2048) :
    Cert.Mlp.hid x g sc sh k = Cert.Mlp.hid x' g' sc' sh' k := by
  rw [funext hx, funext hg, funext hsc, funext hsh]

theorem h_blk (c : Dev nD) (t : Fin cfg0.N) : hT (iblk m c 0 t) (iblk m c 1 t) (iblk m c 2 t) (iblk m c 3 t) = Hblk m c (t.val / 8) := by
  funext y
  exact hid_congr (fun k => b0 m c t (y 0) k) (fun k => b1 m c t k) (fun k => b2 m c t (y 0) k) (fun k => b3 m c t (y 0) k) (y 1)

theorem pay2_at (h : Vec Ideal S1024x2048 .bf16) (wu : Vec Ideal S1x2048x1024 .bf16) (o : Vec Ideal S1024x2048 .f32) (wd : Vec Ideal S1x1024x2048 .bf16) (r : Fin 1024) (d : Fin 2048) :
    k0_pay2 (F := Ideal) h wu o wd (ix2 r d) = o (ix2 r d) + ∑ x : Fin 1024, Cert.Mlp.act (fun k => h (ix2 r k)) (fun k => wu (ix3 0 k x)) * wd (ix3 0 x d) := by
  pointwise [k0_pay2, Cert.Mlp.act]

theorem zero_blk (c : Dev nD) (q : ℕ) : k0_pay1 (F := Ideal) = Oblk m c q 0 := by
  funext y
  obtain ⟨r, d, rfl⟩ : ∃ (r : Fin 1024) (d : Fin 2048), y = ix2 r d := ⟨y 0, y 1, by funext a; match a with | 0 => rfl | 1 => rfl⟩
  show k0_pay1 (F := Ideal) (ix2 r d) = ∑ s ∈ Finset.range 0, part m c (rowOf q r) d s
  rw [Finset.sum_range_zero]
  pointwise [k0_pay1]

theorem acc_blk (c : Dev nD) (t : Fin cfg0.N) :
    k0_pay2 (F := Ideal) (Hblk m c (t.val / 8)) (iblk m c 5 t) (Oblk m c (t.val / 8) (t.val % 8)) (iblk m c 6 t) = Oblk m c (t.val / 8) (t.val % 8 + 1) := by
  funext y
  obtain ⟨r, d, rfl⟩ : ∃ (r : Fin 1024) (d : Fin 2048), y = ix2 r d := ⟨y 0, y 1, by funext a; match a with | 0 => rfl | 1 => rfl⟩
  refine (pay2_at _ _ _ _ r d).trans ?_
  show (∑ s ∈ Finset.range (t.val % 8), part m c (rowOf (t.val / 8) r) d s) + _ = ∑ s ∈ Finset.range (t.val % 8 + 1), part m c (rowOf (t.val / 8) r) d s
  rw [Finset.sum_range_succ]
  refine congrArg (fun z : EReal => (∑ s ∈ Finset.range (t.val % 8), part m c (rowOf (t.val / 8) r) d s) + z) ?_
  refine Finset.sum_congr rfl fun x _ => ?_
  exact congrArg₂ (fun p q : EReal => p * q)
    (congrArg (Cert.Mlp.act (rowH m c (rowOf (t.val / 8) r))) (funext fun k => b5 m c t k x _)) (b6 m c t d x _)

/-! ## The points of a run -/

theorem scr (c : Dev nD) : ∀ (n : ℕ) (hn : n < cfg0.N), (outsAt0 (F := Ideal) m c n hn).2 = Hblk m c (n / 8)
  | 0, hn => (sout_A m c ⟨0, hn⟩ rfl (show ¬ 0 % 8 = 7 by decide)).trans (h_blk m c ⟨0, hn⟩)
  | n + 1, hn => by
    by_cases h0 : (n + 1) % 8 = 0
    · exact (sout_A m c ⟨n + 1, hn⟩ h0 (by show ¬ (n + 1) % 8 = 7; omega)).trans (h_blk m c ⟨n + 1, hn⟩)
    · have ih := scr c n (Nat.lt_of_succ_lt hn)
      rw [show (n + 1) / 8 = n / 8 by omega, ← ih]
      by_cases h1 : (n + 1) % 8 = 7
      · rw [outsAt0_C m c ⟨n + 1, hn⟩ h0 h1]
        rfl
      · rw [outsAt0_B m c ⟨n + 1, hn⟩ h0 h1]
        rfl

theorem acc (c : Dev nD) : ∀ (n : ℕ) (hn : n < cfg0.N), n % 8 ≠ 7 → (outsAt0 (F := Ideal) m c n hn).1 = Oblk m c (n / 8) (n % 8 + 1)
  | 0, hn, _ => by
    rw [outsAt0_A m c ⟨0, hn⟩ rfl (show ¬ 0 % 8 = 7 by decide)]
    dsimp only
    rw [out_A_val, h_blk, zero_blk m c 0]
    exact acc_blk m c ⟨0, hn⟩
  | n + 1, hn, h7 => by
    by_cases h0 : (n + 1) % 8 = 0
    · rw [outsAt0_A m c ⟨n + 1, hn⟩ h0 h7]
      dsimp only
      rw [out_A_val, h_blk, zero_blk m c ((n + 1) / 8)]
      have e := acc_blk m c ⟨n + 1, hn⟩
      dsimp only at e
      rw [h0] at e ⊢
      exact e
    · have ih := acc c n (Nat.lt_of_succ_lt hn) (by omega)
      rw [outsAt0_B m c ⟨n + 1, hn⟩ h0 h7]
      dsimp only
      rw [out_B_val]
      have hs := scr m c n (Nat.lt_of_succ_lt hn)
      have e := acc_blk m c ⟨n + 1, hn⟩
      dsimp only at e
      rw [show (n + 1) / 8 = n / 8 by omega, show (n + 1) % 8 = n % 8 + 1 by omega, ← ih, ← hs] at e
      rw [show (n + 1) / 8 = n / 8 by omega, show (n + 1) % 8 = n % 8 + 1 by omega]
      exact e

theorem last (c : Dev nD) (t : Fin cfg0.N) (h7 : t.val % 8 = 7) :
    (outsAt0 (F := Ideal) m c t.val t.isLt).1 = fin (iblk m c 0 t) (iblk m c 4 t) (Oblk m c (t.val / 8) 8) := by
  have h0 : ¬ t.val % 8 = 0 := by omega
  have hp : t.val - 1 < cfg0.N := Nat.lt_of_le_of_lt (Nat.sub_le _ _) t.isLt
  have ih := acc m c (t.val - 1) hp (by omega)
  have hs := scr m c (t.val - 1) hp
  rw [show (t.val - 1) / 8 = t.val / 8 by omega] at ih hs
  rw [show (t.val - 1) % 8 + 1 = t.val % 8 by omega] at ih
  have e := acc_blk m c t
  rw [← ih, ← hs, show t.val % 8 + 1 = 8 by omega] at e
  rw [outsAt0_C m c t h0 h7]
  dsimp only
  rw [out_C_val]
  exact congrArg (fin (iblk m c 0 t) (iblk m c 4 t)) e

/-! ## The result -/

/-- A row of the residual stream after the first layer. -/
def goal (c : Dev nD) : Vec Ideal S32768x2048 .f32 := fun y =>
  Cert.Mlp.res (aX m c (y 0)) (aG m c) (aSC m c (y 0)) (aSH m c (y 0)) (aGT m c (y 0)) (aWU m c) (aWD m c) (y 1)

theorem parts (c : Dev nD) (R : Fin 32768) (d : Fin 2048) :
    (∑ s ∈ Finset.range 8, part m c R d s) = ∑ f : Fin 8192, Cert.Mlp.act (rowH m c R) (fun k => aWU m c k f) * aWD m c f d := by
  rw [← Fin.sum_mul_add_fin 8 1024 (fun f : Fin 8192 => Cert.Mlp.act (rowH m c R) (fun k => aWU m c k f) * aWD m c f d), ← Fin.sum_univ_eq_sum_range (fun s => part m c R d s) 8]
  refine Finset.sum_congr rfl fun s _ => Finset.sum_congr rfl fun x _ => ?_
  have e (h h') : (⟨(1024 * s.val + x.val) % 8192, h⟩ : Fin 8192) = ⟨s.val * 1024 + x.val, h'⟩ := Fin.ext (by show (1024 * s.val + x.val) % 8192 = s.val * 1024 + x.val; omega)
  rw [e _ (by omega)]

theorem last_at (c : Dev nD) (t : Fin cfg0.N) (h7 : t.val % 8 = 7) (r : Fin 1024) (d : Fin 2048) :
    (outsAt0 (F := Ideal) m c t.val t.isLt).1 (ix2 r d) = goal m c (ix2 (rowOf (t.val / 8) r) d) := by
  rw [last m c t h7]
  have e := parts m c (rowOf (t.val / 8) r) d
  exact (congrArg₂ (fun p q : EReal => p + q) (b0 m c t r d) (congrArg₂ (fun p q : EReal => p * q) (b4 m c t r d) e)).trans rfl

theorem arr (c : Dev nD) : (dats m 0 c).arrAt 8 cfg0.N = goal m c := by
  refine (dats m 0 c).arrAt_eq_of_covers 8 (goal m c) (by decide +kernel) fun t hf y => ?_
  blk_simp
  rw [after0_8]
  have h7 : t.val % 8 = 7 := (flush0_8 t).mp hf
  have hy0 : (y 0).val < 1024 := (y 0).isLt
  have hy1 : (y 1).val < 2048 := (y 1).isLt
  have ey : y = ix2 (⟨(y 0).val, hy0⟩ : Fin 1024) (⟨(y 1).val, hy1⟩ : Fin 2048) := by
    funext a; fin_cases a <;> rfl
  have hr := row_lt t ⟨(y 0).val, hy0⟩
  have ez : (win0_8.blk t).view.emb y = ix2 (⟨1024 * (t.val / 8) + (y 0).val, hr⟩ : Fin 32768) (⟨(y 1).val, hy1⟩ : Fin 2048) := by
    blk_ext [e8]
  refine ((congrArg (show FVec Ideal S1024x2048 .f32 from (outsAt0 m c t.val t.isLt).1) ey).trans (last_at m c t h7 ⟨(y 0).val, hy0⟩ ⟨(y 1).val, hy1⟩)).trans (Eq.trans ?_ (congrArg (goal m c) ez).symm)
  rw [rowOf_eq t ⟨(y 0).val, hy0⟩ hr]

end Cert.Kernel3Ideal.Mlp
end
-- ==== Proof.FfnClaims.lean ====
module

public import proofs.«01_k».proof.Defs
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.FfnRef
public import proofs.«01_k».proof.Proof.FfnTotal

@[expose] public section

set_option maxRecDepth 65536
set_option synthInstance.maxSize 4096

noncomputable section

namespace Cert.Proof

open Idealize.ShloMosaic Idealize.ShloMosaic.TcCoe Idealize.ShloMosaic.Tactic Idealize.SL.Sem

/-- The frame of the idealization's text at machine words. -/
def FfnFrameBits : Prop :=
  ∀ (m : (ℓ : Loc Cert.Kernel3Ideal.nD Cert.Kernel3Ideal.τ Cert.Kernel3Ideal.sig) → Buf (Elt Bits) ℓ) (g : Dev Cert.Kernel3Ideal.nD → PrngReg), Cert.Pre_Kernel3 m →
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

theorem ffnFrameBits : FfnFrameBits := fun m ρ _ => Cert.Kernel3Ideal.Gen.frame (F := Bits) m ρ

/-- The kernel's text is the idealization's. -/
theorem ffn_text : FfnFrameBits = Cert.quiescent_Kernel3 := by
  chain_rfl

theorem ffn_frame_kernel : Cert.quiescent_Kernel3 := ffn_text.mp ffnFrameBits

theorem ffn_frame_kernelIdeal : Cert.quiescent_Kernel3Ideal := fun m ρ _ => Cert.Kernel3Ideal.Gen.frame (F := Ideal) m ρ

theorem ffn_frame_reference : Cert.quiescent_Reference3Ideal := fun m ρ _ =>
  (θ_run Cert.Reference3Ideal.defs _ _).mono (fun r h => ⟨fun c => (h c).2, sem_eq_zero_of_no_sems (by decide) r.2⟩) (Cert.Reference3Ideal.Value.run (F := Ideal) m ρ)

theorem ffn_preserves : Cert.preserves_Kernel3_Kernel3Ideal := trivial

/-- The kernel and the reference end with equal results. -/
theorem ffn_algebraic : Cert.algebraic_Kernel3Ideal_Reference3Ideal := by
  intro m g m' g' hpre hargs
  refine ⟨fun c => Cert.Kernel3Ideal.Mlp.goal m c, ?_, ?_⟩
  · exact (θ_run Cert.Kernel3Ideal.defs _ _).mono (fun r h c => ⟨(h c).1.trans (Cert.Kernel3Ideal.Mlp.arr m c), (h c).2⟩) (Cert.Kernel3Ideal.Value.run_blocks m g)
  · refine (θ_run Cert.Reference3Ideal.defs _ _).mono (fun r h c => ⟨?_, (h c).2⟩) (Cert.Reference3Ideal.Value.run (F := Ideal) m' g')
    obtain ⟨h0, h1, h2, h3, h4, h5, h6⟩ := hargs c
    refine (h c).1.trans ?_
    change Cert.Reference3Ideal.Mlp.resM m' c = _
    unfold Cert.Reference3Ideal.Mlp.resM
    rw [h0, h1, h2, h3, h4, h5, h6]
    funext y
    obtain ⟨r, d, rfl⟩ : ∃ (r : Fin 32768) (d : Fin 2048), y = ix2 r d := ⟨y 0, y 1, by funext a; match a with | 0 => rfl | 1 => rfl⟩
    exact Cert.Reference3Ideal.Mlp.total _ _ _ _ _ _ _ r d

end Cert.Proof
end
-- ==== Proof.lean ====
module

public import proofs.«01_k».proof.Defs
public import proofs.«01_k».proof.Proof.Claims
public import proofs.«01_k».proof.Proof.InpClaims
public import proofs.«01_k».proof.Proof.ResClaims
public import proofs.«01_k».proof.Proof.MlpClaims
public import proofs.«01_k».proof.Proof.FfnClaims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5Ideal.Skeleton
public import proofs.«01_k».proof.Proof.Gen.Reference5Ideal
public import proofs.«01_k».proof.Proof.Gen.Reference5Ideal.Run

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_finite.facts,
    frame_kernel, frame_kernelIdeal, frame_kernelIdeal_finite, frame_reference, frame_reference_finite,
    mlp_frame_kernel, mlp_frame_kernelIdeal, mlp_frame_reference,
    ffn_frame_kernel, ffn_frame_kernelIdeal, ffn_frame_reference,
    res_frame_kernel, res_frame_kernelIdeal, res_frame_reference,
    inp_frame_kernel, inp_frame_kernelIdeal, inp_frame_reference,
    preserves, algebraic, mlp_preserves, mlp_algebraic, ffn_preserves, ffn_algebraic, res_preserves, res_algebraic, inp_preserves, inp_algebraic⟩

end Cert.Proof

end
